-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_MlaProj (m : (ℓ : Loc Cert.MlaProj.nD Cert.MlaProj.τ Cert.MlaProj.sig) → Buf (Elt Bits) ℓ) : Prop :=
  True

def Pre_MlaProjIdeal (m : (ℓ : Loc Cert.MlaProjIdeal.nD Cert.MlaProjIdeal.τ Cert.MlaProjIdeal.sig) → Buf (Elt Ideal) ℓ) : Prop :=
  True

def Pre_MlaProjReferenceIdeal (m : (ℓ : Loc Cert.MlaProjReferenceIdeal.nD Cert.MlaProjReferenceIdeal.τ Cert.MlaProjReferenceIdeal.sig) → Buf (Elt Ideal) ℓ) : Prop :=
  True

def Pre_PleSample (m : (ℓ : Loc Cert.PleSample.nD Cert.PleSample.τ Cert.PleSample.sig) → Buf (Elt Bits) ℓ) : Prop :=
  True

def Pre_PleSampleIdeal (m : (ℓ : Loc Cert.PleSampleIdeal.nD Cert.PleSampleIdeal.τ Cert.PleSampleIdeal.sig) → Buf (Elt Ideal) ℓ) : Prop :=
  True

def Pre_PleSampleReferenceIdeal (m : (ℓ : Loc Cert.PleSampleReferenceIdeal.nD Cert.PleSampleReferenceIdeal.τ Cert.PleSampleReferenceIdeal.sig) → Buf (Elt Ideal) ℓ) : Prop :=
  True

def Pre_MlaSample (m : (ℓ : Loc Cert.MlaSample.nD Cert.MlaSample.τ Cert.MlaSample.sig) → Buf (Elt Bits) ℓ) : Prop :=
  True

def Pre_MlaSampleIdeal (m : (ℓ : Loc Cert.MlaSampleIdeal.nD Cert.MlaSampleIdeal.τ Cert.MlaSampleIdeal.sig) → Buf (Elt Ideal) ℓ) : Prop :=
  True

def Pre_MlaSampleReferenceIdeal (m : (ℓ : Loc Cert.MlaSampleReferenceIdeal.nD Cert.MlaSampleReferenceIdeal.τ Cert.MlaSampleReferenceIdeal.sig) → Buf (Elt Ideal) ℓ) : Prop :=
  True

def Pre_HgrnSample (m : (ℓ : Loc Cert.HgrnSample.nD Cert.HgrnSample.τ Cert.HgrnSample.sig) → Buf (Elt Bits) ℓ) : Prop :=
  True

def Pre_HgrnSampleIdeal (m : (ℓ : Loc Cert.HgrnSampleIdeal.nD Cert.HgrnSampleIdeal.τ Cert.HgrnSampleIdeal.sig) → Buf (Elt Ideal) ℓ) : Prop :=
  True

def Pre_HgrnSampleReferenceIdeal (m : (ℓ : Loc Cert.HgrnSampleReferenceIdeal.nD Cert.HgrnSampleReferenceIdeal.τ Cert.HgrnSampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4)
      ∧ r.2.mem ((c.tc : Thread Cert.PleReferenceIdeal.nD Cert.PleReferenceIdeal.τ).loc Cert.PleReferenceIdeal.main_arg5) = m ((c.tc : Thread Cert.PleReferenceIdeal.nD Cert.PleReferenceIdeal.τ).loc Cert.PleReferenceIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_MlaProj [hMlaProj : Cert.MlaProj.Facts] : Prop :=
  ∀ (m : (ℓ : Loc Cert.MlaProj.nD Cert.MlaProj.τ Cert.MlaProj.sig) → Buf (Elt Bits) ℓ) (g : Dev Cert.MlaProj.nD → PrngReg), Pre_MlaProj m →
    θ_run (Cert.MlaProj.defs (F := Bits)) (onTc (τ := Cert.MlaProj.τ) (Cert.MlaProj.main (F := Bits))) ⟨m, fun _ => 0, g⟩ (fun r => (∀ c : Dev Cert.MlaProj.nD,
      r.2.mem ((c.tc : Thread Cert.MlaProj.nD Cert.MlaProj.τ).loc Cert.MlaProj.main_arg0) = m ((c.tc : Thread Cert.MlaProj.nD Cert.MlaProj.τ).loc Cert.MlaProj.main_arg0)
      ∧ r.2.mem ((c.tc : Thread Cert.MlaProj.nD Cert.MlaProj.τ).loc Cert.MlaProj.main_arg1) = m ((c.tc : Thread Cert.MlaProj.nD Cert.MlaProj.τ).loc Cert.MlaProj.main_arg1)
      ∧ r.2.mem ((c.tc : Thread Cert.MlaProj.nD Cert.MlaProj.τ).loc Cert.MlaProj.main_arg2) = m ((c.tc : Thread Cert.MlaProj.nD Cert.MlaProj.τ).loc Cert.MlaProj.main_arg2)
      ∧ r.2.mem ((c.tc : Thread Cert.MlaProj.nD Cert.MlaProj.τ).loc Cert.MlaProj.main_arg3) = m ((c.tc : Thread Cert.MlaProj.nD Cert.MlaProj.τ).loc Cert.MlaProj.main_arg3)
      ∧ r.2.mem ((c.tc : Thread Cert.MlaProj.nD Cert.MlaProj.τ).loc Cert.MlaProj.main_arg4) = m ((c.tc : Thread Cert.MlaProj.nD Cert.MlaProj.τ).loc Cert.MlaProj.main_arg4)
      ∧ r.2.mem ((c.tc : Thread Cert.MlaProj.nD Cert.MlaProj.τ).loc Cert.MlaProj.main_arg5) = m ((c.tc : Thread Cert.MlaProj.nD Cert.MlaProj.τ).loc Cert.MlaProj.main_arg5)
      ∧ r.2.mem ((c.tc : Thread Cert.MlaProj.nD Cert.MlaProj.τ).loc Cert.MlaProj.main_arg6) = m ((c.tc : Thread Cert.MlaProj.nD Cert.MlaProj.τ).loc Cert.MlaProj.main_arg6))
      ∧ r.2.sem = fun _ => 0)

def quiescent_MlaProjIdeal [hMlaProjIdeal : Cert.MlaProjIdeal.Facts] : Prop :=
  ∀ (m : (ℓ : Loc Cert.MlaProjIdeal.nD Cert.MlaProjIdeal.τ Cert.MlaProjIdeal.sig) → Buf (Elt Ideal) ℓ) (g : Dev Cert.MlaProjIdeal.nD → PrngReg), Pre_MlaProjIdeal m →
    θ_run (Cert.MlaProjIdeal.defs (F := Ideal)) (onTc (τ := Cert.MlaProjIdeal.τ) (Cert.MlaProjIdeal.main (F := Ideal))) ⟨m, fun _ => 0, g⟩ (fun r => (∀ c : Dev Cert.MlaProjIdeal.nD,
      r.2.mem ((c.tc : Thread Cert.MlaProjIdeal.nD Cert.MlaProjIdeal.τ).loc Cert.MlaProjIdeal.main_arg0) = m ((c.tc : Thread Cert.MlaProjIdeal.nD Cert.MlaProjIdeal.τ).loc Cert.MlaProjIdeal.main_arg0)
      ∧ r.2.mem ((c.tc : Thread Cert.MlaProjIdeal.nD Cert.MlaProjIdeal.τ).loc Cert.MlaProjIdeal.main_arg1) = m ((c.tc : Thread Cert.MlaProjIdeal.nD Cert.MlaProjIdeal.τ).loc Cert.MlaProjIdeal.main_arg1)
      ∧ r.2.mem ((c.tc : Thread Cert.MlaProjIdeal.nD Cert.MlaProjIdeal.τ).loc Cert.MlaProjIdeal.main_arg2) = m ((c.tc : Thread Cert.MlaProjIdeal.nD Cert.MlaProjIdeal.τ).loc Cert.MlaProjIdeal.main_arg2)
      ∧ r.2.mem ((c.tc : Thread Cert.MlaProjIdeal.nD Cert.MlaProjIdeal.τ).loc Cert.MlaProjIdeal.main_arg3) = m ((c.tc : Thread Cert.MlaProjIdeal.nD Cert.MlaProjIdeal.τ).loc Cert.MlaProjIdeal.main_arg3)
      ∧ r.2.mem ((c.tc : Thread Cert.MlaProjIdeal.nD Cert.MlaProjIdeal.τ).loc Cert.MlaProjIdeal.main_arg4) = m ((c.tc : Thread Cert.MlaProjIdeal.nD Cert.MlaProjIdeal.τ).loc Cert.MlaProjIdeal.main_arg4)
      ∧ r.2.mem ((c.tc : Thread Cert.MlaProjIdeal.nD Cert.MlaProjIdeal.τ).loc Cert.MlaProjIdeal.main_arg5) = m ((c.tc : Thread Cert.MlaProjIdeal.nD Cert.MlaProjIdeal.τ).loc Cert.MlaProjIdeal.main_arg5)
      ∧ r.2.mem ((c.tc : Thread Cert.MlaProjIdeal.nD Cert.MlaProjIdeal.τ).loc Cert.MlaProjIdeal.main_arg6) = m ((c.tc : Thread Cert.MlaProjIdeal.nD Cert.MlaProjIdeal.τ).loc Cert.MlaProjIdeal.main_arg6))
      ∧ r.2.sem = fun _ => 0)

def quiescent_MlaProjReferenceIdeal [hMlaProjReferenceIdeal : Cert.MlaProjReferenceIdeal.Facts] : Prop :=
  ∀ (m : (ℓ : Loc Cert.MlaProjReferenceIdeal.nD Cert.MlaProjReferenceIdeal.τ Cert.MlaProjReferenceIdeal.sig) → Buf (Elt Ideal) ℓ) (g : Dev Cert.MlaProjReferenceIdeal.nD → PrngReg), Pre_MlaProjReferenceIdeal m →
    θ_run (Cert.MlaProjReferenceIdeal.defs (F := Ideal)) (onTc (τ := Cert.MlaProjReferenceIdeal.τ) (Cert.MlaProjReferenceIdeal.main (F := Ideal))) ⟨m, fun _ => 0, g⟩ (fun r => (∀ c : Dev Cert.MlaProjReferenceIdeal.nD,
      r.2.mem ((c.tc : Thread Cert.MlaProjReferenceIdeal.nD Cert.MlaProjReferenceIdeal.τ).loc Cert.MlaProjReferenceIdeal.main_arg0) = m ((c.tc : Thread Cert.MlaProjReferenceIdeal.nD Cert.MlaProjReferenceIdeal.τ).loc Cert.MlaProjReferenceIdeal.main_arg0)
      ∧ r.2.mem ((c.tc : Thread Cert.MlaProjReferenceIdeal.nD Cert.MlaProjReferenceIdeal.τ).loc Cert.MlaProjReferenceIdeal.main_arg1) = m ((c.tc : Thread Cert.MlaProjReferenceIdeal.nD Cert.MlaProjReferenceIdeal.τ).loc Cert.MlaProjReferenceIdeal.main_arg1)
      ∧ r.2.mem ((c.tc : Thread Cert.MlaProjReferenceIdeal.nD Cert.MlaProjReferenceIdeal.τ).loc Cert.MlaProjReferenceIdeal.main_arg2) = m ((c.tc : Thread Cert.MlaProjReferenceIdeal.nD Cert.MlaProjReferenceIdeal.τ).loc Cert.MlaProjReferenceIdeal.main_arg2)
      ∧ r.2.mem ((c.tc : Thread Cert.MlaProjReferenceIdeal.nD Cert.MlaProjReferenceIdeal.τ).loc Cert.MlaProjReferenceIdeal.main_arg3) = m ((c.tc : Thread Cert.MlaProjReferenceIdeal.nD Cert.MlaProjReferenceIdeal.τ).loc Cert.MlaProjReferenceIdeal.main_arg3)
      ∧ r.2.mem ((c.tc : Thread Cert.MlaProjReferenceIdeal.nD Cert.MlaProjReferenceIdeal.τ).loc Cert.MlaProjReferenceIdeal.main_arg4) = m ((c.tc : Thread Cert.MlaProjReferenceIdeal.nD Cert.MlaProjReferenceIdeal.τ).loc Cert.MlaProjReferenceIdeal.main_arg4)
      ∧ r.2.mem ((c.tc : Thread Cert.MlaProjReferenceIdeal.nD Cert.MlaProjReferenceIdeal.τ).loc Cert.MlaProjReferenceIdeal.main_arg5) = m ((c.tc : Thread Cert.MlaProjReferenceIdeal.nD Cert.MlaProjReferenceIdeal.τ).loc Cert.MlaProjReferenceIdeal.main_arg5)
      ∧ r.2.mem ((c.tc : Thread Cert.MlaProjReferenceIdeal.nD Cert.MlaProjReferenceIdeal.τ).loc Cert.MlaProjReferenceIdeal.main_arg6) = m ((c.tc : Thread Cert.MlaProjReferenceIdeal.nD Cert.MlaProjReferenceIdeal.τ).loc Cert.MlaProjReferenceIdeal.main_arg6))
      ∧ r.2.sem = fun _ => 0)

def quiescent_PleSample [hPleSample : Cert.PleSample.Facts] : Prop :=
  ∀ (m : (ℓ : Loc Cert.PleSample.nD Cert.PleSample.τ Cert.PleSample.sig) → Buf (Elt Bits) ℓ) (g : Dev Cert.PleSample.nD → PrngReg), Pre_PleSample m →
    θ_run (Cert.PleSample.defs (F := Bits)) (onTc (τ := Cert.PleSample.τ) (Cert.PleSample.main (F := Bits))) ⟨m, fun _ => 0, g⟩ (fun r => (∀ c : Dev Cert.PleSample.nD,
      r.2.mem ((c.tc : Thread Cert.PleSample.nD Cert.PleSample.τ).loc Cert.PleSample.main_arg0) = m ((c.tc : Thread Cert.PleSample.nD Cert.PleSample.τ).loc Cert.PleSample.main_arg0)
      ∧ r.2.mem ((c.tc : Thread Cert.PleSample.nD Cert.PleSample.τ).loc Cert.PleSample.main_arg1) = m ((c.tc : Thread Cert.PleSample.nD Cert.PleSample.τ).loc Cert.PleSample.main_arg1)
      ∧ r.2.mem ((c.tc : Thread Cert.PleSample.nD Cert.PleSample.τ).loc Cert.PleSample.main_arg2) = m ((c.tc : Thread Cert.PleSample.nD Cert.PleSample.τ).loc Cert.PleSample.main_arg2)
      ∧ r.2.mem ((c.tc : Thread Cert.PleSample.nD Cert.PleSample.τ).loc Cert.PleSample.main_arg3) = m ((c.tc : Thread Cert.PleSample.nD Cert.PleSample.τ).loc Cert.PleSample.main_arg3)
      ∧ r.2.mem ((c.tc : Thread Cert.PleSample.nD Cert.PleSample.τ).loc Cert.PleSample.main_arg4) = m ((c.tc : Thread Cert.PleSample.nD Cert.PleSample.τ).loc Cert.PleSample.main_arg4)
      ∧ r.2.mem ((c.tc : Thread Cert.PleSample.nD Cert.PleSample.τ).loc Cert.PleSample.main_arg5) = m ((c.tc : Thread Cert.PleSample.nD Cert.PleSample.τ).loc Cert.PleSample.main_arg5))
      ∧ r.2.sem = fun _ => 0)

def quiescent_PleSampleIdeal [hPleSampleIdeal : Cert.PleSampleIdeal.Facts] : Prop :=
  ∀ (m : (ℓ : Loc Cert.PleSampleIdeal.nD Cert.PleSampleIdeal.τ Cert.PleSampleIdeal.sig) → Buf (Elt Ideal) ℓ) (g : Dev Cert.PleSampleIdeal.nD → PrngReg), Pre_PleSampleIdeal m →
    θ_run (Cert.PleSampleIdeal.defs (F := Ideal)) (onTc (τ := Cert.PleSampleIdeal.τ) (Cert.PleSampleIdeal.main (F := Ideal))) ⟨m, fun _ => 0, g⟩ (fun r => (∀ c : Dev Cert.PleSampleIdeal.nD,
      r.2.mem ((c.tc : Thread Cert.PleSampleIdeal.nD Cert.PleSampleIdeal.τ).loc Cert.PleSampleIdeal.main_arg0) = m ((c.tc : Thread Cert.PleSampleIdeal.nD Cert.PleSampleIdeal.τ).loc Cert.PleSampleIdeal.main_arg0)
      ∧ r.2.mem ((c.tc : Thread Cert.PleSampleIdeal.nD Cert.PleSampleIdeal.τ).loc Cert.PleSampleIdeal.main_arg1) = m ((c.tc : Thread Cert.PleSampleIdeal.nD Cert.PleSampleIdeal.τ).loc Cert.PleSampleIdeal.main_arg1)
      ∧ r.2.mem ((c.tc : Thread Cert.PleSampleIdeal.nD Cert.PleSampleIdeal.τ).loc Cert.PleSampleIdeal.main_arg2) = m ((c.tc : Thread Cert.PleSampleIdeal.nD Cert.PleSampleIdeal.τ).loc Cert.PleSampleIdeal.main_arg2)
      ∧ r.2.mem ((c.tc : Thread Cert.PleSampleIdeal.nD Cert.PleSampleIdeal.τ).loc Cert.PleSampleIdeal.main_arg3) = m ((c.tc : Thread Cert.PleSampleIdeal.nD Cert.PleSampleIdeal.τ).loc Cert.PleSampleIdeal.main_arg3)
      ∧ r.2.mem ((c.tc : Thread Cert.PleSampleIdeal.nD Cert.PleSampleIdeal.τ).loc Cert.PleSampleIdeal.main_arg4) = m ((c.tc : Thread Cert.PleSampleIdeal.nD Cert.PleSampleIdeal.τ).loc Cert.PleSampleIdeal.main_arg4)
      ∧ r.2.mem ((c.tc : Thread Cert.PleSampleIdeal.nD Cert.PleSampleIdeal.τ).loc Cert.PleSampleIdeal.main_arg5) = m ((c.tc : Thread Cert.PleSampleIdeal.nD Cert.PleSampleIdeal.τ).loc Cert.PleSampleIdeal.main_arg5))
      ∧ r.2.sem = fun _ => 0)

def quiescent_PleSampleReferenceIdeal [hPleSampleReferenceIdeal : Cert.PleSampleReferenceIdeal.Facts] : Prop :=
  ∀ (m : (ℓ : Loc Cert.PleSampleReferenceIdeal.nD Cert.PleSampleReferenceIdeal.τ Cert.PleSampleReferenceIdeal.sig) → Buf (Elt Ideal) ℓ) (g : Dev Cert.PleSampleReferenceIdeal.nD → PrngReg), Pre_PleSampleReferenceIdeal m →
    θ_run (Cert.PleSampleReferenceIdeal.defs (F := Ideal)) (onTc (τ := Cert.PleSampleReferenceIdeal.τ) (Cert.PleSampleReferenceIdeal.main (F := Ideal))) ⟨m, fun _ => 0, g⟩ (fun r => (∀ c : Dev Cert.PleSampleReferenceIdeal.nD,
      r.2.mem ((c.tc : Thread Cert.PleSampleReferenceIdeal.nD Cert.PleSampleReferenceIdeal.τ).loc Cert.PleSampleReferenceIdeal.main_arg0) = m ((c.tc : Thread Cert.PleSampleReferenceIdeal.nD Cert.PleSampleReferenceIdeal.τ).loc Cert.PleSampleReferenceIdeal.main_arg0)
      ∧ r.2.mem ((c.tc : Thread Cert.PleSampleReferenceIdeal.nD Cert.PleSampleReferenceIdeal.τ).loc Cert.PleSampleReferenceIdeal.main_arg1) = m ((c.tc : Thread Cert.PleSampleReferenceIdeal.nD Cert.PleSampleReferenceIdeal.τ).loc Cert.PleSampleReferenceIdeal.main_arg1)
      ∧ r.2.mem ((c.tc : Thread Cert.PleSampleReferenceIdeal.nD Cert.PleSampleReferenceIdeal.τ).loc Cert.PleSampleReferenceIdeal.main_arg2) = m ((c.tc : Thread Cert.PleSampleReferenceIdeal.nD Cert.PleSampleReferenceIdeal.τ).loc Cert.PleSampleReferenceIdeal.main_arg2)
      ∧ r.2.mem ((c.tc : Thread Cert.PleSampleReferenceIdeal.nD Cert.PleSampleReferenceIdeal.τ).loc Cert.PleSampleReferenceIdeal.main_arg3) = m ((c.tc : Thread Cert.PleSampleReferenceIdeal.nD Cert.PleSampleReferenceIdeal.τ).loc Cert.PleSampleReferenceIdeal.main_arg3)
      ∧ r.2.mem ((c.tc : Thread Cert.PleSampleReferenceIdeal.nD Cert.PleSampleReferenceIdeal.τ).loc Cert.PleSampleReferenceIdeal.main_arg4) = m ((c.tc : Thread Cert.PleSampleReferenceIdeal.nD Cert.PleSampleReferenceIdeal.τ).loc Cert.PleSampleReferenceIdeal.main_arg4)
      ∧ r.2.mem ((c.tc : Thread Cert.PleSampleReferenceIdeal.nD Cert.PleSampleReferenceIdeal.τ).loc Cert.PleSampleReferenceIdeal.main_arg5) = m ((c.tc : Thread Cert.PleSampleReferenceIdeal.nD Cert.PleSampleReferenceIdeal.τ).loc Cert.PleSampleReferenceIdeal.main_arg5))
      ∧ r.2.sem = fun _ => 0)

def quiescent_MlaSample [hMlaSample : Cert.MlaSample.Facts] : Prop :=
  ∀ (m : (ℓ : Loc Cert.MlaSample.nD Cert.MlaSample.τ Cert.MlaSample.sig) → Buf (Elt Bits) ℓ) (g : Dev Cert.MlaSample.nD → PrngReg), Pre_MlaSample m →
    θ_run (Cert.MlaSample.defs (F := Bits)) (onTc (τ := Cert.MlaSample.τ) (Cert.MlaSample.main (F := Bits))) ⟨m, fun _ => 0, g⟩ (fun r => (∀ c : Dev Cert.MlaSample.nD,
      r.2.mem ((c.tc : Thread Cert.MlaSample.nD Cert.MlaSample.τ).loc Cert.MlaSample.main_arg0) = m ((c.tc : Thread Cert.MlaSample.nD Cert.MlaSample.τ).loc Cert.MlaSample.main_arg0)
      ∧ r.2.mem ((c.tc : Thread Cert.MlaSample.nD Cert.MlaSample.τ).loc Cert.MlaSample.main_arg1) = m ((c.tc : Thread Cert.MlaSample.nD Cert.MlaSample.τ).loc Cert.MlaSample.main_arg1)
      ∧ r.2.mem ((c.tc : Thread Cert.MlaSample.nD Cert.MlaSample.τ).loc Cert.MlaSample.main_arg2) = m ((c.tc : Thread Cert.MlaSample.nD Cert.MlaSample.τ).loc Cert.MlaSample.main_arg2)
      ∧ r.2.mem ((c.tc : Thread Cert.MlaSample.nD Cert.MlaSample.τ).loc Cert.MlaSample.main_arg3) = m ((c.tc : Thread Cert.MlaSample.nD Cert.MlaSample.τ).loc Cert.MlaSample.main_arg3)
      ∧ r.2.mem ((c.tc : Thread Cert.MlaSample.nD Cert.MlaSample.τ).loc Cert.MlaSample.main_arg4) = m ((c.tc : Thread Cert.MlaSample.nD Cert.MlaSample.τ).loc Cert.MlaSample.main_arg4)
      ∧ r.2.mem ((c.tc : Thread Cert.MlaSample.nD Cert.MlaSample.τ).loc Cert.MlaSample.main_arg5) = m ((c.tc : Thread Cert.MlaSample.nD Cert.MlaSample.τ).loc Cert.MlaSample.main_arg5)
      ∧ r.2.mem ((c.tc : Thread Cert.MlaSample.nD Cert.MlaSample.τ).loc Cert.MlaSample.main_arg6) = m ((c.tc : Thread Cert.MlaSample.nD Cert.MlaSample.τ).loc Cert.MlaSample.main_arg6))
      ∧ r.2.sem = fun _ => 0)

def quiescent_MlaSampleIdeal [hMlaSampleIdeal : Cert.MlaSampleIdeal.Facts] : Prop :=
  ∀ (m : (ℓ : Loc Cert.MlaSampleIdeal.nD Cert.MlaSampleIdeal.τ Cert.MlaSampleIdeal.sig) → Buf (Elt Ideal) ℓ) (g : Dev Cert.MlaSampleIdeal.nD → PrngReg), Pre_MlaSampleIdeal m →
    θ_run (Cert.MlaSampleIdeal.defs (F := Ideal)) (onTc (τ := Cert.MlaSampleIdeal.τ) (Cert.MlaSampleIdeal.main (F := Ideal))) ⟨m, fun _ => 0, g⟩ (fun r => (∀ c : Dev Cert.MlaSampleIdeal.nD,
      r.2.mem ((c.tc : Thread Cert.MlaSampleIdeal.nD Cert.MlaSampleIdeal.τ).loc Cert.MlaSampleIdeal.main_arg0) = m ((c.tc : Thread Cert.MlaSampleIdeal.nD Cert.MlaSampleIdeal.τ).loc Cert.MlaSampleIdeal.main_arg0)
      ∧ r.2.mem ((c.tc : Thread Cert.MlaSampleIdeal.nD Cert.MlaSampleIdeal.τ).loc Cert.MlaSampleIdeal.main_arg1) = m ((c.tc : Thread Cert.MlaSampleIdeal.nD Cert.MlaSampleIdeal.τ).loc Cert.MlaSampleIdeal.main_arg1)
      ∧ r.2.mem ((c.tc : Thread Cert.MlaSampleIdeal.nD Cert.MlaSampleIdeal.τ).loc Cert.MlaSampleIdeal.main_arg2) = m ((c.tc : Thread Cert.MlaSampleIdeal.nD Cert.MlaSampleIdeal.τ).loc Cert.MlaSampleIdeal.main_arg2)
      ∧ r.2.mem ((c.tc : Thread Cert.MlaSampleIdeal.nD Cert.MlaSampleIdeal.τ).loc Cert.MlaSampleIdeal.main_arg3) = m ((c.tc : Thread Cert.MlaSampleIdeal.nD Cert.MlaSampleIdeal.τ).loc Cert.MlaSampleIdeal.main_arg3)
      ∧ r.2.mem ((c.tc : Thread Cert.MlaSampleIdeal.nD Cert.MlaSampleIdeal.τ).loc Cert.MlaSampleIdeal.main_arg4) = m ((c.tc : Thread Cert.MlaSampleIdeal.nD Cert.MlaSampleIdeal.τ).loc Cert.MlaSampleIdeal.main_arg4)
      ∧ r.2.mem ((c.tc : Thread Cert.MlaSampleIdeal.nD Cert.MlaSampleIdeal.τ).loc Cert.MlaSampleIdeal.main_arg5) = m ((c.tc : Thread Cert.MlaSampleIdeal.nD Cert.MlaSampleIdeal.τ).loc Cert.MlaSampleIdeal.main_arg5)
      ∧ r.2.mem ((c.tc : Thread Cert.MlaSampleIdeal.nD Cert.MlaSampleIdeal.τ).loc Cert.MlaSampleIdeal.main_arg6) = m ((c.tc : Thread Cert.MlaSampleIdeal.nD Cert.MlaSampleIdeal.τ).loc Cert.MlaSampleIdeal.main_arg6))
      ∧ r.2.sem = fun _ => 0)

def quiescent_MlaSampleReferenceIdeal [hMlaSampleReferenceIdeal : Cert.MlaSampleReferenceIdeal.Facts] : Prop :=
  ∀ (m : (ℓ : Loc Cert.MlaSampleReferenceIdeal.nD Cert.MlaSampleReferenceIdeal.τ Cert.MlaSampleReferenceIdeal.sig) → Buf (Elt Ideal) ℓ) (g : Dev Cert.MlaSampleReferenceIdeal.nD → PrngReg), Pre_MlaSampleReferenceIdeal m →
    θ_run (Cert.MlaSampleReferenceIdeal.defs (F := Ideal)) (onTc (τ := Cert.MlaSampleReferenceIdeal.τ) (Cert.MlaSampleReferenceIdeal.main (F := Ideal))) ⟨m, fun _ => 0, g⟩ (fun r => (∀ c : Dev Cert.MlaSampleReferenceIdeal.nD,
      r.2.mem ((c.tc : Thread Cert.MlaSampleReferenceIdeal.nD Cert.MlaSampleReferenceIdeal.τ).loc Cert.MlaSampleReferenceIdeal.main_arg0) = m ((c.tc : Thread Cert.MlaSampleReferenceIdeal.nD Cert.MlaSampleReferenceIdeal.τ).loc Cert.MlaSampleReferenceIdeal.main_arg0)
      ∧ r.2.mem ((c.tc : Thread Cert.MlaSampleReferenceIdeal.nD Cert.MlaSampleReferenceIdeal.τ).loc Cert.MlaSampleReferenceIdeal.main_arg1) = m ((c.tc : Thread Cert.MlaSampleReferenceIdeal.nD Cert.MlaSampleReferenceIdeal.τ).loc Cert.MlaSampleReferenceIdeal.main_arg1)
      ∧ r.2.mem ((c.tc : Thread Cert.MlaSampleReferenceIdeal.nD Cert.MlaSampleReferenceIdeal.τ).loc Cert.MlaSampleReferenceIdeal.main_arg2) = m ((c.tc : Thread Cert.MlaSampleReferenceIdeal.nD Cert.MlaSampleReferenceIdeal.τ).loc Cert.MlaSampleReferenceIdeal.main_arg2)
      ∧ r.2.mem ((c.tc : Thread Cert.MlaSampleReferenceIdeal.nD Cert.MlaSampleReferenceIdeal.τ).loc Cert.MlaSampleReferenceIdeal.main_arg3) = m ((c.tc : Thread Cert.MlaSampleReferenceIdeal.nD Cert.MlaSampleReferenceIdeal.τ).loc Cert.MlaSampleReferenceIdeal.main_arg3)
      ∧ r.2.mem ((c.tc : Thread Cert.MlaSampleReferenceIdeal.nD Cert.MlaSampleReferenceIdeal.τ).loc Cert.MlaSampleReferenceIdeal.main_arg4) = m ((c.tc : Thread Cert.MlaSampleReferenceIdeal.nD Cert.MlaSampleReferenceIdeal.τ).loc Cert.MlaSampleReferenceIdeal.main_arg4)
      ∧ r.2.mem ((c.tc : Thread Cert.MlaSampleReferenceIdeal.nD Cert.MlaSampleReferenceIdeal.τ).loc Cert.MlaSampleReferenceIdeal.main_arg5) = m ((c.tc : Thread Cert.MlaSampleReferenceIdeal.nD Cert.MlaSampleReferenceIdeal.τ).loc Cert.MlaSampleReferenceIdeal.main_arg5)
      ∧ r.2.mem ((c.tc : Thread Cert.MlaSampleReferenceIdeal.nD Cert.MlaSampleReferenceIdeal.τ).loc Cert.MlaSampleReferenceIdeal.main_arg6) = m ((c.tc : Thread Cert.MlaSampleReferenceIdeal.nD Cert.MlaSampleReferenceIdeal.τ).loc Cert.MlaSampleReferenceIdeal.main_arg6))
      ∧ r.2.sem = fun _ => 0)

def quiescent_HgrnSample [hHgrnSample : Cert.HgrnSample.Facts] : Prop :=
  ∀ (m : (ℓ : Loc Cert.HgrnSample.nD Cert.HgrnSample.τ Cert.HgrnSample.sig) → Buf (Elt Bits) ℓ) (g : Dev Cert.HgrnSample.nD → PrngReg), Pre_HgrnSample m →
    θ_run (Cert.HgrnSample.defs (F := Bits)) (onTc (τ := Cert.HgrnSample.τ) (Cert.HgrnSample.main (F := Bits))) ⟨m, fun _ => 0, g⟩ (fun r => (∀ c : Dev Cert.HgrnSample.nD,
      r.2.mem ((c.tc : Thread Cert.HgrnSample.nD Cert.HgrnSample.τ).loc Cert.HgrnSample.main_arg0) = m ((c.tc : Thread Cert.HgrnSample.nD Cert.HgrnSample.τ).loc Cert.HgrnSample.main_arg0)
      ∧ r.2.mem ((c.tc : Thread Cert.HgrnSample.nD Cert.HgrnSample.τ).loc Cert.HgrnSample.main_arg1) = m ((c.tc : Thread Cert.HgrnSample.nD Cert.HgrnSample.τ).loc Cert.HgrnSample.main_arg1)
      ∧ r.2.mem ((c.tc : Thread Cert.HgrnSample.nD Cert.HgrnSample.τ).loc Cert.HgrnSample.main_arg2) = m ((c.tc : Thread Cert.HgrnSample.nD Cert.HgrnSample.τ).loc Cert.HgrnSample.main_arg2)
      ∧ r.2.mem ((c.tc : Thread Cert.HgrnSample.nD Cert.HgrnSample.τ).loc Cert.HgrnSample.main_arg3) = m ((c.tc : Thread Cert.HgrnSample.nD Cert.HgrnSample.τ).loc Cert.HgrnSample.main_arg3))
      ∧ r.2.sem = fun _ => 0)

def quiescent_HgrnSampleIdeal [hHgrnSampleIdeal : Cert.HgrnSampleIdeal.Facts] : Prop :=
  ∀ (m : (ℓ : Loc Cert.HgrnSampleIdeal.nD Cert.HgrnSampleIdeal.τ Cert.HgrnSampleIdeal.sig) → Buf (Elt Ideal) ℓ) (g : Dev Cert.HgrnSampleIdeal.nD → PrngReg), Pre_HgrnSampleIdeal m →
    θ_run (Cert.HgrnSampleIdeal.defs (F := Ideal)) (onTc (τ := Cert.HgrnSampleIdeal.τ) (Cert.HgrnSampleIdeal.main (F := Ideal))) ⟨m, fun _ => 0, g⟩ (fun r => (∀ c : Dev Cert.HgrnSampleIdeal.nD,
      r.2.mem ((c.tc : Thread Cert.HgrnSampleIdeal.nD Cert.HgrnSampleIdeal.τ).loc Cert.HgrnSampleIdeal.main_arg0) = m ((c.tc : Thread Cert.HgrnSampleIdeal.nD Cert.HgrnSampleIdeal.τ).loc Cert.HgrnSampleIdeal.main_arg0)
      ∧ r.2.mem ((c.tc : Thread Cert.HgrnSampleIdeal.nD Cert.HgrnSampleIdeal.τ).loc Cert.HgrnSampleIdeal.main_arg1) = m ((c.tc : Thread Cert.HgrnSampleIdeal.nD Cert.HgrnSampleIdeal.τ).loc Cert.HgrnSampleIdeal.main_arg1)
      ∧ r.2.mem ((c.tc : Thread Cert.HgrnSampleIdeal.nD Cert.HgrnSampleIdeal.τ).loc Cert.HgrnSampleIdeal.main_arg2) = m ((c.tc : Thread Cert.HgrnSampleIdeal.nD Cert.HgrnSampleIdeal.τ).loc Cert.HgrnSampleIdeal.main_arg2)
      ∧ r.2.mem ((c.tc : Thread Cert.HgrnSampleIdeal.nD Cert.HgrnSampleIdeal.τ).loc Cert.HgrnSampleIdeal.main_arg3) = m ((c.tc : Thread Cert.HgrnSampleIdeal.nD Cert.HgrnSampleIdeal.τ).loc Cert.HgrnSampleIdeal.main_arg3))
      ∧ r.2.sem = fun _ => 0)

def quiescent_HgrnSampleReferenceIdeal [hHgrnSampleReferenceIdeal : Cert.HgrnSampleReferenceIdeal.Facts] : Prop :=
  ∀ (m : (ℓ : Loc Cert.HgrnSampleReferenceIdeal.nD Cert.HgrnSampleReferenceIdeal.τ Cert.HgrnSampleReferenceIdeal.sig) → Buf (Elt Ideal) ℓ) (g : Dev Cert.HgrnSampleReferenceIdeal.nD → PrngReg), Pre_HgrnSampleReferenceIdeal m →
    θ_run (Cert.HgrnSampleReferenceIdeal.defs (F := Ideal)) (onTc (τ := Cert.HgrnSampleReferenceIdeal.τ) (Cert.HgrnSampleReferenceIdeal.main (F := Ideal))) ⟨m, fun _ => 0, g⟩ (fun r => (∀ c : Dev Cert.HgrnSampleReferenceIdeal.nD,
      r.2.mem ((c.tc : Thread Cert.HgrnSampleReferenceIdeal.nD Cert.HgrnSampleReferenceIdeal.τ).loc Cert.HgrnSampleReferenceIdeal.main_arg0) = m ((c.tc : Thread Cert.HgrnSampleReferenceIdeal.nD Cert.HgrnSampleReferenceIdeal.τ).loc Cert.HgrnSampleReferenceIdeal.main_arg0)
      ∧ r.2.mem ((c.tc : Thread Cert.HgrnSampleReferenceIdeal.nD Cert.HgrnSampleReferenceIdeal.τ).loc Cert.HgrnSampleReferenceIdeal.main_arg1) = m ((c.tc : Thread Cert.HgrnSampleReferenceIdeal.nD Cert.HgrnSampleReferenceIdeal.τ).loc Cert.HgrnSampleReferenceIdeal.main_arg1)
      ∧ r.2.mem ((c.tc : Thread Cert.HgrnSampleReferenceIdeal.nD Cert.HgrnSampleReferenceIdeal.τ).loc Cert.HgrnSampleReferenceIdeal.main_arg2) = m ((c.tc : Thread Cert.HgrnSampleReferenceIdeal.nD Cert.HgrnSampleReferenceIdeal.τ).loc Cert.HgrnSampleReferenceIdeal.main_arg2)
      ∧ r.2.mem ((c.tc : Thread Cert.HgrnSampleReferenceIdeal.nD Cert.HgrnSampleReferenceIdeal.τ).loc Cert.HgrnSampleReferenceIdeal.main_arg3) = m ((c.tc : Thread Cert.HgrnSampleReferenceIdeal.nD Cert.HgrnSampleReferenceIdeal.τ).loc Cert.HgrnSampleReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v64_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v10_0)) (v1 : (c : Dev Cert.FfnIdeal.nD) → Buf (Elt Ideal) ((c.tc : Thread Cert.FfnIdeal.nD Cert.FfnIdeal.τ).loc Cert.FfnIdeal.main_v10_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10_0) = v0 c
          ∧ r.2.mem ((c.tc : Thread Cert.FfnIdeal.nD Cert.FfnIdeal.τ).loc Cert.FfnIdeal.main_v10_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v35) = v0 c
          ∧ r.2.mem ((c.tc : Thread Cert.FfnReferenceIdeal.nD Cert.FfnReferenceIdeal.τ).loc Cert.FfnReferenceIdeal.main_v37) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Ple_PleIdeal : Prop :=
  True

def algebraic_PleIdeal_PleReferenceIdeal [hPleIdeal : Cert.PleIdeal.Facts] [hPleReferenceIdeal : Cert.PleReferenceIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleIdeal m →
    (∀ c : Dev Cert.PleIdeal.nD,
      m' ((c.tc : Thread Cert.PleReferenceIdeal.nD Cert.PleReferenceIdeal.τ).loc Cert.PleReferenceIdeal.main_arg0) = m ((c.tc : Thread Cert.PleIdeal.nD Cert.PleIdeal.τ).loc Cert.PleIdeal.main_arg0)
      ∧ m' ((c.tc : Thread Cert.PleReferenceIdeal.nD Cert.PleReferenceIdeal.τ).loc Cert.PleReferenceIdeal.main_arg1) = m ((c.tc : Thread Cert.PleIdeal.nD Cert.PleIdeal.τ).loc Cert.PleIdeal.main_arg1)
      ∧ m' ((c.tc : Thread Cert.PleReferenceIdeal.nD Cert.PleReferenceIdeal.τ).loc Cert.PleReferenceIdeal.main_arg2) = m ((c.tc : Thread Cert.PleIdeal.nD Cert.PleIdeal.τ).loc Cert.PleIdeal.main_arg2)
      ∧ m' ((c.tc : Thread Cert.PleReferenceIdeal.nD Cert.PleReferenceIdeal.τ).loc Cert.PleReferenceIdeal.main_arg3) = m ((c.tc : Thread Cert.PleIdeal.nD Cert.PleIdeal.τ).loc Cert.PleIdeal.main_arg3)
      ∧ m' ((c.tc : Thread Cert.PleReferenceIdeal.nD Cert.PleReferenceIdeal.τ).loc Cert.PleReferenceIdeal.main_arg4) = m ((c.tc : Thread Cert.PleIdeal.nD Cert.PleIdeal.τ).loc Cert.PleIdeal.main_arg4)
      ∧ m' ((c.tc : Thread Cert.PleReferenceIdeal.nD Cert.PleReferenceIdeal.τ).loc Cert.PleReferenceIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v10)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v10) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v40) = v0 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4)
          ∧ r.2.mem ((c.tc : Thread Cert.PleReferenceIdeal.nD Cert.PleReferenceIdeal.τ).loc Cert.PleReferenceIdeal.main_arg5) = m' ((c.tc : Thread Cert.PleReferenceIdeal.nD Cert.PleReferenceIdeal.τ).loc Cert.PleReferenceIdeal.main_arg5))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v11_0)) (v1 : (c : Dev Cert.OutProjIdeal.nD) → Buf (Elt Ideal) ((c.tc : Thread Cert.OutProjIdeal.nD Cert.OutProjIdeal.τ).loc Cert.OutProjIdeal.main_v11_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v11_0) = v0 c
          ∧ r.2.mem ((c.tc : Thread Cert.OutProjIdeal.nD Cert.OutProjIdeal.τ).loc Cert.OutProjIdeal.main_v11_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v4) = v0 c
          ∧ r.2.mem ((c.tc : Thread Cert.OutProjReferenceIdeal.nD Cert.OutProjReferenceIdeal.τ).loc Cert.OutProjReferenceIdeal.main_v20) = v1 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v15)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v15) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v25) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_MlaProj_MlaProjIdeal : Prop :=
  True

def algebraic_MlaProjIdeal_MlaProjReferenceIdeal [hMlaProjIdeal : Cert.MlaProjIdeal.Facts] [hMlaProjReferenceIdeal : Cert.MlaProjReferenceIdeal.Facts] : Prop :=
  ∀ (m : (ℓ : Loc Cert.MlaProjIdeal.nD Cert.MlaProjIdeal.τ Cert.MlaProjIdeal.sig) → Buf (Elt Ideal) ℓ) (g : Dev Cert.MlaProjIdeal.nD → PrngReg)
    (m' : (ℓ : Loc Cert.MlaProjReferenceIdeal.nD Cert.MlaProjReferenceIdeal.τ Cert.MlaProjReferenceIdeal.sig) → Buf (Elt Ideal) ℓ) (g' : Dev Cert.MlaProjReferenceIdeal.nD → PrngReg), Pre_MlaProjIdeal m →
    (∀ c : Dev Cert.MlaProjIdeal.nD,
      m' ((c.tc : Thread Cert.MlaProjReferenceIdeal.nD Cert.MlaProjReferenceIdeal.τ).loc Cert.MlaProjReferenceIdeal.main_arg0) = m ((c.tc : Thread Cert.MlaProjIdeal.nD Cert.MlaProjIdeal.τ).loc Cert.MlaProjIdeal.main_arg0)
      ∧ m' ((c.tc : Thread Cert.MlaProjReferenceIdeal.nD Cert.MlaProjReferenceIdeal.τ).loc Cert.MlaProjReferenceIdeal.main_arg1) = m ((c.tc : Thread Cert.MlaProjIdeal.nD Cert.MlaProjIdeal.τ).loc Cert.MlaProjIdeal.main_arg1)
      ∧ m' ((c.tc : Thread Cert.MlaProjReferenceIdeal.nD Cert.MlaProjReferenceIdeal.τ).loc Cert.MlaProjReferenceIdeal.main_arg2) = m ((c.tc : Thread Cert.MlaProjIdeal.nD Cert.MlaProjIdeal.τ).loc Cert.MlaProjIdeal.main_arg2)
      ∧ m' ((c.tc : Thread Cert.MlaProjReferenceIdeal.nD Cert.MlaProjReferenceIdeal.τ).loc Cert.MlaProjReferenceIdeal.main_arg3) = m ((c.tc : Thread Cert.MlaProjIdeal.nD Cert.MlaProjIdeal.τ).loc Cert.MlaProjIdeal.main_arg3)
      ∧ m' ((c.tc : Thread Cert.MlaProjReferenceIdeal.nD Cert.MlaProjReferenceIdeal.τ).loc Cert.MlaProjReferenceIdeal.main_arg4) = m ((c.tc : Thread Cert.MlaProjIdeal.nD Cert.MlaProjIdeal.τ).loc Cert.MlaProjIdeal.main_arg4)
      ∧ m' ((c.tc : Thread Cert.MlaProjReferenceIdeal.nD Cert.MlaProjReferenceIdeal.τ).loc Cert.MlaProjReferenceIdeal.main_arg5) = m ((c.tc : Thread Cert.MlaProjIdeal.nD Cert.MlaProjIdeal.τ).loc Cert.MlaProjIdeal.main_arg5)
      ∧ m' ((c.tc : Thread Cert.MlaProjReferenceIdeal.nD Cert.MlaProjReferenceIdeal.τ).loc Cert.MlaProjReferenceIdeal.main_arg6) = m ((c.tc : Thread Cert.MlaProjIdeal.nD Cert.MlaProjIdeal.τ).loc Cert.MlaProjIdeal.main_arg6)) →
    ∃ (v0 : (c : Dev Cert.MlaProjIdeal.nD) → Buf (Elt Ideal) ((c.tc : Thread Cert.MlaProjIdeal.nD Cert.MlaProjIdeal.τ).loc Cert.MlaProjIdeal.main_v47_0)) (v1 : (c : Dev Cert.MlaProjIdeal.nD) → Buf (Elt Ideal) ((c.tc : Thread Cert.MlaProjIdeal.nD Cert.MlaProjIdeal.τ).loc Cert.MlaProjIdeal.main_v47_1)) (v2 : (c : Dev Cert.MlaProjIdeal.nD) → Buf (Elt Ideal) ((c.tc : Thread Cert.MlaProjIdeal.nD Cert.MlaProjIdeal.τ).loc Cert.MlaProjIdeal.main_v47_2)) (v3 : (c : Dev Cert.MlaProjIdeal.nD) → Buf (Elt Ideal) ((c.tc : Thread Cert.MlaProjIdeal.nD Cert.MlaProjIdeal.τ).loc Cert.MlaProjIdeal.main_v47_3)),
      θ_run (Cert.MlaProjIdeal.defs (F := Ideal)) (onTc (τ := Cert.MlaProjIdeal.τ) (Cert.MlaProjIdeal.main (F := Ideal))) ⟨m, fun _ => 0, g⟩ (fun r => ∀ c : Dev Cert.MlaProjIdeal.nD,
          r.2.mem ((c.tc : Thread Cert.MlaProjIdeal.nD Cert.MlaProjIdeal.τ).loc Cert.MlaProjIdeal.main_v47_0) = v0 c
          ∧ r.2.mem ((c.tc : Thread Cert.MlaProjIdeal.nD Cert.MlaProjIdeal.τ).loc Cert.MlaProjIdeal.main_v47_1) = v1 c
          ∧ r.2.mem ((c.tc : Thread Cert.MlaProjIdeal.nD Cert.MlaProjIdeal.τ).loc Cert.MlaProjIdeal.main_v47_2) = v2 c
          ∧ r.2.mem ((c.tc : Thread Cert.MlaProjIdeal.nD Cert.MlaProjIdeal.τ).loc Cert.MlaProjIdeal.main_v47_3) = v3 c
          ∧ r.2.mem ((c.tc : Thread Cert.MlaProjIdeal.nD Cert.MlaProjIdeal.τ).loc Cert.MlaProjIdeal.main_arg0) = m ((c.tc : Thread Cert.MlaProjIdeal.nD Cert.MlaProjIdeal.τ).loc Cert.MlaProjIdeal.main_arg0)
          ∧ r.2.mem ((c.tc : Thread Cert.MlaProjIdeal.nD Cert.MlaProjIdeal.τ).loc Cert.MlaProjIdeal.main_arg1) = m ((c.tc : Thread Cert.MlaProjIdeal.nD Cert.MlaProjIdeal.τ).loc Cert.MlaProjIdeal.main_arg1)
          ∧ r.2.mem ((c.tc : Thread Cert.MlaProjIdeal.nD Cert.MlaProjIdeal.τ).loc Cert.MlaProjIdeal.main_arg2) = m ((c.tc : Thread Cert.MlaProjIdeal.nD Cert.MlaProjIdeal.τ).loc Cert.MlaProjIdeal.main_arg2)
          ∧ r.2.mem ((c.tc : Thread Cert.MlaProjIdeal.nD Cert.MlaProjIdeal.τ).loc Cert.MlaProjIdeal.main_arg3) = m ((c.tc : Thread Cert.MlaProjIdeal.nD Cert.MlaProjIdeal.τ).loc Cert.MlaProjIdeal.main_arg3)
          ∧ r.2.mem ((c.tc : Thread Cert.MlaProjIdeal.nD Cert.MlaProjIdeal.τ).loc Cert.MlaProjIdeal.main_arg4) = m ((c.tc : Thread Cert.MlaProjIdeal.nD Cert.MlaProjIdeal.τ).loc Cert.MlaProjIdeal.main_arg4)
          ∧ r.2.mem ((c.tc : Thread Cert.MlaProjIdeal.nD Cert.MlaProjIdeal.τ).loc Cert.MlaProjIdeal.main_arg5) = m ((c.tc : Thread Cert.MlaProjIdeal.nD Cert.MlaProjIdeal.τ).loc Cert.MlaProjIdeal.main_arg5)
          ∧ r.2.mem ((c.tc : Thread Cert.MlaProjIdeal.nD Cert.MlaProjIdeal.τ).loc Cert.MlaProjIdeal.main_arg6) = m ((c.tc : Thread Cert.MlaProjIdeal.nD Cert.MlaProjIdeal.τ).loc Cert.MlaProjIdeal.main_arg6))
      ∧ θ_run (Cert.MlaProjReferenceIdeal.defs (F := Ideal)) (onTc (τ := Cert.MlaProjReferenceIdeal.τ) (Cert.MlaProjReferenceIdeal.main (F := Ideal))) ⟨m', fun _ => 0, g'⟩ (fun r => ∀ c : Dev Cert.MlaProjReferenceIdeal.nD,
          r.2.mem ((c.tc : Thread Cert.MlaProjReferenceIdeal.nD Cert.MlaProjReferenceIdeal.τ).loc Cert.MlaProjReferenceIdeal.main_v100) = v0 c
          ∧ r.2.mem ((c.tc : Thread Cert.MlaProjReferenceIdeal.nD Cert.MlaProjReferenceIdeal.τ).loc Cert.MlaProjReferenceIdeal.main_v101) = v1 c
          ∧ r.2.mem ((c.tc : Thread Cert.MlaProjReferenceIdeal.nD Cert.MlaProjReferenceIdeal.τ).loc Cert.MlaProjReferenceIdeal.main_v103) = v2 c
          ∧ r.2.mem ((c.tc : Thread Cert.MlaProjReferenceIdeal.nD Cert.MlaProjReferenceIdeal.τ).loc Cert.MlaProjReferenceIdeal.main_v105) = v3 c
          ∧ r.2.mem ((c.tc : Thread Cert.MlaProjReferenceIdeal.nD Cert.MlaProjReferenceIdeal.τ).loc Cert.MlaProjReferenceIdeal.main_arg0) = m' ((c.tc : Thread Cert.MlaProjReferenceIdeal.nD Cert.MlaProjReferenceIdeal.τ).loc Cert.MlaProjReferenceIdeal.main_arg0)
          ∧ r.2.mem ((c.tc : Thread Cert.MlaProjReferenceIdeal.nD Cert.MlaProjReferenceIdeal.τ).loc Cert.MlaProjReferenceIdeal.main_arg1) = m' ((c.tc : Thread Cert.MlaProjReferenceIdeal.nD Cert.MlaProjReferenceIdeal.τ).loc Cert.MlaProjReferenceIdeal.main_arg1)
          ∧ r.2.mem ((c.tc : Thread Cert.MlaProjReferenceIdeal.nD Cert.MlaProjReferenceIdeal.τ).loc Cert.MlaProjReferenceIdeal.main_arg2) = m' ((c.tc : Thread Cert.MlaProjReferenceIdeal.nD Cert.MlaProjReferenceIdeal.τ).loc Cert.MlaProjReferenceIdeal.main_arg2)
          ∧ r.2.mem ((c.tc : Thread Cert.MlaProjReferenceIdeal.nD Cert.MlaProjReferenceIdeal.τ).loc Cert.MlaProjReferenceIdeal.main_arg3) = m' ((c.tc : Thread Cert.MlaProjReferenceIdeal.nD Cert.MlaProjReferenceIdeal.τ).loc Cert.MlaProjReferenceIdeal.main_arg3)
          ∧ r.2.mem ((c.tc : Thread Cert.MlaProjReferenceIdeal.nD Cert.MlaProjReferenceIdeal.τ).loc Cert.MlaProjReferenceIdeal.main_arg4) = m' ((c.tc : Thread Cert.MlaProjReferenceIdeal.nD Cert.MlaProjReferenceIdeal.τ).loc Cert.MlaProjReferenceIdeal.main_arg4)
          ∧ r.2.mem ((c.tc : Thread Cert.MlaProjReferenceIdeal.nD Cert.MlaProjReferenceIdeal.τ).loc Cert.MlaProjReferenceIdeal.main_arg5) = m' ((c.tc : Thread Cert.MlaProjReferenceIdeal.nD Cert.MlaProjReferenceIdeal.τ).loc Cert.MlaProjReferenceIdeal.main_arg5)
          ∧ r.2.mem ((c.tc : Thread Cert.MlaProjReferenceIdeal.nD Cert.MlaProjReferenceIdeal.τ).loc Cert.MlaProjReferenceIdeal.main_arg6) = m' ((c.tc : Thread Cert.MlaProjReferenceIdeal.nD Cert.MlaProjReferenceIdeal.τ).loc Cert.MlaProjReferenceIdeal.main_arg6))

def preserves_PleSample_PleSampleIdeal : Prop :=
  True

def algebraic_PleSampleIdeal_PleSampleReferenceIdeal [hPleSampleIdeal : Cert.PleSampleIdeal.Facts] [hPleSampleReferenceIdeal : Cert.PleSampleReferenceIdeal.Facts] : Prop :=
  ∀ (m : (ℓ : Loc Cert.PleSampleIdeal.nD Cert.PleSampleIdeal.τ Cert.PleSampleIdeal.sig) → Buf (Elt Ideal) ℓ) (g : Dev Cert.PleSampleIdeal.nD → PrngReg)
    (m' : (ℓ : Loc Cert.PleSampleReferenceIdeal.nD Cert.PleSampleReferenceIdeal.τ Cert.PleSampleReferenceIdeal.sig) → Buf (Elt Ideal) ℓ) (g' : Dev Cert.PleSampleReferenceIdeal.nD → PrngReg), Pre_PleSampleIdeal m →
    (∀ c : Dev Cert.PleSampleIdeal.nD,
      m' ((c.tc : Thread Cert.PleSampleReferenceIdeal.nD Cert.PleSampleReferenceIdeal.τ).loc Cert.PleSampleReferenceIdeal.main_arg0) = m ((c.tc : Thread Cert.PleSampleIdeal.nD Cert.PleSampleIdeal.τ).loc Cert.PleSampleIdeal.main_arg0)
      ∧ m' ((c.tc : Thread Cert.PleSampleReferenceIdeal.nD Cert.PleSampleReferenceIdeal.τ).loc Cert.PleSampleReferenceIdeal.main_arg1) = m ((c.tc : Thread Cert.PleSampleIdeal.nD Cert.PleSampleIdeal.τ).loc Cert.PleSampleIdeal.main_arg1)
      ∧ m' ((c.tc : Thread Cert.PleSampleReferenceIdeal.nD Cert.PleSampleReferenceIdeal.τ).loc Cert.PleSampleReferenceIdeal.main_arg2) = m ((c.tc : Thread Cert.PleSampleIdeal.nD Cert.PleSampleIdeal.τ).loc Cert.PleSampleIdeal.main_arg2)
      ∧ m' ((c.tc : Thread Cert.PleSampleReferenceIdeal.nD Cert.PleSampleReferenceIdeal.τ).loc Cert.PleSampleReferenceIdeal.main_arg3) = m ((c.tc : Thread Cert.PleSampleIdeal.nD Cert.PleSampleIdeal.τ).loc Cert.PleSampleIdeal.main_arg3)
      ∧ m' ((c.tc : Thread Cert.PleSampleReferenceIdeal.nD Cert.PleSampleReferenceIdeal.τ).loc Cert.PleSampleReferenceIdeal.main_arg4) = m ((c.tc : Thread Cert.PleSampleIdeal.nD Cert.PleSampleIdeal.τ).loc Cert.PleSampleIdeal.main_arg4)
      ∧ m' ((c.tc : Thread Cert.PleSampleReferenceIdeal.nD Cert.PleSampleReferenceIdeal.τ).loc Cert.PleSampleReferenceIdeal.main_arg5) = m ((c.tc : Thread Cert.PleSampleIdeal.nD Cert.PleSampleIdeal.τ).loc Cert.PleSampleIdeal.main_arg5)) →
    ∃ (v0 : (c : Dev Cert.PleSampleIdeal.nD) → Buf (Elt Ideal) ((c.tc : Thread Cert.PleSampleIdeal.nD Cert.PleSampleIdeal.τ).loc Cert.PleSampleIdeal.main_v10)),
      θ_run (Cert.PleSampleIdeal.defs (F := Ideal)) (onTc (τ := Cert.PleSampleIdeal.τ) (Cert.PleSampleIdeal.main (F := Ideal))) ⟨m, fun _ => 0, g⟩ (fun r => ∀ c : Dev Cert.PleSampleIdeal.nD,
          r.2.mem ((c.tc : Thread Cert.PleSampleIdeal.nD Cert.PleSampleIdeal.τ).loc Cert.PleSampleIdeal.main_v10) = v0 c
          ∧ r.2.mem ((c.tc : Thread Cert.PleSampleIdeal.nD Cert.PleSampleIdeal.τ).loc Cert.PleSampleIdeal.main_arg0) = m ((c.tc : Thread Cert.PleSampleIdeal.nD Cert.PleSampleIdeal.τ).loc Cert.PleSampleIdeal.main_arg0)
          ∧ r.2.mem ((c.tc : Thread Cert.PleSampleIdeal.nD Cert.PleSampleIdeal.τ).loc Cert.PleSampleIdeal.main_arg1) = m ((c.tc : Thread Cert.PleSampleIdeal.nD Cert.PleSampleIdeal.τ).loc Cert.PleSampleIdeal.main_arg1)
          ∧ r.2.mem ((c.tc : Thread Cert.PleSampleIdeal.nD Cert.PleSampleIdeal.τ).loc Cert.PleSampleIdeal.main_arg2) = m ((c.tc : Thread Cert.PleSampleIdeal.nD Cert.PleSampleIdeal.τ).loc Cert.PleSampleIdeal.main_arg2)
          ∧ r.2.mem ((c.tc : Thread Cert.PleSampleIdeal.nD Cert.PleSampleIdeal.τ).loc Cert.PleSampleIdeal.main_arg3) = m ((c.tc : Thread Cert.PleSampleIdeal.nD Cert.PleSampleIdeal.τ).loc Cert.PleSampleIdeal.main_arg3)
          ∧ r.2.mem ((c.tc : Thread Cert.PleSampleIdeal.nD Cert.PleSampleIdeal.τ).loc Cert.PleSampleIdeal.main_arg4) = m ((c.tc : Thread Cert.PleSampleIdeal.nD Cert.PleSampleIdeal.τ).loc Cert.PleSampleIdeal.main_arg4)
          ∧ r.2.mem ((c.tc : Thread Cert.PleSampleIdeal.nD Cert.PleSampleIdeal.τ).loc Cert.PleSampleIdeal.main_arg5) = m ((c.tc : Thread Cert.PleSampleIdeal.nD Cert.PleSampleIdeal.τ).loc Cert.PleSampleIdeal.main_arg5))
      ∧ θ_run (Cert.PleSampleReferenceIdeal.defs (F := Ideal)) (onTc (τ := Cert.PleSampleReferenceIdeal.τ) (Cert.PleSampleReferenceIdeal.main (F := Ideal))) ⟨m', fun _ => 0, g'⟩ (fun r => ∀ c : Dev Cert.PleSampleReferenceIdeal.nD,
          r.2.mem ((c.tc : Thread Cert.PleSampleReferenceIdeal.nD Cert.PleSampleReferenceIdeal.τ).loc Cert.PleSampleReferenceIdeal.main_v40) = v0 c
          ∧ r.2.mem ((c.tc : Thread Cert.PleSampleReferenceIdeal.nD Cert.PleSampleReferenceIdeal.τ).loc Cert.PleSampleReferenceIdeal.main_arg0) = m' ((c.tc : Thread Cert.PleSampleReferenceIdeal.nD Cert.PleSampleReferenceIdeal.τ).loc Cert.PleSampleReferenceIdeal.main_arg0)
          ∧ r.2.mem ((c.tc : Thread Cert.PleSampleReferenceIdeal.nD Cert.PleSampleReferenceIdeal.τ).loc Cert.PleSampleReferenceIdeal.main_arg1) = m' ((c.tc : Thread Cert.PleSampleReferenceIdeal.nD Cert.PleSampleReferenceIdeal.τ).loc Cert.PleSampleReferenceIdeal.main_arg1)
          ∧ r.2.mem ((c.tc : Thread Cert.PleSampleReferenceIdeal.nD Cert.PleSampleReferenceIdeal.τ).loc Cert.PleSampleReferenceIdeal.main_arg2) = m' ((c.tc : Thread Cert.PleSampleReferenceIdeal.nD Cert.PleSampleReferenceIdeal.τ).loc Cert.PleSampleReferenceIdeal.main_arg2)
          ∧ r.2.mem ((c.tc : Thread Cert.PleSampleReferenceIdeal.nD Cert.PleSampleReferenceIdeal.τ).loc Cert.PleSampleReferenceIdeal.main_arg3) = m' ((c.tc : Thread Cert.PleSampleReferenceIdeal.nD Cert.PleSampleReferenceIdeal.τ).loc Cert.PleSampleReferenceIdeal.main_arg3)
          ∧ r.2.mem ((c.tc : Thread Cert.PleSampleReferenceIdeal.nD Cert.PleSampleReferenceIdeal.τ).loc Cert.PleSampleReferenceIdeal.main_arg4) = m' ((c.tc : Thread Cert.PleSampleReferenceIdeal.nD Cert.PleSampleReferenceIdeal.τ).loc Cert.PleSampleReferenceIdeal.main_arg4)
          ∧ r.2.mem ((c.tc : Thread Cert.PleSampleReferenceIdeal.nD Cert.PleSampleReferenceIdeal.τ).loc Cert.PleSampleReferenceIdeal.main_arg5) = m' ((c.tc : Thread Cert.PleSampleReferenceIdeal.nD Cert.PleSampleReferenceIdeal.τ).loc Cert.PleSampleReferenceIdeal.main_arg5))

def preserves_MlaSample_MlaSampleIdeal : Prop :=
  True

def algebraic_MlaSampleIdeal_MlaSampleReferenceIdeal [hMlaSampleIdeal : Cert.MlaSampleIdeal.Facts] [hMlaSampleReferenceIdeal : Cert.MlaSampleReferenceIdeal.Facts] : Prop :=
  ∀ (m : (ℓ : Loc Cert.MlaSampleIdeal.nD Cert.MlaSampleIdeal.τ Cert.MlaSampleIdeal.sig) → Buf (Elt Ideal) ℓ) (g : Dev Cert.MlaSampleIdeal.nD → PrngReg)
    (m' : (ℓ : Loc Cert.MlaSampleReferenceIdeal.nD Cert.MlaSampleReferenceIdeal.τ Cert.MlaSampleReferenceIdeal.sig) → Buf (Elt Ideal) ℓ) (g' : Dev Cert.MlaSampleReferenceIdeal.nD → PrngReg), Pre_MlaSampleIdeal m →
    (∀ c : Dev Cert.MlaSampleIdeal.nD,
      m' ((c.tc : Thread Cert.MlaSampleReferenceIdeal.nD Cert.MlaSampleReferenceIdeal.τ).loc Cert.MlaSampleReferenceIdeal.main_arg0) = m ((c.tc : Thread Cert.MlaSampleIdeal.nD Cert.MlaSampleIdeal.τ).loc Cert.MlaSampleIdeal.main_arg0)
      ∧ m' ((c.tc : Thread Cert.MlaSampleReferenceIdeal.nD Cert.MlaSampleReferenceIdeal.τ).loc Cert.MlaSampleReferenceIdeal.main_arg1) = m ((c.tc : Thread Cert.MlaSampleIdeal.nD Cert.MlaSampleIdeal.τ).loc Cert.MlaSampleIdeal.main_arg1)
      ∧ m' ((c.tc : Thread Cert.MlaSampleReferenceIdeal.nD Cert.MlaSampleReferenceIdeal.τ).loc Cert.MlaSampleReferenceIdeal.main_arg2) = m ((c.tc : Thread Cert.MlaSampleIdeal.nD Cert.MlaSampleIdeal.τ).loc Cert.MlaSampleIdeal.main_arg2)
      ∧ m' ((c.tc : Thread Cert.MlaSampleReferenceIdeal.nD Cert.MlaSampleReferenceIdeal.τ).loc Cert.MlaSampleReferenceIdeal.main_arg3) = m ((c.tc : Thread Cert.MlaSampleIdeal.nD Cert.MlaSampleIdeal.τ).loc Cert.MlaSampleIdeal.main_arg3)
      ∧ m' ((c.tc : Thread Cert.MlaSampleReferenceIdeal.nD Cert.MlaSampleReferenceIdeal.τ).loc Cert.MlaSampleReferenceIdeal.main_arg4) = m ((c.tc : Thread Cert.MlaSampleIdeal.nD Cert.MlaSampleIdeal.τ).loc Cert.MlaSampleIdeal.main_arg4)
      ∧ m' ((c.tc : Thread Cert.MlaSampleReferenceIdeal.nD Cert.MlaSampleReferenceIdeal.τ).loc Cert.MlaSampleReferenceIdeal.main_arg5) = m ((c.tc : Thread Cert.MlaSampleIdeal.nD Cert.MlaSampleIdeal.τ).loc Cert.MlaSampleIdeal.main_arg5)
      ∧ m' ((c.tc : Thread Cert.MlaSampleReferenceIdeal.nD Cert.MlaSampleReferenceIdeal.τ).loc Cert.MlaSampleReferenceIdeal.main_arg6) = m ((c.tc : Thread Cert.MlaSampleIdeal.nD Cert.MlaSampleIdeal.τ).loc Cert.MlaSampleIdeal.main_arg6)) →
    ∃ (v0 : (c : Dev Cert.MlaSampleIdeal.nD) → Buf (Elt Ideal) ((c.tc : Thread Cert.MlaSampleIdeal.nD Cert.MlaSampleIdeal.τ).loc Cert.MlaSampleIdeal.main_v52_0)) (v1 : (c : Dev Cert.MlaSampleIdeal.nD) → Buf (Elt Ideal) ((c.tc : Thread Cert.MlaSampleIdeal.nD Cert.MlaSampleIdeal.τ).loc Cert.MlaSampleIdeal.main_v52_1)) (v2 : (c : Dev Cert.MlaSampleIdeal.nD) → Buf (Elt Ideal) ((c.tc : Thread Cert.MlaSampleIdeal.nD Cert.MlaSampleIdeal.τ).loc Cert.MlaSampleIdeal.main_v52_2)) (v3 : (c : Dev Cert.MlaSampleIdeal.nD) → Buf (Elt Ideal) ((c.tc : Thread Cert.MlaSampleIdeal.nD Cert.MlaSampleIdeal.τ).loc Cert.MlaSampleIdeal.main_v52_3)),
      θ_run (Cert.MlaSampleIdeal.defs (F := Ideal)) (onTc (τ := Cert.MlaSampleIdeal.τ) (Cert.MlaSampleIdeal.main (F := Ideal))) ⟨m, fun _ => 0, g⟩ (fun r => ∀ c : Dev Cert.MlaSampleIdeal.nD,
          r.2.mem ((c.tc : Thread Cert.MlaSampleIdeal.nD Cert.MlaSampleIdeal.τ).loc Cert.MlaSampleIdeal.main_v52_0) = v0 c
          ∧ r.2.mem ((c.tc : Thread Cert.MlaSampleIdeal.nD Cert.MlaSampleIdeal.τ).loc Cert.MlaSampleIdeal.main_v52_1) = v1 c
          ∧ r.2.mem ((c.tc : Thread Cert.MlaSampleIdeal.nD Cert.MlaSampleIdeal.τ).loc Cert.MlaSampleIdeal.main_v52_2) = v2 c
          ∧ r.2.mem ((c.tc : Thread Cert.MlaSampleIdeal.nD Cert.MlaSampleIdeal.τ).loc Cert.MlaSampleIdeal.main_v52_3) = v3 c
          ∧ r.2.mem ((c.tc : Thread Cert.MlaSampleIdeal.nD Cert.MlaSampleIdeal.τ).loc Cert.MlaSampleIdeal.main_arg0) = m ((c.tc : Thread Cert.MlaSampleIdeal.nD Cert.MlaSampleIdeal.τ).loc Cert.MlaSampleIdeal.main_arg0)
          ∧ r.2.mem ((c.tc : Thread Cert.MlaSampleIdeal.nD Cert.MlaSampleIdeal.τ).loc Cert.MlaSampleIdeal.main_arg1) = m ((c.tc : Thread Cert.MlaSampleIdeal.nD Cert.MlaSampleIdeal.τ).loc Cert.MlaSampleIdeal.main_arg1)
          ∧ r.2.mem ((c.tc : Thread Cert.MlaSampleIdeal.nD Cert.MlaSampleIdeal.τ).loc Cert.MlaSampleIdeal.main_arg2) = m ((c.tc : Thread Cert.MlaSampleIdeal.nD Cert.MlaSampleIdeal.τ).loc Cert.MlaSampleIdeal.main_arg2)
          ∧ r.2.mem ((c.tc : Thread Cert.MlaSampleIdeal.nD Cert.MlaSampleIdeal.τ).loc Cert.MlaSampleIdeal.main_arg3) = m ((c.tc : Thread Cert.MlaSampleIdeal.nD Cert.MlaSampleIdeal.τ).loc Cert.MlaSampleIdeal.main_arg3)
          ∧ r.2.mem ((c.tc : Thread Cert.MlaSampleIdeal.nD Cert.MlaSampleIdeal.τ).loc Cert.MlaSampleIdeal.main_arg4) = m ((c.tc : Thread Cert.MlaSampleIdeal.nD Cert.MlaSampleIdeal.τ).loc Cert.MlaSampleIdeal.main_arg4)
          ∧ r.2.mem ((c.tc : Thread Cert.MlaSampleIdeal.nD Cert.MlaSampleIdeal.τ).loc Cert.MlaSampleIdeal.main_arg5) = m ((c.tc : Thread Cert.MlaSampleIdeal.nD Cert.MlaSampleIdeal.τ).loc Cert.MlaSampleIdeal.main_arg5)
          ∧ r.2.mem ((c.tc : Thread Cert.MlaSampleIdeal.nD Cert.MlaSampleIdeal.τ).loc Cert.MlaSampleIdeal.main_arg6) = m ((c.tc : Thread Cert.MlaSampleIdeal.nD Cert.MlaSampleIdeal.τ).loc Cert.MlaSampleIdeal.main_arg6))
      ∧ θ_run (Cert.MlaSampleReferenceIdeal.defs (F := Ideal)) (onTc (τ := Cert.MlaSampleReferenceIdeal.τ) (Cert.MlaSampleReferenceIdeal.main (F := Ideal))) ⟨m', fun _ => 0, g'⟩ (fun r => ∀ c : Dev Cert.MlaSampleReferenceIdeal.nD,
          r.2.mem ((c.tc : Thread Cert.MlaSampleReferenceIdeal.nD Cert.MlaSampleReferenceIdeal.τ).loc Cert.MlaSampleReferenceIdeal.main_v102) = v0 c
          ∧ r.2.mem ((c.tc : Thread Cert.MlaSampleReferenceIdeal.nD Cert.MlaSampleReferenceIdeal.τ).loc Cert.MlaSampleReferenceIdeal.main_v103) = v1 c
          ∧ r.2.mem ((c.tc : Thread Cert.MlaSampleReferenceIdeal.nD Cert.MlaSampleReferenceIdeal.τ).loc Cert.MlaSampleReferenceIdeal.main_v105) = v2 c
          ∧ r.2.mem ((c.tc : Thread Cert.MlaSampleReferenceIdeal.nD Cert.MlaSampleReferenceIdeal.τ).loc Cert.MlaSampleReferenceIdeal.main_v106) = v3 c
          ∧ r.2.mem ((c.tc : Thread Cert.MlaSampleReferenceIdeal.nD Cert.MlaSampleReferenceIdeal.τ).loc Cert.MlaSampleReferenceIdeal.main_arg0) = m' ((c.tc : Thread Cert.MlaSampleReferenceIdeal.nD Cert.MlaSampleReferenceIdeal.τ).loc Cert.MlaSampleReferenceIdeal.main_arg0)
          ∧ r.2.mem ((c.tc : Thread Cert.MlaSampleReferenceIdeal.nD Cert.MlaSampleReferenceIdeal.τ).loc Cert.MlaSampleReferenceIdeal.main_arg1) = m' ((c.tc : Thread Cert.MlaSampleReferenceIdeal.nD Cert.MlaSampleReferenceIdeal.τ).loc Cert.MlaSampleReferenceIdeal.main_arg1)
          ∧ r.2.mem ((c.tc : Thread Cert.MlaSampleReferenceIdeal.nD Cert.MlaSampleReferenceIdeal.τ).loc Cert.MlaSampleReferenceIdeal.main_arg2) = m' ((c.tc : Thread Cert.MlaSampleReferenceIdeal.nD Cert.MlaSampleReferenceIdeal.τ).loc Cert.MlaSampleReferenceIdeal.main_arg2)
          ∧ r.2.mem ((c.tc : Thread Cert.MlaSampleReferenceIdeal.nD Cert.MlaSampleReferenceIdeal.τ).loc Cert.MlaSampleReferenceIdeal.main_arg3) = m' ((c.tc : Thread Cert.MlaSampleReferenceIdeal.nD Cert.MlaSampleReferenceIdeal.τ).loc Cert.MlaSampleReferenceIdeal.main_arg3)
          ∧ r.2.mem ((c.tc : Thread Cert.MlaSampleReferenceIdeal.nD Cert.MlaSampleReferenceIdeal.τ).loc Cert.MlaSampleReferenceIdeal.main_arg4) = m' ((c.tc : Thread Cert.MlaSampleReferenceIdeal.nD Cert.MlaSampleReferenceIdeal.τ).loc Cert.MlaSampleReferenceIdeal.main_arg4)
          ∧ r.2.mem ((c.tc : Thread Cert.MlaSampleReferenceIdeal.nD Cert.MlaSampleReferenceIdeal.τ).loc Cert.MlaSampleReferenceIdeal.main_arg5) = m' ((c.tc : Thread Cert.MlaSampleReferenceIdeal.nD Cert.MlaSampleReferenceIdeal.τ).loc Cert.MlaSampleReferenceIdeal.main_arg5)
          ∧ r.2.mem ((c.tc : Thread Cert.MlaSampleReferenceIdeal.nD Cert.MlaSampleReferenceIdeal.τ).loc Cert.MlaSampleReferenceIdeal.main_arg6) = m' ((c.tc : Thread Cert.MlaSampleReferenceIdeal.nD Cert.MlaSampleReferenceIdeal.τ).loc Cert.MlaSampleReferenceIdeal.main_arg6))

def preserves_HgrnSample_HgrnSampleIdeal : Prop :=
  True

def algebraic_HgrnSampleIdeal_HgrnSampleReferenceIdeal [hHgrnSampleIdeal : Cert.HgrnSampleIdeal.Facts] [hHgrnSampleReferenceIdeal : Cert.HgrnSampleReferenceIdeal.Facts] : Prop :=
  ∀ (m : (ℓ : Loc Cert.HgrnSampleIdeal.nD Cert.HgrnSampleIdeal.τ Cert.HgrnSampleIdeal.sig) → Buf (Elt Ideal) ℓ) (g : Dev Cert.HgrnSampleIdeal.nD → PrngReg)
    (m' : (ℓ : Loc Cert.HgrnSampleReferenceIdeal.nD Cert.HgrnSampleReferenceIdeal.τ Cert.HgrnSampleReferenceIdeal.sig) → Buf (Elt Ideal) ℓ) (g' : Dev Cert.HgrnSampleReferenceIdeal.nD → PrngReg), Pre_HgrnSampleIdeal m →
    (∀ c : Dev Cert.HgrnSampleIdeal.nD,
      m' ((c.tc : Thread Cert.HgrnSampleReferenceIdeal.nD Cert.HgrnSampleReferenceIdeal.τ).loc Cert.HgrnSampleReferenceIdeal.main_arg0) = m ((c.tc : Thread Cert.HgrnSampleIdeal.nD Cert.HgrnSampleIdeal.τ).loc Cert.HgrnSampleIdeal.main_arg0)
      ∧ m' ((c.tc : Thread Cert.HgrnSampleReferenceIdeal.nD Cert.HgrnSampleReferenceIdeal.τ).loc Cert.HgrnSampleReferenceIdeal.main_arg1) = m ((c.tc : Thread Cert.HgrnSampleIdeal.nD Cert.HgrnSampleIdeal.τ).loc Cert.HgrnSampleIdeal.main_arg1)
      ∧ m' ((c.tc : Thread Cert.HgrnSampleReferenceIdeal.nD Cert.HgrnSampleReferenceIdeal.τ).loc Cert.HgrnSampleReferenceIdeal.main_arg2) = m ((c.tc : Thread Cert.HgrnSampleIdeal.nD Cert.HgrnSampleIdeal.τ).loc Cert.HgrnSampleIdeal.main_arg2)
      ∧ m' ((c.tc : Thread Cert.HgrnSampleReferenceIdeal.nD Cert.HgrnSampleReferenceIdeal.τ).loc Cert.HgrnSampleReferenceIdeal.main_arg3) = m ((c.tc : Thread Cert.HgrnSampleIdeal.nD Cert.HgrnSampleIdeal.τ).loc Cert.HgrnSampleIdeal.main_arg3)) →
    ∃ (v0 : (c : Dev Cert.HgrnSampleIdeal.nD) → Buf (Elt Ideal) ((c.tc : Thread Cert.HgrnSampleIdeal.nD Cert.HgrnSampleIdeal.τ).loc Cert.HgrnSampleIdeal.main_v3_0)) (v1 : (c : Dev Cert.HgrnSampleIdeal.nD) → Buf (Elt Ideal) ((c.tc : Thread Cert.HgrnSampleIdeal.nD Cert.HgrnSampleIdeal.τ).loc Cert.HgrnSampleIdeal.main_v3_1)),
      θ_run (Cert.HgrnSampleIdeal.defs (F := Ideal)) (onTc (τ := Cert.HgrnSampleIdeal.τ) (Cert.HgrnSampleIdeal.main (F := Ideal))) ⟨m, fun _ => 0, g⟩ (fun r => ∀ c : Dev Cert.HgrnSampleIdeal.nD,
          r.2.mem ((c.tc : Thread Cert.HgrnSampleIdeal.nD Cert.HgrnSampleIdeal.τ).loc Cert.HgrnSampleIdeal.main_v3_0) = v0 c
          ∧ r.2.mem ((c.tc : Thread Cert.HgrnSampleIdeal.nD Cert.HgrnSampleIdeal.τ).loc Cert.HgrnSampleIdeal.main_v3_1) = v1 c
          ∧ r.2.mem ((c.tc : Thread Cert.HgrnSampleIdeal.nD Cert.HgrnSampleIdeal.τ).loc Cert.HgrnSampleIdeal.main_arg0) = m ((c.tc : Thread Cert.HgrnSampleIdeal.nD Cert.HgrnSampleIdeal.τ).loc Cert.HgrnSampleIdeal.main_arg0)
          ∧ r.2.mem ((c.tc : Thread Cert.HgrnSampleIdeal.nD Cert.HgrnSampleIdeal.τ).loc Cert.HgrnSampleIdeal.main_arg1) = m ((c.tc : Thread Cert.HgrnSampleIdeal.nD Cert.HgrnSampleIdeal.τ).loc Cert.HgrnSampleIdeal.main_arg1)
          ∧ r.2.mem ((c.tc : Thread Cert.HgrnSampleIdeal.nD Cert.HgrnSampleIdeal.τ).loc Cert.HgrnSampleIdeal.main_arg2) = m ((c.tc : Thread Cert.HgrnSampleIdeal.nD Cert.HgrnSampleIdeal.τ).loc Cert.HgrnSampleIdeal.main_arg2)
          ∧ r.2.mem ((c.tc : Thread Cert.HgrnSampleIdeal.nD Cert.HgrnSampleIdeal.τ).loc Cert.HgrnSampleIdeal.main_arg3) = m ((c.tc : Thread Cert.HgrnSampleIdeal.nD Cert.HgrnSampleIdeal.τ).loc Cert.HgrnSampleIdeal.main_arg3))
      ∧ θ_run (Cert.HgrnSampleReferenceIdeal.defs (F := Ideal)) (onTc (τ := Cert.HgrnSampleReferenceIdeal.τ) (Cert.HgrnSampleReferenceIdeal.main (F := Ideal))) ⟨m', fun _ => 0, g'⟩ (fun r => ∀ c : Dev Cert.HgrnSampleReferenceIdeal.nD,
          r.2.mem ((c.tc : Thread Cert.HgrnSampleReferenceIdeal.nD Cert.HgrnSampleReferenceIdeal.τ).loc Cert.HgrnSampleReferenceIdeal.main_v106) = v0 c
          ∧ r.2.mem ((c.tc : Thread Cert.HgrnSampleReferenceIdeal.nD Cert.HgrnSampleReferenceIdeal.τ).loc Cert.HgrnSampleReferenceIdeal.main_v82) = v1 c
          ∧ r.2.mem ((c.tc : Thread Cert.HgrnSampleReferenceIdeal.nD Cert.HgrnSampleReferenceIdeal.τ).loc Cert.HgrnSampleReferenceIdeal.main_arg0) = m' ((c.tc : Thread Cert.HgrnSampleReferenceIdeal.nD Cert.HgrnSampleReferenceIdeal.τ).loc Cert.HgrnSampleReferenceIdeal.main_arg0)
          ∧ r.2.mem ((c.tc : Thread Cert.HgrnSampleReferenceIdeal.nD Cert.HgrnSampleReferenceIdeal.τ).loc Cert.HgrnSampleReferenceIdeal.main_arg1) = m' ((c.tc : Thread Cert.HgrnSampleReferenceIdeal.nD Cert.HgrnSampleReferenceIdeal.τ).loc Cert.HgrnSampleReferenceIdeal.main_arg1)
          ∧ r.2.mem ((c.tc : Thread Cert.HgrnSampleReferenceIdeal.nD Cert.HgrnSampleReferenceIdeal.τ).loc Cert.HgrnSampleReferenceIdeal.main_arg2) = m' ((c.tc : Thread Cert.HgrnSampleReferenceIdeal.nD Cert.HgrnSampleReferenceIdeal.τ).loc Cert.HgrnSampleReferenceIdeal.main_arg2)
          ∧ r.2.mem ((c.tc : Thread Cert.HgrnSampleReferenceIdeal.nD Cert.HgrnSampleReferenceIdeal.τ).loc Cert.HgrnSampleReferenceIdeal.main_arg3) = m' ((c.tc : Thread Cert.HgrnSampleReferenceIdeal.nD Cert.HgrnSampleReferenceIdeal.τ).loc Cert.HgrnSampleReferenceIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hPle : Cert.Ple.Facts) (hPleIdeal : Cert.PleIdeal.Facts) (hPleReferenceIdeal : Cert.PleReferenceIdeal.Facts) (hOutProj : Cert.OutProj.Facts) (hOutProjIdeal : Cert.OutProjIdeal.Facts) (hOutProjReferenceIdeal : Cert.OutProjReferenceIdeal.Facts) (hInProj : Cert.InProj.Facts) (hInProjIdeal : Cert.InProjIdeal.Facts) (hInProjReferenceIdeal : Cert.InProjReferenceIdeal.Facts) (hMlaProj : Cert.MlaProj.Facts) (hMlaProjIdeal : Cert.MlaProjIdeal.Facts) (hMlaProjReferenceIdeal : Cert.MlaProjReferenceIdeal.Facts) (hPleSample : Cert.PleSample.Facts) (hPleSampleIdeal : Cert.PleSampleIdeal.Facts) (hPleSampleReferenceIdeal : Cert.PleSampleReferenceIdeal.Facts) (hMlaSample : Cert.MlaSample.Facts) (hMlaSampleIdeal : Cert.MlaSampleIdeal.Facts) (hMlaSampleReferenceIdeal : Cert.MlaSampleReferenceIdeal.Facts) (hHgrnSample : Cert.HgrnSample.Facts) (hHgrnSampleIdeal : Cert.HgrnSampleIdeal.Facts) (hHgrnSampleReferenceIdeal : Cert.HgrnSampleReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Ple (hPle := hPle)
    ∧ quiescent_PleIdeal (hPleIdeal := hPleIdeal)
    ∧ quiescent_PleReferenceIdeal (hPleReferenceIdeal := hPleReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_MlaProj (hMlaProj := hMlaProj)
    ∧ quiescent_MlaProjIdeal (hMlaProjIdeal := hMlaProjIdeal)
    ∧ quiescent_MlaProjReferenceIdeal (hMlaProjReferenceIdeal := hMlaProjReferenceIdeal)
    ∧ quiescent_PleSample (hPleSample := hPleSample)
    ∧ quiescent_PleSampleIdeal (hPleSampleIdeal := hPleSampleIdeal)
    ∧ quiescent_PleSampleReferenceIdeal (hPleSampleReferenceIdeal := hPleSampleReferenceIdeal)
    ∧ quiescent_MlaSample (hMlaSample := hMlaSample)
    ∧ quiescent_MlaSampleIdeal (hMlaSampleIdeal := hMlaSampleIdeal)
    ∧ quiescent_MlaSampleReferenceIdeal (hMlaSampleReferenceIdeal := hMlaSampleReferenceIdeal)
    ∧ quiescent_HgrnSample (hHgrnSample := hHgrnSample)
    ∧ quiescent_HgrnSampleIdeal (hHgrnSampleIdeal := hHgrnSampleIdeal)
    ∧ quiescent_HgrnSampleReferenceIdeal (hHgrnSampleReferenceIdeal := hHgrnSampleReferenceIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal (hFfnIdeal := hFfnIdeal) (hFfnReferenceIdeal := hFfnReferenceIdeal)
    ∧ preserves_Ple_PleIdeal
    ∧ algebraic_PleIdeal_PleReferenceIdeal (hPleIdeal := hPleIdeal) (hPleReferenceIdeal := hPleReferenceIdeal)
    ∧ preserves_OutProj_OutProjIdeal
    ∧ algebraic_OutProjIdeal_OutProjReferenceIdeal (hOutProjIdeal := hOutProjIdeal) (hOutProjReferenceIdeal := hOutProjReferenceIdeal)
    ∧ preserves_InProj_InProjIdeal
    ∧ algebraic_InProjIdeal_InProjReferenceIdeal (hInProjIdeal := hInProjIdeal) (hInProjReferenceIdeal := hInProjReferenceIdeal)
    ∧ preserves_MlaProj_MlaProjIdeal
    ∧ algebraic_MlaProjIdeal_MlaProjReferenceIdeal (hMlaProjIdeal := hMlaProjIdeal) (hMlaProjReferenceIdeal := hMlaProjReferenceIdeal)
    ∧ preserves_PleSample_PleSampleIdeal
    ∧ algebraic_PleSampleIdeal_PleSampleReferenceIdeal (hPleSampleIdeal := hPleSampleIdeal) (hPleSampleReferenceIdeal := hPleSampleReferenceIdeal)
    ∧ preserves_MlaSample_MlaSampleIdeal
    ∧ algebraic_MlaSampleIdeal_MlaSampleReferenceIdeal (hMlaSampleIdeal := hMlaSampleIdeal) (hMlaSampleReferenceIdeal := hMlaSampleReferenceIdeal)
    ∧ preserves_HgrnSample_HgrnSampleIdeal
    ∧ algebraic_HgrnSampleIdeal_HgrnSampleReferenceIdeal (hHgrnSampleIdeal := hHgrnSampleIdeal) (hHgrnSampleReferenceIdeal := hHgrnSampleReferenceIdeal)
-- ==== Kernel.lean ====
abbrev S16384x5120 : Shape := ⟨2, ![16384, 5120]⟩
abbrev S2x1024 : Shape := ⟨2, ![2, 1024]⟩
abbrev S1x1024 : Shape := ⟨2, ![1, 1024]⟩
abbrev S1024 : Shape := ⟨1, ![1024]⟩
abbrev S16384x1024 : Shape := ⟨2, ![16384, 1024]⟩
abbrev S8x8x128x128 : Shape := ⟨4, ![8, 8, 128, 128]⟩
abbrev S2x128 : Shape := ⟨2, ![2, 128]⟩
abbrev S2048x128 : Shape := ⟨2, ![2048, 128]⟩
abbrev S1x128 : Shape := ⟨2, ![1, 128]⟩
abbrev S1x1x128x128 : Shape := ⟨4, ![1, 1, 128, 128]⟩
abbrev S128 : Shape := ⟨1, ![128]⟩
abbrev S128x128 : Shape := ⟨2, ![128, 128]⟩
abbrev S256x256 : Shape := ⟨2, ![256, 256]⟩
abbrev S512x256 : Shape := ⟨2, ![512, 256]⟩
abbrev S256x128 : Shape := ⟨2, ![256, 128]⟩
abbrev S256x384 : Shape := ⟨2, ![256, 384]⟩
abbrev S512x384 : Shape := ⟨2, ![512, 384]⟩
abbrev S512x128 : Shape := ⟨2, ![512, 128]⟩
abbrev S64x128 : Shape := ⟨2, ![64, 128]⟩
abbrev S256 : Shape := ⟨1, ![256]⟩
abbrev S256x1 : Shape := ⟨2, ![256, 1]⟩

abbrev nBuf : Space → Nat
  | .hbm => 7
  | .vmem => 16
  | .smem => 0
  | _ => 0

abbrev bufTy : (tb : Table) → Fin (tcTables nBuf tb) → BufTy
  | .hbm, ⟨0, _⟩ => ⟨S16384x5120, .f32⟩
  | .hbm, ⟨1, _⟩ => ⟨S2x1024, .f32⟩
  | .hbm, ⟨2, _⟩ => ⟨S1x1024, .f32⟩
  | .hbm, ⟨3, _⟩ => ⟨S1024, .f32⟩
  | .hbm, ⟨4, _⟩ => ⟨S1x1024, .f32⟩
  | .hbm, ⟨5, _⟩ => ⟨S16384x1024, .bf16⟩
  | .hbm, ⟨6, _⟩ => ⟨S8x8x128x128, .f32⟩
  | .local _ .vmem, ⟨0, _⟩ => ⟨S2x128, .f32⟩
  | .local _ .vmem, ⟨1, _⟩ => ⟨S2x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S1x128, .f32⟩
  | .local _ .vmem, ⟨11, _⟩ => ⟨S1x128, .f32⟩
  | .local _ .vmem, ⟨12, _⟩ => ⟨S2048x128, .bf16⟩
  | .local _ .vmem, ⟨13, _⟩ => ⟨S2048x128, .bf16⟩
  | .local _ .vmem, ⟨14, _⟩ => ⟨S1x1x128x128, .f32⟩
  | .local _ .vmem, ⟨15, _⟩ => ⟨S1x1x128x128, .f32⟩
  | _, _ => ⟨S16384x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_17 : BitVec 32 := 0#32
  let c8_i32 : BitVec 32 := 8#32
  let v72 : BitVec 32 := Scalar.addi c0_i32_17 c8_i32
  let c1_i32_18 : BitVec 32 := 1#32
  ⟨c0_i32_17, v72, c1_i32_18⟩
def k0_mult1 (k0_t1 : Fin k0_t1_loop.trips) : BitVec 32 :=
  let c0_i32_17 : BitVec 32 := 0#32
  let c1_i32_18 : BitVec 32 := 1#32
  let arg10 : BitVec 32 := Scf.iv c0_i32_17 c1_i32_18 k0_t1
  let c256_i32 : BitVec 32 := 256#32
  let v78 : BitVec 32 := Scalar.muli arg10 c256_i32
  v78
def k0_off1 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c256_i32 : BitVec 32 := 256#32
  let v78 : BitVec 32 := Scalar.muli arg10 c256_i32
  let v79 : BitVec 32 := v78
  let v80 : Index := Scalar.indexCast v79
  let c0_24 : Index := 0#32
  ![v80.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S16384x5120 : Shape := ⟨2, ![16384, 5120]⟩
abbrev S2x1024 : Shape := ⟨2, ![2, 1024]⟩
abbrev S1x1024 : Shape := ⟨2, ![1, 1024]⟩
abbrev S_ : Shape := ⟨0, ![]⟩
abbrev S1024 : Shape := ⟨1, ![1024]⟩
abbrev S8x2048x5120 : Shape := ⟨3, ![8, 2048, 5120]⟩
abbrev S8x2048x1024 : Shape := ⟨3, ![8, 2048, 1024]⟩
abbrev S8x2048x8x128 : Shape := ⟨4, ![8, 2048, 8, 128]⟩
abbrev S1x1x1024 : Shape := ⟨3, ![1, 1, 1024]⟩
abbrev S64x64 : Shape := ⟨2, ![64, 64]⟩
abbrev S8x8x128x128 : Shape := ⟨4, ![8, 8, 128, 128]⟩
abbrev S8x32x64x8x128 : Shape := ⟨5, ![8, 32, 64, 8, 128]⟩
abbrev S32x8x64x8x128 : Shape := ⟨5, ![32, 8, 64, 8, 128]⟩
abbrev S1x8x64x8x128 : Shape := ⟨5, ![1, 8, 64, 8, 128]⟩
abbrev S8x64x8x128 : Shape := ⟨4, ![8, 64, 8, 128]⟩
abbrev S8x8x64x64 : Shape := ⟨4, ![8, 8, 64, 64]⟩
abbrev S8x8x128x64 : Shape := ⟨4, ![8, 8, 128, 64]⟩
abbrev S8x1x8x128 : Shape := ⟨4, ![8, 1, 8, 128]⟩
abbrev S8x8x128 : Shape := ⟨3, ![8, 8, 128]⟩
abbrev S8x8x128x1 : Shape := ⟨4, ![8, 8, 128, 1]⟩
abbrev S8x2048x8 : Shape := ⟨3, ![8, 2048, 8]⟩
abbrev S8x2048x8x1 : Shape := ⟨4, ![8, 2048, 8, 1]⟩
abbrev S8x128 : Shape := ⟨2, ![8, 128]⟩
abbrev S1x1x8x128 : Shape := ⟨4, ![1, 1, 8, 128]⟩
abbrev S16384x1024 : Shape := ⟨2, ![16384, 1024]⟩

abbrev nBuf : Space → Nat
  | .hbm => 206
  | .vmem => 0
  | .smem => 0
  | _ => 0

abbrev hbmTy0_0 (i : Nat) : BufTy := match i % 128 with
  | 0 => ⟨S16384x5120, .f32⟩
  | 1 => ⟨S2x1024, .f32⟩
  | 2 => ⟨S1x1024, .f32⟩
  | 3 => ⟨S_, .f32⟩
  | 4 => ⟨S1024, .f32⟩
  | 5 => ⟨S_, .f32⟩
  | 6 => ⟨S1024, .f32⟩
  | 7 => ⟨S1024, .f32⟩
  | 8 => ⟨S1x1024, .f32⟩
  | 9 => ⟨S2x1024, .f32⟩
  | 10 => ⟨S2x1024, .f32⟩
  | 11 => ⟨S2x1024, .f32⟩
  | 12 => ⟨S_, .f32⟩
  | 13 => ⟨S1024, .f32⟩
  | 14 => ⟨S1x1024, .f32⟩
  | 15 => ⟨S2x1024, .f32⟩
  | 16 => ⟨S2x1024, .f32⟩
  | 17 => ⟨S_, .f32⟩
  | 18 => ⟨S_, .f32⟩
  | 19 => ⟨S2x1024, .f32⟩
  | 20 => ⟨S1x1024, .f32⟩
  | 21 => ⟨S1024, .f32⟩
  | 22 => ⟨S8x2048x5120, .f32⟩
  | 23 => ⟨S8x2048x1024, .f32⟩
  | 24 => ⟨S8x2048x5120, .f32⟩
  | 25 => ⟨S8x2048x1024, .f32⟩
  | 26 => ⟨S8x2048x5120, .f32⟩
  | 27 => ⟨S8x2048x1024, .f32⟩
  | 28 => ⟨S8x2048x1024, .f32⟩
  | 29 => ⟨S8x2048x1024, .f32⟩
  | 30 => ⟨S_, .f32⟩
  | 31 => ⟨S8x2048x1024, .f32⟩
  | 32 => ⟨S8x2048x1024, .f32⟩
  | 33 => ⟨S_, .f32⟩
  | 34 => ⟨S8x2048x1024, .f32⟩
  | 35 => ⟨S8x2048x1024, .f32⟩
  | 36 => ⟨S8x2048x1024, .f32⟩
  | 37 => ⟨S8x2048x8x128, .f32⟩
  | 38 => ⟨S_, .f32⟩
  | 39 => ⟨S1024, .f32⟩
  | 40 => ⟨S1024, .f32⟩
  | 41 => ⟨S8x2048x1024, .f32⟩
  | 42 => ⟨S8x2048x1024, .f32⟩
  | 43 => ⟨S_, .f32⟩
  | 44 => ⟨S8x2048x1024, .f32⟩
  | 45 => ⟨S8x2048x1024, .f32⟩
  | 46 => ⟨S_, .f32⟩
  | 47 => ⟨S8x2048x1024, .f32⟩
  | 48 => ⟨S8x2048x1024, .f32⟩
  | 49 => ⟨S1x1x1024, .f32⟩
  | 50 => ⟨S8x2048x1024, .f32⟩
  | 51 => ⟨S8x2048x1024, .f32⟩
  | 52 => ⟨S1x1x1024, .f32⟩
  | 53 => ⟨S8x2048x1024, .f32⟩
  | 54 => ⟨S8x2048x1024, .f32⟩
  | 55 => ⟨S_, .f32⟩
  | 56 => ⟨S1024, .f32⟩
  | 57 => ⟨S1024, .f32⟩
  | 58 => ⟨S8x2048x1024, .f32⟩
  | 59 => ⟨S8x2048x1024, .f32⟩
  | 60 => ⟨S8x2048x1024, .f32⟩
  | 61 => ⟨S_, .f32⟩
  | 62 => ⟨S8x2048x1024, .f32⟩
  | 63 => ⟨S8x2048x1024, .f32⟩
  | 64 => ⟨S_, .f32⟩
  | 65 => ⟨S8x2048x1024, .f32⟩
  | 66 => ⟨S8x2048x1024, .f32⟩
  | 67 => ⟨S1x1x1024, .f32⟩
  | 68 => ⟨S8x2048x1024, .f32⟩
  | 69 => ⟨S8x2048x1024, .f32⟩
  | 70 => ⟨S8x2048x8x128, .f32⟩
  | 71 => ⟨S8x2048x1024, .f32⟩
  | 72 => ⟨S8x2048x8x128, .f32⟩
  | 73 => ⟨S8x2048x8x128, .f32⟩
  | 74 => ⟨S_, .i1⟩
  | 75 => ⟨S64x64, .i1⟩
  | 76 => ⟨S64x64, .i32⟩
  | 77 => ⟨S_, .i32⟩
  | 78 => ⟨S64x64, .i32⟩
  | 79 => ⟨S64x64, .i32⟩
  | 80 => ⟨S64x64, .i32⟩
  | 81 => ⟨S64x64, .i1⟩
  | 82 => ⟨S_, .i1⟩
  | 83 => ⟨S64x64, .i1⟩
  | 84 => ⟨S64x64, .i1⟩
  | 85 => ⟨S_, .f32⟩
  | 86 => ⟨S8x8x128x128, .f32⟩
  | 87 => ⟨S8x32x64x8x128, .f32⟩
  | 88 => ⟨S32x8x64x8x128, .f32⟩
  | 89 => ⟨S8x32x64x8x128, .f32⟩
  | 90 => ⟨S32x8x64x8x128, .f32⟩
  | 91 => ⟨S8x32x64x8x128, .f32⟩
  | 92 => ⟨S32x8x64x8x128, .f32⟩
  | 93 => ⟨S8x32x64x8x128, .f32⟩
  | 94 => ⟨S32x8x64x8x128, .f32⟩
  | 95 => ⟨S_, .f32⟩
  | 96 => ⟨S32x8x64x8x128, .f32⟩
  | 97 => ⟨S_, .i32⟩
  | 98 => ⟨S32x8x64x8x128, .f32⟩
  | 99 => ⟨S32x8x64x8x128, .f32⟩
  | 100 => ⟨S32x8x64x8x128, .f32⟩
  | 101 => ⟨S32x8x64x8x128, .f32⟩
  | 102 => ⟨S64x64, .i1⟩
  | 103 => ⟨S_, .i32⟩
  | 104 => ⟨S8x8x128x128, .f32⟩
  | 105 => ⟨S32x8x64x8x128, .f32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S1x8x64x8x128, .f32⟩
  | 113 => ⟨S8x64x8x128, .f32⟩
  | 114 => ⟨S_, .i32⟩
  | 115 => ⟨S_, .i32⟩
  | 116 => ⟨S_, .i32⟩
  | 117 => ⟨S_, .i32⟩
  | 118 => ⟨S1x8x64x8x128, .f32⟩
  | 119 => ⟨S8x64x8x128, .f32⟩
  | 120 => ⟨S_, .i32⟩
  | 121 => ⟨S_, .i32⟩
  | 122 => ⟨S_, .i32⟩
  | 123 => ⟨S_, .i32⟩
  | 124 => ⟨S1x8x64x8x128, .f32⟩
  | 125 => ⟨S8x64x8x128, .f32⟩
  | 126 => ⟨S_, .i32⟩
  | 127 => ⟨S_, .i32⟩
  | _ => ⟨S16384x5120, .f32⟩

abbrev hbmTy0_1 (i : Nat) : BufTy := match i % 128 with
  | 0 => ⟨S_, .i32⟩
  | 1 => ⟨S_, .i32⟩
  | 2 => ⟨S1x8x64x8x128, .f32⟩
  | 3 => ⟨S8x64x8x128, .f32⟩
  | 4 => ⟨S_, .f32⟩
  | 5 => ⟨S_, .f32⟩
  | 6 => ⟨S8x64x8x128, .f32⟩
  | 7 => ⟨S8x64x8x128, .f32⟩
  | 8 => ⟨S8x64x8x128, .f32⟩
  | 9 => ⟨S8x64x8x128, .f32⟩
  | 10 => ⟨S8x64x8x128, .f32⟩
  | 11 => ⟨S8x64x8x128, .f32⟩
  | 12 => ⟨S8x8x64x64, .f32⟩
  | 13 => ⟨S_, .f32⟩
  | 14 => ⟨S_, .f32⟩
  | 15 => ⟨S8x8x64x64, .i1⟩
  | 16 => ⟨S8x8x64x64, .f32⟩
  | 17 => ⟨S8x8x64x64, .f32⟩
  | 18 => ⟨S8x8x128x64, .f32⟩
  | 19 => ⟨S8x64x8x128, .f32⟩
  | 20 => ⟨S8x8x128x64, .f32⟩
  | 21 => ⟨S8x64x8x128, .f32⟩
  | 22 => ⟨S8x64x8x128, .f32⟩
  | 23 => ⟨S8x1x8x128, .f32⟩
  | 24 => ⟨S8x8x128, .f32⟩
  | 25 => ⟨S8x1x8x128, .f32⟩
  | 26 => ⟨S8x64x8x128, .f32⟩
  | 27 => ⟨S8x64x8x128, .f32⟩
  | 28 => ⟨S8x64x8x128, .f32⟩
  | 29 => ⟨S8x64x8x128, .f32⟩
  | 30 => ⟨S8x8x128, .f32⟩
  | 31 => ⟨S8x8x128x1, .f32⟩
  | 32 => ⟨S8x8x128x128, .f32⟩
  | 33 => ⟨S8x8x128x128, .f32⟩
  | 34 => ⟨S8x8x128x128, .f32⟩
  | 35 => ⟨S8x8x128x128, .f32⟩
  | 36 => ⟨S1x8x64x8x128, .f32⟩
  | 37 => ⟨S_, .i32⟩
  | 38 => ⟨S_, .i32⟩
  | 39 => ⟨S_, .i32⟩
  | 40 => ⟨S_, .i32⟩
  | 41 => ⟨S32x8x64x8x128, .f32⟩
  | 42 => ⟨S_, .i32⟩
  | 43 => ⟨S_, .i32⟩
  | 44 => ⟨S8x32x64x8x128, .f32⟩
  | 45 => ⟨S8x2048x8x128, .f32⟩
  | 46 => ⟨S8x2048x8x128, .f32⟩
  | 47 => ⟨S_, .f32⟩
  | 48 => ⟨S8x2048x8, .f32⟩
  | 49 => ⟨S8x2048x8x1, .f32⟩
  | 50 => ⟨S_, .f32⟩
  | 51 => ⟨S8x2048x8x1, .f32⟩
  | 52 => ⟨S8x2048x8x1, .f32⟩
  | 53 => ⟨S_, .f32⟩
  | 54 => ⟨S8x2048x8x1, .f32⟩
  | 55 => ⟨S8x2048x8x1, .f32⟩
  | 56 => ⟨S8x2048x8x1, .f32⟩
  | 57 => ⟨S8x2048x8x128, .f32⟩
  | 58 => ⟨S8x2048x8x128, .f32⟩
  | 59 => ⟨S1024, .f32⟩
  | 60 => ⟨S8x128, .f32⟩
  | 61 => ⟨S1x1x8x128, .f32⟩
  | 62 => ⟨S8x2048x8x128, .f32⟩
  | 63 => ⟨S8x2048x8x128, .f32⟩
  | 64 => ⟨S8x2048x5120, .f32⟩
  | 65 => ⟨S8x2048x1024, .f32⟩
  | 66 => ⟨S8x2048x1024, .f32⟩
  | 67 => ⟨S8x2048x1024, .f32⟩
  | 68 => ⟨S_, .f32⟩
  | 69 => ⟨S8x2048x1024, .f32⟩
  | 70 => ⟨S8x2048x1024, .f32⟩
  | 71 => ⟨S_, .f32⟩
  | 72 => ⟨S8x2048x1024, .f32⟩
  | 73 => ⟨S8x2048x1024, .f32⟩
  | 74 => ⟨S8x2048x8x128, .f32⟩
  | 75 => ⟨S8x2048x8x128, .f32⟩
  | 76 => ⟨S16384x1024, .f32⟩
  | 77 => ⟨S16384x1024, .bf16⟩
  | _ => ⟨S16384x5120, .f32⟩

abbrev hbmTy (i : Nat) : BufTy := match i / 128 with
  | 0 => hbmTy0_0 i
  | 1 => hbmTy0_1 i
  | _ => ⟨S16384x5120, .f32⟩

abbrev bufTy : (tb : Table) → Fin (tcTables nBuf tb) → BufTy
  | .hbm, ⟨i, _⟩ => hbmTy i
  | _, _ => ⟨S16384x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c : Ref sig .tc := ⟨.hbm, 74, rfl⟩
abbrev main_v52 : Ref sig .tc := ⟨.hbm, 75, rfl⟩
abbrev main_call2_v0 : Ref sig .tc := ⟨.hbm, 76, rfl⟩
abbrev main_call2_c : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_c_0 : Ref sig .tc := ⟨.hbm, 82, rfl⟩
abbrev main_call2_v5 : Ref sig .tc := ⟨.hbm, 83, rfl⟩
abbrev main_v53 : Ref sig .tc := ⟨.hbm, 84, rfl⟩
abbrev main_cst_8 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_9 : Ref sig .tc := ⟨.hbm, 95, rfl⟩
abbrev main_v63 : Ref sig .tc := ⟨.hbm, 96, rfl⟩
abbrev main_c_10 : Ref sig .tc := ⟨.hbm, 97, rfl⟩
abbrev main_v64_0 : Ref sig .tc := ⟨.hbm, 98, rfl⟩
abbrev main_v64_1 : Ref sig .tc := ⟨.hbm, 99, rfl⟩
abbrev main_v64_2 : Ref sig .tc := ⟨.hbm, 100, rfl⟩
abbrev main_v64_3 : Ref sig .tc := ⟨.hbm, 101, rfl⟩
abbrev main_v64_4 : Ref sig .tc := ⟨.hbm, 102, rfl⟩
abbrev main_v64_5 : Ref sig .tc := ⟨.hbm, 103, rfl⟩
abbrev main_v64_6 : Ref sig .tc := ⟨.hbm, 104, rfl⟩
abbrev main_v64_7 : Ref sig .tc := ⟨.hbm, 105, rfl⟩
abbrev main_while0c_c_23 : Ref sig .tc := ⟨.hbm, 106, rfl⟩
abbrev main_while0c_v94 : Ref sig .tc := ⟨.hbm, 107, rfl⟩
abbrev main_while0b_call3_c : Ref sig .tc := ⟨.hbm, 108, rfl⟩
abbrev main_while0b_call3_c_0 : Ref sig .tc := ⟨.hbm, 109, rfl⟩
abbrev main_while0b_call3_c_1 : Ref sig .tc := ⟨.hbm, 110, rfl⟩
abbrev main_while0b_call3_c_2 : Ref sig .tc := ⟨.hbm, 111, rfl⟩
abbrev main_while0b_call3_v0 : Ref sig .tc := ⟨.hbm, 112, rfl⟩
abbrev main_while0b_v94 : Ref sig .tc := ⟨.hbm, 113, rfl⟩
abbrev main_while0b_call4_c : Ref sig .tc := ⟨.hbm, 114, rfl⟩
abbrev main_while0b_call4_c_0 : Ref sig .tc := ⟨.hbm, 115, rfl⟩
abbrev main_while0b_call4_c_1 : Ref sig .tc := ⟨.hbm, 116, rfl⟩
abbrev main_while0b_call4_c_2 : Ref sig .tc := ⟨.hbm, 117, rfl⟩
abbrev main_while0b_call4_v0 : Ref sig .tc := ⟨.hbm, 118, rfl⟩
abbrev main_while0b_v95 : Ref sig .tc := ⟨.hbm, 119, rfl⟩
abbrev main_while0b_call5_c : Ref sig .tc := ⟨.hbm, 120, rfl⟩
abbrev main_while0b_call5_c_0 : Ref sig .tc := ⟨.hbm, 121, rfl⟩
abbrev main_while0b_call5_c_1 : Ref sig .tc := ⟨.hbm, 122, rfl⟩
abbrev main_while0b_call5_c_2 : Ref sig .tc := ⟨.hbm, 123, rfl⟩
abbrev main_while0b_call5_v0 : Ref sig .tc := ⟨.hbm, 124, rfl⟩
abbrev main_while0b_v96 : Ref sig .tc := ⟨.hbm, 125, rfl⟩
abbrev main_while0b_call6_c : Ref sig .tc := ⟨.hbm, 126, rfl⟩
abbrev main_while0b_call6_c_0 : Ref sig .tc := ⟨.hbm, 127, rfl⟩
abbrev main_while0b_call6_c_1 : Ref sig .tc := ⟨.hbm, 128, rfl⟩
abbrev main_while0b_call6_c_2 : Ref sig .tc := ⟨.hbm, 129, rfl⟩
abbrev main_while0b_call6_v0 : Ref sig .tc := ⟨.hbm, 130, rfl⟩
abbrev main_while0b_v97 : Ref sig .tc := ⟨.hbm, 131, rfl⟩
abbrev main_while0b_call7_call0_cst : Ref sig .tc := ⟨.hbm, 132, rfl⟩
abbrev main_while0b_call7_call0_v0 : Ref sig .tc := ⟨.hbm, 133, rfl⟩
abbrev main_while0b_v98 : Ref sig .tc := ⟨.hbm, 134, rfl⟩
abbrev main_while0b_v99 : Ref sig .tc := ⟨.hbm, 135, rfl⟩
abbrev main_while0b_v100 : Ref sig .tc := ⟨.hbm, 136, rfl⟩
abbrev main_while0b_v101 : Ref sig .tc := ⟨.hbm, 137, rfl⟩
abbrev main_while0b_v102 : Ref sig .tc := ⟨.hbm, 138, rfl⟩
abbrev main_while0b_v103 : Ref sig .tc := ⟨.hbm, 139, rfl⟩
abbrev main_while0b_v104 : Ref sig .tc := ⟨.hbm, 140, rfl⟩
abbrev main_while0b_cst_23 : Ref sig .tc := ⟨.hbm, 141, rfl⟩
abbrev main_while0b_call8_v0 : Ref sig .tc := ⟨.hbm, 142, rfl⟩
abbrev main_while0b_call8_v1 : Ref sig .tc := ⟨.hbm, 143, rfl⟩
abbrev main_while0b_call8_v2 : Ref sig .tc := ⟨.hbm, 144, rfl⟩
abbrev main_while0b_v105 : Ref sig .tc := ⟨.hbm, 145, rfl⟩
abbrev main_while0b_v106 : Ref sig .tc := ⟨.hbm, 146, rfl⟩
abbrev main_while0b_v107 : Ref sig .tc := ⟨.hbm, 147, rfl⟩
abbrev main_while0b_v108 : Ref sig .tc := ⟨.hbm, 148, rfl⟩
abbrev main_while0b_v109 : Ref sig .tc := ⟨.hbm, 149, rfl⟩
abbrev main_while0b_v110 : Ref sig .tc := ⟨.hbm, 150, rfl⟩
abbrev main_while0b_v111 : Ref sig .tc := ⟨.hbm, 151, rfl⟩
abbrev main_while0b_v112 : Ref sig .tc := ⟨.hbm, 152, rfl⟩
abbrev main_while0b_v113 : Ref sig .tc := ⟨.hbm, 153, rfl⟩
abbrev main_while0b_v114 : Ref sig .tc := ⟨.hbm, 154, rfl⟩
abbrev main_while0b_v115 : Ref sig .tc := ⟨.hbm, 155, rfl⟩
abbrev main_while0b_v116 : Ref sig .tc := ⟨.hbm, 156, rfl⟩
abbrev main_while0b_v117 : Ref sig .tc := ⟨.hbm, 157, rfl⟩
abbrev main_while0b_v118 : Ref sig .tc := ⟨.hbm, 158, rfl⟩
abbrev main_while0b_v119 : Ref sig .tc := ⟨.hbm, 159, rfl⟩
abbrev main_while0b_v120 : Ref sig .tc := ⟨.hbm, 160, rfl⟩
abbrev main_while0b_v121 : Ref sig .tc := ⟨.hbm, 161, rfl⟩
abbrev main_while0b_v122 : Ref sig .tc := ⟨.hbm, 162, rfl⟩
abbrev main_while0b_v123 : Ref sig .tc := ⟨.hbm, 163, rfl⟩
abbrev main_while0b_call9_v0 : Ref sig .tc := ⟨.hbm, 164, rfl⟩
abbrev main_while0b_call9_c : Ref sig .tc := ⟨.hbm, 165, rfl⟩
abbrev main_while0b_call9_c_0 : Ref sig .tc := ⟨.hbm, 166, rfl⟩
abbrev main_while0b_call9_c_1 : Ref sig .tc := ⟨.hbm, 167, rfl⟩
abbrev main_while0b_call9_c_2 : Ref sig .tc := ⟨.hbm, 168, rfl⟩
abbrev main_while0b_v124 : Ref sig .tc := ⟨.hbm, 169, rfl⟩
abbrev main_while0b_c_24 : Ref sig .tc := ⟨.hbm, 170, rfl⟩
abbrev main_while0b_v125 : Ref sig .tc := ⟨.hbm, 171, rfl⟩
abbrev main_v65 : Ref sig .tc := ⟨.hbm, 172, rfl⟩
abbrev main_v66 : Ref sig .tc := ⟨.hbm, 173, rfl⟩
abbrev main_v67 : Ref sig .tc := ⟨.hbm, 174, rfl⟩
abbrev main_cst_11 : Ref sig .tc := ⟨.hbm, 175, rfl⟩
abbrev main_v68 : Ref sig .tc := ⟨.hbm, 176, rfl⟩
abbrev main_v69 : Ref sig .tc := ⟨.hbm, 177, rfl⟩
abbrev main_cst_12 : Ref sig .tc := ⟨.hbm, 178, rfl⟩
abbrev main_v70 : Ref sig .tc := ⟨.hbm, 179, rfl⟩
abbrev main_v71 : Ref sig .tc := ⟨.hbm, 180, rfl⟩
abbrev main_cst_13 : Ref sig .tc := ⟨.hbm, 181, rfl⟩
abbrev main_v72 : Ref sig .tc := ⟨.hbm, 182, rfl⟩
abbrev main_v73 : Ref sig .tc := ⟨.hbm, 183, rfl⟩
abbrev main_v74 : Ref sig .tc := ⟨.hbm, 184, rfl⟩
abbrev main_v75 : Ref sig .tc := ⟨.hbm, 185, rfl⟩
abbrev main_v76 : Ref sig .tc := ⟨.hbm, 186, rfl⟩
abbrev main_v77 : Ref sig .tc := ⟨.hbm, 187, rfl⟩
abbrev main_v78 : Ref sig .tc := ⟨.hbm, 188, rfl⟩
abbrev main_v79 : Ref sig .tc := ⟨.hbm, 189, rfl⟩
abbrev main_v80 : Ref sig .tc := ⟨.hbm, 190, rfl⟩
abbrev main_v81 : Ref sig .tc := ⟨.hbm, 191, rfl⟩
abbrev main_v82 : Ref sig .tc := ⟨.hbm, 192, rfl⟩
abbrev main_v83 : Ref sig .tc := ⟨.hbm, 193, rfl⟩
abbrev main_v84 : Ref sig .tc := ⟨.hbm, 194, rfl⟩
abbrev main_v85 : Ref sig .tc := ⟨.hbm, 195, rfl⟩
abbrev main_cst_14 : Ref sig .tc := ⟨.hbm, 196, rfl⟩
abbrev main_v86 : Ref sig .tc := ⟨.hbm, 197, rfl⟩
abbrev main_v87 : Ref sig .tc := ⟨.hbm, 198, rfl⟩
abbrev main_cst_15 : Ref sig .tc := ⟨.hbm, 199, rfl⟩
abbrev main_v88 : Ref sig .tc := ⟨.hbm, 200, rfl⟩
abbrev main_v89 : Ref sig .tc := ⟨.hbm, 201, rfl⟩
abbrev main_v90 : Ref sig .tc := ⟨.hbm, 202, rfl⟩
abbrev main_v91 : Ref sig .tc := ⟨.hbm, 203, rfl⟩
abbrev main_v92 : Ref sig .tc := ⟨.hbm, 204, rfl⟩
abbrev main_v93 : Ref sig .tc := ⟨.hbm, 205, rfl⟩

abbrev nD : Nat := 1
abbrev τ : Topo := Topo.v7x

variable {F : FTy → Type} [FloatOps F]

abbrev main_while0_count : Scf.Loop 32 := ⟨0#32, 32#32, 1#32⟩
-- ==== Ffn.lean ====
abbrev S8x2048x2048 : Shape := ⟨3, ![8, 2048, 2048]⟩
abbrev S1x2048x11264 : Shape := ⟨3, ![1, 2048, 11264]⟩
abbrev S1x3x5632 : Shape := ⟨3, ![1, 3, 5632]⟩
abbrev S1x5632 : Shape := ⟨2, ![1, 5632]⟩
abbrev S1x5632x2048 : Shape := ⟨3, ![1, 5632, 2048]⟩
abbrev S16384x2048 : Shape := ⟨2, ![16384, 2048]⟩
abbrev S2048x11264 : Shape := ⟨2, ![2048, 11264]⟩
abbrev S5632x2048 : Shape := ⟨2, ![5632, 2048]⟩
abbrev S3x5632 : Shape := ⟨2, ![3, 5632]⟩
abbrev S5632 : Shape := ⟨1, ![5632]⟩
abbrev S32x8x5632 : Shape := ⟨3, ![32, 8, 5632]⟩
abbrev S512x2048 : Shape := ⟨2, ![512, 2048]⟩
abbrev S2048x512 : Shape := ⟨2, ![2048, 512]⟩
abbrev S3x512 : Shape := ⟨2, ![3, 512]⟩
abbrev S1x512 : Shape := ⟨2, ![1, 512]⟩
abbrev S1x8x512 : Shape := ⟨3, ![1, 8, 512]⟩
abbrev S2x512x512 : Shape := ⟨3, ![2, 512, 512]⟩
abbrev S11x8x512 : Shape := ⟨3, ![11, 8, 512]⟩
abbrev S512x512 : Shape := ⟨2, ![512, 512]⟩
abbrev S8x512 : Shape := ⟨2, ![8, 512]⟩
abbrev S504x512 : Shape := ⟨2, ![504, 512]⟩
abbrev S1x512x512 : Shape := ⟨3, ![1, 512, 512]⟩

abbrev nBuf : Space → Nat
  | .hbm => 18
  | .vmem => 20
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S1x2048x11264, .f32⟩
  | .hbm, ⟨3, _⟩ => ⟨S1x3x5632, .f32⟩
  | .hbm, ⟨4, _⟩ => ⟨S1x5632, .f32⟩
  | .hbm, ⟨5, _⟩ => ⟨S1x5632x2048, .f32⟩
  | .hbm, ⟨6, _⟩ => ⟨S16384x2048, .f32⟩
  | .hbm, ⟨7, _⟩ => ⟨S16384x2048, .bf16⟩
  | .hbm, ⟨8, _⟩ => ⟨S16384x2048, .f32⟩
  | .hbm, ⟨9, _⟩ => ⟨S2048x11264, .f32⟩
  | .hbm, ⟨10, _⟩ => ⟨S2048x11264, .bf16⟩
  | .hbm, ⟨11, _⟩ => ⟨S5632x2048, .f32⟩
  | .hbm, ⟨12, _⟩ => ⟨S5632x2048, .bf16⟩
  | .hbm, ⟨13, _⟩ => ⟨S3x5632, .f32⟩
  | .hbm, ⟨14, _⟩ => ⟨S5632, .f32⟩
  | .hbm, ⟨15, _⟩ => ⟨S1x5632, .f32⟩
  | .hbm, ⟨16, _⟩ => ⟨S16384x2048, .f32⟩
  | .hbm, ⟨17, _⟩ => ⟨S32x8x5632, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S3x512, .f32⟩
  | .local _ .vmem, ⟨11, _⟩ => ⟨S3x512, .f32⟩
  | .local _ .vmem, ⟨12, _⟩ => ⟨S1x512, .f32⟩
  | .local _ .vmem, ⟨13, _⟩ => ⟨S1x512, .f32⟩
  | .local _ .vmem, ⟨14, _⟩ => ⟨S512x2048, .f32⟩
  | .local _ .vmem, ⟨15, _⟩ => ⟨S512x2048, .f32⟩
  | .local _ .vmem, ⟨16, _⟩ => ⟨S1x8x512, .f32⟩
  | .local _ .vmem, ⟨17, _⟩ => ⟨S1x8x512, .f32⟩
  | .local _ .vmem, ⟨18, _⟩ => ⟨S2x512x512, .bf16⟩
  | .local _ .vmem, ⟨19, _⟩ => ⟨S11x8x512, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v29 : Index := Scalar.indexCast arg1
  let c0_18 : Index := 0#32
  let c0_19 : Index := 0#32
  ![v29.toNat, 0, 0]
def k0_off2 (i : grid0.Coords) : Fin 3 → Nat :=
  let arg1 : BitVec 32 := BitVec.ofNat 32 (i 1).val
  let c2_i32_34 : BitVec 32 := 2#32
  let v79 : BitVec 32 := Scalar.remsi arg1 c2_i32_34
  let v80 : Index := Scalar.indexCast v79
  let c0_35 : Index := 0#32
  let c0_36 : Index := 0#32
  ![v80.toNat, 0, 0]
def k0_cond3 (i : grid0.Coords) : BitVec 1 :=
  let arg1 : BitVec 32 := BitVec.ofNat 32 (i 1).val
  let c0_i32_1 : BitVec 32 := 0#32
  let v3 : BitVec 1 := Scalar.cmpi .sgt arg1 c0_i32_1
  let c11_i32 : BitVec 32 := 11#32
  let v4 : BitVec 1 := Scalar.cmpi .slt arg1 c11_i32
  let v5 : BitVec 1 := Scalar.andi v3 v4
  let v6 : BitVec 32 := Scalar.extui v5
  let c0_i32_2 : BitVec 32 := 0#32
  let v7 : BitVec 1 := Scalar.cmpi .ne v6 c0_i32_2
  v7

def k0_off3 (i : grid0.Coords) : Fin 3 → Nat :=
  let arg1 : BitVec 32 := BitVec.ofNat 32 (i 1).val
  let v23 : Index := Scalar.indexCast arg1
  let c0_12 : Index := 0#32
  let c0_13 : Index := 0#32
  ![v23.toNat, 0, 0]
def k0_off4 (i : grid0.Coords) : Fin 3 → Nat :=
  let arg1 : BitVec 32 := BitVec.ofNat 32 (i 1).val
  let c2_i32_28 : BitVec 32 := 2#32
  let v73 : BitVec 32 := Scalar.remsi arg1 c2_i32_28
  let v74 : Index := Scalar.indexCast v73
  let c0_29 : Index := 0#32
  let c0_30 : Index := 0#32
  ![v74.toNat, 0, 0]
def k0_off5 (i : grid0.Coords) : Fin 3 → Nat :=
  let arg1 : BitVec 32 := BitVec.ofNat 32 (i 1).val
  let c1_i32_33 : BitVec 32 := 1#32
  let v80 : BitVec 32 := Scalar.addi arg1 c1_i32_33
  let c2_i32_34 : BitVec 32 := 2#32
  let v81 : BitVec 32 := Scalar.remsi v80 c2_i32_34
  let v82 : Index := Scalar.indexCast v81
  let c0_35 : Index := 0#32
  let c0_36 : Index := 0#32
  ![v82.toNat, 0, 0]
def k0_cond4 (i : grid0.Coords) : BitVec 1 :=
  let arg1 : BitVec 32 := BitVec.ofNat 32 (i 1).val
  let c11_i32_3 : BitVec 32 := 11#32
  let v8 : BitVec 1 := Scalar.cmpi .eq arg1 c11_i32_3
  let v9 : BitVec 32 := Scalar.extui v8
  let c0_i32_4 : BitVec 32 := 0#32
  let v10 : BitVec 1 := Scalar.cmpi .ne v9 c0_i32_4
  v10

def k0_off6 (i : grid0.Coords) : Fin 3 → Nat :=
  let arg1 : BitVec 32 := BitVec.ofNat 32 (i 1).val
  let c1_i32 : BitVec 32 := 1#32
  let v13 : BitVec 32 := Scalar.addi arg1 c1_i32
  let c2_i32 : BitVec 32 := 2#32
  let v14 : BitVec 32 := Scalar.remsi v13 c2_i32
  let v15 : Index := Scalar.indexCast v14
  let c0_6 : Index := 0#32
  let c0_7 : Index := 0#32
  ![v15.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c11_i32 : BitVec 32 := 11#32
  let v1 : BitVec 32 := Scalar.addi c11_i32 v0
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  let c0_i32_0 : BitVec 32 := 0#32
  ![arg0.toNat, c0_i32.toNat, v0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnReferenceIdeal.lean ====
abbrev S8x2048x2048 : Shape := ⟨3, ![8, 2048, 2048]⟩
abbrev S1x2048x11264 : Shape := ⟨3, ![1, 2048, 11264]⟩
abbrev S1x3x5632 : Shape := ⟨3, ![1, 3, 5632]⟩
abbrev S1x5632 : Shape := ⟨2, ![1, 5632]⟩
abbrev S1x5632x2048 : Shape := ⟨3, ![1, 5632, 2048]⟩
abbrev S2048x11264 : Shape := ⟨2, ![2048, 11264]⟩
abbrev S8x2048x11264 : Shape := ⟨3, ![8, 2048, 11264]⟩
abbrev S8x2048x5632 : Shape := ⟨3, ![8, 2048, 5632]⟩
abbrev S_ : Shape := ⟨0, ![]⟩
abbrev S8x2x5632 : Shape := ⟨3, ![8, 2, 5632]⟩
abbrev S8x2050x5632 : Shape := ⟨3, ![8, 2050, 5632]⟩
abbrev S5632 : Shape := ⟨1, ![5632]⟩
abbrev S1x1x5632 : Shape := ⟨3, ![1, 1, 5632]⟩
abbrev S5632x2048 : Shape := ⟨2, ![5632, 2048]⟩
abbrev S16384x2048 : Shape := ⟨2, ![16384, 2048]⟩
abbrev S32x512x5632 : Shape := ⟨3, ![32, 512, 5632]⟩
abbrev S32x8x5632 : Shape := ⟨3, ![32, 8, 5632]⟩

abbrev nBuf : Space → Nat
  | .hbm => 53
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S1x2048x11264, .f32⟩
  | .hbm, ⟨3, _⟩ => ⟨S1x3x5632, .f32⟩
  | .hbm, ⟨4, _⟩ => ⟨S1x5632, .f32⟩
  | .hbm, ⟨5, _⟩ => ⟨S1x5632x2048, .f32⟩
  | .hbm, ⟨6, _⟩ => ⟨S2048x11264, .f32⟩
  | .hbm, ⟨7, _⟩ => ⟨S8x2048x11264, .f32⟩
  | .hbm, ⟨8, _⟩ => ⟨S8x2048x5632, .f32⟩
  | .hbm, ⟨9, _⟩ => ⟨S8x2048x5632, .f32⟩
  | .hbm, ⟨10, _⟩ => ⟨S_, .f32⟩
  | .hbm, ⟨11, _⟩ => ⟨S8x2x5632, .f32⟩
  | .hbm, ⟨12, _⟩ => ⟨S8x2050x5632, .f32⟩
  | .hbm, ⟨13, _⟩ => ⟨S5632, .f32⟩
  | .hbm, ⟨14, _⟩ => ⟨S1x1x5632, .f32⟩
  | .hbm, ⟨15, _⟩ => ⟨S5632, .f32⟩
  | .hbm, ⟨16, _⟩ => ⟨S8x2048x5632, .f32⟩
  | .hbm, ⟨17, _⟩ => ⟨S1x1x5632, .f32⟩
  | .hbm, ⟨18, _⟩ => ⟨S8x2048x5632, .f32⟩
  | .hbm, ⟨19, _⟩ => ⟨S8x2048x5632, .f32⟩
  | .hbm, ⟨20, _⟩ => ⟨S1x1x5632, .f32⟩
  | .hbm, ⟨21, _⟩ => ⟨S8x2048x5632, .f32⟩
  | .hbm, ⟨22, _⟩ => ⟨S8x2048x5632, .f32⟩
  | .hbm, ⟨23, _⟩ => ⟨S1x1x5632, .f32⟩
  | .hbm, ⟨24, _⟩ => ⟨S5632, .f32⟩
  | .hbm, ⟨25, _⟩ => ⟨S8x2048x5632, .f32⟩
  | .hbm, ⟨26, _⟩ => ⟨S1x1x5632, .f32⟩
  | .hbm, ⟨27, _⟩ => ⟨S8x2048x5632, .f32⟩
  | .hbm, ⟨28, _⟩ => ⟨S8x2048x5632, .f32⟩
  | .hbm, ⟨29, _⟩ => ⟨S8x2048x5632, .f32⟩
  | .hbm, ⟨30, _⟩ => ⟨S1x1x5632, .f32⟩
  | .hbm, ⟨31, _⟩ => ⟨S5632, .f32⟩
  | .hbm, ⟨32, _⟩ => ⟨S8x2048x5632, .f32⟩
  | .hbm, ⟨33, _⟩ => ⟨S1x1x5632, .f32⟩
  | .hbm, ⟨34, _⟩ => ⟨S8x2048x5632, .f32⟩
  | .hbm, ⟨35, _⟩ => ⟨S8x2048x5632, .f32⟩
  | .hbm, ⟨36, _⟩ => ⟨S8x2048x5632, .f32⟩
  | .hbm, ⟨37, _⟩ => ⟨S8x2048x5632, .f32⟩
  | .hbm, ⟨38, _⟩ => ⟨S8x2048x5632, .f32⟩
  | .hbm, ⟨39, _⟩ => ⟨S_, .f32⟩
  | .hbm, ⟨40, _⟩ => ⟨S8x2048x5632, .f32⟩
  | .hbm, ⟨41, _⟩ => ⟨S8x2048x5632, .f32⟩
  | .hbm, ⟨42, _⟩ => ⟨S_, .f32⟩
  | .hbm, ⟨43, _⟩ => ⟨S8x2048x5632, .f32⟩
  | .hbm, ⟨44, _⟩ => ⟨S8x2048x5632, .f32⟩
  | .hbm, ⟨45, _⟩ => ⟨S8x2048x5632, .f32⟩
  | .hbm, ⟨46, _⟩ => ⟨S8x2048x5632, .f32⟩
  | .hbm, ⟨47, _⟩ => ⟨S5632x2048, .f32⟩
  | .hbm, ⟨48, _⟩ => ⟨S8x2048x2048, .f32⟩
  | .hbm, ⟨49, _⟩ => ⟨S8x2048x2048, .f32⟩
  | .hbm, ⟨50, _⟩ => ⟨S16384x2048, .f32⟩
  | .hbm, ⟨51, _⟩ => ⟨S32x512x5632, .f32⟩
  | .hbm, ⟨52, _⟩ => ⟨S32x8x5632, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Ple.lean ====
abbrev S8x2048x2048 : Shape := ⟨3, ![8, 2048, 2048]⟩
abbrev S1x8x2048x256 : Shape := ⟨4, ![1, 8, 2048, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048 : Shape := ⟨1, ![2048]⟩
abbrev S16384x2048 : Shape := ⟨2, ![16384, 2048]⟩
abbrev S8x2048x256 : Shape := ⟨3, ![8, 2048, 256]⟩
abbrev S16384x256 : Shape := ⟨2, ![16384, 256]⟩
abbrev S2048x2048 : Shape := ⟨2, ![2048, 2048]⟩
abbrev S256x2048 : Shape := ⟨2, ![256, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 17
  | .vmem => 10
  | .smem => 0
  | _ => 0

abbrev bufTy : (tb : Table) → Fin (tcTables nBuf tb) → BufTy
  | .hbm, ⟨0, _⟩ => ⟨S8x2048x2048, .f32⟩
  | .hbm, ⟨1, _⟩ => ⟨S1x8x2048x256, .f32⟩
  | .hbm, ⟨2, _⟩ => ⟨S1x2048, .f32⟩
  | .hbm, ⟨3, _⟩ => ⟨S1x2048x2048, .f32⟩
  | .hbm, ⟨4, _⟩ => ⟨S1x256x2048, .f32⟩
  | .hbm, ⟨5, _⟩ => ⟨S2048, .f32⟩
  | .hbm, ⟨6, _⟩ => ⟨S16384x2048, .f32⟩
  | .hbm, ⟨7, _⟩ => ⟨S8x2048x256, .f32⟩
  | .hbm, ⟨8, _⟩ => ⟨S16384x256, .f32⟩
  | .hbm, ⟨9, _⟩ => ⟨S2048, .f32⟩
  | .hbm, ⟨10, _⟩ => ⟨S1x2048, .f32⟩
  | .hbm, ⟨11, _⟩ => ⟨S2048x2048, .f32⟩
  | .hbm, ⟨12, _⟩ => ⟨S2048x2048, .bf16⟩
  | .hbm, ⟨13, _⟩ => ⟨S256x2048, .f32⟩
  | .hbm, ⟨14, _⟩ => ⟨S256x2048, .bf16⟩
  | .hbm, ⟨15, _⟩ => ⟨S1x2048, .f32⟩
  | .hbm, ⟨16, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S1x2048, .f32⟩
  | .local _ .vmem, ⟨5, _⟩ => ⟨S2048x2048, .bf16⟩
  | .local _ .vmem, ⟨6, _⟩ => ⟨S256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleReferenceIdeal.lean ====
abbrev S8x2048x2048 : Shape := ⟨3, ![8, 2048, 2048]⟩
abbrev S1x8x2048x256 : Shape := ⟨4, ![1, 8, 2048, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x2048 : Shape := ⟨2, ![2048, 2048]⟩
abbrev S8x2048x256 : Shape := ⟨3, ![8, 2048, 256]⟩
abbrev S256x2048 : Shape := ⟨2, ![256, 2048]⟩
abbrev S16384x2048 : Shape := ⟨2, ![16384, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x8x2048x256, .f32⟩
  | .hbm, ⟨2, _⟩ => ⟨S1x2048, .f32⟩
  | .hbm, ⟨3, _⟩ => ⟨S1x2048x2048, .f32⟩
  | .hbm, ⟨4, _⟩ => ⟨S1x256x2048, .f32⟩
  | .hbm, ⟨5, _⟩ => ⟨S2048, .f32⟩
  | .hbm, ⟨6, _⟩ => ⟨S2048, .f32⟩
  | .hbm, ⟨7, _⟩ => ⟨S8x2048x2048, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S1x1x2048, .f32⟩
  | .hbm, ⟨21, _⟩ => ⟨S8x2048x2048, .f32⟩
  | .hbm, ⟨22, _⟩ => ⟨S8x2048x2048, .f32⟩
  | .hbm, ⟨23, _⟩ => ⟨S2048x2048, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048x2048, .f32⟩
  | .hbm, ⟨32, _⟩ => ⟨S8x2048x2048, .f32⟩
  | .hbm, ⟨33, _⟩ => ⟨S8x2048x256, .f32⟩
  | .hbm, ⟨34, _⟩ => ⟨S256x2048, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048, .f32⟩
  | .hbm, ⟨41, _⟩ => ⟨S8x2048x1, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S8x2048x1, .f32⟩
  | .hbm, ⟨49, _⟩ => ⟨S8x2048x2048, .f32⟩
  | .hbm, ⟨50, _⟩ => ⟨S8x2048x2048, .f32⟩
  | .hbm, ⟨51, _⟩ => ⟨S1x1x2048, .f32⟩
  | .hbm, ⟨52, _⟩ => ⟨S8x2048x2048, .f32⟩
  | .hbm, ⟨53, _⟩ => ⟨S8x2048x2048, .f32⟩
  | .hbm, ⟨54, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== OutProj.lean ====
abbrev S8x2048x1024 : Shape := ⟨3, ![8, 2048, 1024]⟩
abbrev S8x2048x2048 : Shape := ⟨3, ![8, 2048, 2048]⟩
abbrev S1x2048x2048 : Shape := ⟨3, ![1, 2048, 2048]⟩
abbrev S1x2048 : Shape := ⟨2, ![1, 2048]⟩
abbrev S2048x2048 : Shape := ⟨2, ![2048, 2048]⟩
abbrev S16384x1024 : Shape := ⟨2, ![16384, 1024]⟩
abbrev S16384x2048 : Shape := ⟨2, ![16384, 2048]⟩
abbrev S1024x2048 : Shape := ⟨2, ![1024, 2048]⟩
abbrev S2048 : Shape := ⟨1, ![2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 18
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x2048, .f32⟩
  | .hbm, ⟨3, _⟩ => ⟨S1x2048x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S16384x1024, .f32⟩
  | .hbm, ⟨8, _⟩ => ⟨S16384x1024, .bf16⟩
  | .hbm, ⟨9, _⟩ => ⟨S16384x1024, .f32⟩
  | .hbm, ⟨10, _⟩ => ⟨S16384x1024, .bf16⟩
  | .hbm, ⟨11, _⟩ => ⟨S16384x2048, .f32⟩
  | .hbm, ⟨12, _⟩ => ⟨S1024x2048, .bf16⟩
  | .hbm, ⟨13, _⟩ => ⟨S1024x2048, .bf16⟩
  | .hbm, ⟨14, _⟩ => ⟨S2048, .f32⟩
  | .hbm, ⟨15, _⟩ => ⟨S1x2048, .f32⟩
  | .hbm, ⟨16, _⟩ => ⟨S16384x2048, .f32⟩
  | .hbm, ⟨17, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutProjReferenceIdeal.lean ====
abbrev S8x2048x1024 : Shape := ⟨3, ![8, 2048, 1024]⟩
abbrev S8x2048x2048 : Shape := ⟨3, ![8, 2048, 2048]⟩
abbrev S1x2048x2048 : Shape := ⟨3, ![1, 2048, 2048]⟩
abbrev S1x2048 : Shape := ⟨2, ![1, 2048]⟩
abbrev S2048x2048 : Shape := ⟨2, ![2048, 2048]⟩
abbrev S16384x2048 : Shape := ⟨2, ![16384, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x2048, .f32⟩
  | .hbm, ⟨3, _⟩ => ⟨S1x2048x2048, .f32⟩
  | .hbm, ⟨4, _⟩ => ⟨S1x2048, .f32⟩
  | .hbm, ⟨5, _⟩ => ⟨S8x2048x2048, .f32⟩
  | .hbm, ⟨6, _⟩ => ⟨S2048x2048, .f32⟩
  | .hbm, ⟨7, _⟩ => ⟨S8x2048x2048, .f32⟩
  | .hbm, ⟨8, _⟩ => ⟨S8x2048x2048, .f32⟩
  | .hbm, ⟨9, _⟩ => ⟨S16384x2048, .f32⟩
  | .hbm, ⟨10, _⟩ => ⟨S2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x2048, .f32⟩
  | .hbm, ⟨23, _⟩ => ⟨S8x2048x2048, .f32⟩
  | .hbm, ⟨24, _⟩ => ⟨S1x1x2048, .f32⟩
  | .hbm, ⟨25, _⟩ => ⟨S8x2048x2048, .f32⟩
  | .hbm, ⟨26, _⟩ => ⟨S8x2048x2048, .f32⟩
  | .hbm, ⟨27, _⟩ => ⟨S16384x2048, .f32⟩
  | .hbm, ⟨28, _⟩ => ⟨S16384x2048, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== InProj.lean ====
abbrev S8x2048x2048 : Shape := ⟨3, ![8, 2048, 2048]⟩
abbrev S1x2048 : Shape := ⟨2, ![1, 2048]⟩
abbrev S1x2048x4928 : Shape := ⟨3, ![1, 2048, 4928]⟩
abbrev S2048x4928 : Shape := ⟨2, ![2048, 4928]⟩
abbrev S4928x2048 : Shape := ⟨2, ![4928, 2048]⟩
abbrev S64x2048 : Shape := ⟨2, ![64, 2048]⟩
abbrev S2048x64 : Shape := ⟨2, ![2048, 64]⟩
abbrev S2048x32 : Shape := ⟨2, ![2048, 32]⟩
abbrev S_ : Shape := ⟨0, ![]⟩
abbrev S128x2048 : Shape := ⟨2, ![128, 2048]⟩
abbrev S5120x2048 : Shape := ⟨2, ![5120, 2048]⟩
abbrev S16384x2048 : Shape := ⟨2, ![16384, 2048]⟩
abbrev S2048 : Shape := ⟨1, ![2048]⟩
abbrev S16384x5120 : Shape := ⟨2, ![16384, 5120]⟩
abbrev S1024x2048 : Shape := ⟨2, ![1024, 2048]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 20
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x4928, .f32⟩
  | .hbm, ⟨3, _⟩ => ⟨S2048x4928, .f32⟩
  | .hbm, ⟨4, _⟩ => ⟨S4928x2048, .f32⟩
  | .hbm, ⟨5, _⟩ => ⟨S64x2048, .f32⟩
  | .hbm, ⟨6, _⟩ => ⟨S2048x64, .f32⟩
  | .hbm, ⟨7, _⟩ => ⟨S2048x32, .f32⟩
  | .hbm, ⟨8, _⟩ => ⟨S2048x32, .f32⟩
  | .hbm, ⟨9, _⟩ => ⟨S2048x32, .f32⟩
  | .hbm, ⟨10, _⟩ => ⟨S2048x64, .f32⟩
  | .hbm, ⟨11, _⟩ => ⟨S64x2048, .f32⟩
  | .hbm, ⟨12, _⟩ => ⟨S_, .f32⟩
  | .hbm, ⟨13, _⟩ => ⟨S128x2048, .f32⟩
  | .hbm, ⟨14, _⟩ => ⟨S5120x2048, .f32⟩
  | .hbm, ⟨15, _⟩ => ⟨S5120x2048, .bf16⟩
  | .hbm, ⟨16, _⟩ => ⟨S16384x2048, .f32⟩
  | .hbm, ⟨17, _⟩ => ⟨S2048, .f32⟩
  | .hbm, ⟨18, _⟩ => ⟨S1x2048, .f32⟩
  | .hbm, ⟨19, _⟩ => ⟨S16384x5120, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjReferenceIdeal.lean ====
abbrev S8x2048x2048 : Shape := ⟨3, ![8, 2048, 2048]⟩
abbrev S1x2048 : Shape := ⟨2, ![1, 2048]⟩
abbrev S1x2048x4928 : Shape := ⟨3, ![1, 2048, 4928]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x4928 : Shape := ⟨2, ![2048, 4928]⟩
abbrev S2048x32 : Shape := ⟨2, ![2048, 32]⟩
abbrev S8x2048x4928 : Shape := ⟨3, ![8, 2048, 4928]⟩
abbrev S8x2048x32 : Shape := ⟨3, ![8, 2048, 32]⟩
abbrev S8x2048x128 : Shape := ⟨3, ![8, 2048, 128]⟩
abbrev S8x2048x5120 : Shape := ⟨3, ![8, 2048, 5120]⟩
abbrev S16384x5120 : Shape := ⟨2, ![16384, 5120]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x4928, .f32⟩
  | .hbm, ⟨3, _⟩ => ⟨S2048, .f32⟩
  | .hbm, ⟨4, _⟩ => ⟨S8x2048x2048, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S1x1x2048, .f32⟩
  | .hbm, ⟨18, _⟩ => ⟨S8x2048x2048, .f32⟩
  | .hbm, ⟨19, _⟩ => ⟨S8x2048x2048, .f32⟩
  | .hbm, ⟨20, _⟩ => ⟨S2048x4928, .f32⟩
  | .hbm, ⟨21, _⟩ => ⟨S2048x32, .f32⟩
  | .hbm, ⟨22, _⟩ => ⟨S2048x4928, .f32⟩
  | .hbm, ⟨23, _⟩ => ⟨S2048x32, .f32⟩
  | .hbm, ⟨24, _⟩ => ⟨S2048x4928, .f32⟩
  | .hbm, ⟨25, _⟩ => ⟨S8x2048x4928, .f32⟩
  | .hbm, ⟨26, _⟩ => ⟨S2048x32, .f32⟩
  | .hbm, ⟨27, _⟩ => ⟨S8x2048x32, .f32⟩
  | .hbm, ⟨28, _⟩ => ⟨S8x2048x32, .f32⟩
  | .hbm, ⟨29, _⟩ => ⟨S_, .f32⟩
  | .hbm, ⟨30, _⟩ => ⟨S8x2048x128, .f32⟩
  | .hbm, ⟨31, _⟩ => ⟨S8x2048x5120, .f32⟩
  | .hbm, ⟨32, _⟩ => ⟨S16384x5120, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== MlaProj.lean ====
abbrev S8x2048x512 : Shape := ⟨3, ![8, 2048, 512]⟩
abbrev S8x2048x256 : Shape := ⟨3, ![8, 2048, 256]⟩
abbrev S8x2048x64 : Shape := ⟨3, ![8, 2048, 64]⟩
abbrev S1x512 : Shape := ⟨2, ![1, 512]⟩
abbrev S1x512x1536 : Shape := ⟨3, ![1, 512, 1536]⟩
abbrev S1x256 : Shape := ⟨2, ![1, 256]⟩
abbrev S1x256x2048 : Shape := ⟨3, ![1, 256, 2048]⟩
abbrev S8x2048x32 : Shape := ⟨3, ![8, 2048, 32]⟩
abbrev S_ : Shape := ⟨0, ![]⟩
abbrev S16384x4096 : Shape := ⟨2, ![16384, 4096]⟩
abbrev S16384x512 : Shape := ⟨2, ![16384, 512]⟩
abbrev S16384x256 : Shape := ⟨2, ![16384, 256]⟩
abbrev S16384x64 : Shape := ⟨2, ![16384, 64]⟩
abbrev S16384x128 : Shape := ⟨2, ![16384, 128]⟩
abbrev S16384x5120 : Shape := ⟨2, ![16384, 5120]⟩
abbrev S512x1536 : Shape := ⟨2, ![512, 1536]⟩
abbrev S512x8x192 : Shape := ⟨3, ![512, 8, 192]⟩
abbrev S512x8x64 : Shape := ⟨3, ![512, 8, 64]⟩
abbrev S512x8x32 : Shape := ⟨3, ![512, 8, 32]⟩
abbrev S512x8x256 : Shape := ⟨3, ![512, 8, 256]⟩
abbrev S512x2048 : Shape := ⟨2, ![512, 2048]⟩
abbrev S256x2048 : Shape := ⟨2, ![256, 2048]⟩
abbrev S256x8x256 : Shape := ⟨3, ![256, 8, 256]⟩
abbrev S256x8x128 : Shape := ⟨3, ![256, 8, 128]⟩
abbrev S8x128x256 : Shape := ⟨3, ![8, 128, 256]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S512 : Shape := ⟨1, ![512]⟩
abbrev S256 : Shape := ⟨1, ![256]⟩
abbrev S16384x384 : Shape := ⟨2, ![16384, 384]⟩
abbrev S16384x3072 : Shape := ⟨2, ![16384, 3072]⟩
abbrev S256x1024 : Shape := ⟨2, ![256, 1024]⟩
abbrev S256x128 : Shape := ⟨2, ![256, 128]⟩
abbrev S256x256 : Shape := ⟨2, ![256, 256]⟩
abbrev S256x64 : Shape := ⟨2, ![256, 64]⟩
abbrev S256x384 : Shape := ⟨2, ![256, 384]⟩
abbrev S256x3072 : Shape := ⟨2, ![256, 3072]⟩
abbrev S256x512 : Shape := ⟨2, ![256, 512]⟩
abbrev S256x1 : Shape := ⟨2, ![256, 1]⟩
abbrev S1x128x256 : Shape := ⟨3, ![1, 128, 256]⟩
abbrev S128x256 : Shape := ⟨2, ![128, 256]⟩

abbrev nBuf : Space → Nat
  | .hbm => 63
  | .vmem => 16
  | .smem => 0
  | _ => 0

abbrev bufTy : (tb : Table) → Fin (tcTables nBuf tb) → BufTy
  | .hbm, ⟨0, _⟩ => ⟨S8x2048x512, .f32⟩
  | .hbm, ⟨1, _⟩ => ⟨S8x2048x256, .f32⟩
  | .hbm, ⟨2, _⟩ => ⟨S8x2048x64, .f32⟩
  | .hbm, ⟨3, _⟩ => ⟨S1x512, .f32⟩
  | .hbm, ⟨4, _⟩ => ⟨S1x512x1536, .f32⟩
  | .hbm, ⟨5, _⟩ => ⟨S1x256, .f32⟩
  | .hbm, ⟨6, _⟩ => ⟨S1x256x2048, .f32⟩
  | .hbm, ⟨7, _⟩ => ⟨S8x2048x32, .f32⟩
  | .hbm, ⟨8, _⟩ => ⟨S8x2048x32, .f32⟩
  | .hbm, ⟨9, _⟩ => ⟨S8x2048x32, .f32⟩
  | .hbm, ⟨10, _⟩ => ⟨S8x2048x64, .f32⟩
  | .hbm, ⟨11, _⟩ => ⟨S_, .f32⟩
  | .hbm, ⟨12, _⟩ => ⟨S16384x4096, .f32⟩
  | .hbm, ⟨13, _⟩ => ⟨S16384x512, .f32⟩
  | .hbm, ⟨14, _⟩ => ⟨S16384x256, .f32⟩
  | .hbm, ⟨15, _⟩ => ⟨S16384x64, .f32⟩
  | .hbm, ⟨16, _⟩ => ⟨S16384x64, .f32⟩
  | .hbm, ⟨17, _⟩ => ⟨S_, .f32⟩
  | .hbm, ⟨18, _⟩ => ⟨S16384x128, .f32⟩
  | .hbm, ⟨19, _⟩ => ⟨S16384x5120, .f32⟩
  | .hbm, ⟨20, _⟩ => ⟨S512x1536, .f32⟩
  | .hbm, ⟨21, _⟩ => ⟨S512x8x192, .f32⟩
  | .hbm, ⟨22, _⟩ => ⟨S512x8x64, .f32⟩
  | .hbm, ⟨23, _⟩ => ⟨S512x8x32, .f32⟩
  | .hbm, ⟨24, _⟩ => ⟨S512x8x32, .f32⟩
  | .hbm, ⟨25, _⟩ => ⟨S512x8x32, .f32⟩
  | .hbm, ⟨26, _⟩ => ⟨S512x8x64, .f32⟩
  | .hbm, ⟨27, _⟩ => ⟨S512x8x256, .f32⟩
  | .hbm, ⟨28, _⟩ => ⟨S512x2048, .f32⟩
  | .hbm, ⟨29, _⟩ => ⟨S512x2048, .bf16⟩
  | .hbm, ⟨30, _⟩ => ⟨S256x2048, .f32⟩
  | .hbm, ⟨31, _⟩ => ⟨S256x8x256, .f32⟩
  | .hbm, ⟨32, _⟩ => ⟨S256x8x128, .f32⟩
  | .hbm, ⟨33, _⟩ => ⟨S8x128x256, .f32⟩
  | .hbm, ⟨34, _⟩ => ⟨S8x128x256, .bf16⟩
  | .hbm, ⟨35, _⟩ => ⟨S2048, .i32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S2048, .f32⟩
  | .hbm, ⟨47, _⟩ => ⟨S2048x1, .f32⟩
  | .hbm, ⟨48, _⟩ => ⟨S1x32, .f32⟩
  | .hbm, ⟨49, _⟩ => ⟨S2048x32, .f32⟩
  | .hbm, ⟨50, _⟩ => ⟨S2048x32, .f32⟩
  | .hbm, ⟨51, _⟩ => ⟨S2048x32, .f32⟩
  | .hbm, ⟨52, _⟩ => ⟨S2048x32, .f32⟩
  | .hbm, ⟨53, _⟩ => ⟨S2048x32, .f32⟩
  | .hbm, ⟨54, _⟩ => ⟨S2048x128, .f32⟩
  | .hbm, ⟨55, _⟩ => ⟨S512, .f32⟩
  | .hbm, ⟨56, _⟩ => ⟨S1x512, .f32⟩
  | .hbm, ⟨57, _⟩ => ⟨S256, .f32⟩
  | .hbm, ⟨58, _⟩ => ⟨S1x256, .f32⟩
  | .hbm, ⟨59, _⟩ => ⟨S16384x256, .f32⟩
  | .hbm, ⟨60, _⟩ => ⟨S16384x64, .f32⟩
  | .hbm, ⟨61, _⟩ => ⟨S16384x384, .bf16⟩
  | .hbm, ⟨62, _⟩ => ⟨S16384x3072, .bf16⟩
  | .local _ .vmem, ⟨0, _⟩ => ⟨S256x1024, .f32⟩
  | .local _ .vmem, ⟨1, _⟩ => ⟨S256x1024, .f32⟩
  | .local _ .vmem, ⟨2, _⟩ => ⟨S256x128, .f32⟩
  | .local _ .vmem, ⟨3, _⟩ => ⟨S256x128, .f32⟩
  | .local _ .vmem, ⟨4, _⟩ => ⟨S1x512, .f32⟩
  | .local _ .vmem, ⟨5, _⟩ => ⟨S1x256, .f32⟩
  | .local _ .vmem, ⟨6, _⟩ => ⟨S512x2048, .bf16⟩
  | .local _ .vmem, ⟨7, _⟩ => ⟨S8x128x256, .bf16⟩
  | .local _ .vmem, ⟨8, _⟩ => ⟨S256x256, .f32⟩
  | .local _ .vmem, ⟨9, _⟩ => ⟨S256x256, .f32⟩
  | .local _ .vmem, ⟨10, _⟩ => ⟨S256x64, .f32⟩
  | .local _ .vmem, ⟨11, _⟩ => ⟨S256x64, .f32⟩
  | .local _ .vmem, ⟨12, _⟩ => ⟨S256x384, .bf16⟩
  | .local _ .vmem, ⟨13, _⟩ => ⟨S256x384, .bf16⟩
  | .local _ .vmem, ⟨14, _⟩ => ⟨S256x3072, .bf16⟩
  | .local _ .vmem, ⟨15, _⟩ => ⟨S256x3072, .bf16⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47_0 : Ref sig .tc := ⟨.hbm, 59, rfl⟩
abbrev main_v47_1 : Ref sig .tc := ⟨.hbm, 60, rfl⟩
abbrev main_v47_2 : Ref sig .tc := ⟨.hbm, 61, rfl⟩
abbrev main_v47_3 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MlaProjReferenceIdeal.lean ====
abbrev S8x2048x512 : Shape := ⟨3, ![8, 2048, 512]⟩
abbrev S8x2048x256 : Shape := ⟨3, ![8, 2048, 256]⟩
abbrev S8x2048x64 : Shape := ⟨3, ![8, 2048, 64]⟩
abbrev S1x512 : Shape := ⟨2, ![1, 512]⟩
abbrev S1x512x1536 : Shape := ⟨3, ![1, 512, 1536]⟩
abbrev S1x256 : Shape := ⟨2, ![1, 256]⟩
abbrev S1x256x2048 : Shape := ⟨3, ![1, 256, 2048]⟩
abbrev S512 : Shape := ⟨1, ![512]⟩
abbrev S_ : Shape := ⟨0, ![]⟩
abbrev S8x2048 : Shape := ⟨2, ![8, 2048]⟩
abbrev S8x2048x1 : Shape := ⟨3, ![8, 2048, 1]⟩
abbrev S1x1x512 : Shape := ⟨3, ![1, 1, 512]⟩
abbrev S512x1536 : Shape := ⟨2, ![512, 1536]⟩
abbrev S512x8x192 : Shape := ⟨3, ![512, 8, 192]⟩
abbrev S8x2048x8x192 : Shape := ⟨4, ![8, 2048, 8, 192]⟩
abbrev S512x8x32 : Shape := ⟨3, ![512, 8, 32]⟩
abbrev S8x2048x8x32 : Shape := ⟨4, ![8, 2048, 8, 32]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S1x2048x1x32 : Shape := ⟨4, ![1, 2048, 1, 32]⟩
abbrev S8x2048x8x64 : Shape := ⟨4, ![8, 2048, 8, 64]⟩
abbrev S8x2048x32 : Shape := ⟨3, ![8, 2048, 32]⟩
abbrev S1x2048x32 : Shape := ⟨3, ![1, 2048, 32]⟩
abbrev S256 : Shape := ⟨1, ![256]⟩
abbrev S1x1x256 : Shape := ⟨3, ![1, 1, 256]⟩
abbrev S256x2048 : Shape := ⟨2, ![256, 2048]⟩
abbrev S256x8x256 : Shape := ⟨3, ![256, 8, 256]⟩
abbrev S256x8x128 : Shape := ⟨3, ![256, 8, 128]⟩
abbrev S8x2048x8x128 : Shape := ⟨4, ![8, 2048, 8, 128]⟩
abbrev S8x256x8x2048 : Shape := ⟨4, ![8, 256, 8, 2048]⟩
abbrev S8x2048x8x256 : Shape := ⟨4, ![8, 2048, 8, 256]⟩
abbrev S8x2048x384 : Shape := ⟨3, ![8, 2048, 384]⟩
abbrev S8x2048x8x384 : Shape := ⟨4, ![8, 2048, 8, 384]⟩
abbrev S16384x256 : Shape := ⟨2, ![16384, 256]⟩
abbrev S16384x64 : Shape := ⟨2, ![16384, 64]⟩
abbrev S16384x384 : Shape := ⟨2, ![16384, 384]⟩
abbrev S16384x3072 : Shape := ⟨2, ![16384, 3072]⟩

abbrev nBuf : Space → Nat
  | .hbm => 126
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x256, .f32⟩
  | .hbm, ⟨2, _⟩ => ⟨S8x2048x64, .f32⟩
  | .hbm, ⟨3, _⟩ => ⟨S1x512, .f32⟩
  | .hbm, ⟨4, _⟩ => ⟨S1x512x1536, .f32⟩
  | .hbm, ⟨5, _⟩ => ⟨S1x256, .f32⟩
  | .hbm, ⟨6, _⟩ => ⟨S1x256x2048, .f32⟩
  | .hbm, ⟨7, _⟩ => ⟨S512, .f32⟩
  | .hbm, ⟨8, _⟩ => ⟨S8x2048x512, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x512, .f32⟩
  | .hbm, ⟨20, _⟩ => ⟨S8x2048x512, .f32⟩
  | .hbm, ⟨21, _⟩ => ⟨S1x1x512, .f32⟩
  | .hbm, ⟨22, _⟩ => ⟨S8x2048x512, .f32⟩
  | .hbm, ⟨23, _⟩ => ⟨S8x2048x512, .f32⟩
  | .hbm, ⟨24, _⟩ => ⟨S512x1536, .f32⟩
  | .hbm, ⟨25, _⟩ => ⟨S512x8x192, .f32⟩
  | .hbm, ⟨26, _⟩ => ⟨S8x2048x8x192, .f32⟩
  | .hbm, ⟨27, _⟩ => ⟨S512x8x32, .f32⟩
  | .hbm, ⟨28, _⟩ => ⟨S512x8x32, .f32⟩
  | .hbm, ⟨29, _⟩ => ⟨S8x2048x8x32, .f32⟩
  | .hbm, ⟨30, _⟩ => ⟨S2048, .i32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S2048, .f32⟩
  | .hbm, ⟨42, _⟩ => ⟨S2048x1, .f32⟩
  | .hbm, ⟨43, _⟩ => ⟨S1x32, .f32⟩
  | .hbm, ⟨44, _⟩ => ⟨S2048x32, .f32⟩
  | .hbm, ⟨45, _⟩ => ⟨S2048x32, .f32⟩
  | .hbm, ⟨46, _⟩ => ⟨S2048x32, .f32⟩
  | .hbm, ⟨47, _⟩ => ⟨S2048x32, .f32⟩
  | .hbm, ⟨48, _⟩ => ⟨S2048x32, .f32⟩
  | .hbm, ⟨49, _⟩ => ⟨S2048x1x32, .f32⟩
  | .hbm, ⟨50, _⟩ => ⟨S2048x1x32, .f32⟩
  | .hbm, ⟨51, _⟩ => ⟨S8x2048x8x32, .f32⟩
  | .hbm, ⟨52, _⟩ => ⟨S8x2048x8x32, .f32⟩
  | .hbm, ⟨53, _⟩ => ⟨S1x2048x1x32, .f32⟩
  | .hbm, ⟨54, _⟩ => ⟨S8x2048x8x32, .f32⟩
  | .hbm, ⟨55, _⟩ => ⟨S8x2048x8x32, .f32⟩
  | .hbm, ⟨56, _⟩ => ⟨S1x2048x1x32, .f32⟩
  | .hbm, ⟨57, _⟩ => ⟨S8x2048x8x32, .f32⟩
  | .hbm, ⟨58, _⟩ => ⟨S8x2048x8x32, .f32⟩
  | .hbm, ⟨59, _⟩ => ⟨S8x2048x8x32, .f32⟩
  | .hbm, ⟨60, _⟩ => ⟨S1x2048x1x32, .f32⟩
  | .hbm, ⟨61, _⟩ => ⟨S8x2048x8x32, .f32⟩
  | .hbm, ⟨62, _⟩ => ⟨S8x2048x8x32, .f32⟩
  | .hbm, ⟨63, _⟩ => ⟨S1x2048x1x32, .f32⟩
  | .hbm, ⟨64, _⟩ => ⟨S8x2048x8x32, .f32⟩
  | .hbm, ⟨65, _⟩ => ⟨S8x2048x8x32, .f32⟩
  | .hbm, ⟨66, _⟩ => ⟨S8x2048x8x32, .f32⟩
  | .hbm, ⟨67, _⟩ => ⟨S8x2048x8x64, .f32⟩
  | .hbm, ⟨68, _⟩ => ⟨S_, .f32⟩
  | .hbm, ⟨69, _⟩ => ⟨S8x2048x8x64, .f32⟩
  | .hbm, ⟨70, _⟩ => ⟨S8x2048x8x64, .f32⟩
  | .hbm, ⟨71, _⟩ => ⟨S8x2048x32, .f32⟩
  | .hbm, ⟨72, _⟩ => ⟨S8x2048x32, .f32⟩
  | .hbm, ⟨73, _⟩ => ⟨S1x2048x32, .f32⟩
  | .hbm, ⟨74, _⟩ => ⟨S8x2048x32, .f32⟩
  | .hbm, ⟨75, _⟩ => ⟨S8x2048x32, .f32⟩
  | .hbm, ⟨76, _⟩ => ⟨S1x2048x32, .f32⟩
  | .hbm, ⟨77, _⟩ => ⟨S8x2048x32, .f32⟩
  | .hbm, ⟨78, _⟩ => ⟨S8x2048x32, .f32⟩
  | .hbm, ⟨79, _⟩ => ⟨S8x2048x32, .f32⟩
  | .hbm, ⟨80, _⟩ => ⟨S1x2048x32, .f32⟩
  | .hbm, ⟨81, _⟩ => ⟨S8x2048x32, .f32⟩
  | .hbm, ⟨82, _⟩ => ⟨S8x2048x32, .f32⟩
  | .hbm, ⟨83, _⟩ => ⟨S1x2048x32, .f32⟩
  | .hbm, ⟨84, _⟩ => ⟨S8x2048x32, .f32⟩
  | .hbm, ⟨85, _⟩ => ⟨S8x2048x32, .f32⟩
  | .hbm, ⟨86, _⟩ => ⟨S8x2048x32, .f32⟩
  | .hbm, ⟨87, _⟩ => ⟨S8x2048x64, .f32⟩
  | .hbm, ⟨88, _⟩ => ⟨S256, .f32⟩
  | .hbm, ⟨89, _⟩ => ⟨S8x2048x256, .f32⟩
  | .hbm, ⟨90, _⟩ => ⟨S_, .f32⟩
  | .hbm, ⟨91, _⟩ => ⟨S8x2048, .f32⟩
  | .hbm, ⟨92, _⟩ => ⟨S8x2048x1, .f32⟩
  | .hbm, ⟨93, _⟩ => ⟨S_, .f32⟩
  | .hbm, ⟨94, _⟩ => ⟨S8x2048x1, .f32⟩
  | .hbm, ⟨95, _⟩ => ⟨S8x2048x1, .f32⟩
  | .hbm, ⟨96, _⟩ => ⟨S_, .f32⟩
  | .hbm, ⟨97, _⟩ => ⟨S8x2048x1, .f32⟩
  | .hbm, ⟨98, _⟩ => ⟨S8x2048x1, .f32⟩
  | .hbm, ⟨99, _⟩ => ⟨S8x2048x1, .f32⟩
  | .hbm, ⟨100, _⟩ => ⟨S8x2048x256, .f32⟩
  | .hbm, ⟨101, _⟩ => ⟨S8x2048x256, .f32⟩
  | .hbm, ⟨102, _⟩ => ⟨S1x1x256, .f32⟩
  | .hbm, ⟨103, _⟩ => ⟨S8x2048x256, .f32⟩
  | .hbm, ⟨104, _⟩ => ⟨S8x2048x256, .f32⟩
  | .hbm, ⟨105, _⟩ => ⟨S256x2048, .f32⟩
  | .hbm, ⟨106, _⟩ => ⟨S256x8x256, .f32⟩
  | .hbm, ⟨107, _⟩ => ⟨S256x8x128, .f32⟩
  | .hbm, ⟨108, _⟩ => ⟨S8x2048x8x128, .f32⟩
  | .hbm, ⟨109, _⟩ => ⟨S8x256x8x2048, .f32⟩
  | .hbm, ⟨110, _⟩ => ⟨S8x2048x8x256, .f32⟩
  | .hbm, ⟨111, _⟩ => ⟨S_, .f32⟩
  | .hbm, ⟨112, _⟩ => ⟨S8x2048x8x256, .f32⟩
  | .hbm, ⟨113, _⟩ => ⟨S8x2048x8x256, .f32⟩
  | .hbm, ⟨114, _⟩ => ⟨S_, .f32⟩
  | .hbm, ⟨115, _⟩ => ⟨S8x2048x64, .f32⟩
  | .hbm, ⟨116, _⟩ => ⟨S8x2048x384, .f32⟩
  | .hbm, ⟨117, _⟩ => ⟨S_, .f32⟩
  | .hbm, ⟨118, _⟩ => ⟨S8x2048x8x64, .f32⟩
  | .hbm, ⟨119, _⟩ => ⟨S8x2048x8x384, .f32⟩
  | .hbm, ⟨120, _⟩ => ⟨S16384x256, .f32⟩
  | .hbm, ⟨121, _⟩ => ⟨S16384x64, .f32⟩
  | .hbm, ⟨122, _⟩ => ⟨S16384x384, .f32⟩
  | .hbm, ⟨123, _⟩ => ⟨S16384x384, .bf16⟩
  | .hbm, ⟨124, _⟩ => ⟨S16384x3072, .f32⟩
  | .hbm, ⟨125, _⟩ => ⟨S16384x3072, .bf16⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_5 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_6 : Ref sig .tc := ⟨.hbm, 90, rfl⟩
abbrev main_v76 : Ref sig .tc := ⟨.hbm, 91, rfl⟩
abbrev main_v77 : Ref sig .tc := ⟨.hbm, 92, rfl⟩
abbrev main_cst_7 : Ref sig .tc := ⟨.hbm, 93, rfl⟩
abbrev main_v78 : Ref sig .tc := ⟨.hbm, 94, rfl⟩
abbrev main_v79 : Ref sig .tc := ⟨.hbm, 95, rfl⟩
abbrev main_cst_8 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_cst_9 : Ref sig .tc := ⟨.hbm, 111, rfl⟩
abbrev main_v94 : Ref sig .tc := ⟨.hbm, 112, rfl⟩
abbrev main_v95 : Ref sig .tc := ⟨.hbm, 113, rfl⟩
abbrev main_cst_10 : Ref sig .tc := ⟨.hbm, 114, rfl⟩
abbrev main_v96 : Ref sig .tc := ⟨.hbm, 115, rfl⟩
abbrev main_v97 : Ref sig .tc := ⟨.hbm, 116, rfl⟩
abbrev main_cst_11 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩

abbrev nD : Nat := 1
abbrev τ : Topo := Topo.v7x

variable {F : FTy → Type} [FloatOps F]
-- ==== PleSample.lean ====
abbrev S128x8x2048 : Shape := ⟨3, ![128, 8, 2048]⟩
abbrev S1x128x8x256 : Shape := ⟨4, ![1, 128, 8, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048 : Shape := ⟨1, ![2048]⟩
abbrev S1024x2048 : Shape := ⟨2, ![1024, 2048]⟩
abbrev S128x8x256 : Shape := ⟨3, ![128, 8, 256]⟩
abbrev S1024x256 : Shape := ⟨2, ![1024, 256]⟩
abbrev S2048x2048 : Shape := ⟨2, ![2048, 2048]⟩
abbrev S256x2048 : Shape := ⟨2, ![256, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 17
  | .vmem => 10
  | .smem => 0
  | _ => 0

abbrev bufTy : (tb : Table) → Fin (tcTables nBuf tb) → BufTy
  | .hbm, ⟨0, _⟩ => ⟨S128x8x2048, .f32⟩
  | .hbm, ⟨1, _⟩ => ⟨S1x128x8x256, .f32⟩
  | .hbm, ⟨2, _⟩ => ⟨S1x2048, .f32⟩
  | .hbm, ⟨3, _⟩ => ⟨S1x2048x2048, .f32⟩
  | .hbm, ⟨4, _⟩ => ⟨S1x256x2048, .f32⟩
  | .hbm, ⟨5, _⟩ => ⟨S2048, .f32⟩
  | .hbm, ⟨6, _⟩ => ⟨S1024x2048, .f32⟩
  | .hbm, ⟨7, _⟩ => ⟨S128x8x256, .f32⟩
  | .hbm, ⟨8, _⟩ => ⟨S1024x256, .f32⟩
  | .hbm, ⟨9, _⟩ => ⟨S2048, .f32⟩
  | .hbm, ⟨10, _⟩ => ⟨S1x2048, .f32⟩
  | .hbm, ⟨11, _⟩ => ⟨S2048x2048, .f32⟩
  | .hbm, ⟨12, _⟩ => ⟨S2048x2048, .bf16⟩
  | .hbm, ⟨13, _⟩ => ⟨S256x2048, .f32⟩
  | .hbm, ⟨14, _⟩ => ⟨S256x2048, .bf16⟩
  | .hbm, ⟨15, _⟩ => ⟨S1x2048, .f32⟩
  | .hbm, ⟨16, _⟩ => ⟨S1024x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S1x2048, .f32⟩
  | .local _ .vmem, ⟨5, _⟩ => ⟨S2048x2048, .bf16⟩
  | .local _ .vmem, ⟨6, _⟩ => ⟨S256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleSampleReferenceIdeal.lean ====
abbrev S128x8x2048 : Shape := ⟨3, ![128, 8, 2048]⟩
abbrev S1x128x8x256 : Shape := ⟨4, ![1, 128, 8, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048 : Shape := ⟨1, ![2048]⟩
abbrev S_ : Shape := ⟨0, ![]⟩
abbrev S128x8 : Shape := ⟨2, ![128, 8]⟩
abbrev S128x8x1 : Shape := ⟨3, ![128, 8, 1]⟩
abbrev S1x1x2048 : Shape := ⟨3, ![1, 1, 2048]⟩
abbrev S2048x2048 : Shape := ⟨2, ![2048, 2048]⟩
abbrev S128x8x256 : Shape := ⟨3, ![128, 8, 256]⟩
abbrev S256x2048 : Shape := ⟨2, ![256, 2048]⟩
abbrev S1024x2048 : Shape := ⟨2, ![1024, 2048]⟩

abbrev nBuf : Space → Nat
  | .hbm => 55
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S1x128x8x256, .f32⟩
  | .hbm, ⟨2, _⟩ => ⟨S1x2048, .f32⟩
  | .hbm, ⟨3, _⟩ => ⟨S1x2048x2048, .f32⟩
  | .hbm, ⟨4, _⟩ => ⟨S1x256x2048, .f32⟩
  | .hbm, ⟨5, _⟩ => ⟨S2048, .f32⟩
  | .hbm, ⟨6, _⟩ => ⟨S2048, .f32⟩
  | .hbm, ⟨7, _⟩ => ⟨S128x8x2048, .f32⟩
  | .hbm, ⟨8, _⟩ => ⟨S_, .f32⟩
  | .hbm, ⟨9, _⟩ => ⟨S128x8, .f32⟩
  | .hbm, ⟨10, _⟩ => ⟨S128x8x1, .f32⟩
  | .hbm, ⟨11, _⟩ => ⟨S_, .f32⟩
  | .hbm, ⟨12, _⟩ => ⟨S128x8x1, .f32⟩
  | .hbm, ⟨13, _⟩ => ⟨S128x8x1, .f32⟩
  | .hbm, ⟨14, _⟩ => ⟨S_, .f32⟩
  | .hbm, ⟨15, _⟩ => ⟨S128x8x1, .f32⟩
  | .hbm, ⟨16, _⟩ => ⟨S128x8x1, .f32⟩
  | .hbm, ⟨17, _⟩ => ⟨S128x8x1, .f32⟩
  | .hbm, ⟨18, _⟩ => ⟨S128x8x2048, .f32⟩
  | .hbm, ⟨19, _⟩ => ⟨S128x8x2048, .f32⟩
  | .hbm, ⟨20, _⟩ => ⟨S1x1x2048, .f32⟩
  | .hbm, ⟨21, _⟩ => ⟨S128x8x2048, .f32⟩
  | .hbm, ⟨22, _⟩ => ⟨S128x8x2048, .f32⟩
  | .hbm, ⟨23, _⟩ => ⟨S2048x2048, .f32⟩
  | .hbm, ⟨24, _⟩ => ⟨S128x8x2048, .f32⟩
  | .hbm, ⟨25, _⟩ => ⟨S128x8x2048, .f32⟩
  | .hbm, ⟨26, _⟩ => ⟨S128x8x2048, .f32⟩
  | .hbm, ⟨27, _⟩ => ⟨S_, .f32⟩
  | .hbm, ⟨28, _⟩ => ⟨S128x8x2048, .f32⟩
  | .hbm, ⟨29, _⟩ => ⟨S128x8x2048, .f32⟩
  | .hbm, ⟨30, _⟩ => ⟨S_, .f32⟩
  | .hbm, ⟨31, _⟩ => ⟨S128x8x2048, .f32⟩
  | .hbm, ⟨32, _⟩ => ⟨S128x8x2048, .f32⟩
  | .hbm, ⟨33, _⟩ => ⟨S128x8x256, .f32⟩
  | .hbm, ⟨34, _⟩ => ⟨S256x2048, .f32⟩
  | .hbm, ⟨35, _⟩ => ⟨S128x8x2048, .f32⟩
  | .hbm, ⟨36, _⟩ => ⟨S128x8x2048, .f32⟩
  | .hbm, ⟨37, _⟩ => ⟨S128x8x2048, .f32⟩
  | .hbm, ⟨38, _⟩ => ⟨S128x8x2048, .f32⟩
  | .hbm, ⟨39, _⟩ => ⟨S_, .f32⟩
  | .hbm, ⟨40, _⟩ => ⟨S128x8, .f32⟩
  | .hbm, ⟨41, _⟩ => ⟨S128x8x1, .f32⟩
  | .hbm, ⟨42, _⟩ => ⟨S_, .f32⟩
  | .hbm, ⟨43, _⟩ => ⟨S128x8x1, .f32⟩
  | .hbm, ⟨44, _⟩ => ⟨S128x8x1, .f32⟩
  | .hbm, ⟨45, _⟩ => ⟨S_, .f32⟩
  | .hbm, ⟨46, _⟩ => ⟨S128x8x1, .f32⟩
  | .hbm, ⟨47, _⟩ => ⟨S128x8x1, .f32⟩
  | .hbm, ⟨48, _⟩ => ⟨S128x8x1, .f32⟩
  | .hbm, ⟨49, _⟩ => ⟨S128x8x2048, .f32⟩
  | .hbm, ⟨50, _⟩ => ⟨S128x8x2048, .f32⟩
  | .hbm, ⟨51, _⟩ => ⟨S1x1x2048, .f32⟩
  | .hbm, ⟨52, _⟩ => ⟨S128x8x2048, .f32⟩
  | .hbm, ⟨53, _⟩ => ⟨S128x8x2048, .f32⟩
  | .hbm, ⟨54, _⟩ => ⟨S1024x2048, .f32⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== MlaSample.lean ====
abbrev S128x8x512 : Shape := ⟨3, ![128, 8, 512]⟩
abbrev S128x8x256 : Shape := ⟨3, ![128, 8, 256]⟩
abbrev S128x8x64 : Shape := ⟨3, ![128, 8, 64]⟩
abbrev S1x512 : Shape := ⟨2, ![1, 512]⟩
abbrev S1x512x1536 : Shape := ⟨3, ![1, 512, 1536]⟩
abbrev S1x256 : Shape := ⟨2, ![1, 256]⟩
abbrev S1x256x2048 : Shape := ⟨3, ![1, 256, 2048]⟩
abbrev S128x8x32 : Shape := ⟨3, ![128, 8, 32]⟩
abbrev S_ : Shape := ⟨0, ![]⟩
abbrev S1024x4096 : Shape := ⟨2, ![1024, 4096]⟩
abbrev S1024x512 : Shape := ⟨2, ![1024, 512]⟩
abbrev S1024x256 : Shape := ⟨2, ![1024, 256]⟩
abbrev S1024x64 : Shape := ⟨2, ![1024, 64]⟩
abbrev S1024x128 : Shape := ⟨2, ![1024, 128]⟩
abbrev S1024x5120 : Shape := ⟨2, ![1024, 5120]⟩
abbrev S512x1536 : Shape := ⟨2, ![512, 1536]⟩
abbrev S512x8x192 : Shape := ⟨3, ![512, 8, 192]⟩
abbrev S512x8x64 : Shape := ⟨3, ![512, 8, 64]⟩
abbrev S512x8x32 : Shape := ⟨3, ![512, 8, 32]⟩
abbrev S512x8x256 : Shape := ⟨3, ![512, 8, 256]⟩
abbrev S512x2048 : Shape := ⟨2, ![512, 2048]⟩
abbrev S256x2048 : Shape := ⟨2, ![256, 2048]⟩
abbrev S256x8x256 : Shape := ⟨3, ![256, 8, 256]⟩
abbrev S256x8x128 : Shape := ⟨3, ![256, 8, 128]⟩
abbrev S8x128x256 : Shape := ⟨3, ![8, 128, 256]⟩
abbrev S8 : Shape := ⟨1, ![8]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S8x128 : Shape := ⟨2, ![8, 128]⟩
abbrev S1x8x1x128 : Shape := ⟨4, ![1, 8, 1, 128]⟩
abbrev S128x8x1x128 : Shape := ⟨4, ![128, 8, 1, 128]⟩
abbrev S512 : Shape := ⟨1, ![512]⟩
abbrev S256 : Shape := ⟨1, ![256]⟩
abbrev S1024x384 : Shape := ⟨2, ![1024, 384]⟩
abbrev S1024x3072 : Shape := ⟨2, ![1024, 3072]⟩
abbrev S256x1024 : Shape := ⟨2, ![256, 1024]⟩
abbrev S256x128 : Shape := ⟨2, ![256, 128]⟩
abbrev S256x256 : Shape := ⟨2, ![256, 256]⟩
abbrev S256x64 : Shape := ⟨2, ![256, 64]⟩
abbrev S256x384 : Shape := ⟨2, ![256, 384]⟩
abbrev S256x3072 : Shape := ⟨2, ![256, 3072]⟩
abbrev S256x512 : Shape := ⟨2, ![256, 512]⟩
abbrev S256x1 : Shape := ⟨2, ![256, 1]⟩
abbrev S1x128x256 : Shape := ⟨3, ![1, 128, 256]⟩
abbrev S128x256 : Shape := ⟨2, ![128, 256]⟩

abbrev nBuf : Space → Nat
  | .hbm => 69
  | .vmem => 16
  | .smem => 0
  | _ => 0

abbrev bufTy : (tb : Table) → Fin (tcTables nBuf tb) → BufTy
  | .hbm, ⟨0, _⟩ => ⟨S128x8x512, .f32⟩
  | .hbm, ⟨1, _⟩ => ⟨S128x8x256, .f32⟩
  | .hbm, ⟨2, _⟩ => ⟨S128x8x64, .f32⟩
  | .hbm, ⟨3, _⟩ => ⟨S1x512, .f32⟩
  | .hbm, ⟨4, _⟩ => ⟨S1x512x1536, .f32⟩
  | .hbm, ⟨5, _⟩ => ⟨S1x256, .f32⟩
  | .hbm, ⟨6, _⟩ => ⟨S1x256x2048, .f32⟩
  | .hbm, ⟨7, _⟩ => ⟨S128x8x32, .f32⟩
  | .hbm, ⟨8, _⟩ => ⟨S128x8x32, .f32⟩
  | .hbm, ⟨9, _⟩ => ⟨S128x8x32, .f32⟩
  | .hbm, ⟨10, _⟩ => ⟨S128x8x64, .f32⟩
  | .hbm, ⟨11, _⟩ => ⟨S_, .f32⟩
  | .hbm, ⟨12, _⟩ => ⟨S1024x4096, .f32⟩
  | .hbm, ⟨13, _⟩ => ⟨S1024x512, .f32⟩
  | .hbm, ⟨14, _⟩ => ⟨S1024x256, .f32⟩
  | .hbm, ⟨15, _⟩ => ⟨S1024x64, .f32⟩
  | .hbm, ⟨16, _⟩ => ⟨S1024x64, .f32⟩
  | .hbm, ⟨17, _⟩ => ⟨S_, .f32⟩
  | .hbm, ⟨18, _⟩ => ⟨S1024x128, .f32⟩
  | .hbm, ⟨19, _⟩ => ⟨S1024x5120, .f32⟩
  | .hbm, ⟨20, _⟩ => ⟨S512x1536, .f32⟩
  | .hbm, ⟨21, _⟩ => ⟨S512x8x192, .f32⟩
  | .hbm, ⟨22, _⟩ => ⟨S512x8x64, .f32⟩
  | .hbm, ⟨23, _⟩ => ⟨S512x8x32, .f32⟩
  | .hbm, ⟨24, _⟩ => ⟨S512x8x32, .f32⟩
  | .hbm, ⟨25, _⟩ => ⟨S512x8x32, .f32⟩
  | .hbm, ⟨26, _⟩ => ⟨S512x8x64, .f32⟩
  | .hbm, ⟨27, _⟩ => ⟨S512x8x256, .f32⟩
  | .hbm, ⟨28, _⟩ => ⟨S512x2048, .f32⟩
  | .hbm, ⟨29, _⟩ => ⟨S512x2048, .bf16⟩
  | .hbm, ⟨30, _⟩ => ⟨S256x2048, .f32⟩
  | .hbm, ⟨31, _⟩ => ⟨S256x8x256, .f32⟩
  | .hbm, ⟨32, _⟩ => ⟨S256x8x128, .f32⟩
  | .hbm, ⟨33, _⟩ => ⟨S8x128x256, .f32⟩
  | .hbm, ⟨34, _⟩ => ⟨S8x128x256, .bf16⟩
  | .hbm, ⟨35, _⟩ => ⟨S8, .i32⟩
  | .hbm, ⟨36, _⟩ => ⟨S_, .i32⟩
  | .hbm, ⟨37, _⟩ => ⟨S8, .i32⟩
  | .hbm, ⟨38, _⟩ => ⟨S8, .i32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S8, .f32⟩
  | .hbm, ⟨50, _⟩ => ⟨S8x1, .f32⟩
  | .hbm, ⟨51, _⟩ => ⟨S1x32, .f32⟩
  | .hbm, ⟨52, _⟩ => ⟨S8x32, .f32⟩
  | .hbm, ⟨53, _⟩ => ⟨S8x32, .f32⟩
  | .hbm, ⟨54, _⟩ => ⟨S8x32, .f32⟩
  | .hbm, ⟨55, _⟩ => ⟨S8x32, .f32⟩
  | .hbm, ⟨56, _⟩ => ⟨S8x32, .f32⟩
  | .hbm, ⟨57, _⟩ => ⟨S8x128, .f32⟩
  | .hbm, ⟨58, _⟩ => ⟨S1x8x1x128, .f32⟩
  | .hbm, ⟨59, _⟩ => ⟨S128x8x1x128, .f32⟩
  | .hbm, ⟨60, _⟩ => ⟨S1024x128, .f32⟩
  | .hbm, ⟨61, _⟩ => ⟨S512, .f32⟩
  | .hbm, ⟨62, _⟩ => ⟨S1x512, .f32⟩
  | .hbm, ⟨63, _⟩ => ⟨S256, .f32⟩
  | .hbm, ⟨64, _⟩ => ⟨S1x256, .f32⟩
  | .hbm, ⟨65, _⟩ => ⟨S1024x256, .f32⟩
  | .hbm, ⟨66, _⟩ => ⟨S1024x64, .f32⟩
  | .hbm, ⟨67, _⟩ => ⟨S1024x384, .bf16⟩
  | .hbm, ⟨68, _⟩ => ⟨S1024x3072, .f32⟩
  | .local _ .vmem, ⟨0, _⟩ => ⟨S256x1024, .f32⟩
  | .local _ .vmem, ⟨1, _⟩ => ⟨S256x1024, .f32⟩
  | .local _ .vmem, ⟨2, _⟩ => ⟨S256x128, .f32⟩
  | .local _ .vmem, ⟨3, _⟩ => ⟨S256x128, .f32⟩
  | .local _ .vmem, ⟨4, _⟩ => ⟨S1x512, .f32⟩
  | .local _ .vmem, ⟨5, _⟩ => ⟨S1x256, .f32⟩
  | .local _ .vmem, ⟨6, _⟩ => ⟨S512x2048, .bf16⟩
  | .local _ .vmem, ⟨7, _⟩ => ⟨S8x128x256, .bf16⟩
  | .local _ .vmem, ⟨8, _⟩ => ⟨S256x256, .f32⟩
  | .local _ .vmem, ⟨9, _⟩ => ⟨S256x256, .f32⟩
  | .local _ .vmem, ⟨10, _⟩ => ⟨S256x64, .f32⟩
  | .local _ .vmem, ⟨11, _⟩ => ⟨S256x64, .f32⟩
  | .local _ .vmem, ⟨12, _⟩ => ⟨S256x384, .bf16⟩
  | .local _ .vmem, ⟨13, _⟩ => ⟨S256x384, .bf16⟩
  | .local _ .vmem, ⟨14, _⟩ => ⟨S256x3072, .f32⟩
  | .local _ .vmem, ⟨15, _⟩ => ⟨S256x3072, .f32⟩
  | _, _ => ⟨S128x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52_0 : Ref sig .tc := ⟨.hbm, 65, rfl⟩
abbrev main_v52_1 : Ref sig .tc := ⟨.hbm, 66, rfl⟩
abbrev main_v52_2 : Ref sig .tc := ⟨.hbm, 67, rfl⟩
abbrev main_v52_3 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MlaSampleReferenceIdeal.lean ====
abbrev S128x8x512 : Shape := ⟨3, ![128, 8, 512]⟩
abbrev S128x8x256 : Shape := ⟨3, ![128, 8, 256]⟩
abbrev S128x8x64 : Shape := ⟨3, ![128, 8, 64]⟩
abbrev S1x512 : Shape := ⟨2, ![1, 512]⟩
abbrev S1x512x1536 : Shape := ⟨3, ![1, 512, 1536]⟩
abbrev S1x256 : Shape := ⟨2, ![1, 256]⟩
abbrev S1x256x2048 : Shape := ⟨3, ![1, 256, 2048]⟩
abbrev S512 : Shape := ⟨1, ![512]⟩
abbrev S_ : Shape := ⟨0, ![]⟩
abbrev S128x8 : Shape := ⟨2, ![128, 8]⟩
abbrev S128x8x1 : Shape := ⟨3, ![128, 8, 1]⟩
abbrev S1x1x512 : Shape := ⟨3, ![1, 1, 512]⟩
abbrev S512x1536 : Shape := ⟨2, ![512, 1536]⟩
abbrev S512x8x192 : Shape := ⟨3, ![512, 8, 192]⟩
abbrev S128x8x8x192 : Shape := ⟨4, ![128, 8, 8, 192]⟩
abbrev S512x8x32 : Shape := ⟨3, ![512, 8, 32]⟩
abbrev S128x8x8x32 : Shape := ⟨4, ![128, 8, 8, 32]⟩
abbrev S8 : Shape := ⟨1, ![8]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S8x1x32 : Shape := ⟨3, ![8, 1, 32]⟩
abbrev S1x8x1x32 : Shape := ⟨4, ![1, 8, 1, 32]⟩
abbrev S128x8x8x64 : Shape := ⟨4, ![128, 8, 8, 64]⟩
abbrev S128x8x32 : Shape := ⟨3, ![128, 8, 32]⟩
abbrev S1x8x32 : Shape := ⟨3, ![1, 8, 32]⟩
abbrev S256 : Shape := ⟨1, ![256]⟩
abbrev S1x1x256 : Shape := ⟨3, ![1, 1, 256]⟩
abbrev S256x2048 : Shape := ⟨2, ![256, 2048]⟩
abbrev S256x8x256 : Shape := ⟨3, ![256, 8, 256]⟩
abbrev S256x8x128 : Shape := ⟨3, ![256, 8, 128]⟩
abbrev S128x8x8x128 : Shape := ⟨4, ![128, 8, 8, 128]⟩
abbrev S8x256x128x8 : Shape := ⟨4, ![8, 256, 128, 8]⟩
abbrev S128x8x8x256 : Shape := ⟨4, ![128, 8, 8, 256]⟩
abbrev S128x8x384 : Shape := ⟨3, ![128, 8, 384]⟩
abbrev S128x8x8x384 : Shape := ⟨4, ![128, 8, 8, 384]⟩
abbrev S1024x256 : Shape := ⟨2, ![1024, 256]⟩
abbrev S1024x64 : Shape := ⟨2, ![1024, 64]⟩
abbrev S1024x384 : Shape := ⟨2, ![1024, 384]⟩
abbrev S1024x3072 : Shape := ⟨2, ![1024, 3072]⟩

abbrev nBuf : Space → Nat
  | .hbm => 128
  | .vmem => 0
  | .smem => 0
  | _ => 0

abbrev bufTy : (tb : Table) → Fin (tcTables nBuf tb) → BufTy
  | .hbm, ⟨0, _⟩ => ⟨S128x8x512, .f32⟩
  | .hbm, ⟨1, _⟩ => ⟨S128x8x256, .f32⟩
  | .hbm, ⟨2, _⟩ => ⟨S128x8x64, .f32⟩
  | .hbm, ⟨3, _⟩ => ⟨S1x512, .f32⟩
  | .hbm, ⟨4, _⟩ => ⟨S1x512x1536, .f32⟩
  | .hbm, ⟨5, _⟩ => ⟨S1x256, .f32⟩
  | .hbm, ⟨6, _⟩ => ⟨S1x256x2048, .f32⟩
  | .hbm, ⟨7, _⟩ => ⟨S512, .f32⟩
  | .hbm, ⟨8, _⟩ => ⟨S128x8x512, .f32⟩
  | .hbm, ⟨9, _⟩ => ⟨S_, .f32⟩
  | .hbm, ⟨10, _⟩ => ⟨S128x8, .f32⟩
  | .hbm, ⟨11, _⟩ => ⟨S128x8x1, .f32⟩
  | .hbm, ⟨12, _⟩ => ⟨S_, .f32⟩
  | .hbm, ⟨13, _⟩ => ⟨S128x8x1, .f32⟩
  | .hbm, ⟨14, _⟩ => ⟨S128x8x1, .f32⟩
  | .hbm, ⟨15, _⟩ => ⟨S_, .f32⟩
  | .hbm, ⟨16, _⟩ => ⟨S128x8x1, .f32⟩
  | .hbm, ⟨17, _⟩ => ⟨S128x8x1, .f32⟩
  | .hbm, ⟨18, _⟩ => ⟨S128x8x1, .f32⟩
  | .hbm, ⟨19, _⟩ => ⟨S128x8x512, .f32⟩
  | .hbm, ⟨20, _⟩ => ⟨S128x8x512, .f32⟩
  | .hbm, ⟨21, _⟩ => ⟨S1x1x512, .f32⟩
  | .hbm, ⟨22, _⟩ => ⟨S128x8x512, .f32⟩
  | .hbm, ⟨23, _⟩ => ⟨S128x8x512, .f32⟩
  | .hbm, ⟨24, _⟩ => ⟨S512x1536, .f32⟩
  | .hbm, ⟨25, _⟩ => ⟨S512x8x192, .f32⟩
  | .hbm, ⟨26, _⟩ => ⟨S128x8x8x192, .f32⟩
  | .hbm, ⟨27, _⟩ => ⟨S512x8x32, .f32⟩
  | .hbm, ⟨28, _⟩ => ⟨S512x8x32, .f32⟩
  | .hbm, ⟨29, _⟩ => ⟨S128x8x8x32, .f32⟩
  | .hbm, ⟨30, _⟩ => ⟨S8, .i32⟩
  | .hbm, ⟨31, _⟩ => ⟨S_, .i32⟩
  | .hbm, ⟨32, _⟩ => ⟨S8, .i32⟩
  | .hbm, ⟨33, _⟩ => ⟨S8, .i32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S8, .f32⟩
  | .hbm, ⟨45, _⟩ => ⟨S8x1, .f32⟩
  | .hbm, ⟨46, _⟩ => ⟨S1x32, .f32⟩
  | .hbm, ⟨47, _⟩ => ⟨S8x32, .f32⟩
  | .hbm, ⟨48, _⟩ => ⟨S8x32, .f32⟩
  | .hbm, ⟨49, _⟩ => ⟨S8x32, .f32⟩
  | .hbm, ⟨50, _⟩ => ⟨S8x32, .f32⟩
  | .hbm, ⟨51, _⟩ => ⟨S8x32, .f32⟩
  | .hbm, ⟨52, _⟩ => ⟨S8x1x32, .f32⟩
  | .hbm, ⟨53, _⟩ => ⟨S8x1x32, .f32⟩
  | .hbm, ⟨54, _⟩ => ⟨S128x8x8x32, .f32⟩
  | .hbm, ⟨55, _⟩ => ⟨S128x8x8x32, .f32⟩
  | .hbm, ⟨56, _⟩ => ⟨S1x8x1x32, .f32⟩
  | .hbm, ⟨57, _⟩ => ⟨S128x8x8x32, .f32⟩
  | .hbm, ⟨58, _⟩ => ⟨S128x8x8x32, .f32⟩
  | .hbm, ⟨59, _⟩ => ⟨S1x8x1x32, .f32⟩
  | .hbm, ⟨60, _⟩ => ⟨S128x8x8x32, .f32⟩
  | .hbm, ⟨61, _⟩ => ⟨S128x8x8x32, .f32⟩
  | .hbm, ⟨62, _⟩ => ⟨S128x8x8x32, .f32⟩
  | .hbm, ⟨63, _⟩ => ⟨S1x8x1x32, .f32⟩
  | .hbm, ⟨64, _⟩ => ⟨S128x8x8x32, .f32⟩
  | .hbm, ⟨65, _⟩ => ⟨S128x8x8x32, .f32⟩
  | .hbm, ⟨66, _⟩ => ⟨S1x8x1x32, .f32⟩
  | .hbm, ⟨67, _⟩ => ⟨S128x8x8x32, .f32⟩
  | .hbm, ⟨68, _⟩ => ⟨S128x8x8x32, .f32⟩
  | .hbm, ⟨69, _⟩ => ⟨S128x8x8x32, .f32⟩
  | .hbm, ⟨70, _⟩ => ⟨S128x8x8x64, .f32⟩
  | .hbm, ⟨71, _⟩ => ⟨S_, .f32⟩
  | .hbm, ⟨72, _⟩ => ⟨S128x8x8x64, .f32⟩
  | .hbm, ⟨73, _⟩ => ⟨S128x8x8x64, .f32⟩
  | .hbm, ⟨74, _⟩ => ⟨S128x8x32, .f32⟩
  | .hbm, ⟨75, _⟩ => ⟨S128x8x32, .f32⟩
  | .hbm, ⟨76, _⟩ => ⟨S1x8x32, .f32⟩
  | .hbm, ⟨77, _⟩ => ⟨S128x8x32, .f32⟩
  | .hbm, ⟨78, _⟩ => ⟨S128x8x32, .f32⟩
  | .hbm, ⟨79, _⟩ => ⟨S1x8x32, .f32⟩
  | .hbm, ⟨80, _⟩ => ⟨S128x8x32, .f32⟩
  | .hbm, ⟨81, _⟩ => ⟨S128x8x32, .f32⟩
  | .hbm, ⟨82, _⟩ => ⟨S128x8x32, .f32⟩
  | .hbm, ⟨83, _⟩ => ⟨S1x8x32, .f32⟩
  | .hbm, ⟨84, _⟩ => ⟨S128x8x32, .f32⟩
  | .hbm, ⟨85, _⟩ => ⟨S128x8x32, .f32⟩
  | .hbm, ⟨86, _⟩ => ⟨S1x8x32, .f32⟩
  | .hbm, ⟨87, _⟩ => ⟨S128x8x32, .f32⟩
  | .hbm, ⟨88, _⟩ => ⟨S128x8x32, .f32⟩
  | .hbm, ⟨89, _⟩ => ⟨S128x8x32, .f32⟩
  | .hbm, ⟨90, _⟩ => ⟨S128x8x64, .f32⟩
  | .hbm, ⟨91, _⟩ => ⟨S256, .f32⟩
  | .hbm, ⟨92, _⟩ => ⟨S128x8x256, .f32⟩
  | .hbm, ⟨93, _⟩ => ⟨S_, .f32⟩
  | .hbm, ⟨94, _⟩ => ⟨S128x8, .f32⟩
  | .hbm, ⟨95, _⟩ => ⟨S128x8x1, .f32⟩
  | .hbm, ⟨96, _⟩ => ⟨S_, .f32⟩
  | .hbm, ⟨97, _⟩ => ⟨S128x8x1, .f32⟩
  | .hbm, ⟨98, _⟩ => ⟨S128x8x1, .f32⟩
  | .hbm, ⟨99, _⟩ => ⟨S_, .f32⟩
  | .hbm, ⟨100, _⟩ => ⟨S128x8x1, .f32⟩
  | .hbm, ⟨101, _⟩ => ⟨S128x8x1, .f32⟩
  | .hbm, ⟨102, _⟩ => ⟨S128x8x1, .f32⟩
  | .hbm, ⟨103, _⟩ => ⟨S128x8x256, .f32⟩
  | .hbm, ⟨104, _⟩ => ⟨S128x8x256, .f32⟩
  | .hbm, ⟨105, _⟩ => ⟨S1x1x256, .f32⟩
  | .hbm, ⟨106, _⟩ => ⟨S128x8x256, .f32⟩
  | .hbm, ⟨107, _⟩ => ⟨S128x8x256, .f32⟩
  | .hbm, ⟨108, _⟩ => ⟨S256x2048, .f32⟩
  | .hbm, ⟨109, _⟩ => ⟨S256x8x256, .f32⟩
  | .hbm, ⟨110, _⟩ => ⟨S256x8x128, .f32⟩
  | .hbm, ⟨111, _⟩ => ⟨S128x8x8x128, .f32⟩
  | .hbm, ⟨112, _⟩ => ⟨S8x256x128x8, .f32⟩
  | .hbm, ⟨113, _⟩ => ⟨S128x8x8x256, .f32⟩
  | .hbm, ⟨114, _⟩ => ⟨S_, .f32⟩
  | .hbm, ⟨115, _⟩ => ⟨S128x8x8x256, .f32⟩
  | .hbm, ⟨116, _⟩ => ⟨S128x8x8x256, .f32⟩
  | .hbm, ⟨117, _⟩ => ⟨S_, .f32⟩
  | .hbm, ⟨118, _⟩ => ⟨S128x8x64, .f32⟩
  | .hbm, ⟨119, _⟩ => ⟨S128x8x384, .f32⟩
  | .hbm, ⟨120, _⟩ => ⟨S_, .f32⟩
  | .hbm, ⟨121, _⟩ => ⟨S128x8x8x64, .f32⟩
  | .hbm, ⟨122, _⟩ => ⟨S128x8x8x384, .f32⟩
  | .hbm, ⟨123, _⟩ => ⟨S1024x256, .f32⟩
  | .hbm, ⟨124, _⟩ => ⟨S1024x64, .f32⟩
  | .hbm, ⟨125, _⟩ => ⟨S1024x384, .f32⟩
  | .hbm, ⟨126, _⟩ => ⟨S1024x384, .bf16⟩
  | .hbm, ⟨127, _⟩ => ⟨S1024x3072, .f32⟩
  | _, _ => ⟨S128x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_5 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_cst_6 : Ref sig .tc := ⟨.hbm, 93, rfl⟩
abbrev main_v78 : Ref sig .tc := ⟨.hbm, 94, rfl⟩
abbrev main_v79 : Ref sig .tc := ⟨.hbm, 95, rfl⟩
abbrev main_cst_7 : Ref sig .tc := ⟨.hbm, 96, rfl⟩
abbrev main_v80 : Ref sig .tc := ⟨.hbm, 97, rfl⟩
abbrev main_v81 : Ref sig .tc := ⟨.hbm, 98, rfl⟩
abbrev main_cst_8 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_cst_9 : Ref sig .tc := ⟨.hbm, 114, rfl⟩
abbrev main_v96 : Ref sig .tc := ⟨.hbm, 115, rfl⟩
abbrev main_v97 : Ref sig .tc := ⟨.hbm, 116, rfl⟩
abbrev main_cst_10 : Ref sig .tc := ⟨.hbm, 117, rfl⟩
abbrev main_v98 : Ref sig .tc := ⟨.hbm, 118, rfl⟩
abbrev main_v99 : Ref sig .tc := ⟨.hbm, 119, rfl⟩
abbrev main_cst_11 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩

abbrev nD : Nat := 1
abbrev τ : Topo := Topo.v7x

variable {F : FTy → Type} [FloatOps F]
-- ==== HgrnSample.lean ====
abbrev S1024x5120 : Shape := ⟨2, ![1024, 5120]⟩
abbrev S2x1024 : Shape := ⟨2, ![2, 1024]⟩
abbrev S1x1024 : Shape := ⟨2, ![1, 1024]⟩
abbrev S1x128x8x128x128 : Shape := ⟨5, ![1, 128, 8, 128, 128]⟩
abbrev S1024 : Shape := ⟨1, ![1024]⟩
abbrev S128x8x128x128 : Shape := ⟨4, ![128, 8, 128, 128]⟩
abbrev S1024x1024 : Shape := ⟨2, ![1024, 1024]⟩
abbrev S2x128 : Shape := ⟨2, ![2, 128]⟩
abbrev S128x128 : Shape := ⟨2, ![128, 128]⟩
abbrev S1x128 : Shape := ⟨2, ![1, 128]⟩
abbrev S16x1x128x128 : Shape := ⟨4, ![16, 1, 128, 128]⟩
abbrev S128 : Shape := ⟨1, ![128]⟩
abbrev S256x128 : Shape := ⟨2, ![256, 128]⟩
abbrev S128x384 : Shape := ⟨2, ![128, 384]⟩
abbrev S256x384 : Shape := ⟨2, ![256, 384]⟩
abbrev S128x2048 : Shape := ⟨2, ![128, 2048]⟩
abbrev S1x1x128x128 : Shape := ⟨4, ![1, 1, 128, 128]⟩
abbrev S128x1 : Shape := ⟨2, ![128, 1]⟩

abbrev nBuf : Space → Nat
  | .hbm => 9
  | .vmem => 18
  | .smem => 0
  | _ => 0

abbrev bufTy : (tb : Table) → Fin (tcTables nBuf tb) → BufTy
  | .hbm, ⟨0, _⟩ => ⟨S1024x5120, .f32⟩
  | .hbm, ⟨1, _⟩ => ⟨S2x1024, .f32⟩
  | .hbm, ⟨2, _⟩ => ⟨S1x1024, .f32⟩
  | .hbm, ⟨3, _⟩ => ⟨S1x128x8x128x128, .f32⟩
  | .hbm, ⟨4, _⟩ => ⟨S1024, .f32⟩
  | .hbm, ⟨5, _⟩ => ⟨S1x1024, .f32⟩
  | .hbm, ⟨6, _⟩ => ⟨S128x8x128x128, .f32⟩
  | .hbm, ⟨7, _⟩ => ⟨S1024x1024, .f32⟩
  | .hbm, ⟨8, _⟩ => ⟨S128x8x128x128, .f32⟩
  | .local _ .vmem, ⟨0, _⟩ => ⟨S2x128, .f32⟩
  | .local _ .vmem, ⟨1, _⟩ => ⟨S2x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S16x1x128x128, .f32⟩
  | .local _ .vmem, ⟨13, _⟩ => ⟨S16x1x128x128, .f32⟩
  | .local _ .vmem, ⟨14, _⟩ => ⟨S128x128, .f32⟩
  | .local _ .vmem, ⟨15, _⟩ => ⟨S128x128, .f32⟩
  | .local _ .vmem, ⟨16, _⟩ => ⟨S16x1x128x128, .f32⟩
  | .local _ .vmem, ⟨17, _⟩ => ⟨S16x1x128x128, .f32⟩
  | _, _ => ⟨S1024x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_mult1 : BitVec 32 :=
  let c0_i32_16 : BitVec 32 := 0#32
  let c128_i32 : BitVec 32 := 128#32
  let v71 : BitVec 32 := Scalar.muli c0_i32_16 c128_i32
  v71
def k0_off1 : Fin 2 → Nat :=
  let c0_i32_16 : BitVec 32 := 0#32
  let c128_i32 : BitVec 32 := 128#32
  let v71 : BitVec 32 := Scalar.muli c0_i32_16 c128_i32
  let v72 : BitVec 32 := v71
  let v73 : Index := Scalar.indexCast v72
  let c0_17 : Index := 0#32
  ![v73.toNat, 0]
def k0_off2 (c0_i32_56 : BitVec 32) : Fin 4 → Nat :=
  let c0_i32_16 : BitVec 32 := 0#32
  let c16_i32 : BitVec 32 := 16#32
  let v226 : BitVec 32 := Scalar.muli c0_i32_16 c16_i32
  let v227 : BitVec 32 := Scalar.addi v226 c0_i32_56
  let v228 : Index := Scalar.indexCast v227
  let c0_57 : Index := 0#32
  let c0_58 : Index := 0#32
  let c0_59 : Index := 0#32
  ![v228.toNat, 0, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S16x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== HgrnSampleReferenceIdeal.lean ====
abbrev S1024x5120 : Shape := ⟨2, ![1024, 5120]⟩
abbrev S2x1024 : Shape := ⟨2, ![2, 1024]⟩
abbrev S1x1024 : Shape := ⟨2, ![1, 1024]⟩
abbrev S1x128x8x128x128 : Shape := ⟨5, ![1, 128, 8, 128, 128]⟩
abbrev S_ : Shape := ⟨0, ![]⟩
abbrev S1024 : Shape := ⟨1, ![1024]⟩
abbrev S128x8x5120 : Shape := ⟨3, ![128, 8, 5120]⟩
abbrev S128x8x1024 : Shape := ⟨3, ![128, 8, 1024]⟩
abbrev S128x8x8x128 : Shape := ⟨4, ![128, 8, 8, 128]⟩
abbrev S1x1x1024 : Shape := ⟨3, ![1, 1, 1024]⟩
abbrev S128x8x128x128 : Shape := ⟨4, ![128, 8, 128, 128]⟩
abbrev S128x8x8x8 : Shape := ⟨4, ![128, 8, 8, 8]⟩
abbrev S8x8 : Shape := ⟨2, ![8, 8]⟩
abbrev S128x8x128x8 : Shape := ⟨4, ![128, 8, 128, 8]⟩
abbrev S128x1x8x128 : Shape := ⟨4, ![128, 1, 8, 128]⟩
abbrev S128x8x128 : Shape := ⟨3, ![128, 8, 128]⟩
abbrev S128x8x128x1 : Shape := ⟨4, ![128, 8, 128, 1]⟩
abbrev S128x8x8 : Shape := ⟨3, ![128, 8, 8]⟩
abbrev S128x8x8x1 : Shape := ⟨4, ![128, 8, 8, 1]⟩
abbrev S8x128 : Shape := ⟨2, ![8, 128]⟩
abbrev S1x1x8x128 : Shape := ⟨4, ![1, 1, 8, 128]⟩
abbrev S1024x1024 : Shape := ⟨2, ![1024, 1024]⟩

abbrev nBuf : Space → Nat
  | .hbm => 150
  | .vmem => 0
  | .smem => 0
  | _ => 0

abbrev hbmTy0_0 (i : Nat) : BufTy := match i % 128 with
  | 0 => ⟨S1024x5120, .f32⟩
  | 1 => ⟨S2x1024, .f32⟩
  | 2 => ⟨S1x1024, .f32⟩
  | 3 => ⟨S1x128x8x128x128, .f32⟩
  | 4 => ⟨S_, .f32⟩
  | 5 => ⟨S1024, .f32⟩
  | 6 => ⟨S_, .f32⟩
  | 7 => ⟨S1024, .f32⟩
  | 8 => ⟨S1024, .f32⟩
  | 9 => ⟨S1x1024, .f32⟩
  | 10 => ⟨S2x1024, .f32⟩
  | 11 => ⟨S2x1024, .f32⟩
  | 12 => ⟨S2x1024, .f32⟩
  | 13 => ⟨S_, .f32⟩
  | 14 => ⟨S1024, .f32⟩
  | 15 => ⟨S1x1024, .f32⟩
  | 16 => ⟨S2x1024, .f32⟩
  | 17 => ⟨S2x1024, .f32⟩
  | 18 => ⟨S_, .f32⟩
  | 19 => ⟨S_, .f32⟩
  | 20 => ⟨S2x1024, .f32⟩
  | 21 => ⟨S1x1024, .f32⟩
  | 22 => ⟨S1024, .f32⟩
  | 23 => ⟨S128x8x5120, .f32⟩
  | 24 => ⟨S128x8x1024, .f32⟩
  | 25 => ⟨S128x8x5120, .f32⟩
  | 26 => ⟨S128x8x1024, .f32⟩
  | 27 => ⟨S128x8x5120, .f32⟩
  | 28 => ⟨S128x8x1024, .f32⟩
  | 29 => ⟨S128x8x5120, .f32⟩
  | 30 => ⟨S128x8x1024, .f32⟩
  | 31 => ⟨S128x8x1024, .f32⟩
  | 32 => ⟨S128x8x1024, .f32⟩
  | 33 => ⟨S_, .f32⟩
  | 34 => ⟨S128x8x1024, .f32⟩
  | 35 => ⟨S128x8x1024, .f32⟩
  | 36 => ⟨S_, .f32⟩
  | 37 => ⟨S128x8x1024, .f32⟩
  | 38 => ⟨S128x8x1024, .f32⟩
  | 39 => ⟨S128x8x1024, .f32⟩
  | 40 => ⟨S128x8x8x128, .f32⟩
  | 41 => ⟨S_, .f32⟩
  | 42 => ⟨S1024, .f32⟩
  | 43 => ⟨S1024, .f32⟩
  | 44 => ⟨S128x8x1024, .f32⟩
  | 45 => ⟨S128x8x1024, .f32⟩
  | 46 => ⟨S_, .f32⟩
  | 47 => ⟨S128x8x1024, .f32⟩
  | 48 => ⟨S128x8x1024, .f32⟩
  | 49 => ⟨S_, .f32⟩
  | 50 => ⟨S128x8x1024, .f32⟩
  | 51 => ⟨S128x8x1024, .f32⟩
  | 52 => ⟨S1x1x1024, .f32⟩
  | 53 => ⟨S128x8x1024, .f32⟩
  | 54 => ⟨S128x8x1024, .f32⟩
  | 55 => ⟨S1x1x1024, .f32⟩
  | 56 => ⟨S128x8x1024, .f32⟩
  | 57 => ⟨S128x8x1024, .f32⟩
  | 58 => ⟨S_, .f32⟩
  | 59 => ⟨S1024, .f32⟩
  | 60 => ⟨S1024, .f32⟩
  | 61 => ⟨S128x8x1024, .f32⟩
  | 62 => ⟨S128x8x1024, .f32⟩
  | 63 => ⟨S128x8x1024, .f32⟩
  | 64 => ⟨S_, .f32⟩
  | 65 => ⟨S128x8x1024, .f32⟩
  | 66 => ⟨S128x8x1024, .f32⟩
  | 67 => ⟨S_, .f32⟩
  | 68 => ⟨S128x8x1024, .f32⟩
  | 69 => ⟨S128x8x1024, .f32⟩
  | 70 => ⟨S1x1x1024, .f32⟩
  | 71 => ⟨S128x8x1024, .f32⟩
  | 72 => ⟨S128x8x1024, .f32⟩
  | 73 => ⟨S128x8x8x128, .f32⟩
  | 74 => ⟨S128x8x1024, .f32⟩
  | 75 => ⟨S128x8x8x128, .f32⟩
  | 76 => ⟨S128x8x8x128, .f32⟩
  | 77 => ⟨S128x8x128x128, .f32⟩
  | 78 => ⟨S_, .f32⟩
  | 79 => ⟨S_, .f32⟩
  | 80 => ⟨S128x8x8x128, .f32⟩
  | 81 => ⟨S128x8x8x128, .f32⟩
  | 82 => ⟨S128x8x8x128, .f32⟩
  | 83 => ⟨S128x8x8x128, .f32⟩
  | 84 => ⟨S128x8x8x128, .f32⟩
  | 85 => ⟨S128x8x8x128, .f32⟩
  | 86 => ⟨S128x8x8x8, .f32⟩
  | 87 => ⟨S_, .i1⟩
  | 88 => ⟨S8x8, .i1⟩
  | 89 => ⟨S8x8, .i32⟩
  | 90 => ⟨S_, .i32⟩
  | 91 => ⟨S8x8, .i32⟩
  | 92 => ⟨S8x8, .i32⟩
  | 93 => ⟨S8x8, .i32⟩
  | 94 => ⟨S8x8, .i1⟩
  | 95 => ⟨S_, .i1⟩
  | 96 => ⟨S8x8, .i1⟩
  | 97 => ⟨S8x8, .i1⟩
  | 98 => ⟨S_, .f32⟩
  | 99 => ⟨S_, .f32⟩
  | 100 => ⟨S128x8x8x8, .i1⟩
  | 101 => ⟨S128x8x8x8, .f32⟩
  | 102 => ⟨S128x8x8x8, .f32⟩
  | 103 => ⟨S128x8x128x8, .f32⟩
  | 104 => ⟨S128x8x8x128, .f32⟩
  | 105 => ⟨S128x8x128x8, .f32⟩
  | 106 => ⟨S128x8x8x128, .f32⟩
  | 107 => ⟨S128x8x8x128, .f32⟩
  | 108 => ⟨S128x1x8x128, .f32⟩
  | 109 => ⟨S128x8x128, .f32⟩
  | 110 => ⟨S128x1x8x128, .f32⟩
  | 111 => ⟨S128x8x8x128, .f32⟩
  | 112 => ⟨S128x8x8x128, .f32⟩
  | 113 => ⟨S128x8x8x128, .f32⟩
  | 114 => ⟨S128x8x8x128, .f32⟩
  | 115 => ⟨S128x8x128, .f32⟩
  | 116 => ⟨S128x8x128x1, .f32⟩
  | 117 => ⟨S128x8x128x128, .f32⟩
  | 118 => ⟨S128x8x128x128, .f32⟩
  | 119 => ⟨S128x8x128x128, .f32⟩
  | 120 => ⟨S128x8x128x128, .f32⟩
  | 121 => ⟨S128x8x8x128, .f32⟩
  | 122 => ⟨S_, .f32⟩
  | 123 => ⟨S128x8x8, .f32⟩
  | 124 => ⟨S128x8x8x1, .f32⟩
  | 125 => ⟨S_, .f32⟩
  | 126 => ⟨S128x8x8x1, .f32⟩
  | 127 => ⟨S128x8x8x1, .f32⟩
  | _ => ⟨S1024x5120, .f32⟩

abbrev hbmTy0_1 (i : Nat) : BufTy := match i % 128 with
  | 0 => ⟨S_, .f32⟩
  | 1 => ⟨S128x8x8x1, .f32⟩
  | 2 => ⟨S128x8x8x1, .f32⟩
  | 3 => ⟨S128x8x8x1, .f32⟩
  | 4 => ⟨S128x8x8x128, .f32⟩
  | 5 => ⟨S128x8x8x128, .f32⟩
  | 6 => ⟨S1024, .f32⟩
  | 7 => ⟨S8x128, .f32⟩
  | 8 => ⟨S1x1x8x128, .f32⟩
  | 9 => ⟨S128x8x8x128, .f32⟩
  | 10 => ⟨S128x8x8x128, .f32⟩
  | 11 => ⟨S128x8x1024, .f32⟩
  | 12 => ⟨S128x8x1024, .f32⟩
  | 13 => ⟨S_, .f32⟩
  | 14 => ⟨S128x8x1024, .f32⟩
  | 15 => ⟨S128x8x1024, .f32⟩
  | 16 => ⟨S_, .f32⟩
  | 17 => ⟨S128x8x1024, .f32⟩
  | 18 => ⟨S128x8x1024, .f32⟩
  | 19 => ⟨S128x8x8x128, .f32⟩
  | 20 => ⟨S128x8x8x128, .f32⟩
  | 21 => ⟨S1024x1024, .f32⟩
  | _ => ⟨S1024x5120, .f32⟩

abbrev hbmTy (i : Nat) : BufTy := match i / 128 with
  | 0 => hbmTy0_0 i
  | 1 => hbmTy0_1 i
  | _ => ⟨S1024x5120, .f32⟩

abbrev bufTy : (tb : Table) → Fin (tcTables nBuf tb) → BufTy
  | .hbm, ⟨i, _⟩ => hbmTy i
  | _, _ => ⟨S1024x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_call2_call0_cst : Ref sig .tc := ⟨.hbm, 78, rfl⟩
abbrev main_call2_call0_v0 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c : Ref sig .tc := ⟨.hbm, 87, rfl⟩
abbrev main_v62 : Ref sig .tc := ⟨.hbm, 88, rfl⟩
abbrev main_call3_v0 : Ref sig .tc := ⟨.hbm, 89, rfl⟩
abbrev main_call3_c : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_c_0 : Ref sig .tc := ⟨.hbm, 95, rfl⟩
abbrev main_call3_v5 : Ref sig .tc := ⟨.hbm, 96, rfl⟩
abbrev main_v63 : Ref sig .tc := ⟨.hbm, 97, rfl⟩
abbrev main_cst_8 : Ref sig .tc := ⟨.hbm, 98, rfl⟩
abbrev main_call4_v0 : Ref sig .tc := ⟨.hbm, 99, rfl⟩
abbrev main_call4_v1 : Ref sig .tc := ⟨.hbm, 100, rfl⟩
abbrev main_call4_v2 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_9 : Ref sig .tc := ⟨.hbm, 122, rfl⟩
abbrev main_v84 : Ref sig .tc := ⟨.hbm, 123, rfl⟩
abbrev main_v85 : Ref sig .tc := ⟨.hbm, 124, rfl⟩
abbrev main_cst_10 : Ref sig .tc := ⟨.hbm, 125, rfl⟩
abbrev main_v86 : Ref sig .tc := ⟨.hbm, 126, rfl⟩
abbrev main_v87 : Ref sig .tc := ⟨.hbm, 127, rfl⟩
abbrev main_cst_11 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_12 : Ref sig .tc := ⟨.hbm, 141, rfl⟩
abbrev main_v100 : Ref sig .tc := ⟨.hbm, 142, rfl⟩
abbrev main_v101 : Ref sig .tc := ⟨.hbm, 143, rfl⟩
abbrev main_cst_13 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩

abbrev nD : Nat := 1
abbrev τ : Topo := Topo.v7x

variable {F : FTy → Type} [FloatOps F]
-- ==== Proof.HgrnMath.lean ====
/-
  The gated linear recurrence on one head, as mathematics over the extended reals: the running sum of the log gates of a
  64-row chunk, what a chunk puts out, and what it hands to the next one; and the few facts about extended reals that let
  a kernel's arrangement of them be read as these.
-/
module

public import Idealize.ShloMosaic.Lib.Pointwise
public import Idealize.ShloMosaic.PureOps.Ideal

@[expose] public section

noncomputable section

namespace Hgrn

open Idealize.ShloMosaic

/-! ### Extended reals -/

theorem one_sub_logistic (x : EReal) : 1 - Ideal.logistic x = Ideal.logistic (-x) := by
  induction x using EReal.rec with
  | bot => simp
  | top =>
    simp only [Ideal.logistic_top, EReal.neg_top, Ideal.logistic_bot]
    rw [← EReal.coe_one, ← EReal.coe_sub, sub_self]
    rfl
  | coe r =>
    rw [← EReal.coe_neg, Ideal.logistic_coe, Ideal.logistic_coe]
    have h : (1 : ℝ) - (1 + Real.exp (-r))⁻¹ = (1 + Real.exp (- -r))⁻¹ := by
      have e1 := Real.exp_pos r
      have e2 : Real.exp (-r) = (Real.exp r)⁻¹ := Real.exp_neg r
      rw [neg_neg, e2]
      field_simp
      ring
    rw [← h]
    exact_mod_cast rfl

theorem logistic_real (x : EReal) : ∃ r : ℝ, Ideal.logistic x = (r : EReal) := by
  induction x using EReal.rec with
  | bot => exact ⟨0, by simp⟩
  | top => exact ⟨1, by simp⟩
  | coe r => exact ⟨_, Ideal.logistic_coe r⟩

theorem exp_real {x : EReal} (h : x ≠ ⊤) : ∃ r : ℝ, 0 ≤ r ∧ Ideal.exp x = (r : EReal) := by
  induction x using EReal.rec with
  | bot => exact ⟨0, le_rfl, by simp⟩
  | top => exact absurd rfl h
  | coe r => exact ⟨_, (Real.exp_pos r).le, Ideal.exp_coe r⟩

theorem neg_inf : Ideal.ofBits .f32 0xFF800000#32 = ⊥ := by
  simp [Ideal.ofBits, Ideal.ieee]

theorem log_ne_top {x : EReal} (h : x ≠ ⊤) : Ideal.log x ≠ ⊤ := by
  induction x using EReal.rec with
  | bot => exact bot_ne_top
  | top => exact absurd rfl h
  | coe r =>
    show (if r ≤ 0 then (⊥ : EReal) else (Real.log r : EReal)) ≠ ⊤
    split
    · exact bot_ne_top
    · exact EReal.coe_ne_top _

theorem sub_max_ne_top (a b : EReal) : a - max a b ≠ ⊤ := by
  intro h
  rw [sub_eq_add_neg] at h
  by_cases ha : a = ⊤
  · subst ha
    simp at h
  · by_cases hm : max a b = ⊥
    · have : a = ⊥ := le_bot_iff.mp (hm ▸ le_max_left a b)
      subst this
      simp at h
    · exact (EReal.add_lt_top ha (by simpa using hm)).ne h

/-- The first entry of a softmax of two, as a function of the two logits. -/
def lower (a b : EReal) : EReal :=
  Ideal.div (Ideal.exp (a - max a b)) (Ideal.exp (a - max a b) + Ideal.exp (b - max a b))

theorem lower_ne_top (a b : EReal) : lower a b ≠ ⊤ := by
  obtain ⟨r, hr, er⟩ := exp_real (sub_max_ne_top a b)
  obtain ⟨s, hs, es⟩ := exp_real (max_comm a b ▸ sub_max_ne_top b a)
  unfold lower Ideal.div
  rw [er, es, ← EReal.coe_add]
  by_cases h : ((r + s : ℝ) : EReal) = 0
  · rw [if_pos h]
    have h' : r + s = 0 := by exact_mod_cast h
    have : r = 0 := by linarith
    subst this
    simp
  · rw [if_neg h, ← EReal.coe_inv, ← EReal.coe_mul]
    exact EReal.coe_ne_top _

/-- The log of the forget gate. -/
def lgate (lb x : EReal) : EReal := Ideal.log (lb + (1 - lb) * Ideal.logistic x)

theorem lgate_ne_top {lb : EReal} (h : lb ≠ ⊤) (x : EReal) : lgate lb x ≠ ⊤ := by
  refine log_ne_top ?_
  obtain ⟨r, hr⟩ := logistic_real x
  rw [hr]
  induction lb using EReal.rec with
  | bot => rw [EReal.bot_add]; exact bot_ne_top
  | top => exact absurd rfl h
  | coe l =>
    have : ((l : EReal) + (1 - (l : EReal)) * (r : EReal)) = ((l + (1 - l) * r : ℝ) : EReal) := by push_cast; rfl
    rw [this]
    exact EReal.coe_ne_top _

theorem sum_eq_bot {n : ℕ} (f : Fin n → EReal) (x : Fin n) (h : f x = ⊥) : ∑ y, f y = ⊥ := by
  rw [← Finset.add_sum_erase _ _ (Finset.mem_univ x), h, EReal.bot_add]

theorem weight_mul (P : Prop) [Decidable P] (x : EReal) : (if P then (1 : EReal) else 0) * x = if P then x else 0 := by
  split
  · exact one_mul x
  · exact zero_mul x

/-- A masked sum taken in three parts, the value and what two roundings left of it: the parts that are no more than
    `x - x` add nothing, since where they are not zero the first part is already `⊥`. -/
theorem three_parts {n : ℕ} (P : Fin n → Prop) [DecidablePred P] (L : Fin n → EReal) (h : ∀ x, L x ≠ ⊤) :
    ((∑ x, (if P x then (1 : EReal) else 0) * L x) + ∑ x, (if P x then (1 : EReal) else 0) * (L x - L x))
        + ∑ x, (if P x then (1 : EReal) else 0) * ((L x - L x) - (L x - L x))
      = ∑ x, if P x then L x else 0 := by
  simp only [weight_mul]
  by_cases hb : ∃ x, P x ∧ L x = ⊥
  · obtain ⟨x, hp, hx⟩ := hb
    have : ∑ x, (if P x then L x else 0) = ⊥ := sum_eq_bot _ x (by rw [if_pos hp, hx])
    rw [this, EReal.bot_add, EReal.bot_add]
  · have hz : ∀ x, P x → L x - L x = 0 := fun x hp => EReal.sub_self (h x) fun hx => hb ⟨x, hp, hx⟩
    have h1 : ∑ x, (if P x then L x - L x else 0) = 0 :=
      Finset.sum_eq_zero fun x _ => by split; exacts [hz x ‹_›, rfl]
    have h2 : ∑ x, (if P x then (L x - L x) - (L x - L x) else 0) = 0 :=
      Finset.sum_eq_zero fun x _ => by
        split
        · rw [hz x ‹_›]; exact sub_zero 0
        · rfl
    rw [h1, h2, add_zero, add_zero]

/-- Of 256 rows, the sum over those of chunk `u` is the sum over the chunk's 64. -/
theorem sum_chunk {M : Type*} [AddCommMonoid M] (u : Fin 4) (g : Fin 256 → M) :
    (∑ x : Fin 256, if x.val / 64 = u.val then g x else 0) = ∑ y : Fin 64, g ⟨64 * u.val + y.val, by omega⟩ := by
  rw [← Finset.sum_filter]
  refine Finset.sum_bij' (fun x _ => (⟨x.val % 64, Nat.mod_lt _ (by decide)⟩ : Fin 64))
    (fun y _ => (⟨64 * u.val + y.val, by omega⟩ : Fin 256)) (by simp) ?_ ?_ ?_ ?_
  · intro y _
    simp only [Finset.mem_filter, Finset.mem_univ, true_and]
    omega
  · intro x hx
    have := (Finset.mem_filter.mp hx).2
    apply Fin.ext
    show 64 * u.val + x.val % 64 = x.val
    omega
  · intro y _
    apply Fin.ext
    show (64 * u.val + y.val) % 64 = y.val
    omega
  · intro x hx
    have := (Finset.mem_filter.mp hx).2
    congr 1
    apply Fin.ext
    show x.val = 64 * u.val + x.val % 64
    omega

/-! ### One chunk -/

variable (Q K V L : Fin 64 → Fin 128 → EReal) (S : Fin 128 → Fin 128 → EReal)

/-- The running sum of the log gates. -/
def cum (r : Fin 64) (d : Fin 128) : EReal := ∑ x : Fin 64, if x.val ≤ r.val then L x d else 0

/-- The sum of the chunk's log gates. -/
def tot (d : Fin 128) : EReal := ∑ x : Fin 64, L x d

/-- What the chunk puts out: its own rows' part, and the carried state's. -/
def outC (r : Fin 64) (e : Fin 128) : EReal :=
  (∑ x : Fin 64, (if x.val ≤ r.val then
      ∑ d, (Q r d * Ideal.exp (cum L r d)) * (K x d * Ideal.exp (-cum L x d)) else 0) * V x e)
    + ∑ d, (Q r d * Ideal.exp (cum L r d)) * S d e

/-- The state it hands on. -/
def nextC (d e : Fin 128) : EReal :=
  S d e * Ideal.exp (tot L d) + ∑ x : Fin 64, V x e * (K x d * Ideal.exp (tot L d - cum L x d))

/-- A row of outputs, scaled to unit mean square, weighted and gated. -/
def normed (o : Fin 128 → EReal) (w g : EReal) (e : Fin 128) : EReal :=
  o e * Ideal.rsqrt (Ideal.div (∑ x, o x * o x) (Ideal.ofBits .f32 0x43000000#32) + Ideal.ofBits .f32 0x358637BD#32) * w
    * Ideal.logistic g

/-! ### A whole sequence of 2048 rows -/

/-- Chunk `n` of a sequence. -/
def chunk (X : Fin 2048 → Fin 128 → EReal) (n : Fin 32) (r : Fin 64) (d : Fin 128) : EReal :=
  X ⟨64 * n.val + r.val, by omega⟩ d

variable (q k v l : Fin 2048 → Fin 128 → EReal)

/-- The state before chunk `n`, from zero. -/
def stateAt : ℕ → Fin 128 → Fin 128 → EReal
  | 0 => fun _ _ => 0
  | n + 1 => if h : n < 32 then nextC (chunk k ⟨n, h⟩) (chunk v ⟨n, h⟩) (chunk l ⟨n, h⟩) (stateAt n) else stateAt n

theorem stateAt_succ (n : Fin 32) :
    stateAt k v l (n.val + 1) = nextC (chunk k n) (chunk v n) (chunk l n) (stateAt k v l n.val) := dif_pos n.isLt

/-- What chunk `n` puts out at its row `r`. -/
def outAt (n : Fin 32) (r : Fin 64) (e : Fin 128) : EReal :=
  outC (chunk q n) (chunk k n) (chunk v n) (chunk l n) (stateAt k v l n.val) r e

end Hgrn

end
-- ==== Proof.HgrnPay.lean ====
/-
  The kernel's payloads read at an index, over the extended reals.
-/
module

public import proofs.«01_k».proof.Proof.Gen.KernelIdeal.Skeleton
public import Idealize.ShloMosaic.Lib.Pointwise
public import Idealize.ShloMosaic.Lib.WordCmp
public import proofs.«01_k».proof.Proof.HgrnMath

@[expose] public section

set_option maxRecDepth 16384

noncomputable section

namespace Cert.KernelIdeal.Hg

open Idealize.ShloMosaic Cert.KernelIdeal Cert.KernelIdeal.Gen

abbrev ioR : IVec S256x256 32 := iota .tc S256x256 32 [0] iota_S256x256_d0_w32
abbrev ioC : IVec S256x256 32 := iota .tc S256x256 32 [1] iota_S256x256_d1_w32

theorem pay27_apply (a b : Fin 256) : k0_pay27 (ix2 a b) = BitVec.ofNat 32 (a.val / 64) := by
  pointwise [k0_pay27]
  clear b
  revert a
  decide +kernel

theorem word_eq : ∀ x y : Fin 4,
    IntOp.cmpi .eq (BitVec.ofNat 32 x.val) (BitVec.ofNat 32 y.val) = if x.val = y.val then 1#1 else 0#1 := by
  decide

theorem word_sge : ∀ a b : Fin 256,
    IntOp.cmpi .sge (BitVec.ofNat 32 a.val) (BitVec.ofNat 32 b.val) = if b.val ≤ a.val then 1#1 else 0#1 := by
  intro a b
  rw [Idealize.ShloMosaic.WordCmp.cmpi_sge_ofNat (by omega) (by omega)]
  by_cases h : b.val ≤ a.val
  · rw [if_pos h, decide_eq_true h]; rfl
  · rw [if_neg h, decide_eq_false h]; rfl

/-- The same-chunk bit. -/
theorem pay1_apply (a b : Fin 256) :
    k0_pay1 ioC k0_pay27 64#32 k0_pay28 (ix2 a b) = if a.val / 64 = b.val / 64 then 1#1 else 0#1 := by
  have hb := pay27_apply b b
  pointwise [k0_pay27] at hb
  pointwise [k0_pay1, k0_pay28]
  rw [hb, pay27_apply]
  exact word_eq ⟨a.val / 64, by omega⟩ ⟨b.val / 64, by omega⟩

/-- The same-chunk and not-after bit. -/
theorem pay2_apply (a b : Fin 256) :
    k0_pay2 ioR ioC k0_pay27 64#32 k0_pay28 (ix2 a b) = if a.val / 64 = b.val / 64 ∧ b.val ≤ a.val then 1#1 else 0#1 := by
  pointwise [k0_pay2]
  rw [pay1_apply, word_sge]
  by_cases h : a.val / 64 = b.val / 64 <;> by_cases h' : b.val ≤ a.val <;> simp only [h, h', if_true, if_false, and_self, and_true, true_and, and_false, false_and] <;> rfl

theorem float_bit (p : Prop) [Decidable p] :
    FloatOps.sitofp (F := Ideal) .f32 (BitVec.setWidth 32 (if p then 1#1 else 0#1)) = if p then 1 else 0 := by
  split
  · show (((BitVec.setWidth 32 1#1).toInt : ℝ) : EReal) = 1
    rw [show (BitVec.setWidth 32 1#1).toInt = 1 from by decide]
    norm_num
  · show (((BitVec.setWidth 32 0#1).toInt : ℝ) : EReal) = 0
    rw [show (BitVec.setWidth 32 0#1).toInt = 0 from by decide]
    norm_num

/-- The stacked masks the one matrix product takes both running and whole sums with. -/
abbrev masks : FVec Ideal S512x256 .bf16 := k0_pay3 (F := Ideal) ioR ioC k0_pay27 64#32 k0_pay28

theorem mask_top (a b : Fin 256) :
    masks (ix2 ⟨a.val, by omega⟩ b) = if a.val / 64 = b.val / 64 ∧ b.val ≤ a.val then 1 else 0 := by
  unfold masks
  pointwise [k0_pay3]
  rw [pay2_apply]
  exact float_bit _

theorem mask_bot (a b : Fin 256) :
    masks (ix2 ⟨256 + a.val, by omega⟩ b) = if a.val / 64 = b.val / 64 then 1 else 0 := by
  unfold masks
  pointwise [k0_pay3]
  rw [pay1_apply]
  exact float_bit _

theorem sums_apply (lb : FVec Ideal S1x128 .f32) (f : FVec Ideal S256x128 .f32) (a : Fin 512) (d : Fin 128) :
    k0_pay9 lb masks f (ix2 a d)
      = ((∑ x, masks (ix2 a x) * Hgrn.lgate (lb (ix2 0 d)) (f (ix2 x d)))
          + ∑ x, masks (ix2 a x) * (Hgrn.lgate (lb (ix2 0 d)) (f (ix2 x d)) - Hgrn.lgate (lb (ix2 0 d)) (f (ix2 x d))))
        + ∑ x, masks (ix2 a x) * ((Hgrn.lgate (lb (ix2 0 d)) (f (ix2 x d)) - Hgrn.lgate (lb (ix2 0 d)) (f (ix2 x d)))
            - (Hgrn.lgate (lb (ix2 0 d)) (f (ix2 x d)) - Hgrn.lgate (lb (ix2 0 d)) (f (ix2 x d)))) := by
  unfold Hgrn.lgate
  generalize masks = M
  pointwise [k0_pay9, k0_pay7]
  refine congrArg _ (Finset.sum_congr rfl fun x _ => ?_)
  rw [dif_neg (by omega), dif_neg (by omega)]
  simp only [show 256 + d.val - 128 - 128 = d.val by omega]

theorem cum_apply (lb : FVec Ideal S1x128 .f32) (hlb : ∀ j, lb j ≠ ⊤) (f : FVec Ideal S256x128 .f32) (a : Fin 256) (d : Fin 128) :
    k0_pay10 lb masks f (ix2 a d)
      = ∑ x : Fin 256, if a.val / 64 = x.val / 64 ∧ x.val ≤ a.val then Hgrn.lgate (lb (ix2 0 d)) (f (ix2 x d)) else 0 := by
  pointwise [k0_pay10]
  rw [sums_apply]
  simp only [mask_top]
  exact Hgrn.three_parts _ _ fun x => Hgrn.lgate_ne_top (hlb _) _

theorem tot_apply (lb : FVec Ideal S1x128 .f32) (hlb : ∀ j, lb j ≠ ⊤) (f : FVec Ideal S256x128 .f32) (a : Fin 256) (d : Fin 128) :
    k0_pay11 lb masks f (ix2 a d)
      = ∑ x : Fin 256, if a.val / 64 = x.val / 64 then Hgrn.lgate (lb (ix2 0 d)) (f (ix2 x d)) else 0 := by
  pointwise [k0_pay11]
  rw [sums_apply]
  simp only [mask_bot]
  exact Hgrn.three_parts _ _ fun x => Hgrn.lgate_ne_top (hlb _) _

theorem key_apply (lb : FVec Ideal S1x128 .f32) (f : FVec Ideal S256x128 .f32) (a : Fin 256) (d : Fin 128) :
    k0_pay8 lb f (ix2 a d) = (1 - lb (ix2 0 d)) * Ideal.logistic (-f (ix2 a d)) := by
  rw [← Hgrn.one_sub_logistic]
  pointwise [k0_pay8, k0_pay7]

theorem qd_apply (lb : FVec Ideal S1x128 .f32) (M : FVec Ideal S512x256 .bf16) (q f : FVec Ideal S256x128 .f32) (a : Fin 256) (d : Fin 128) :
    k0_pay12 lb M q f (ix2 a d) = (q (ix2 a d) * Ideal.logistic (q (ix2 a d))) * Ideal.exp (k0_pay10 lb M f (ix2 a d)) := by
  pointwise [k0_pay12]

theorem ki_apply (lb : FVec Ideal S1x128 .f32) (M : FVec Ideal S512x256 .bf16) (f : FVec Ideal S256x128 .f32) (a : Fin 256) (d : Fin 128) :
    k0_pay13 lb M f (ix2 a d) = k0_pay8 lb f (ix2 a d) * Ideal.exp (-(k0_pay10 lb M f (ix2 a d))) := by
  pointwise [k0_pay13]
  rw [zero_sub]

theorem ke_apply (k c t : FVec Ideal S256x128 .f32) (a : Fin 256) (d : Fin 128) :
    k0_pay14 k c t (ix2 a d) = k (ix2 a d) * Ideal.exp (t (ix2 a d) - c (ix2 a d)) := by
  pointwise [k0_pay14]

theorem dec_apply (t : FVec Ideal S256x128 .f32) (a : Fin 256) (d : Fin 128) :
    k0_pay15 t (ix2 a d) = Ideal.exp (t (ix2 a d)) := by
  pointwise [k0_pay15]

theorem gate_apply (g : Vec Ideal S256x128 .f32) (a : Fin 256) (d : Fin 128) :
    k0_pay16 (F := Ideal) g (ix2 a d) = Ideal.logistic (g (ix2 a d)) := by
  pointwise [k0_pay16]

theorem lb_apply (h : Vec Ideal S2x128 .f32) (d : Fin 128) :
    k0_pay24 (F := Ideal) h (ix2 0 d) = Hgrn.lower (h (ix2 0 d)) (h (ix2 1 d)) := by
  pointwise [k0_pay24]
  unfold Hgrn.lower
  have hm : Finset.fold max (Ideal.ofBits FTy.f32 4286578688#32) (fun x : Fin 2 => h (ix2 x d)) Finset.univ = max (h (ix2 0 d)) (h (ix2 1 d)) := by
    rw [show Ideal.ofBits FTy.f32 4286578688#32 = ⊥ from Hgrn.neg_inf]
    rw [show (Finset.univ : Finset (Fin 2)) = {0, 1} from rfl]
    simp
  rw [hm, Fin.sum_univ_two, Fin.sum_univ_one]

theorem on_apply (h : Vec Ideal S1x128 .f32) (d : Fin 128) :
    k0_pay25 (F := Ideal) h (ix2 0 d) = h (ix2 0 d) := by
  pointwise [k0_pay25]

/-! ### One group of four chunks -/

variable (lb on : FVec Ideal S1x128 .f32) (acc : FVec Ideal S128x128 .f32) (q f v g : Vec Ideal S256x128 .f32)

/-- The state after the group. -/
def groupNext : FVec Ideal S128x128 .f32 :=
  k0_pay4 v (k0_pay14 (k0_pay8 lb f) (k0_pay10 lb masks f) (k0_pay11 lb masks f)) (k0_pay15 (k0_pay11 lb masks f))
    (k0_pay23 acc v (k0_pay8 lb f) (k0_pay10 lb masks f) (k0_pay11 lb masks f))

/-- What the group stores. -/
def groupOut : FVec Ideal S256x128 .bf16 :=
  k0_pay5 on (k0_pay12 lb masks q f) (k0_pay16 g)
    (k0_pay17 (k0_pay2 ioR ioC k0_pay27 64#32 k0_pay28) v (k0_pay12 lb masks q f) (k0_pay13 lb masks f))
    (k0_pay18 acc (k0_pay12 lb masks q f))
    (k0_pay20 acc v (k0_pay8 lb f) (k0_pay10 lb masks f) (k0_pay11 lb masks f) (k0_pay12 lb masks q f))
    (k0_pay22 acc v (k0_pay8 lb f) (k0_pay10 lb masks f) (k0_pay11 lb masks f) (k0_pay12 lb masks q f))
    (k0_pay23 acc v (k0_pay8 lb f) (k0_pay10 lb masks f) (k0_pay11 lb masks f))

/-- Chunk `u`'s queries, keys, values and log gates. -/
def qc (u : Fin 4) (r : Fin 64) (d : Fin 128) : EReal :=
  q (ix2 ⟨64 * u.val + r.val, by omega⟩ d) * Ideal.logistic (q (ix2 ⟨64 * u.val + r.val, by omega⟩ d))
def kc (u : Fin 4) (r : Fin 64) (d : Fin 128) : EReal :=
  (1 - lb (ix2 0 d)) * Ideal.logistic (-f (ix2 ⟨64 * u.val + r.val, by omega⟩ d))
def vc (u : Fin 4) (r : Fin 64) (d : Fin 128) : EReal := v (ix2 ⟨64 * u.val + r.val, by omega⟩ d)
def lc (u : Fin 4) (r : Fin 64) (d : Fin 128) : EReal := Hgrn.lgate (lb (ix2 0 d)) (f (ix2 ⟨64 * u.val + r.val, by omega⟩ d))

variable (hlb : ∀ j, lb j ≠ ⊤)
include hlb

theorem cum_chunk (u : Fin 4) (r : Fin 64) (d : Fin 128) :
    k0_pay10 lb masks f (ix2 ⟨64 * u.val + r.val, by omega⟩ d) = Hgrn.cum (lc lb f u) r d := by
  rw [cum_apply lb hlb]
  have h := Hgrn.sum_chunk u (fun x : Fin 256 => if x.val ≤ 64 * u.val + r.val then Hgrn.lgate (lb (ix2 0 d)) (f (ix2 x d)) else 0)
  refine Eq.trans (Finset.sum_congr rfl fun x _ => ?_) (h.trans (Finset.sum_congr rfl fun y _ => ?_))
  · have hu : (64 * u.val + r.val) / 64 = u.val := by omega
    simp only [hu, ← ite_and, eq_comm]
  · simp only [Nat.add_le_add_iff_left]
    rfl

theorem tot_chunk (u : Fin 4) (r : Fin 64) (d : Fin 128) :
    k0_pay11 lb masks f (ix2 ⟨64 * u.val + r.val, by omega⟩ d) = Hgrn.tot (lc lb f u) d := by
  rw [tot_apply lb hlb]
  have h := Hgrn.sum_chunk u (fun x : Fin 256 => Hgrn.lgate (lb (ix2 0 d)) (f (ix2 x d)))
  refine Eq.trans (Finset.sum_congr rfl fun x _ => ?_) h
  have hu : (64 * u.val + r.val) / 64 = u.val := by omega
  simp only [hu, eq_comm]

/-- A chunk's decayed state and its own rows' part, at any of the group's four chunks. -/
theorem next_chunk (u : Fin 4) (S : Fin 128 → Fin 128 → EReal) (e d : Fin 128) :
    S d e * k0_pay15 (k0_pay11 lb masks f) (ix2 ⟨64 * u.val, by omega⟩ d)
        + ∑ x : Fin 64, v (ix2 ⟨64 * u.val + x.val, by omega⟩ e)
            * k0_pay14 (k0_pay8 lb f) (k0_pay10 lb masks f) (k0_pay11 lb masks f) (ix2 ⟨64 * u.val + x.val, by omega⟩ d)
      = Hgrn.nextC (kc lb f u) (vc v u) (lc lb f u) S d e := by
  have h0 := tot_chunk lb f hlb u 0 d
  simp only [Fin.val_zero, add_zero] at h0
  unfold Hgrn.nextC
  rw [dec_apply, h0]
  refine congrArg _ (Finset.sum_congr rfl fun x _ => ?_)
  rw [ke_apply, key_apply, cum_chunk lb f hlb, tot_chunk lb f hlb]
  rfl

/-- The state before chunk `u` of the group. -/
def before : ℕ → Fin 128 → Fin 128 → EReal
  | 0 => fun d e => acc (ix2 e d)
  | u + 1 => if h : u < 4 then Hgrn.nextC (kc lb f ⟨u, h⟩) (vc v ⟨u, h⟩) (lc lb f ⟨u, h⟩) (before u) else before u

theorem st0_apply (e d : Fin 128) :
    k0_pay19 acc v (k0_pay8 lb f) (k0_pay10 lb masks f) (k0_pay11 lb masks f) (ix2 e d) = before lb acc f v 1 d e := by
  refine Eq.trans ?_ (next_chunk lb f v hlb 0 (before lb acc f v 0) e d)
  generalize k0_pay8 lb f = k; generalize k0_pay10 lb masks f = c; generalize k0_pay11 lb masks f = t
  pointwise [k0_pay19]
  rfl

theorem st1_apply (e d : Fin 128) :
    k0_pay21 acc v (k0_pay8 lb f) (k0_pay10 lb masks f) (k0_pay11 lb masks f) (ix2 e d) = before lb acc f v 2 d e := by
  refine Eq.trans ?_ (next_chunk lb f v hlb 1 (before lb acc f v 1) e d)
  rw [← st0_apply lb acc f v hlb e d]
  generalize k0_pay8 lb f = k; generalize k0_pay10 lb masks f = c; generalize k0_pay11 lb masks f = t
  pointwise [k0_pay21]

theorem st2_apply (e d : Fin 128) :
    k0_pay23 acc v (k0_pay8 lb f) (k0_pay10 lb masks f) (k0_pay11 lb masks f) (ix2 e d) = before lb acc f v 3 d e := by
  refine Eq.trans ?_ (next_chunk lb f v hlb 2 (before lb acc f v 2) e d)
  rw [← st1_apply lb acc f v hlb e d]
  generalize k0_pay8 lb f = k; generalize k0_pay10 lb masks f = c; generalize k0_pay11 lb masks f = t
  pointwise [k0_pay23]

theorem next_apply (e d : Fin 128) : groupNext lb acc f v (ix2 e d) = before lb acc f v 4 d e := by
  refine Eq.trans ?_ (next_chunk lb f v hlb 3 (before lb acc f v 3) e d)
  rw [← st2_apply lb acc f v hlb e d]
  unfold groupNext
  generalize k0_pay8 lb f = k; generalize k0_pay10 lb masks f = c; generalize k0_pay11 lb masks f = t
  pointwise [k0_pay4]

/-- The part of chunk `u`'s output its own rows make. -/
theorem intra_apply (u : Fin 4) (r : Fin 64) (e : Fin 128) :
    k0_pay17 (k0_pay2 ioR ioC k0_pay27 64#32 k0_pay28) v (k0_pay12 lb masks q f) (k0_pay13 lb masks f) (ix2 ⟨64 * u.val + r.val, by omega⟩ e)
      = ∑ x : Fin 64, (if x.val ≤ r.val then
          ∑ d, (qc q u r d * Ideal.exp (Hgrn.cum (lc lb f u) r d)) * (kc lb f u x d * Ideal.exp (-Hgrn.cum (lc lb f u) x d)) else 0) * vc v u x e := by
  have h := Hgrn.sum_chunk u (fun x : Fin 256 => (if x.val ≤ 64 * u.val + r.val then
          ∑ d, k0_pay12 lb masks q f (ix2 ⟨64 * u.val + r.val, by omega⟩ d) * k0_pay13 lb masks f (ix2 x d) else 0) * v (ix2 x e))
  refine Eq.trans ?_ (h.trans (Finset.sum_congr rfl fun x _ => ?_))
  · generalize k0_pay12 lb masks q f = qd; generalize k0_pay13 lb masks f = ki
    have hm := fun x : Fin 256 => pay2_apply ⟨64 * u.val + r.val, by omega⟩ x
    generalize k0_pay2 ioR ioC k0_pay27 64#32 k0_pay28 = m at hm ⊢
    pointwise [k0_pay17]
    refine Finset.sum_congr rfl fun x _ => ?_
    rw [hm x]
    have hu : (64 * u.val + r.val) / 64 = u.val := by omega
    simp only [hu, @eq_comm _ (x.val / 64)]
    by_cases h1 : u.val = x.val / 64 <;> by_cases h2 : x.val ≤ 64 * u.val + r.val <;>
      simp [h1, h2, Scalar.select]
  · simp only [Nat.add_le_add_iff_left, qd_apply, ki_apply, key_apply, cum_chunk lb f hlb]
    rfl

omit hlb in
theorem before_succ (u : Fin 4) :
    before lb acc f v (u.val + 1) = Hgrn.nextC (kc lb f u) (vc v u) (lc lb f u) (before lb acc f v u.val) := dif_pos u.isLt

/-- The carried state's part of a group's outputs, stacked from the four chunks. -/
def carried (qd : FVec Ideal S256x128 .f32) (c0 c1 c2 : FVec Ideal S64x128 .f32) (s : FVec Ideal S128x128 .f32) (a : Fin 256) (e : Fin 128) : EReal :=
  if h0 : a.val < 64 then c0 (ix2 ⟨a.val, h0⟩ e)
  else if h1 : a.val - 64 < 64 then c1 (ix2 ⟨a.val - 64, h1⟩ e)
  else if h2 : a.val - 64 - 64 < 64 then c2 (ix2 ⟨a.val - 64 - 64, h2⟩ e)
  else ∑ x, qd (ix2 ⟨192 + (a.val - 64 - 64 - 64), by omega⟩ x) * s (ix2 e x)

omit hlb in
theorem stacked_apply (w : FVec Ideal S1x128 .f32) (qd i g : FVec Ideal S256x128 .f32) (c0 c1 c2 : FVec Ideal S64x128 .f32)
    (s : FVec Ideal S128x128 .f32) (a : Fin 256) (e : Fin 128) :
    k0_pay5 w qd (k0_pay16 (F := Ideal) g) i c0 c1 c2 s (ix2 a e)
      = Hgrn.normed (fun x => i (ix2 a x) + carried qd c0 c1 c2 s a x) (w (ix2 0 e)) (g (ix2 a e)) e := by
  unfold Hgrn.normed carried
  rw [← gate_apply]
  generalize k0_pay16 (F := Ideal) g = g'
  pointwise [k0_pay5]

omit hlb in
theorem car0_apply (s : FVec Ideal S128x128 .f32) (qd : FVec Ideal S256x128 .f32) (r : Fin 64) (e : Fin 128) :
    k0_pay18 s qd (ix2 r e) = ∑ x, qd (ix2 ⟨r.val, by omega⟩ x) * s (ix2 e x) := by
  pointwise [k0_pay18]

omit hlb in
theorem car1_apply (s : FVec Ideal S128x128 .f32) (v k c t qd : FVec Ideal S256x128 .f32) (r : Fin 64) (e : Fin 128) :
    k0_pay20 s v k c t qd (ix2 r e) = ∑ x, qd (ix2 ⟨64 + r.val, by omega⟩ x) * k0_pay19 s v k c t (ix2 e x) := by
  pointwise [k0_pay20]

omit hlb in
theorem car2_apply (s : FVec Ideal S128x128 .f32) (v k c t qd : FVec Ideal S256x128 .f32) (r : Fin 64) (e : Fin 128) :
    k0_pay22 s v k c t qd (ix2 r e) = ∑ x, qd (ix2 ⟨128 + r.val, by omega⟩ x) * k0_pay21 s v k c t (ix2 e x) := by
  pointwise [k0_pay22]

theorem carried_apply (qd : FVec Ideal S256x128 .f32) (u : Fin 4) (r : Fin 64) (e : Fin 128) :
    carried qd (k0_pay18 acc qd)
        (k0_pay20 acc v (k0_pay8 lb f) (k0_pay10 lb masks f) (k0_pay11 lb masks f) qd)
        (k0_pay22 acc v (k0_pay8 lb f) (k0_pay10 lb masks f) (k0_pay11 lb masks f) qd)
        (k0_pay23 acc v (k0_pay8 lb f) (k0_pay10 lb masks f) (k0_pay11 lb masks f)) ⟨64 * u.val + r.val, by omega⟩ e
      = ∑ d, qd (ix2 ⟨64 * u.val + r.val, by omega⟩ d) * before lb acc f v u.val d e := by
  unfold carried
  have hr := r.isLt
  match u with
  | 0 =>
    rw [dif_pos (by simp), car0_apply]
    simp only [Fin.val_zero, Nat.mul_zero, Nat.zero_add]
    rfl
  | 1 =>
    rw [dif_neg (by simp), dif_pos (by simp), car1_apply]
    refine Finset.sum_congr rfl fun d _ => ?_
    rw [st0_apply lb acc f v hlb]
    simp
  | 2 =>
    rw [dif_neg (by simp; omega), dif_neg (by simp; omega), dif_pos (by simp; omega), car2_apply]
    refine Finset.sum_congr rfl fun d _ => ?_
    rw [st1_apply lb acc f v hlb]
    exact congrArg (fun a => qd (ix2 a d) * _) (Fin.ext (by show 128 + (64 * 2 + r.val - 64 - 64) = 64 * 2 + r.val; omega))
  | 3 =>
    rw [dif_neg (by simp; omega), dif_neg (by simp; omega), dif_neg (by simp; omega)]
    refine Finset.sum_congr rfl fun d _ => ?_
    rw [st2_apply lb acc f v hlb]
    exact congrArg (fun a => qd (ix2 a d) * _) (Fin.ext (by show 192 + (64 * 3 + r.val - 64 - 64 - 64) = 64 * 3 + r.val; omega))

theorem out_apply (u : Fin 4) (r : Fin 64) (e : Fin 128) :
    groupOut lb on acc q f v g (ix2 ⟨64 * u.val + r.val, by omega⟩ e)
      = Hgrn.normed (Hgrn.outC (qc q u) (kc lb f u) (vc v u) (lc lb f u) (before lb acc f v u.val) r) (on (ix2 0 e))
          (g (ix2 ⟨64 * u.val + r.val, by omega⟩ e)) e := by
  unfold groupOut
  rw [stacked_apply]
  refine congrArg (fun o => Hgrn.normed o _ _ e) (funext fun x => ?_)
  rw [intra_apply lb q f v hlb, carried_apply lb acc f v hlb]
  unfold Hgrn.outC
  refine congrArg _ (Finset.sum_congr rfl fun d _ => ?_)
  rw [qd_apply, cum_chunk lb f hlb]
  rfl

omit hlb in
theorem final_apply (s : FVec Ideal S128x128 .f32) (d e : Fin 128) : k0_pay6 s (ix4 0 0 d e) = s (ix2 e d) := by
  pointwise [k0_pay6]

end Cert.KernelIdeal.Hg

end
-- ==== Proof.HgrnTrip.lean ====
/-
  One grid point of the kernel, as the recurrence over a head's whole sequence: the kernel's loop over eight groups of four
  chunks carries the state before each group, and its stores fill the output block and the final state.
-/
module

public import proofs.«01_k».proof.Proof.Gen.KernelIdeal.Value
public import proofs.«01_k».proof.Proof.HgrnPay
public import Idealize.ShloMosaic.Lib.Pipeline.ValueKit.Tiles

@[expose] public section

set_option maxRecDepth 16384

noncomputable section

namespace Cert.KernelIdeal.Hg

open Idealize.ShloMosaic Idealize.ShloMosaic.TcCoe Cert.KernelIdeal Cert.KernelIdeal.Gen Idealize.SL.Sem

/-- The 256 rows of group `g`. -/
def rowsAt (X : Vec Ideal S2048x128 .f32) (g : Fin k0_t1_loop.trips) : Vec Ideal S256x128 .f32 :=
  View.ld X (Rect.unit (s := S2048x128) (k0_off1 g) S256x128.size (k0_off1_inb g))

theorem off_eq (g : Fin k0_t1_loop.trips) : k0_off1 g 0 = 256 * g.val := by
  have h : ∀ g : Fin k0_t1_loop.trips, k0_off1 g 0 = 256 * g.val := by decide +kernel
  exact h g

theorem trips_eq : k0_t1_loop.trips = 8 := by decide +kernel

theorem group_lt (g : Fin k0_t1_loop.trips) : g.val < 8 := trips_eq ▸ g.isLt

theorem rowsAt_apply (X : Vec Ideal S2048x128 .f32) (g : Fin k0_t1_loop.trips) (a : Fin 256) (d : Fin 128) :
    rowsAt X g (ix2 a d) = X (ix2 ⟨256 * g.val + a.val, by have := group_lt g; omega⟩ d) := by
  unfold rowsAt
  refine View.ld_unit_apply_of X _ _ _ _ _ fun k => ?_
  match k with
  | 0 => exact congrArg (· + a.val) (off_eq g).symm
  | 1 => exact (Nat.zero_add d.val).symm

theorem emb_eq (g : Fin k0_t1_loop.trips) (a : Fin 256) (e : Fin 128) :
    (Rect.unit (s := S2048x128) (k0_off1 g) S256x128.size (k0_off1_inb g)).emb (ix2 a e)
      = (ix2 ⟨256 * g.val + a.val, by have := group_lt g; omega⟩ e : S2048x128.Idx) := by
  funext k
  refine Fin.ext ((Rect.idx_unit_val _ _ _ _ k).trans ?_)
  match k with
  | 0 => exact congrArg (· + a.val) (off_eq g)
  | 1 => exact Nat.zero_add e.val

section

variable (c : Dev nD) (bd : Option Variants.none.V) (i : grid0.Coords) (arg2 : Memref sig .tc .vmem S2x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg8 : Memref sig .tc .vmem S2048x128 .bf16) (harg8 : arg8.IsWhole) (arg9 : Memref sig .tc .vmem S1x1x128x128 .f32) (harg9 : arg9.IsWhole)
  (v11 v13 : FVec Ideal S1x128 .f32) (x1 x2 x3 x4 : Vec Ideal S2048x128 .f32)

theorem trip_next (g : Fin k0_t1_loop.trips) (acc : FVec Ideal S128x128 .f32) :
    tripR_k0_t1 (F := Ideal) Variants.none c bd i arg2 harg2 arg3 harg3 arg4 harg4 arg5 harg5 arg6 harg6 arg7 harg7 arg8 harg8 arg9 harg9 v11 v13 ioR ioC k0_pay27 64#32 k0_pay28 (harg3.unread x1) (harg4.unread x2) (harg5.unread x3) (harg6.unread x4) g acc = groupNext v11 acc (rowsAt x2 g) (rowsAt x3 g) := by
  unfold tripR_k0_t1 trip_k0_t1
  dsimp only
  sl_unfold_words
  simp only [View.readAt_eq_ld, harg3.read_unread, harg4.read_unread, harg5.read_unread, harg6.read_unread]
  rfl

theorem trip_store (g : Fin k0_t1_loop.trips) (acc : FVec Ideal S128x128 .f32) :
    tripL_k0_t1 (F := Ideal) Variants.none c bd i arg2 harg2 arg3 harg3 arg4 harg4 arg5 harg5 arg6 harg6 arg7 harg7 arg8 harg8 arg9 harg9 v11 v13 ioR ioC k0_pay27 64#32 k0_pay28 (harg3.unread x1) (harg4.unread x2) (harg5.unread x3) (harg6.unread x4) g acc
      = [⟨Rect.unit (s := S2048x128) (k0_off1 g) S256x128.size (k0_off1_inb g),
          groupOut v11 v13 acc (rowsAt x1 g) (rowsAt x2 g) (rowsAt x3 g) (rowsAt x4 g)⟩] := by
  unfold tripL_k0_t1 trip_k0_t1
  dsimp only
  sl_unfold_words
  simp only [View.readAt_eq_ld, harg3.read_unread, harg4.read_unread, harg5.read_unread, harg6.read_unread]
  rfl

/-- The carried value before group `g`, and the pieces stored by then. -/
abbrev loopAt (g : ℕ) := st_k0_t1 (F := Ideal) Variants.none c bd i arg2 harg2 arg3 harg3 arg4 harg4 arg5 harg5 arg6 harg6 arg7 harg7 arg8 harg8 arg9 harg9 v11 v13 ioR ioC k0_pay27 64#32 k0_pay28 (harg3.unread x1) (harg4.unread x2) (harg5.unread x3) (harg6.unread x4) k0_pay26 g

end

/-! ### The head's sequence -/

variable (lb w : FVec Ideal S1x128 .f32) (x1 x2 x3 x4 : Vec Ideal S2048x128 .f32)

def qs (t : Fin 2048) (d : Fin 128) : EReal := x1 (ix2 t d) * Ideal.logistic (x1 (ix2 t d))
def ks (t : Fin 2048) (d : Fin 128) : EReal := (1 - lb (ix2 0 d)) * Ideal.logistic (-x2 (ix2 t d))
def vs (t : Fin 2048) (d : Fin 128) : EReal := x3 (ix2 t d)
def ls (t : Fin 2048) (d : Fin 128) : EReal := Hgrn.lgate (lb (ix2 0 d)) (x2 (ix2 t d))

/-- Chunk `u` of group `g`, among the sequence's. -/
def chunkOf (g : Fin k0_t1_loop.trips) (u : Fin 4) : Fin 32 := ⟨4 * g.val + u.val, by have := group_lt g; omega⟩

theorem row_eq (g : Fin k0_t1_loop.trips) (u : Fin 4) (r : Fin 64) (h h') :
    (⟨256 * g.val + (64 * u.val + r.val), h⟩ : Fin 2048) = ⟨64 * (chunkOf g u).val + r.val, h'⟩ :=
  Fin.ext (by show 256 * g.val + (64 * u.val + r.val) = 64 * (4 * g.val + u.val) + r.val; omega)

theorem qc_eq (g : Fin k0_t1_loop.trips) (u : Fin 4) : qc (rowsAt x1 g) u = Hgrn.chunk (qs x1) (chunkOf g u) := by
  funext r d
  unfold qc Hgrn.chunk qs
  rw [rowsAt_apply, row_eq g u r]

theorem kc_eq (g : Fin k0_t1_loop.trips) (u : Fin 4) : kc lb (rowsAt x2 g) u = Hgrn.chunk (ks lb x2) (chunkOf g u) := by
  funext r d
  unfold kc Hgrn.chunk ks
  rw [rowsAt_apply, row_eq g u r]

theorem vc_eq (g : Fin k0_t1_loop.trips) (u : Fin 4) : vc (rowsAt x3 g) u = Hgrn.chunk (vs x3) (chunkOf g u) := by
  funext r d
  unfold vc Hgrn.chunk vs
  rw [rowsAt_apply, row_eq g u r]

theorem lc_eq (g : Fin k0_t1_loop.trips) (u : Fin 4) : lc lb (rowsAt x2 g) u = Hgrn.chunk (ls lb x2) (chunkOf g u) := by
  funext r d
  unfold lc Hgrn.chunk ls
  rw [rowsAt_apply, row_eq g u r]

/-- The state before chunk `n`. -/
def stateOf (n : ℕ) : Fin 128 → Fin 128 → EReal := Hgrn.stateAt (ks lb x2) (vs x3) (ls lb x2) n

theorem before_eq (g : Fin k0_t1_loop.trips) (acc : FVec Ideal S128x128 .f32)
    (h : ∀ d e, acc (ix2 e d) = stateOf lb x2 x3 (4 * g.val) d e) :
    ∀ u : ℕ, u ≤ 4 → before lb acc (rowsAt x2 g) (rowsAt x3 g) u = stateOf lb x2 x3 (4 * g.val + u)
  | 0, _ => funext fun d => funext fun e => h d e
  | u + 1, hu => by
    have hb := before_succ lb acc (rowsAt x2 g) (rowsAt x3 g) ⟨u, hu⟩
    have hs := Hgrn.stateAt_succ (ks lb x2) (vs x3) (ls lb x2) (chunkOf g ⟨u, hu⟩)
    rw [kc_eq, vc_eq, lc_eq, before_eq g acc h u (by omega)] at hb
    exact hb.trans hs.symm

/-- The output block: row `t` is row `t % 64` of chunk `t / 64`. -/
def blockOut (t : Fin 2048) (e : Fin 128) : EReal :=
  Hgrn.normed (Hgrn.outAt (qs x1) (ks lb x2) (vs x3) (ls lb x2) ⟨t.val / 64, by omega⟩ ⟨t.val % 64, by omega⟩)
    (w (ix2 0 e)) (x4 (ix2 t e)) e

section

variable (hlb : ∀ j, lb j ≠ ⊤)
include hlb

theorem groupOut_eq (g : Fin k0_t1_loop.trips) (acc : FVec Ideal S128x128 .f32)
    (h : ∀ d e, acc (ix2 e d) = stateOf lb x2 x3 (4 * g.val) d e) (a : Fin 256) (e : Fin 128) :
    groupOut lb w acc (rowsAt x1 g) (rowsAt x2 g) (rowsAt x3 g) (rowsAt x4 g) (ix2 a e)
      = blockOut lb w x1 x2 x3 x4 ⟨256 * g.val + a.val, by have := group_lt g; omega⟩ e := by
  have ho := out_apply lb w acc (rowsAt x1 g) (rowsAt x2 g) (rowsAt x3 g) (rowsAt x4 g) hlb ⟨a.val / 64, by omega⟩ ⟨a.val % 64, by omega⟩ e
  have ha : (⟨64 * (a.val / 64) + a.val % 64, by omega⟩ : Fin 256) = a := Fin.ext (by show 64 * (a.val / 64) + a.val % 64 = a.val; omega)
  simp only [ha] at ho
  rw [ho, qc_eq, kc_eq, vc_eq, lc_eq, before_eq lb x2 x3 g acc h _ (by show a.val / 64 ≤ 4; omega), rowsAt_apply]
  unfold blockOut Hgrn.outAt
  have e1 : chunkOf g ⟨a.val / 64, by omega⟩ = ⟨(256 * g.val + a.val) / 64, by have := group_lt g; omega⟩ :=
    Fin.ext (by show 4 * g.val + a.val / 64 = (256 * g.val + a.val) / 64; omega)
  have e2 : (⟨a.val % 64, by omega⟩ : Fin 64) = ⟨(256 * g.val + a.val) % 64, by omega⟩ :=
    Fin.ext (by show a.val % 64 = (256 * g.val + a.val) % 64; omega)
  have e3 : 4 * g.val + a.val / 64 = (256 * g.val + a.val) / 64 := by omega
  rw [← e1, ← e2]
  rfl

theorem piece_eq (g : Fin k0_t1_loop.trips) (acc : FVec Ideal S128x128 .f32)
    (h : ∀ d e, acc (ix2 e d) = stateOf lb x2 x3 (4 * g.val) d e) (y : S256x128.Idx) :
    groupOut lb w acc (rowsAt x1 g) (rowsAt x2 g) (rowsAt x3 g) (rowsAt x4 g) y
      = (fun z : S2048x128.Idx => blockOut lb w x1 x2 x3 x4 (z 0) (z 1))
          ((Rect.unit (s := S2048x128) (k0_off1 g) S256x128.size (k0_off1_inb g)).emb y) := by
  obtain ⟨a, e, rfl⟩ : ∃ (a : Fin 256) (e : Fin 128), y = ix2 a e := ⟨y 0, y 1, eq_ix2 y⟩
  rw [emb_eq]
  exact groupOut_eq lb w x1 x2 x3 x4 hlb g acc h a e

variable (c : Dev nD) (bd : Option Variants.none.V) (i : grid0.Coords) (arg2 : Memref sig .tc .vmem S2x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg8 : Memref sig .tc .vmem S2048x128 .bf16) (harg8 : arg8.IsWhole) (arg9 : Memref sig .tc .vmem S1x1x128x128 .f32) (harg9 : arg9.IsWhole)

theorem loop_state : ∀ g : ℕ, g ≤ 8 → ∀ d e, (loopAt c bd i arg2 harg2 arg3 harg3 arg4 harg4 arg5 harg5 arg6 harg6 arg7 harg7 arg8 harg8 arg9 harg9 lb w x1 x2 x3 x4 g).1 (ix2 e d) = stateOf lb x2 x3 (4 * g) d e
  | 0, _ => fun d e => by
    show k0_pay26 (F := Ideal) (ix2 e d) = 0
    pointwise [k0_pay26]
  | g + 1, hg => fun d e => by
    have hs := st_k0_t1_succ (F := Ideal) Variants.none c bd i arg2 harg2 arg3 harg3 arg4 harg4 arg5 harg5 arg6 harg6 arg7 harg7 arg8 harg8 arg9 harg9 lb w ioR ioC k0_pay27 64#32 k0_pay28 (harg3.unread x1) (harg4.unread x2) (harg5.unread x3) (harg6.unread x4) k0_pay26 ⟨g, by rw [trips_eq]; omega⟩
    rw [show (loopAt c bd i arg2 harg2 arg3 harg3 arg4 harg4 arg5 harg5 arg6 harg6 arg7 harg7 arg8 harg8 arg9 harg9 lb w x1 x2 x3 x4 (g + 1)) = _ from hs]
    dsimp only
    rw [trip_next, next_apply lb _ _ _ hlb, before_eq lb x2 x3 ⟨g, by rw [trips_eq]; omega⟩ _ (loop_state g (by omega)) 4 le_rfl]
    rfl

theorem loop_stores : ∀ g : ℕ, g ≤ 8 → ∀ p ∈ (loopAt c bd i arg2 harg2 arg3 harg3 arg4 harg4 arg5 harg5 arg6 harg6 arg7 harg7 arg8 harg8 arg9 harg9 lb w x1 x2 x3 x4 g).2, ∀ y : p.1.shape.Idx,
    p.2 y = (fun z : S2048x128.Idx => blockOut lb w x1 x2 x3 x4 (z 0) (z 1)) (p.1.emb y)
  | 0, _ => fun p hp => absurd hp List.not_mem_nil
  | g + 1, hg => fun p hp => by
    have hs := st_k0_t1_succ (F := Ideal) Variants.none c bd i arg2 harg2 arg3 harg3 arg4 harg4 arg5 harg5 arg6 harg6 arg7 harg7 arg8 harg8 arg9 harg9 lb w ioR ioC k0_pay27 64#32 k0_pay28 (harg3.unread x1) (harg4.unread x2) (harg5.unread x3) (harg6.unread x4) k0_pay26 ⟨g, by rw [trips_eq]; omega⟩
    rw [show (loopAt c bd i arg2 harg2 arg3 harg3 arg4 harg4 arg5 harg5 arg6 harg6 arg7 harg7 arg8 harg8 arg9 harg9 lb w x1 x2 x3 x4 (g + 1)) = _ from hs] at hp
    dsimp only at hp
    rw [trip_store] at hp
    rcases List.mem_cons.mp hp with rfl | hp
    · exact piece_eq lb w x1 x2 x3 x4 hlb ⟨g, by rw [trips_eq]; omega⟩ _
        (loop_state lb w x1 x2 x3 x4 hlb c bd i arg2 harg2 arg3 harg3 arg4 harg4 arg5 harg5 arg6 harg6 arg7 harg7 arg8 harg8 arg9 harg9 g (by omega))
    · exact loop_stores g (by omega) p hp

end

/-! ### What a grid point leaves in its two output blocks -/

/-- The lower bound row a grid point computes. -/
def lbOf (x0 : Vec Ideal S2x128 .f32) : FVec Ideal S1x128 .f32 := k0_pay24 (F := Ideal) x0

theorem lbOf_ne_top (x0 : Vec Ideal S2x128 .f32) (j : S1x128.Idx) : lbOf x0 j ≠ ⊤ := by
  obtain ⟨a, b, rfl⟩ : ∃ (a : Fin 1) (b : Fin 128), j = ix2 a b := ⟨j 0, j 1, eq_ix2 j⟩
  obtain rfl : a = 0 := Subsingleton.elim _ _
  unfold lbOf
  rw [lb_apply]
  exact Hgrn.lower_ne_top _ _

variable (c : Dev nD) (i : grid0.Coords) (arg2 : Memref sig .tc .vmem S2x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg8 : Memref sig .tc .vmem S2048x128 .bf16) (harg8 : arg8.IsWhole) (arg9 : Memref sig .tc .vmem S1x1x128x128 .f32) (harg9 : arg9.IsWhole)
  (x0 : Vec Ideal S2x128 .f32) (x5 : Vec Ideal S1x128 .f32)

theorem out6_eq (t : Fin 2048) (e : Fin 128) :
    out0_A_6 c i arg2 harg2 arg3 harg3 arg4 harg4 arg5 harg5 arg6 harg6 arg7 harg7 arg8 harg8 arg9 harg9 x0 x1 x2 x3 x4 x5 (ix2 t e) = blockOut (lbOf x0) (k0_pay25 x5) x1 x2 x3 x4 t e := by
  unfold out0_A_6
  rw [View.read_writes_eq_canon _ _ _ (cover0_A_6 c i arg2 harg2 arg3 harg3 arg4 harg4 arg5 harg5 arg6 harg6 arg7 harg7 arg8 harg8 arg9 harg9 x0 x1 x2 x3 x4 x5)]
  refine View.canon_apply_of_pieces (fun z : S2048x128.Idx => blockOut (lbOf x0) (k0_pay25 x5) x1 x2 x3 x4 (z 0) (z 1)) _ ?_ _
    (cover0_A_6 c i arg2 harg2 arg3 harg3 arg4 harg4 arg5 harg5 arg6 harg6 arg7 harg7 arg8 harg8 arg9 harg9 x0 x1 x2 x3 x4 x5 _)
  have h := loop_stores (lbOf x0) (k0_pay25 x5) x1 x2 x3 x4 (lbOf_ne_top x0) c none i arg2 harg2 arg3 harg3 arg4 harg4 arg5 harg5 arg6 harg6 arg7 harg7 arg8 harg8 arg9 harg9 8 le_rfl
  unfold kernelRun0_A
  dsimp only
  sl_unfold_words
  simp only [View.readAt_eq_ld, harg2.read_unread, harg7.read_unread]
  rw [View.ld_unit_zero (by decide), View.ld_unit_zero (by decide)]
  exact h

theorem out7_eq (d e : Fin 128) :
    out0_A_7 c i arg2 harg2 arg3 harg3 arg4 harg4 arg5 harg5 arg6 harg6 arg7 harg7 arg8 harg8 arg9 harg9 x0 x1 x2 x3 x4 x5 (ix4 0 0 d e) = stateOf (lbOf x0) x2 x3 32 d e := by
  unfold out0_A_7
  rw [View.read_writes_eq_canon _ _ _ (cover0_A_7 c i arg2 harg2 arg3 harg3 arg4 harg4 arg5 harg5 arg6 harg6 arg7 harg7 arg8 harg8 arg9 harg9 x0 x1 x2 x3 x4 x5)]
  have h := loop_state (lbOf x0) (k0_pay25 x5) x1 x2 x3 x4 (lbOf_ne_top x0) c none i arg2 harg2 arg3 harg3 arg4 harg4 arg5 harg5 arg6 harg6 arg7 harg7 arg8 harg8 arg9 harg9 8 le_rfl d e
  refine Eq.trans ?_ ((final_apply _ d e).trans h)
  unfold kernelRun0_A
  dsimp only
  sl_unfold_words
  rw [View.canon_unit_zero (by decide)]
  simp only [View.readAt_eq_ld, harg2.read_unread, harg7.read_unread]
  rw [View.ld_unit_zero (by decide), View.ld_unit_zero (by decide)]
  rfl

end Cert.KernelIdeal.Hg

end
-- ==== Proof.HgrnHead.lean ====
/-
  One head of the recurrence, in terms of the argument arrays: its gated queries, keys and gate logarithms, and with them its
  rows and its state.
-/
module

public import proofs.«01_k».proof.Proof.HgrnMath
public import Idealize.ShloMosaic.Lib.Pointwise

@[expose] public section

noncomputable section

namespace Hgrn

open Idealize.ShloMosaic

/-- The gated query of one head. -/
def qOf (x : Fin 2048 → Fin 128 → EReal) (t : Fin 2048) (d : Fin 128) : EReal := x t d * Ideal.logistic (x t d)

/-- The key of one head, from its forget input and the lower bound. -/
def kOf (l : Fin 128 → EReal) (x : Fin 2048 → Fin 128 → EReal) (t : Fin 2048) (d : Fin 128) : EReal :=
  (1 - l d) * Ideal.logistic (-x t d)

/-- The logarithm of the forget gate of one head. -/
def lOf (l : Fin 128 → EReal) (x : Fin 2048 → Fin 128 → EReal) (t : Fin 2048) (d : Fin 128) : EReal := lgate (l d) (x t d)

/-- One head's state after `n` chunks. -/
def headState (l : Fin 128 → EReal) (f v : Fin 2048 → Fin 128 → EReal) (n : ℕ) : Fin 128 → Fin 128 → EReal :=
  stateAt (kOf l f) v (lOf l f) n

/-- One head's row before the norm. -/
def headRow (l : Fin 128 → EReal) (q f v : Fin 2048 → Fin 128 → EReal) (t : Fin 2048) : Fin 128 → EReal :=
  outAt (qOf q) (kOf l f) v (lOf l f) ⟨t.val / 64, by omega⟩ ⟨t.val % 64, by omega⟩

/-- One head's output. -/
def headOut (l w : Fin 128 → EReal) (q f v g : Fin 2048 → Fin 128 → EReal) (t : Fin 2048) (e : Fin 128) : EReal :=
  normed (headRow l q f v t) (w e) (g t e) e

/-- Segment `s` of the projection, at one batch and one head. -/
def seg (a : Vec Ideal (Shape.mk 2 ![16384, 5120]) .f32) (s : Fin 4) (b h : Fin 8) (t : Fin 2048) (d : Fin 128) : EReal :=
  a (ix2 ⟨2048 * b.val + t.val, by omega⟩ ⟨1024 * s.val + 128 * h.val + d.val, by omega⟩)

/-- The lower bound of a head's gate. -/
def lbOf (a : Vec Ideal (Shape.mk 2 ![2, 1024]) .f32) (h : Fin 8) (d : Fin 128) : EReal :=
  lower (a (ix2 0 ⟨128 * h.val + d.val, by omega⟩)) (a (ix2 1 ⟨128 * h.val + d.val, by omega⟩))

/-- The norm's weight in a head. -/
def wOf (a : Vec Ideal (Shape.mk 2 ![1, 1024]) .f32) (h : Fin 8) (d : Fin 128) : EReal :=
  a (ix2 0 ⟨128 * h.val + d.val, by omega⟩)

/-- A read of the projection, by its coordinates. -/
theorem seg_at (a : Vec Ideal (Shape.mk 2 ![16384, 5120]) .f32) (s : Fin 4) (b h : Fin 8) (t : Fin 2048) (d : Fin 128)
    {x : Fin 16384} {y : Fin 5120} (hx : x.val = 2048 * b.val + t.val) (hy : y.val = 1024 * s.val + 128 * h.val + d.val) :
    a (ix2 x y) = seg a s b h t d :=
  congrArg a (congrArg₂ ix2 (Fin.ext hx) (Fin.ext hy))

/-- Row `r` of chunk `j`. -/
def rowOf (j : Fin 32) (r : Fin 64) : Fin 2048 := ⟨64 * j.val + r.val, by omega⟩

end Hgrn

end
-- ==== Proof.HgrnArr.lean ====
/-
  The kernel's two result arrays at an index, in terms of its argument arrays: each grid point is one batch's one head, and
  its blocks are that head's columns of that batch's rows.
-/
module

public import proofs.«01_k».proof.Proof.HgrnTrip
public import proofs.«01_k».proof.Proof.HgrnHead
public import Idealize.ShloMosaic.Lib.Pipeline.ValueKit
public import Idealize.ShloMosaic.Lib.Pointwise

@[expose] public section

set_option maxRecDepth 16384

noncomputable section

namespace Cert.KernelIdeal.Hg

open Idealize.ShloMosaic Idealize.ShloMosaic.TcCoe Cert.KernelIdeal Cert.KernelIdeal.Gen Idealize.SL.Sem

variable (m : (ℓ : Loc nD τ sig) → Buf (Elt Ideal) ℓ)

theorem idx : ∀ t : Fin cfg0.N,
    win0_0.index t = ![0, (grid0.coords t 1).val] ∧ win0_1.index t = ![(grid0.coords t 0).val, (grid0.coords t 1).val]
    ∧ win0_2.index t = ![(grid0.coords t 0).val, 8 + (grid0.coords t 1).val]
    ∧ win0_3.index t = ![(grid0.coords t 0).val, 16 + (grid0.coords t 1).val]
    ∧ win0_4.index t = ![(grid0.coords t 0).val, 24 + (grid0.coords t 1).val]
    ∧ win0_5.index t = ![0, (grid0.coords t 1).val]
    ∧ win0_6.index t = ![(grid0.coords t 0).val, (grid0.coords t 1).val]
    ∧ win0_7.index t = ![(grid0.coords t 0).val, (grid0.coords t 1).val, 0, 0]
    ∧ (grid0.coords t 0).val < 8 ∧ (grid0.coords t 1).val < 8 := by decide +kernel

/-- The batch of a grid point. -/
def bOf (t : Fin cfg0.N) : Fin 8 := ⟨(grid0.coords t 0).val, (idx t).2.2.2.2.2.2.2.2.1⟩

/-- The head of a grid point. -/
def hOf (t : Fin cfg0.N) : Fin 8 := ⟨(grid0.coords t 1).val, (idx t).2.2.2.2.2.2.2.2.2⟩

/-- The projection as launched. -/
abbrev proj (c : Dev nD) : Vec Ideal S16384x5120 .f32 := m ((c : Thread nD τ).loc main_arg0)
/-- The lower bounds' logits as launched. -/
abbrev low (c : Dev nD) : Vec Ideal S2x1024 .f32 := m ((c : Thread nD τ).loc main_arg1)
/-- The norm's weight as launched. -/
abbrev wgt (c : Dev nD) : Vec Ideal S1x1024 .f32 := m ((c : Thread nD τ).loc main_arg2)

theorem b0 (c : Dev nD) (t : Fin cfg0.N) (r : Fin 2) (d : Fin 128) :
    (iblk m c 0 t : Vec Ideal S2x128 .f32) (ix2 r d) = low m c (ix2 r ⟨128 * (hOf t).val + d.val, by omega⟩) := by
  obtain ⟨e0, -⟩ := idx t
  blk_ext [iblk, V, e0, hOf]

theorem b1 (c : Dev nD) (t : Fin cfg0.N) (r : Fin 2048) (d : Fin 128) :
    (iblk m c 1 t : Vec Ideal S2048x128 .f32) (ix2 r d) = Hgrn.seg (proj m c) 0 (bOf t) (hOf t) r d := by
  obtain ⟨-, e0, -⟩ := idx t
  unfold Hgrn.seg
  blk_ext [iblk, V, e0, hOf, bOf]

theorem b2 (c : Dev nD) (t : Fin cfg0.N) (r : Fin 2048) (d : Fin 128) :
    (iblk m c 2 t : Vec Ideal S2048x128 .f32) (ix2 r d) = Hgrn.seg (proj m c) 1 (bOf t) (hOf t) r d := by
  obtain ⟨-, -, e0, -⟩ := idx t
  unfold Hgrn.seg
  blk_ext [iblk, V, e0, hOf, bOf]

theorem b3 (c : Dev nD) (t : Fin cfg0.N) (r : Fin 2048) (d : Fin 128) :
    (iblk m c 3 t : Vec Ideal S2048x128 .f32) (ix2 r d) = Hgrn.seg (proj m c) 2 (bOf t) (hOf t) r d := by
  obtain ⟨-, -, -, e0, -⟩ := idx t
  unfold Hgrn.seg
  blk_ext [iblk, V, e0, hOf, bOf]

theorem b4 (c : Dev nD) (t : Fin cfg0.N) (r : Fin 2048) (d : Fin 128) :
    (iblk m c 4 t : Vec Ideal S2048x128 .f32) (ix2 r d) = Hgrn.seg (proj m c) 3 (bOf t) (hOf t) r d := by
  obtain ⟨-, -, -, -, e0, -⟩ := idx t
  unfold Hgrn.seg
  blk_ext [iblk, V, e0, hOf, bOf]

theorem b5 (c : Dev nD) (t : Fin cfg0.N) (d : Fin 128) :
    (iblk m c 5 t : Vec Ideal S1x128 .f32) (ix2 0 d) = Hgrn.wOf (wgt m c) (hOf t) d := by
  obtain ⟨-, -, -, -, -, e0, -⟩ := idx t
  have hv : ∀ j : Fin 1024, (V m c (Pipeline.arrRef spec0 5) : Vec Ideal S1x1024 .f32) (ix2 0 j) = wgt m c (ix2 0 j) := by
    intro j
    simp only [V]
    entry_read
    pointwise
  have hi : (win0_5.blk t).view.emb (ix2 (0 : Fin 1) d) = (ix2 (0 : Fin 1) (⟨128 * (hOf t).val + d.val, by omega⟩ : Fin 1024)) := by
    blk_ext [e0, hOf]
  exact (congrArg (V m c (Pipeline.arrRef spec0 5)) hi).trans (hv _)

/-- Result 0 at an index of the array. -/
def G6 (c : Dev nD) (b h : Fin 8) (t : Fin 2048) (e : Fin 128) : EReal :=
  Hgrn.headOut (Hgrn.lbOf (low m c) h) (Hgrn.wOf (wgt m c) h) (Hgrn.seg (proj m c) 0 b h) (Hgrn.seg (proj m c) 1 b h)
    (Hgrn.seg (proj m c) 2 b h) (Hgrn.seg (proj m c) 3 b h) t e

/-- Result 1 at an index of the array. -/
def G7 (c : Dev nD) (b h : Fin 8) (d e : Fin 128) : EReal :=
  Hgrn.headState (Hgrn.lbOf (low m c) h) (Hgrn.seg (proj m c) 1 b h) (Hgrn.seg (proj m c) 2 b h) 32 d e

theorem lb_blk (c : Dev nD) (t : Fin cfg0.N) (d : Fin 128) :
    lbOf (iblk m c 0 t : Vec Ideal S2x128 .f32) (ix2 0 d) = Hgrn.lbOf (low m c) (hOf t) d := by
  unfold lbOf Hgrn.lbOf
  rw [lb_apply, b0, b0]

theorem stateOf_blk (c : Dev nD) (t : Fin cfg0.N) (n : ℕ) :
    stateOf (lbOf (iblk m c 0 t : Vec Ideal S2x128 .f32)) (iblk m c 2 t : Vec Ideal S2048x128 .f32)
        (iblk m c 3 t : Vec Ideal S2048x128 .f32) n
      = Hgrn.headState (Hgrn.lbOf (low m c) (hOf t)) (Hgrn.seg (proj m c) 1 (bOf t) (hOf t)) (Hgrn.seg (proj m c) 2 (bOf t) (hOf t)) n := by
  unfold stateOf Hgrn.headState
  congr 1
  · funext r d; unfold ks Hgrn.kOf; rw [lb_blk, b2]
  · funext r d; exact b3 m c t r d
  · funext r d; unfold ls Hgrn.lOf; rw [lb_blk, b2]

theorem blockOut_blk (c : Dev nD) (t : Fin cfg0.N) (r : Fin 2048) (e : Fin 128) :
    blockOut (lbOf (iblk m c 0 t : Vec Ideal S2x128 .f32)) (k0_pay25 (F := Ideal) (iblk m c 5 t : Vec Ideal S1x128 .f32))
        (iblk m c 1 t : Vec Ideal S2048x128 .f32) (iblk m c 2 t : Vec Ideal S2048x128 .f32)
        (iblk m c 3 t : Vec Ideal S2048x128 .f32) (iblk m c 4 t : Vec Ideal S2048x128 .f32) r e
      = G6 m c (bOf t) (hOf t) r e := by
  unfold blockOut G6 Hgrn.headOut Hgrn.headRow
  rw [on_apply, b5, b4]
  congr 2
  · funext r d; unfold qs Hgrn.qOf; rw [b1]
  · funext r d; unfold ks Hgrn.kOf; rw [lb_blk, b2]
  · funext r d; exact b3 m c t r d
  · funext r d; unfold ls Hgrn.lOf; rw [lb_blk, b2]

theorem arr6 (c : Dev nD) : (dats m 0 c).arrAt 6 cfg0.N = fun i : S16384x1024.Idx =>
    G6 m c ⟨(i 0).val / 2048, by have := (i 0).isLt; simp at this; omega⟩ ⟨(i 1).val / 128, by have := (i 1).isLt; simp at this; omega⟩
      ⟨(i 0).val % 2048, by omega⟩ ⟨(i 1).val % 128, by omega⟩ := by
  refine (dats m 0 c).arrAt_eq_of_covers 6 _ (by decide +kernel) fun t hf y => ?_
  obtain ⟨-, -, -, -, -, -, e0, -⟩ := idx t
  obtain ⟨r, e, rfl⟩ : ∃ (r : Fin 2048) (e : Fin 128), y = ix2 r e := ⟨y 0, y 1, eq_ix2 y⟩
  blk_simp
  have h : (dats m 0 c).after 6 t (ix2 r e) = G6 m c (bOf t) (hOf t) r e := by
    rw [after0_6]
    exact (out6_eq _ _ _ _ c (grid0.coords t) _ _ _ _ _ _ _ _ _ _ _ _ _ _ _ _ _ _ r e).trans (blockOut_blk m c t r e)
  refine h.trans ?_
  congr 1 <;> refine Fin.ext ?_ <;> simp [e0, bOf, hOf] <;> omega

theorem G7_congr (c : Dev nD) {b b' h h' : Fin 8} {d d' e e' : Fin 128} (hb : b.val = b'.val) (hh : h.val = h'.val)
    (hd : d.val = d'.val) (he : e.val = e'.val) : G7 m c b h d e = G7 m c b' h' d' e' := by
  obtain rfl := Fin.ext hb
  obtain rfl := Fin.ext hh
  obtain rfl := Fin.ext hd
  obtain rfl := Fin.ext he
  rfl

theorem point7 (c : Dev nD) (t : Fin cfg0.N) (d e : Fin 128) :
    (outsAt0 m c t).2 (ix4 0 0 d e) = G7 m c (bOf t) (hOf t) d e := by
  have h := out7_eq (iblk m c 1 t : Vec Ideal S2048x128 .f32) (iblk m c 2 t : Vec Ideal S2048x128 .f32)
    (iblk m c 3 t : Vec Ideal S2048x128 .f32) (iblk m c 4 t : Vec Ideal S2048x128 .f32) c (grid0.coords t)
    (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (iblk m c 0 t : Vec Ideal S2x128 .f32) (iblk m c 5 t : Vec Ideal S1x128 .f32) d e
  unfold outsAt0
  dsimp only
  refine h.trans ?_
  exact congrFun (congrFun (stateOf_blk m c t 32) d) e

theorem arr7 (c : Dev nD) : (dats m 0 c).arrAt 7 cfg0.N = fun i : S8x8x128x128.Idx => G7 m c (i 0) (i 1) (i 2) (i 3) := by
  refine (dats m 0 c).arrAt_eq_of_covers 7 _ (by decide +kernel) fun t hf y => ?_
  obtain ⟨-, -, -, -, -, -, -, e0, -⟩ := idx t
  obtain ⟨a, b, d, e, rfl⟩ : ∃ (a b : Fin 1) (d e : Fin 128), y = ix4 a b d e := ⟨y 0, y 1, y 2, y 3, eq_ix4 y⟩
  obtain rfl : a = 0 := Subsingleton.elim _ _
  obtain rfl : b = 0 := Subsingleton.elim _ _
  have h : (dats m 0 c).after 7 t (ix4 0 0 d e) = G7 m c (bOf t) (hOf t) d e := by
    rw [after0_7]
    exact point7 m c t d e
  blk_simp
  refine h.trans (G7_congr m c ?_ ?_ ?_ ?_)
  · blk_simp; simp [e0, bOf]
  · blk_simp; simp [e0, hOf]
  · blk_simp; simp [e0]
  · blk_simp; simp [e0]

end Cert.KernelIdeal.Hg

end
-- ==== Proof.HgrnRefRun.lean ====
/- The reference's run, read as a fold: the valuation before every turn of its host loop is described by a record of the
   carried arrays, one turn moves that record by `step`, and so the results are the fields of the last record. -/
module

public import proofs.«01_k».proof.Proof.Gen.ReferenceIdeal.Run
public import proofs.«01_k».proof.Proof.Gen.ReferenceIdeal.Step

@[expose] public section

set_option maxRecDepth 16384

noncomputable section

namespace Cert.ReferenceIdeal.Turns

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init K_main_v53 R_main_v93)

variable {F : FTy → Type} [FloatOps F]

/-- The buffers of `V` that the host loop reads are those of the record `s`, and its counter stands at `j`. -/
structure Tracks (V : Valuation τ sig (Elt F)) (s : State F) (j : ℕ) : Prop where
  state : V (Proc.devRef .tc main_v64_6) = s.main_v64_6
  outs : V (Proc.devRef .tc main_v64_7) = s.main_v64_7
  qs : V (Proc.devRef .tc main_v64_0) = s.main_v64_0
  ks : V (Proc.devRef .tc main_v64_1) = s.main_v64_1
  vs : V (Proc.devRef .tc main_v64_2) = s.main_v64_2
  lfs : V (Proc.devRef .tc main_v64_3) = s.main_v64_3
  count : V (Proc.devRef .tc main_v64_5) = constantI S_ 32 (BitVec.ofNat 32 j)
  tril : V (Proc.devRef .tc main_v64_4) = K_main_v53 (F := F)

variable {V : Valuation τ sig (Elt F)} {s : State F} {j : ℕ}

theorem turn_state (h : Tracks V s j) : step_main_v64_6 V = (step j s).main_v64_6 := by
  unfold step_main_v64_6 res_main_while0b_v95 res_main_while0b_v96 res_main_while0b_v112 res_main_while0b_v98
  rw [h.state, h.ks, h.vs, h.lfs, h.count]
  rfl

theorem turn_outs (h : Tracks V s j) : step_main_v64_7 V = (step j s).main_v64_7 := by
  unfold step_main_v64_7 res_main_while0b_v100 res_main_while0b_v95 res_main_while0b_v96 res_main_while0b_v98
  rw [h.state, h.outs, h.qs, h.ks, h.vs, h.lfs, h.count, h.tril]
  rfl

theorem turn_count (h : Tracks V s j) : step_main_v64_5 V = constantI S_ 32 (BitVec.ofNat 32 (j + 1)) := by
  unfold step_main_v64_5
  rw [h.count]
  funext i
  exact (BitVec.ofNat_add j 1).symm

theorem Tracks.turn (h : Tracks V s j) : Tracks (STEP V) (step j s) (j + 1) :=
  { state := (STEP_main_v64_6 V).trans (turn_state h)
    outs := (STEP_main_v64_7 V).trans (turn_outs h)
    qs := (STEP_main_v64_0 V).trans h.qs
    ks := (STEP_main_v64_1 V).trans h.ks
    vs := (STEP_main_v64_2 V).trans h.vs
    lfs := (STEP_main_v64_3 V).trans h.lfs
    count := (STEP_main_v64_5 V).trans (turn_count h)
    tril := (STEP_main_v64_4 V).trans h.tril }

variable (m : (ℓ : Loc nD τ sig) → Buf (Elt F) ℓ) (c : Dev nD)

/-- The record after `n` turns. -/
def turns (a0 : (⟨S16384x5120, .f32⟩ : BufTy).Contents (Elt F)) (a1 : (⟨S2x1024, .f32⟩ : BufTy).Contents (Elt F)) : ℕ → State F
  | 0 => init a0 a1
  | n + 1 => step n (turns a0 a1 n)

set_option maxRecDepth 65536 in
set_option maxHeartbeats 500000 in
theorem tracks_start : Tracks (entryContents preI m c) (init (m ((c.tc : Thread nD τ).loc main_arg0)) (m ((c.tc : Thread nD τ).loc main_arg1))) 0 := by
  constructor <;> (simp only [entryContents, afterL_cons, afterL_nil]; after_reads_simp) <;> rfl

theorem tracks_turns : ∀ n, Tracks (STEP^[n] (entryContents preI m c)) (turns (m ((c.tc : Thread nD τ).loc main_arg0)) (m ((c.tc : Thread nD τ).loc main_arg1)) n) n
  | 0 => tracks_start m c
  | n + 1 => by
    rw [Function.iterate_succ_apply']
    exact (tracks_turns n).turn

theorem out_eq (h : Tracks V s j) {a0 : (⟨S16384x5120, .f32⟩ : BufTy).Contents (Elt F)} (h0 : V (Proc.devRef .tc main_arg0) = a0)
    {a2 : (⟨S1x1024, .f32⟩ : BufTy).Contents (Elt F)} (h2 : V (Proc.devRef .tc main_arg2) = a2) : out_main_v93 V = R_main_v93 s a0 a2 := by
  unfold out_main_v93
  rw [h.outs, h0, h2]
  rfl

/-- Every execution of the reference ends with its results at the fields of the record after 32 turns. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v93)
          = R_main_v93 (turns (m ((c.tc : Thread nD τ).loc main_arg0)) (m ((c.tc : Thread nD τ).loc main_arg1)) 32)
              (m ((c.tc : Thread nD τ).loc main_arg0)) (m ((c.tc : Thread nD τ).loc main_arg2))
      ∧ r.2.mem ((c.tc : Thread nD τ).loc main_v64_6)
          = (turns (m ((c.tc : Thread nD τ).loc main_arg0)) (m ((c.tc : Thread nD τ).loc main_arg1)) 32).main_v64_6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have hk := tracks_turns m c 32
    ⟨(h c).1.trans (out_eq hk (iter_main_arg0 m c 32) (iter_main_arg2 m c 32)), (h c).2.1.trans hk.state, (h c).2.2⟩) (Value.run m ρ)

end Cert.ReferenceIdeal.Turns

end
-- ==== Proof.HgrnWin.lean ====
/-
  A float cumulative sum at an index, over the extended reals: the window's fold is a sum over the rows up to and including
  the row itself.
-/
module

public import Idealize.ShloMosaic.Lib.Pointwise
public import Idealize.ShloMosaic.Lib.Pipeline.ValueKit

@[expose] public section

set_option maxRecDepth 16384

noncomputable section

namespace Hgrn

open Idealize.ShloMosaic

theorem foldl_sum {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

/-- A windowed sum from zero, at an index: the sum over the window's positions, those in the padding left out. -/
theorem window_sum {s t u : Shape} (window strides lo hi : Fin s.rank → Nat) (x : FVec Ideal s .f32) (init : u.Idx → Ideal .f32)
    (h : s.ReduceWindows window strides lo hi t) (hu : 0 < u.numel) (h0 : init (Shape.Idx.first hu) = (0 : EReal)) (j : t.Idx) :
    Host.reduceWindowAdd window strides lo hi x init h hu j
      = ∑ w : (Shape.mk s.rank window).Idx,
          (if hin : ∀ a, lo a ≤ (j (a.cast h.1.symm)).val * strides a + (w a).val
              ∧ (j (a.cast h.1.symm)).val * strides a + (w a).val - lo a < s.size a
            then (x fun a => ⟨(j (a.cast h.1.symm)).val * strides a + (w a).val - lo a, (hin a).2⟩ : EReal) else 0) := by
  have e : Host.reduceWindowAdd window strides lo hi x init h hu = Host.reduceWindow (fun a b : EReal => a + b) window strides lo hi x init h hu := rfl
  rw [e]
  unfold Host.reduceWindow
  dsimp only
  rw [foldl_sum, h0, zero_add, ← Fin.sum_univ_def]
  refine Eq.trans (Finset.sum_congr rfl fun n _ => ?_) (Equiv.sum_comp (Shape.mk s.rank window).rowMajor.symm (fun w => (if hin : ∀ a, lo a ≤ (j (a.cast h.1.symm)).val * strides a + (w a).val
              ∧ (j (a.cast h.1.symm)).val * strides a + (w a).val - lo a < s.size a
            then (x fun a => ⟨(j (a.cast h.1.symm)).val * strides a + (w a).val - lo a, (hin a).2⟩ : EReal) else 0)))
  by_cases hin : ∀ a, lo a ≤ (j (a.cast h.1.symm)).val * strides a + ((Shape.mk s.rank window).rowMajor.symm n a).val
      ∧ (j (a.cast h.1.symm)).val * strides a + ((Shape.mk s.rank window).rowMajor.symm n a).val - lo a < s.size a
  · rw [dif_pos hin, dif_pos hin]
  · rw [dif_neg hin, dif_neg hin]

/-- Sixty-four rows counted from the row itself backwards are the rows up to it. -/
theorem back_sum (g : Fin 64 → EReal) (r : Fin 64) :
    (∑ k : Fin 64, if hk : 63 ≤ r.val + k.val ∧ r.val + k.val - 63 < 64 then g ⟨r.val + k.val - 63, hk.2⟩ else 0)
      = ∑ x : Fin 64, if x.val ≤ r.val then g x else 0 := by
  rw [← Finset.sum_filter]
  have e : (∑ k : Fin 64, if hk : 63 ≤ r.val + k.val ∧ r.val + k.val - 63 < 64 then g ⟨r.val + k.val - 63, hk.2⟩ else 0)
      = ∑ k : Fin 64 with 63 ≤ r.val + k.val, g ⟨(r.val + k.val - 63) % 64, Nat.mod_lt _ (by decide)⟩ := by
    rw [Finset.sum_filter]
    refine Finset.sum_congr rfl fun k _ => ?_
    by_cases h1 : 63 ≤ r.val + k.val
    · have h2 : r.val + k.val - 63 < 64 := by omega
      rw [dif_pos ⟨h1, h2⟩, if_pos h1]
      congr 2
      omega
    · rw [dif_neg (fun h => h1 h.1), if_neg h1]
  rw [e]
  refine Finset.sum_nbij' (fun k : Fin 64 => (⟨(r.val + k.val - 63) % 64, Nat.mod_lt _ (by decide)⟩ : Fin 64))
    (fun x : Fin 64 => (⟨(x.val + 63 - r.val) % 64, Nat.mod_lt _ (by decide)⟩ : Fin 64)) ?_ ?_ ?_ ?_ ?_
  all_goals intro a ha
  all_goals simp only [Finset.mem_filter, Finset.mem_univ, true_and] at ha ⊢
  · omega
  · omega
  · exact Fin.ext (by show ((r.val + a.val - 63) % 64 + 63 - r.val) % 64 = a.val; omega)
  · exact Fin.ext (by show (r.val + (a.val + 63 - r.val) % 64 - 63) % 64 = a.val; omega)

end Hgrn

end
-- ==== Proof.HgrnRef.lean ====
/-
  One turn of the reference's host loop at an index: the sixty-four rows of a chunk at one batch and one head.
-/
module

public import proofs.«01_k».proof.Proof.HgrnRefRun
public import proofs.«01_k».proof.Proof.HgrnHead
public import proofs.«01_k».proof.Proof.HgrnWin

@[expose] public section

set_option maxRecDepth 16384

noncomputable section

namespace Cert.ReferenceIdeal.Turns

open Idealize.ShloMosaic Cert.ReferenceIdeal Cert.ReferenceIdeal.Gen
open Cert.ReferenceIdeal.Step

/-- The starts of turn `j`'s slices: chunk `j`, whole along every other axis. -/
theorem start_eq (j : Fin 32) (h : S1x8x64x8x128.rank = S32x8x64x8x128.rank) : ∀ a : Fin 5,
    Host.clampedStart S32x8x64x8x128 S1x8x64x8x128 h
      (fun k => BitVec.toInt ((![constantI S_ 32 (BitVec.ofNat 32 j.val), constantI S_ 32 0#32, constantI S_ 32 0#32,
        constantI S_ 32 0#32, constantI S_ 32 0#32] : Fin 5 → IVec S_ 32) k (Shape.Idx.first h_S_))) a
      = (![j.val, 0, 0, 0, 0] : Fin 5 → ℕ) a := by
  revert j h
  decide +kernel

theorem cum_apply (s : State Ideal) (j : Fin 32) (b : Fin 8) (r : Fin 64) (h : Fin 8) (d : Fin 128) :
    b26 j.val s (ix4 b r h d) = Hgrn.cum (fun x d => b23 j.val s (ix4 b x h d)) r d := by
  have h0 : b25 j.val s (Shape.Idx.first h_S_) = (0 : EReal) := by
    unfold b25 b24; pointwise
  unfold b26
  generalize b23 j.val s = x
  rw [Hgrn.window_sum _ _ _ _ _ _ _ _ h0]
  unfold Hgrn.cum
  rw [← Hgrn.back_sum]
  refine (sum_idx4 (n0 := 1) (n1 := 64) (n2 := 1) (n3 := 1) _).trans ?_
  rw [Fin.sum_univ_one]
  refine Finset.sum_congr rfl fun k _ => ?_
  rw [Fin.sum_univ_one, Fin.sum_univ_one]
  by_cases hk : 63 ≤ r.val + k.val ∧ r.val + k.val - 63 < 64
  · rw [dif_pos hk, dif_pos]
    · refine congrArg x (funext fun a => Fin.ext ?_)
      match a with
      | ⟨0, _⟩ => show b.val * 1 + 0 - 0 = b.val; omega
      | ⟨1, _⟩ => show r.val * 1 + k.val - 63 = r.val + k.val - 63; omega
      | ⟨2, _⟩ => show h.val * 1 + 0 - 0 = h.val; omega
      | ⟨3, _⟩ => show d.val * 1 + 0 - 0 = d.val; omega
    · intro a
      match a with
      | ⟨0, _⟩ => show 0 ≤ b.val * 1 + 0 ∧ b.val * 1 + 0 - 0 < 8; omega
      | ⟨1, _⟩ => show 63 ≤ r.val * 1 + k.val ∧ r.val * 1 + k.val - 63 < 64; omega
      | ⟨2, _⟩ => show 0 ≤ h.val * 1 + 0 ∧ h.val * 1 + 0 - 0 < 8; omega
      | ⟨3, _⟩ => show 0 ≤ d.val * 1 + 0 ∧ d.val * 1 + 0 - 0 < 128; omega
  · rw [dif_neg hk, dif_neg]
    intro hin
    have h1 : 63 ≤ r.val * 1 + k.val ∧ r.val * 1 + k.val - 63 < 64 := hin 1
    omega

/-- A slice at turn `j`, the chunk axis dropped: chunk `j`. -/
theorem slice_apply (x : Vec Ideal S32x8x64x8x128 .f32) (j : Fin 32) (b : Fin 8) (r : Fin 64) (h : Fin 8) (d : Fin 128) :
    shapeCast S8x64x8x128 (Host.dynamicSlice S1x8x64x8x128 x (fun k => BitVec.toInt ((![constantI S_ 32 (BitVec.ofNat 32 j.val), constantI S_ 32 0#32, constantI S_ 32 0#32,
        constantI S_ 32 0#32, constantI S_ 32 0#32] : Fin 5 → IVec S_ 32) k (Shape.Idx.first h_S_))) sliceFits_S32x8x64x8x128_S1x8x64x8x128)
      shapeCasts_S1x8x64x8x128_S8x64x8x128 (ix4 b r h d) = x (ix5 j b r h d) := by
  have e := start_eq j rfl
  revert e
  generalize (fun k => BitVec.toInt ((![constantI S_ 32 (BitVec.ofNat 32 j.val), constantI S_ 32 0#32, constantI S_ 32 0#32,
        constantI S_ 32 0#32, constantI S_ 32 0#32] : Fin 5 → IVec S_ 32) k (Shape.Idx.first h_S_))) = st
  intro e
  have e0 : Host.clampedStart S32x8x64x8x128 S1x8x64x8x128 rfl st 0 = j.val := e 0
  have e1 : Host.clampedStart S32x8x64x8x128 S1x8x64x8x128 rfl st 1 = 0 := e 1
  have e2 : Host.clampedStart S32x8x64x8x128 S1x8x64x8x128 rfl st 2 = 0 := e 2
  have e3 : Host.clampedStart S32x8x64x8x128 S1x8x64x8x128 rfl st 3 = 0 := e 3
  have e4 : Host.clampedStart S32x8x64x8x128 S1x8x64x8x128 rfl st 4 = 0 := e 4
  pointwise
  simp only [e0, e1, e2, e3, e4, Nat.zero_add]

theorem q_apply (s : State Ideal) (j : Fin 32) (b : Fin 8) (r : Fin 64) (h : Fin 8) (d : Fin 128) :
    b5 j.val s (ix4 b r h d) = s.main_v64_0 (ix5 j b r h d) := slice_apply s.main_v64_0 j b r h d

theorem k_apply (s : State Ideal) (j : Fin 32) (b : Fin 8) (r : Fin 64) (h : Fin 8) (d : Fin 128) :
    b11 j.val s (ix4 b r h d) = s.main_v64_1 (ix5 j b r h d) := slice_apply s.main_v64_1 j b r h d

theorem v_apply (s : State Ideal) (j : Fin 32) (b : Fin 8) (r : Fin 64) (h : Fin 8) (d : Fin 128) :
    b17 j.val s (ix4 b r h d) = s.main_v64_2 (ix5 j b r h d) := slice_apply s.main_v64_2 j b r h d

theorem l_apply (s : State Ideal) (j : Fin 32) (b : Fin 8) (r : Fin 64) (h : Fin 8) (d : Fin 128) :
    b23 j.val s (ix4 b r h d) = s.main_v64_3 (ix5 j b r h d) := slice_apply s.main_v64_3 j b r h d

/-- The new state of turn `j`, from its chunk. -/
theorem state_apply (s : State Ideal) (j : Fin 32) (b h : Fin 8) (d e : Fin 128) :
    b55 j.val s (ix4 b h d e)
      = Hgrn.nextC (fun r d => b11 j.val s (ix4 b r h d)) (fun r d => b17 j.val s (ix4 b r h d))
          (fun r d => b23 j.val s (ix4 b r h d)) (fun d e => s.main_v64_6 (ix4 b h d e)) d e := by
  have hc := fun r d => cum_apply s j b r h d
  unfold b55 b53 b54 b52 b51 b50 b49 b48 b47 b46 b45 b44 b43
  revert hc
  generalize b26 j.val s = C
  generalize b11 j.val s = K
  generalize b17 j.val s = W
  generalize b23 j.val s = L
  generalize s.main_v64_6 = S
  intro hc
  pointwise
  unfold Hgrn.nextC
  have h63 : C (ix4 b (63 : Fin 64) h d) = Hgrn.tot (fun x d => L (ix4 b x h d)) d := by
    rw [hc]
    unfold Hgrn.cum Hgrn.tot
    exact Finset.sum_congr rfl fun x _ => if_pos (by show x.val ≤ 63; omega)
  rw [h63]
  simp only [hc]
  congr 1
  · exact mul_comm _ _
  · exact Finset.sum_congr rfl fun x _ => mul_comm _ _

/-- The lower triangle of a chunk. -/
theorem tril_apply (r x : Fin 64) : K_main_v53 (F := Ideal) (ix2 r x) = if x.val ≤ r.val then 1#1 else 0#1 := by
  unfold K_main_v53 K_main_call2_v4 K_main_call2_v2 K_main_call2_v0 K_main_call2_v1 K_main_call2_c K_main_call2_v3 K_main_v52 K_main_c K_main_call2_v5 K_main_call2_c_0
  revert r x
  pointwise
  decide +kernel

theorem select_if (P : Prop) [Decidable P] (a b : EReal) :
    Scalar.select (if P then 1#1 else 0#1) a b = if P then a else b := by
  unfold Scalar.select
  by_cases h : P
  · rw [if_pos h, if_pos h]; exact if_pos rfl
  · rw [if_neg h, if_neg h]; exact if_neg (by decide)

/-- The rows turn `j` puts out, from its chunk. -/
theorem rows_apply (s : State Ideal) (j : Fin 32) (b : Fin 8) (r : Fin 64) (h : Fin 8) (e : Fin 128) :
    b42 j.val s (ix4 b r h e)
      = Hgrn.outC (fun r d => b5 j.val s (ix4 b r h d)) (fun r d => b11 j.val s (ix4 b r h d)) (fun r d => b17 j.val s (ix4 b r h d))
          (fun r d => b23 j.val s (ix4 b r h d)) (fun d e => s.main_v64_6 (ix4 b h d e)) r e := by
  have hc := fun r d => cum_apply s j b r h d
  unfold b42 b41 b40 b39 b38 b37 b36 b35 b34 b33 b32 b31 b30 b29 b28 b27
  revert hc
  generalize b26 j.val s = C
  generalize b11 j.val s = K
  generalize b17 j.val s = W
  generalize b23 j.val s = L
  generalize b5 j.val s = Q
  generalize s.main_v64_6 = S
  intro hc
  pointwise
  unfold Hgrn.outC
  simp only [hc]
  congr 1
  · refine Finset.sum_congr rfl fun x _ => ?_
    rw [tril_apply, mul_comm, select_if]
    by_cases hx : x.val ≤ r.val
    · rw [if_pos hx, if_pos hx]
    · rw [if_neg hx, if_neg hx, zero_mul]
  · exact Finset.sum_congr rfl fun x _ => mul_comm _ _

variable (a0 : Vec Ideal S16384x5120 .f32) (a1 : Vec Ideal S2x1024 .f32)

theorem first_row (x : FVec Ideal S2x1024 .f32) (i : Fin 1024) :
    Host.reduceWindowAdd ![2, 1] ![1, 1] ![1, 0] ![0, 0] x (K_main_call0_call0_v0 (F := Ideal)) reduceWindows_S2x1024_S2x1024_w2s1p1_0_w1s1p0_0 h_S_ (ix2 0 i)
      = x (ix2 0 i) := by
  have h0 : (K_main_call0_call0_v0 (F := Ideal)) (Shape.Idx.first h_S_) = (0 : EReal) := by
    unfold K_main_call0_call0_v0 K_main_call0_call0_cst; pointwise
  rw [Hgrn.window_sum _ _ _ _ _ _ _ _ h0]
  refine (sum_idx2 (n0 := 2) (n1 := 1) _).trans ?_
  rw [Fin.sum_univ_two, Fin.sum_univ_one, Fin.sum_univ_one, dif_neg, dif_pos, zero_add]
  · refine congrArg x (funext fun a => Fin.ext ?_)
    match a with
    | ⟨0, _⟩ => rfl
    | ⟨1, _⟩ => show i.val * 1 + 0 - 0 = i.val; omega
  · intro a
    match a with
    | ⟨0, _⟩ => show 1 ≤ 0 * 1 + 1 ∧ 0 * 1 + 1 - 1 < 2; omega
    | ⟨1, _⟩ => show 0 ≤ i.val * 1 + 0 ∧ i.val * 1 + 0 - 0 < 1024; omega
  · intro hin
    have h1 : 1 ≤ 0 * 1 + 0 ∧ _ := hin 0
    omega

/-- The lower bound, a column's: the first of two softmax weights. -/
theorem low_apply (i : Fin 1024) : A_main_v13 a0 a1 (ix1 i) = Hgrn.lower (a1 (ix2 0 i)) (a1 (ix2 1 i)) := by
  unfold A_main_v13 A_main_v12
  have h : ∀ i, A_main_v11 a0 a1 (ix2 0 i) = A_main_v10 a0 a1 (ix2 0 i) := first_row (A_main_v10 a0 a1)
  revert h
  generalize A_main_v11 a0 a1 = y
  intro h
  pointwise
  rw [h]
  unfold A_main_v10 A_main_v9 A_main_v8 A_main_v7 A_main_v6 A_main_v5 A_main_v4 A_main_v3 A_main_v2 A_main_v0 K_main_v1 K_main_cst K_main_cst_0 K_main_cst_1
  pointwise
  have hm : Finset.fold max (⊥ : EReal) (fun x : Fin 2 => a1 (ix2 x i)) Finset.univ = max (a1 (ix2 0 i)) (a1 (ix2 1 i)) := by
    rw [show (Finset.univ : Finset (Fin 2)) = {0, 1} from rfl]
    simp
  rw [Hgrn.neg_inf, hm, max_eq_right bot_le, Fin.sum_univ_two]
  rfl

theorem init_q (j : Fin 32) (b : Fin 8) (r : Fin 64) (h : Fin 8) (d : Fin 128) :
    A_main_v56 a0 a1 (ix5 j b r h d) = Hgrn.chunk (Hgrn.qOf (Hgrn.seg a0 0 b h)) j r d := by
  unfold A_main_v56 A_main_v55 A_main_v21 A_main_v20 A_main_call1_v5 A_main_call1_v3 A_main_call1_v1 A_main_call1_v0 A_main_v15 A_main_v14
    K_main_call1_v4 K_main_call1_v2 K_main_call1_cst K_main_call1_cst_0
  pointwise
  rw [Hgrn.seg_at a0 0 b h (Hgrn.rowOf j r) d (by unfold Hgrn.rowOf; simp; omega) (by simp; omega)]
  rfl

theorem init_v (j : Fin 32) (b : Fin 8) (r : Fin 64) (h : Fin 8) (d : Fin 128) :
    A_main_v60 a0 a1 (ix5 j b r h d) = Hgrn.chunk (Hgrn.seg a0 2 b h) j r d := by
  unfold A_main_v60 A_main_v59 A_main_v51 A_main_v19 A_main_v18
  pointwise
  rw [Hgrn.seg_at a0 2 b h (Hgrn.rowOf j r) d (by unfold Hgrn.rowOf; simp; omega) (by simp; omega)]
  rfl

theorem low_head (h : Fin 8) (d : Fin 128) {i : Fin 1024} (hi : i.val = 128 * h.val + d.val) :
    A_main_v13 a0 a1 (ix1 i) = Hgrn.lbOf a1 h d := by
  rw [low_apply]
  rw [show i = ⟨128 * h.val + d.val, by omega⟩ from Fin.ext hi]
  rfl

theorem init_k (j : Fin 32) (b : Fin 8) (r : Fin 64) (h : Fin 8) (d : Fin 128) :
    A_main_v58 a0 a1 (ix5 j b r h d) = Hgrn.chunk (Hgrn.kOf (Hgrn.lbOf a1 h) (Hgrn.seg a0 1 b h)) j r d := by
  unfold A_main_v58 A_main_v57 A_main_v48 A_main_v47 A_main_v46 A_main_v45 A_main_v44 A_main_v42 A_main_v40 A_main_v39 A_main_v38 A_main_v37 A_main_v17 A_main_v16
    K_main_v36 K_main_v41 K_main_v43 K_main_cst_5 K_main_cst_6 K_main_cst_7
  have hl := low_head a0 a1 h d (i := ⟨h.val * 128 + d.val, by omega⟩) (by simp; omega)
  revert hl
  generalize A_main_v13 a0 a1 = l
  intro hl
  pointwise
  rw [Hgrn.seg_at a0 1 b h (Hgrn.rowOf j r) d (by unfold Hgrn.rowOf; simp; omega) (by simp; omega), hl]
  rfl

theorem init_l (j : Fin 32) (b : Fin 8) (r : Fin 64) (h : Fin 8) (d : Fin 128) :
    A_main_v62 a0 a1 (ix5 j b r h d) = Hgrn.chunk (Hgrn.lOf (Hgrn.lbOf a1 h) (Hgrn.seg a0 1 b h)) j r d := by
  unfold A_main_v62 A_main_v61 A_main_v50 A_main_v49 A_main_v35 A_main_v34 A_main_v33 A_main_v32 A_main_v31 A_main_v30 A_main_v29 A_main_v27 A_main_v25 A_main_v24 A_main_v23 A_main_v17 A_main_v16
    K_main_v22 K_main_v26 K_main_v28 K_main_cst_2 K_main_cst_3 K_main_cst_4
  have hl := low_head a0 a1 h d (i := ⟨h.val * 128 + d.val, by omega⟩) (by simp; omega)
  revert hl
  generalize A_main_v13 a0 a1 = l
  intro hl
  pointwise
  rw [Hgrn.seg_at a0 1 b h (Hgrn.rowOf j r) d (by unfold Hgrn.rowOf; simp; omega) (by simp; omega), hl]
  rfl

/-- No turn changes the four chunked operands. -/
theorem kept (n : ℕ) : (turns a0 a1 n).main_v64_0 = A_main_v56 a0 a1 ∧ (turns a0 a1 n).main_v64_1 = A_main_v58 a0 a1
    ∧ (turns a0 a1 n).main_v64_2 = A_main_v60 a0 a1 ∧ (turns a0 a1 n).main_v64_3 = A_main_v62 a0 a1 := by
  induction n with
  | zero => exact ⟨rfl, rfl, rfl, rfl⟩
  | succ n ih => exact ih

theorem q_turn (j : Fin 32) (b h : Fin 8) : (fun r d => b5 j.val (turns a0 a1 j.val) (ix4 b r h d)) = Hgrn.chunk (Hgrn.qOf (Hgrn.seg a0 0 b h)) j := by
  funext r d
  rw [q_apply, (kept a0 a1 _).1, init_q]

theorem k_turn (j : Fin 32) (b h : Fin 8) : (fun r d => b11 j.val (turns a0 a1 j.val) (ix4 b r h d))
    = Hgrn.chunk (Hgrn.kOf (Hgrn.lbOf a1 h) (Hgrn.seg a0 1 b h)) j := by
  funext r d
  rw [k_apply, (kept a0 a1 _).2.1, init_k]

theorem v_turn (j : Fin 32) (b h : Fin 8) : (fun r d => b17 j.val (turns a0 a1 j.val) (ix4 b r h d)) = Hgrn.chunk (Hgrn.seg a0 2 b h) j := by
  funext r d
  rw [v_apply, (kept a0 a1 _).2.2.1, init_v]

theorem l_turn (j : Fin 32) (b h : Fin 8) : (fun r d => b23 j.val (turns a0 a1 j.val) (ix4 b r h d))
    = Hgrn.chunk (Hgrn.lOf (Hgrn.lbOf a1 h) (Hgrn.seg a0 1 b h)) j := by
  funext r d
  rw [l_apply, (kept a0 a1 _).2.2.2, init_l]

/-- The state before turn `n`. -/
theorem state_turns (b h : Fin 8) : ∀ n : ℕ, n ≤ 32 → ∀ d e : Fin 128, (turns a0 a1 n).main_v64_6 (ix4 b h d e)
    = Hgrn.headState (Hgrn.lbOf a1 h) (Hgrn.seg a0 1 b h) (Hgrn.seg a0 2 b h) n d e
  | 0, _, d, e => by
    show K_main_v54 (F := Ideal) (ix4 b h d e) = 0
    unfold K_main_v54 K_main_cst_8
    pointwise
  | n + 1, hn, d, e => by
    have hs := state_apply (turns a0 a1 n) ⟨n, hn⟩ b h d e
    have ih : (fun d e => (turns a0 a1 n).main_v64_6 (ix4 b h d e)) = Hgrn.headState (Hgrn.lbOf a1 h) (Hgrn.seg a0 1 b h) (Hgrn.seg a0 2 b h) n :=
      funext fun d => funext fun e => state_turns b h n (by omega) d e
    have hk := k_turn a0 a1 ⟨n, hn⟩ b h
    have hv := v_turn a0 a1 ⟨n, hn⟩ b h
    have hl := l_turn a0 a1 ⟨n, hn⟩ b h
    dsimp only at hk hv hl hs
    rw [hk, hv, hl, ih] at hs
    refine Eq.trans ?_ (hs.trans ?_)
    · exact congrFun (step_main_v64_6 n (turns a0 a1 n)) _
    · exact (congrFun (congrFun (Hgrn.stateAt_succ _ _ _ ⟨n, hn⟩) d) e).symm

/-- Writing turn `j`'s rows: chunk `j` becomes them, every other chunk stays. -/
theorem write_apply (x : Vec Ideal S32x8x64x8x128 .f32) (y : Vec Ideal S1x8x64x8x128 .f32) (j i : Fin 32) (b : Fin 8) (r : Fin 64) (h : Fin 8) (d : Fin 128) :
    Host.dynamicUpdateSlice x y (fun k => BitVec.toInt ((![constantI S_ 32 (BitVec.ofNat 32 j.val), constantI S_ 32 0#32, constantI S_ 32 0#32,
        constantI S_ 32 0#32, constantI S_ 32 0#32] : Fin 5 → IVec S_ 32) k (Shape.Idx.first h_S_))) updateFits_S32x8x64x8x128_S1x8x64x8x128
      (ix5 i b r h d) = if i = j then y (ix5 0 b r h d) else x (ix5 i b r h d) := by
  have e := start_eq j rfl
  revert e
  generalize (fun k => BitVec.toInt ((![constantI S_ 32 (BitVec.ofNat 32 j.val), constantI S_ 32 0#32, constantI S_ 32 0#32,
        constantI S_ 32 0#32, constantI S_ 32 0#32] : Fin 5 → IVec S_ 32) k (Shape.Idx.first h_S_))) = st
  intro e
  have e0 : Host.clampedStart S32x8x64x8x128 S1x8x64x8x128 rfl st 0 = j.val := e 0
  have e1 : Host.clampedStart S32x8x64x8x128 S1x8x64x8x128 rfl st 1 = 0 := e 1
  have e2 : Host.clampedStart S32x8x64x8x128 S1x8x64x8x128 rfl st 2 = 0 := e 2
  have e3 : Host.clampedStart S32x8x64x8x128 S1x8x64x8x128 rfl st 3 = 0 := e 3
  have e4 : Host.clampedStart S32x8x64x8x128 S1x8x64x8x128 rfl st 4 = 0 := e 4
  pointwise
  by_cases hij : i = j
  · subst hij
    rw [dif_pos (by omega), if_pos rfl]
    refine congrArg y ?_
    idx_ext <;> simp <;> omega
  · rw [dif_neg (fun hh => hij (Fin.ext (by omega))), if_neg hij]

theorem result_apply (s : State Ideal) (a2 : Vec Ideal S1x1024 .f32) (b : Fin 8) (j : Fin 32) (r : Fin 64) (h : Fin 8) (e : Fin 128)
    {x : Fin 16384} {y : Fin 1024} (hx : x.val = 2048 * b.val + (64 * j.val + r.val)) (hy : y.val = 128 * h.val + e.val) :
    R_main_v93 s a0 a2 (ix2 x y) = Hgrn.normed (fun d => s.main_v64_7 (ix5 j b r h d)) (Hgrn.wOf a2 h e) (Hgrn.seg a0 3 b h (Hgrn.rowOf j r) e) e := by
  unfold R_main_v93
  generalize s.main_v64_7 = o
  have g1 : ∀ p, (⟨x.val % 2048 / 64, p⟩ : Fin 32) = j := fun p => Fin.ext (by show x.val % 2048 / 64 = j.val; omega)
  have g2 : ∀ p, (⟨x.val / 2048, p⟩ : Fin 8) = b := fun p => Fin.ext (by show x.val / 2048 = b.val; omega)
  have g3 : ∀ p, (⟨x.val % 2048 % 64, p⟩ : Fin 64) = r := fun p => Fin.ext (by show x.val % 2048 % 64 = r.val; omega)
  have g4 : ∀ p, (⟨y.val / 128, p⟩ : Fin 8) = h := fun p => Fin.ext (by show y.val / 128 = h.val; omega)
  have g5 : ∀ p, (⟨y.val % 128, p⟩ : Fin 128) = e := fun p => Fin.ext (by show y.val % 128 = e.val; omega)
  have g6 : y = ⟨128 * h.val + e.val, by omega⟩ := Fin.ext hy
  have g7 : a2 (ix2 0 y) = Hgrn.wOf a2 h e := congrArg a2 (congrArg (ix2 0) g6)
  have g8 : ∀ z : Fin 5120, z.val = 3072 + y.val → a0 (ix2 x z) = Hgrn.seg a0 3 b h (Hgrn.rowOf j r) e := fun z hz =>
    Hgrn.seg_at a0 3 b h (Hgrn.rowOf j r) e hx (by rw [hz, hy]; show _ = 1024 * 3 + _ + _; omega)
  have g9 := g8 ⟨3072 + y.val, by omega⟩ rfl
  pointwise
  simp only [g1, g2, g3, g4, g5]
  rw [g7, g9]
  rfl

/-- The rows written by the turns before turn `n`. -/
theorem rows_turns (b h : Fin 8) : ∀ n : ℕ, n ≤ 32 → ∀ (i : Fin 32) (r : Fin 64) (e : Fin 128), i.val < n →
    (turns a0 a1 n).main_v64_7 (ix5 i b r h e)
      = Hgrn.headRow (Hgrn.lbOf a1 h) (Hgrn.seg a0 0 b h) (Hgrn.seg a0 1 b h) (Hgrn.seg a0 2 b h) (Hgrn.rowOf i r) e
  | 0, _, i, r, e, hi => absurd hi (Nat.not_lt_zero _)
  | n + 1, hn, i, r, e, hi => by
    refine (congrFun (step_main_v64_7 n (turns a0 a1 n)) _).trans ?_
    refine (write_apply (turns a0 a1 n).main_v64_7 (b56 n (turns a0 a1 n)) ⟨n, hn⟩ i b r h e).trans ?_
    by_cases hin : i = ⟨n, hn⟩
    · rw [if_pos hin]
      subst hin
      have hs := rows_apply (turns a0 a1 n) ⟨n, hn⟩ b r h e
      have ih : (fun d e => (turns a0 a1 n).main_v64_6 (ix4 b h d e)) = Hgrn.headState (Hgrn.lbOf a1 h) (Hgrn.seg a0 1 b h) (Hgrn.seg a0 2 b h) n :=
        funext fun d => funext fun e => state_turns a0 a1 b h n (by omega) d e
      have hq := q_turn a0 a1 ⟨n, hn⟩ b h
      have hk := k_turn a0 a1 ⟨n, hn⟩ b h
      have hv := v_turn a0 a1 ⟨n, hn⟩ b h
      have hl := l_turn a0 a1 ⟨n, hn⟩ b h
      dsimp only at hq hk hv hl hs
      rw [hq, hk, hv, hl, ih] at hs
      have hb : b56 n (turns a0 a1 n) (ix5 0 b r h e) = b42 n (turns a0 a1 n) (ix4 b r h e) := by
        unfold b56
        generalize b42 n (turns a0 a1 n) = z
        pointwise
      rw [hb, hs]
      unfold Hgrn.headRow Hgrn.outAt
      have f1 : ∀ p, (⟨(Hgrn.rowOf ⟨n, hn⟩ r).val / 64, p⟩ : Fin 32) = ⟨n, hn⟩ := fun p => Fin.ext (by show (64 * n + r.val) / 64 = n; omega)
      have f2 : ∀ p, (⟨(Hgrn.rowOf ⟨n, hn⟩ r).val % 64, p⟩ : Fin 64) = r := fun p => Fin.ext (by show (64 * n + r.val) % 64 = r.val; omega)
      rw [f1, f2]
      rfl
    · rw [if_neg hin]
      exact rows_turns b h n (by omega) i r e (by have : i.val ≠ n := fun hh => hin (Fin.ext hh); omega)

/-- The reference's first result, after its thirty-two turns. -/
theorem out_at (a2 : Vec Ideal S1x1024 .f32) (b : Fin 8) (h : Fin 8) (t : Fin 2048) (e : Fin 128)
    {x : Fin 16384} {y : Fin 1024} (hx : x.val = 2048 * b.val + t.val) (hy : y.val = 128 * h.val + e.val) :
    R_main_v93 (turns a0 a1 32) a0 a2 (ix2 x y)
      = Hgrn.headOut (Hgrn.lbOf a1 h) (Hgrn.wOf a2 h) (Hgrn.seg a0 0 b h) (Hgrn.seg a0 1 b h) (Hgrn.seg a0 2 b h) (Hgrn.seg a0 3 b h) t e := by
  obtain ⟨j, r, rfl⟩ : ∃ (j : Fin 32) (r : Fin 64), t = Hgrn.rowOf j r :=
    ⟨⟨t.val / 64, by omega⟩, ⟨t.val % 64, by omega⟩, Fin.ext (by show t.val = 64 * (t.val / 64) + t.val % 64; omega)⟩
  rw [result_apply a0 _ a2 b j r h e hx hy]
  unfold Hgrn.headOut
  congr 1
  funext d
  exact rows_turns a0 a1 b h 32 le_rfl j r d j.isLt

end Cert.ReferenceIdeal.Turns

end
-- ==== Proof.Hgrn.lean ====
/-
  The recurrence's claims: the kernel and its ideal run to the end and leave their arguments, so does the reference, and
  over the extended reals kernel and reference end with the same two arrays.
-/
module

public import proofs.«01_k».proof.Defs
public import proofs.«01_k».proof.Proof.Gen.Kernel.Frame
public import proofs.«01_k».proof.Proof.HgrnArr
public import proofs.«01_k».proof.Proof.HgrnRef
public import Idealize.ShloMosaic.Lib.Claim
public import Idealize.ShloMosaic.Lib.Quiescent

@[expose] public section

set_option maxRecDepth 16384

noncomputable section

namespace Cert.Hg

open Idealize.ShloMosaic Idealize.ShloMosaic.TcCoe Idealize.SL.Sem

theorem frame : Cert.quiescent_KernelIdeal := fun m g _ => Cert.KernelIdeal.Gen.frame m g

theorem frame_bits : Cert.quiescent_Kernel := fun m g _ => Cert.Kernel.Gen.frame m g

theorem frame_ref : Cert.quiescent_ReferenceIdeal := fun m g _ =>
  (θ_run _ _ _).mono (fun r h => ⟨fun c => (h c).2.2, sem_eq_zero_of_no_sems rfl _⟩) (Cert.ReferenceIdeal.Turns.run m g)

theorem same6 (m : (ℓ : Loc Cert.KernelIdeal.nD Cert.KernelIdeal.τ Cert.KernelIdeal.sig) → Buf (Elt Ideal) ℓ) (c : Dev Cert.KernelIdeal.nD) :
    Cert.ReferenceIdeal.Step.R_main_v93 (Cert.ReferenceIdeal.Turns.turns (Cert.KernelIdeal.Hg.proj m c) (Cert.KernelIdeal.Hg.low m c) 32)
        (Cert.KernelIdeal.Hg.proj m c) (Cert.KernelIdeal.Hg.wgt m c)
      = (Cert.KernelIdeal.Gen.dats m 0 c).arrAt 6 Cert.KernelIdeal.cfg0.N := by
  rw [Cert.KernelIdeal.Hg.arr6]
  funext i
  obtain ⟨x, y, rfl⟩ : ∃ (x : Fin 16384) (y : Fin 1024), i = ix2 x y := ⟨i 0, i 1, eq_ix2 i⟩
  exact Cert.ReferenceIdeal.Turns.out_at _ _ _ ⟨x.val / 2048, by omega⟩ ⟨y.val / 128, by omega⟩ ⟨x.val % 2048, by omega⟩ ⟨y.val % 128, by omega⟩
    (by show x.val = 2048 * (x.val / 2048) + x.val % 2048; omega) (by show y.val = 128 * (y.val / 128) + y.val % 128; omega)

theorem same7 (m : (ℓ : Loc Cert.KernelIdeal.nD Cert.KernelIdeal.τ Cert.KernelIdeal.sig) → Buf (Elt Ideal) ℓ) (c : Dev Cert.KernelIdeal.nD) :
    (Cert.ReferenceIdeal.Turns.turns (Cert.KernelIdeal.Hg.proj m c) (Cert.KernelIdeal.Hg.low m c) 32).main_v64_6
      = (Cert.KernelIdeal.Gen.dats m 0 c).arrAt 7 Cert.KernelIdeal.cfg0.N := by
  rw [Cert.KernelIdeal.Hg.arr7]
  funext i
  obtain ⟨b, h, d, e, rfl⟩ : ∃ (b h : Fin 8) (d e : Fin 128), i = ix4 b h d e := ⟨i 0, i 1, i 2, i 3, eq_ix4 i⟩
  exact Cert.ReferenceIdeal.Turns.state_turns _ _ b h 32 le_rfl d e

theorem equal : Cert.algebraic_KernelIdeal_ReferenceIdeal := by
  pair_intro
  · run_from Cert.KernelIdeal.Value.run_blocks m g
  · run_from Cert.ReferenceIdeal.Turns.run m' g'
    · exact same6 m c
    · exact same7 m c

end Cert.Hg

end
-- ==== Proof.FfnRun.lean ====
/- One grid point of the feed-forward kernel. The body has four cases: the first chunk of the first row tile (the halo is cleared), the first chunk of a
   later tile, the chunks between (a down product of the chunk before is added), and the last step (only the down product).
   This module states what each case computes from the blocks it is given. -/
module

public import proofs.«01_k».proof.Proof.Gen.FfnIdeal.Skeleton
public import proofs.«01_k».proof.Proof.Gen.FfnIdeal.Frame
public import Idealize.ShloMosaic.Lib.VecWindow
public import Idealize.ShloMosaic.Lib.Pipeline.ReadBack
public import Idealize.ShloMosaic.Lib.Pipeline.ValueKit

@[expose] public section

set_option maxRecDepth 16384

noncomputable section

namespace Cert.FfnIdeal.Ff

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Chunk `k`'s eight kept rows. -/
def slab (h : Vec F S11x8x512 .f32) (k : ℕ) : Vec F S1x8x512 .f32 :=
  fun y => h (ValueIdx.ix3 ⟨k % 11, Nat.mod_lt _ (by decide)⟩ (y 1) (y 2))

/-- Half `k` of the activation buffer. -/
def half (d : Vec F S2x512x512 .bf16) (k : ℕ) : Vec F S1x512x512 .bf16 :=
  fun y => d (ValueIdx.ix3 ⟨k % 2, Nat.mod_lt _ (by decide)⟩ (y 1) (y 2))

/-- Chunk `k`'s kept rows replaced. -/
def setSlab (h : Vec F S11x8x512 .f32) (k : ℕ) (w : Vec F S1x8x512 .f32) : Vec F S11x8x512 .f32 :=
  VecWindow.put h ![k, 0, 0] S1x8x512.size w

/-- Half `k` of the activation buffer replaced. -/
def setHalf (d : Vec F S2x512x512 .bf16) (k : ℕ) (w : Vec F S1x512x512 .bf16) : Vec F S2x512x512 .bf16 :=
  VecWindow.put d ![k % 2, 0, 0] S1x512x512.size w

/-- A load of a chunk's kept rows reads the slab. -/
theorem window_slab (h : Vec F S11x8x512 .f32) (k : ℕ) (hk : k < 11) (inb : ∀ a, (![k, 0, 0] : Fin 3 → ℕ) a + S1x8x512.size a ≤ S11x8x512.size a) :
    VecWindow.window h ![k, 0, 0] S1x8x512.size inb = slab h k := by
  funext y
  refine congrArg h (funext fun a => Fin.ext ?_)
  have h0 : (y 0).val < 1 := (y 0).isLt
  fin_cases a
  · show k + 1 * (y 0).val = k % 11
    omega
  · show 0 + 1 * (y 1).val = (y 1).val
    omega
  · show 0 + 1 * (y 2).val = (y 2).val
    omega

/-- A load of a half of the activation buffer reads the half. -/
theorem window_half (d : Vec F S2x512x512 .bf16) (k : ℕ) (inb : ∀ a, (![k % 2, 0, 0] : Fin 3 → ℕ) a + S1x512x512.size a ≤ S2x512x512.size a) :
    VecWindow.window d ![k % 2, 0, 0] S1x512x512.size inb = half d k := by
  funext y
  refine congrArg d (funext fun a => Fin.ext ?_)
  have h0 : (y 0).val < 1 := (y 0).isLt
  fin_cases a
  · show k % 2 + 1 * (y 0).val = k % 2
    omega
  · show 0 + 1 * (y 1).val = (y 1).val
    omega
  · show 0 + 1 * (y 2).val = (y 2).val
    omega

/-- A load of a whole buffer. -/
theorem load_all {s : Shape} {e : EltTy} (v : Memref sig .tc .vmem s e) (hv : v.IsWhole) (x : Vec F s e) {off : Fin s.rank → ℕ} (inb : ∀ a, off a + s.size a ≤ s.size a) :
    v.view.readAt (Elt F) (Rect.unit off s.size inb).toLoadRect (hv.unread x) = x := by
  rw [View.readAt_full, hv.read_unread]

/-- A load of a chunk's kept rows. -/
theorem load_slab (v : Memref sig .tc .vmem S11x8x512 .f32) (hv : v.IsWhole) (x : Vec F S11x8x512 .f32) (off : Fin 3 → ℕ) (inb : ∀ a, off a + S1x8x512.size a ≤ S11x8x512.size a)
    (k : ℕ) (e : off = ![k, 0, 0]) : v.view.readAt (Elt F) (Rect.unit (s := S11x8x512) off S1x8x512.size inb).toLoadRect (hv.unread x) = slab x k := by
  subst e
  rw [View.readAt_unit v.view _ inb rfl inb, hv.read_unread]
  exact window_slab x k (by have := inb 0; change k + 1 ≤ 11 at this; omega) inb

/-- A store of a chunk's kept rows. -/
theorem store_slab (v : Memref sig .tc .vmem S11x8x512 .f32) (hv : v.IsWhole) (x : Vec F S11x8x512 .f32) (off : Fin 3 → ℕ) (inb : ∀ a, off a + S1x8x512.size a ≤ S11x8x512.size a)
    (k : ℕ) (e : off = ![k, 0, 0]) (w : Vec F S1x8x512 .f32) :
    v.view.read (Elt F) (v.view.writes (Elt F) (hv.unread x) [⟨Rect.unit (s := S11x8x512) off S1x8x512.size inb, w⟩]) = setSlab x k w := by
  rw [View.read_writes_cons_put v.view _ inb w [] e, View.writes_nil, hv.read_unread]
  rfl

/-- A load of a half of the activation buffer. -/
theorem load_half (v : Memref sig .tc .vmem S2x512x512 .bf16) (f : v.view.ty.Contents (Elt F)) (x : Vec F S2x512x512 .bf16) (hf : v.view.read (Elt F) f = x)
    (off : Fin 3 → ℕ) (inb : ∀ a, off a + S1x512x512.size a ≤ S2x512x512.size a) (k : ℕ) (e : off = ![k % 2, 0, 0]) :
    v.view.readAt (Elt F) (Rect.unit (s := S2x512x512) off S1x512x512.size inb).toLoadRect f = half x k := by
  subst e hf
  rw [View.readAt_unit v.view _ inb rfl inb]
  exact window_half _ k inb

/-- A store of a half of the activation buffer. -/
theorem store_half (v : Memref sig .tc .vmem S2x512x512 .bf16) (hv : v.IsWhole) (x : Vec F S2x512x512 .bf16) (off : Fin 3 → ℕ) (inb : ∀ a, off a + S1x512x512.size a ≤ S2x512x512.size a)
    (k : ℕ) (e : off = ![k % 2, 0, 0]) (w : Vec F S1x512x512 .bf16) :
    v.view.read (Elt F) (v.view.writes (Elt F) (hv.unread x) [⟨Rect.unit (s := S2x512x512) off S1x512x512.size inb, w⟩]) = setHalf x k w := by
  rw [View.read_writes_cons_put v.view _ inb w [] e, View.writes_nil, hv.read_unread]
  rfl

/-- The half just stored. -/
theorem half_setHalf (x : Vec F S2x512x512 .bf16) (k : ℕ) (w : Vec F S1x512x512 .bf16) : half (setHalf x k w) k = w := by
  have inb : ∀ a, (![k % 2, 0, 0] : Fin 3 → ℕ) a + S1x512x512.size a ≤ S2x512x512.size a := fun a => by
    have : k % 2 < 2 := Nat.mod_lt _ (by decide)
    fin_cases a
    · show k % 2 + 1 ≤ 2
      omega
    · exact le_refl _
    · exact le_refl _
  rw [← window_half _ k inb]
  exact VecWindow.window_put_same x _ _ inb w

/-- The other half stays. -/
theorem half_setHalf_succ (x : Vec F S2x512x512 .bf16) (k : ℕ) (w : Vec F S1x512x512 .bf16) : half (setHalf x k w) (k + 1) = half x (k + 1) := by
  have inb : ∀ a, (![(k + 1) % 2, 0, 0] : Fin 3 → ℕ) a + S1x512x512.size a ≤ S2x512x512.size a := fun a => by
    have : (k + 1) % 2 < 2 := Nat.mod_lt _ (by decide)
    fin_cases a
    · show (k + 1) % 2 + 1 ≤ 2
      omega
    · exact le_refl _
    · exact le_refl _
  rw [← window_half _ _ inb, ← window_half _ _ inb]
  exact VecWindow.window_put_of_disjoint x _ _ _ _ inb w 0 (by
    show (k + 1) % 2 + 1 ≤ k % 2 ∨ k % 2 + 1 ≤ (k + 1) % 2
    omega)

/-- What the activation product of a chunk is, from the point's blocks and the chunk's kept rows. -/
def actOf (i : grid0.Coords) (x0 : Vec F S512x2048 .bf16) (x2 x3 : Vec F S2048x512 .bf16) (x5 : Vec F S3x512 .f32) (x6 : Vec F S1x512 .f32)
    (s : Vec F S1x8x512 .f32) : Vec F S1x512x512 .bf16 :=
  k0_pay27 (k0_pay19 x0 x2) (k0_pay20 x0 x3) (k0_pay22 (BitVec.ofNat 32 (i 0).val) x0 x2 s) (k0_pay23 (BitVec.ofNat 32 (i 0).val) x0 x2 s) x5 x6

/-- The output block with the down product of the chunk before added. -/
def downOf (o : Vec F S512x2048 .f32) (a : Vec F S1x512x512 .bf16) (x4 : Vec F S512x2048 .bf16) : Vec F S512x2048 .f32 := k0_pay5 o a x4

set_option maxHeartbeats 4000000 in
/-- A chunk between: the down product of the chunk before is added to the output block, the chunk's activation goes to its half, its last rows are kept. -/
theorem runB (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S3x512 .f32) (harg7 : arg7.IsWhole) (arg8 : Memref sig .tc .vmem S1x512 .f32) (harg8 : arg8.IsWhole) (arg9 : Memref sig .tc .vmem S512x2048 .f32) (harg9 : arg9.IsWhole) (arg10 : Memref sig .tc .vmem S1x8x512 .f32) (harg10 : arg10.IsWhole) (arg11 : Memref sig .tc .vmem S2x512x512 .bf16) (harg11 : arg11.IsWhole) (arg12 : Memref sig .tc .vmem S11x8x512 .f32) (harg12 : arg12.IsWhole)
    (hc0 : ¬k0_cond1 i = 1#1) (hc2 : k0_cond3 i = 1#1) (hc3 : ¬k0_cond4 i = 1#1)
    (x0 : Vec F S512x2048 .bf16) (x1 : Vec F S512x2048 .f32) (x2 : Vec F S2048x512 .bf16) (x3 : Vec F S2048x512 .bf16) (x4 : Vec F S512x2048 .bf16) (x5 : Vec F S3x512 .f32) (x6 : Vec F S1x512 .f32)
    (x7 : Vec F S512x2048 .f32) (xs0 : Vec F S2x512x512 .bf16) (xs1 : Vec F S11x8x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0 ∗ owns (c : Thread nD τ) arg12 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (downOf x7 (half xs0 ((i 1).val + 1)) x4) ∗ owns (c : Thread nD τ) arg10 fullShare (k0_pay24 x0 x2)
            ∗ owns (c : Thread nD τ) arg11 fullShare (setHalf xs0 (i 1).val (actOf i x0 x2 x3 x5 x6 (slab xs1 (i 1).val)))
            ∗ owns (c : Thread nD τ) arg12 fullShare (setSlab xs1 (i 1).val (k0_pay24 x0 x2))) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12) K := by
  simp only [cc0_ffn_eq_skeleton]; unfold cc0_ffn_skel
  simp only [k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0; obtain rfl := harg12.eq_unread hfs1
  sl_exec (disch := first | sl_exact hc0 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    rw [View.read_writes_full]
    unfold runB.sl.r_5 runB.sl.r_6
    rw [load_all arg9 harg9, load_all arg6 harg6]
    unfold runB.sl.HS0_1
    rw [load_half arg11 _ _ (store_half arg11 harg11 _ _ _ _ (k0_off4_eq i) _) _ _ _ (k0_off5_eq i), half_setHalf_succ]
    rfl
  isplitl [H8]
  · iexists _; isplitr; swap; · iexact H8
    ipureintro
    rw [View.read_writes_full]
    unfold runB.sl.r_4
    rw [load_all arg2 harg2, load_all arg4 harg4]
    rfl
  isplitl [HS0]
  · iexists _; isplitr; swap; · iexact HS0
    ipureintro
    unfold runB.sl.HS0_1
    rw [store_half arg11 harg11 _ _ _ _ (k0_off4_eq i)]
    unfold runB.sl.r runB.sl.r_1 runB.sl.r_2 runB.sl.r_3
    rw [load_slab arg12 harg12 _ _ _ _ (k0_off3_eq i)]
    rw [load_all arg2 harg2, load_all arg4 harg4, load_all arg5 harg5, load_all arg7 harg7, load_all arg8 harg8]
    rfl
  iexists _; isplitr; swap; · iexact HS1
  ipureintro
  rw [load_all arg2 harg2, load_all arg4 harg4]
  exact store_slab arg12 harg12 _ _ _ _ (k0_off3_eq i) _

end Cert.FfnIdeal.Ff

end
-- ==== Proof.FfnRunFirst.lean ====
/- The other cases of the feed-forward kernel's body: the first chunk of a row tile, with the halo cleared or not, and the last step. -/
module

public import proofs.«01_k».proof.Proof.FfnRun
public import Idealize.ShloMosaic.Lib.VecWindow
public import Idealize.ShloMosaic.Lib.Pipeline.ReadBack
public import Idealize.ShloMosaic.Lib.Pipeline.ValueKit

@[expose] public section

set_option maxRecDepth 16384

noncomputable section

namespace Cert.FfnIdeal.Ff

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A load of a chunk's kept rows after the halo is filled reads the fill. -/
theorem load_fill (v : Memref sig .tc .vmem S11x8x512 .f32) (f : v.view.ty.Contents (Elt F)) (z : Vec F S11x8x512 .f32) (inb' : ∀ a, (![0, 0, 0] : Fin 3 → ℕ) a + S11x8x512.size a ≤ S11x8x512.size a)
    (off : Fin 3 → ℕ) (inb : ∀ a, off a + S1x8x512.size a ≤ S11x8x512.size a) (k : ℕ) (e : off = ![k, 0, 0]) :
    v.view.readAt (Elt F) (Rect.unit (s := S11x8x512) off S1x8x512.size inb).toLoadRect (v.view.writes (Elt F) f [⟨Rect.unit (s := S11x8x512) ![0, 0, 0] S11x8x512.size inb', z⟩]) = slab z k := by
  subst e
  rw [View.readAt_unit v.view _ inb rfl inb, View.read_writes_full]
  exact window_slab z k (by have := inb 0; change k + 1 ≤ 11 at this; omega) inb

/-- A store of a chunk's kept rows over the filled halo. -/
theorem store_fill (v : Memref sig .tc .vmem S11x8x512 .f32) (f : v.view.ty.Contents (Elt F)) (z : Vec F S11x8x512 .f32) (inb' : ∀ a, (![0, 0, 0] : Fin 3 → ℕ) a + S11x8x512.size a ≤ S11x8x512.size a)
    (off : Fin 3 → ℕ) (inb : ∀ a, off a + S1x8x512.size a ≤ S11x8x512.size a) (k : ℕ) (e : off = ![k, 0, 0]) (w : Vec F S1x8x512 .f32) :
    v.view.read (Elt F) (v.view.writes (Elt F) f [⟨Rect.unit (s := S11x8x512) off S1x8x512.size inb, w⟩, ⟨Rect.unit (s := S11x8x512) ![0, 0, 0] S11x8x512.size inb', z⟩]) = setSlab z k w := by
  rw [View.read_writes_cons_put v.view _ inb w _ e, View.read_writes_full]
  rfl

set_option maxHeartbeats 4000000 in
/-- The first chunk of a later tile: the output block starts at the residual, the chunk's activation goes to its half, its last rows are kept. -/
theorem runD (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S3x512 .f32) (harg7 : arg7.IsWhole) (arg8 : Memref sig .tc .vmem S1x512 .f32) (harg8 : arg8.IsWhole) (arg9 : Memref sig .tc .vmem S512x2048 .f32) (harg9 : arg9.IsWhole) (arg10 : Memref sig .tc .vmem S1x8x512 .f32) (harg10 : arg10.IsWhole) (arg11 : Memref sig .tc .vmem S2x512x512 .bf16) (harg11 : arg11.IsWhole) (arg12 : Memref sig .tc .vmem S11x8x512 .f32) (harg12 : arg12.IsWhole)
    (hc0 : k0_cond1 i = 1#1) (hc1 : ¬(Scalar.cmpi .ne (Scalar.extui (Scalar.cmpi .eq (BitVec.ofNat 32 (i 0).val) 0#32)) 0#32) = 1#1) (hc2 : ¬k0_cond3 i = 1#1) (hc3 : ¬k0_cond4 i = 1#1)
    (x0 : Vec F S512x2048 .bf16) (x1 : Vec F S512x2048 .f32) (x2 : Vec F S2048x512 .bf16) (x3 : Vec F S2048x512 .bf16) (x4 : Vec F S512x2048 .bf16) (x5 : Vec F S3x512 .f32) (x6 : Vec F S1x512 .f32)
    (xs0 : Vec F S2x512x512 .bf16) (xs1 : Vec F S11x8x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0 ∗ owns (c : Thread nD τ) arg12 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (k0_pay7 x1) ∗ owns (c : Thread nD τ) arg10 fullShare (k0_pay24 x0 x2)
            ∗ owns (c : Thread nD τ) arg11 fullShare (setHalf xs0 (i 1).val (actOf i x0 x2 x3 x5 x6 (slab xs1 (i 1).val)))
            ∗ owns (c : Thread nD τ) arg12 fullShare (setSlab xs1 (i 1).val (k0_pay24 x0 x2))) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12) K := by
  simp only [cc0_ffn_eq_skeleton]; unfold cc0_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0; obtain rfl := harg12.eq_unread hfs1
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    rw [View.read_writes_full, load_all arg3 harg3]
  isplitl [H8]
  · iexists _; isplitr; swap; · iexact H8
    ipureintro
    rw [View.read_writes_full]
    unfold runD.sl.r
    rw [load_all arg2 harg2, load_all arg4 harg4]
    rfl
  isplitl [HS0]
  · iexists _; isplitr; swap; · iexact HS0
    ipureintro
    rw [store_half arg11 harg11 _ _ _ _ (k0_off2_eq i)]
    unfold runD.sl.r runD.sl.r_1 runD.sl.r_2 runD.sl.r_3 runD.sl.r_4 runD.sl.r_5 runD.sl.r_6
    rw [load_slab arg12 harg12 _ _ _ _ (k0_off1_eq i), load_all arg2 harg2, load_all arg4 harg4, load_all arg5 harg5, load_all arg7 harg7, load_all arg8 harg8]
    rfl
  iexists _; isplitr; swap; · iexact HS1
  ipureintro
  unfold runD.sl.r
  rw [load_all arg2 harg2, load_all arg4 harg4]
  exact store_slab arg12 harg12 _ _ _ _ (k0_off1_eq i) _

set_option maxHeartbeats 4000000 in
/-- The first chunk of the first tile: the halo is cleared, the output block starts at the residual, the chunk's activation goes to its half, its last rows are kept. -/
theorem runA (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S3x512 .f32) (harg7 : arg7.IsWhole) (arg8 : Memref sig .tc .vmem S1x512 .f32) (harg8 : arg8.IsWhole) (arg9 : Memref sig .tc .vmem S512x2048 .f32) (harg9 : arg9.IsWhole) (arg10 : Memref sig .tc .vmem S1x8x512 .f32) (harg10 : arg10.IsWhole) (arg11 : Memref sig .tc .vmem S2x512x512 .bf16) (harg11 : arg11.IsWhole) (arg12 : Memref sig .tc .vmem S11x8x512 .f32) (harg12 : arg12.IsWhole)
    (hc0 : k0_cond1 i = 1#1) (hc1 : (Scalar.cmpi .ne (Scalar.extui (Scalar.cmpi .eq (BitVec.ofNat 32 (i 0).val) 0#32)) 0#32) = 1#1) (hc2 : ¬k0_cond3 i = 1#1) (hc3 : ¬k0_cond4 i = 1#1)
    (x0 : Vec F S512x2048 .bf16) (x1 : Vec F S512x2048 .f32) (x2 : Vec F S2048x512 .bf16) (x3 : Vec F S2048x512 .bf16) (x4 : Vec F S512x2048 .bf16) (x5 : Vec F S3x512 .f32) (x6 : Vec F S1x512 .f32)
    (xs0 : Vec F S2x512x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (k0_pay7 x1) ∗ owns (c : Thread nD τ) arg10 fullShare (k0_pay24 x0 x2)
            ∗ owns (c : Thread nD τ) arg11 fullShare (setHalf xs0 (i 1).val (actOf i x0 x2 x3 x5 x6 (slab (k0_pay6 (F := F)) (i 1).val)))
            ∗ owns (c : Thread nD τ) arg12 fullShare (setSlab (k0_pay6 (F := F)) (i 1).val (k0_pay24 x0 x2))) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12) K := by
  simp only [cc0_ffn_eq_skeleton]; unfold cc0_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    rw [View.read_writes_full, load_all arg3 harg3]
  isplitl [H8]
  · iexists _; isplitr; swap; · iexact H8
    ipureintro
    rw [View.read_writes_full]
    unfold runA.sl.r
    rw [load_all arg2 harg2, load_all arg4 harg4]
    rfl
  isplitl [HS0]
  · iexists _; isplitr; swap; · iexact HS0
    ipureintro
    rw [store_half arg11 harg11 _ _ _ _ (k0_off2_eq i)]
    unfold runA.sl.r runA.sl.r_1 runA.sl.r_2 runA.sl.r_3 runA.sl.r_4 runA.sl.r_5 runA.sl.r_6 runA.sl.HS1_1
    rw [load_fill arg12 _ _ _ _ _ _ (k0_off1_eq i), load_all arg2 harg2, load_all arg4 harg4, load_all arg5 harg5, load_all arg7 harg7, load_all arg8 harg8]
    rfl
  iexists _; isplitr; swap; · iexact HS1
  ipureintro
  unfold runA.sl.r runA.sl.HS1_1
  rw [load_all arg2 harg2, load_all arg4 harg4]
  exact store_fill arg12 _ _ _ _ _ _ (k0_off1_eq i) _

set_option maxHeartbeats 4000000 in
/-- The last step: the last chunk's down product is added to the output block; the rest stays. -/
theorem runC (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S3x512 .f32) (harg7 : arg7.IsWhole) (arg8 : Memref sig .tc .vmem S1x512 .f32) (harg8 : arg8.IsWhole) (arg9 : Memref sig .tc .vmem S512x2048 .f32) (harg9 : arg9.IsWhole) (arg10 : Memref sig .tc .vmem S1x8x512 .f32) (harg10 : arg10.IsWhole) (arg11 : Memref sig .tc .vmem S2x512x512 .bf16) (harg11 : arg11.IsWhole) (arg12 : Memref sig .tc .vmem S11x8x512 .f32) (harg12 : arg12.IsWhole)
    (hc0 : ¬k0_cond1 i = 1#1) (hc2 : ¬k0_cond3 i = 1#1) (hc3 : k0_cond4 i = 1#1)
    (x0 : Vec F S512x2048 .bf16) (x1 : Vec F S512x2048 .f32) (x2 : Vec F S2048x512 .bf16) (x3 : Vec F S2048x512 .bf16) (x4 : Vec F S512x2048 .bf16) (x5 : Vec F S3x512 .f32) (x6 : Vec F S1x512 .f32)
    (x7 : Vec F S512x2048 .f32) (x8 : Vec F S1x8x512 .f32) (xs0 : Vec F S2x512x512 .bf16) (xs1 : Vec F S11x8x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xs0 ∗ owns (c : Thread nD τ) arg12 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (downOf x7 (half xs0 ((i 1).val + 1)) x4) ∗ owns (c : Thread nD τ) arg10 fullShare x8
            ∗ owns (c : Thread nD τ) arg11 fullShare xs0
            ∗ owns (c : Thread nD τ) arg12 fullShare xs1) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0; obtain rfl := harg12.eq_unread hfs1
  sl_exec (disch := first | sl_exact hc0 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    rw [View.read_writes_full, load_all arg9 harg9, load_all arg6 harg6, load_half arg11 _ _ (harg11.read_unread _) _ _ _ (k0_off6_eq i)]
    rfl
  isplitl [H8]
  · iexists _; isplitr; · ipureintro; exact harg10.read_unread _
    iexact H8
  isplitl [HS0]
  · iexists _; isplitr; · ipureintro; exact harg11.read_unread _
    iexact HS0
  iexists _; isplitr; · ipureintro; exact harg12.read_unread _
  iexact HS1

end Cert.FfnIdeal.Ff

end
-- ==== Proof.FfnFrame.lean ====
/- The feed-forward kernel run over its whole grid. The state before each point (the output block, the kept rows written out, the halo, the last
   activation) is computed by one step per point; the run follows it, and the argument arrays end as they began. -/
module

public import proofs.«01_k».proof.Proof.FfnRunFirst

@[expose] public section

set_option maxRecDepth 16384

noncomputable section

namespace Cert.FfnIdeal.Ff

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in -/

theorem cond_first : ∀ t : Fin cfg0.N, k0_cond1 (grid0.coords t) = 1#1 ↔ t.val % 12 = 0 :=
  (by decide +kernel : ∀ t : Fin grid0.N, k0_cond1 (grid0.coords t) = 1#1 ↔ t.val % 12 = 0)
theorem cond_clear : ∀ t : Fin cfg0.N, (Scalar.cmpi .ne (Scalar.extui (Scalar.cmpi .eq (BitVec.ofNat 32 ((grid0.coords t) 0).val) 0#32)) 0#32) = 1#1 ↔ t.val < 12 :=
  (by decide +kernel : ∀ t : Fin grid0.N, (Scalar.cmpi .ne (Scalar.extui (Scalar.cmpi .eq (BitVec.ofNat 32 ((grid0.coords t) 0).val) 0#32)) 0#32) = 1#1 ↔ t.val < 12)
theorem cond_mid : ∀ t : Fin cfg0.N, k0_cond3 (grid0.coords t) = 1#1 ↔ (t.val % 12 ≠ 0 ∧ t.val % 12 ≠ 11) :=
  (by decide +kernel : ∀ t : Fin grid0.N, k0_cond3 (grid0.coords t) = 1#1 ↔ (t.val % 12 ≠ 0 ∧ t.val % 12 ≠ 11))
theorem cond_last : ∀ t : Fin cfg0.N, k0_cond4 (grid0.coords t) = 1#1 ↔ t.val % 12 = 11 :=
  (by decide +kernel : ∀ t : Fin grid0.N, k0_cond4 (grid0.coords t) = 1#1 ↔ t.val % 12 = 11)
theorem coord_col : ∀ t : Fin cfg0.N, ((grid0.coords t) 1).val = t.val % 12 :=
  (by decide +kernel : ∀ t : Fin grid0.N, ((grid0.coords t) 1).val = t.val % 12)
theorem live_o : ∀ t : Fin cfg0.N, cfg0.idle 7 (grid0.coords t) = false :=
  (by decide +kernel : ∀ t : Fin grid0.N, idle0 7 (grid0.coords t) = false)
theorem live_tail : ∀ t : Fin cfg0.N, t.val % 12 ≠ 11 → cfg0.idle 8 (grid0.coords t) = false :=
  (by decide +kernel : ∀ t : Fin grid0.N, t.val % 12 ≠ 11 → idle0 8 (grid0.coords t) = false)
theorem flush_o : ∀ t : Fin cfg0.N, t.val % 12 ≠ 11 → (cfg0.win 7).flush t = false :=
  (by decide +kernel : ∀ t : Fin grid0.N, t.val % 12 ≠ 11 → win0_7.flush t = false)
theorem flush_tail : ∀ t : Fin cfg0.N, t.val % 12 = 10 → (cfg0.win 8).flush t = false :=
  (by decide +kernel : ∀ t : Fin grid0.N, t.val % 12 = 10 → win0_8.flush t = false)
theorem flush_tail_last : ∀ t : Fin cfg0.N, t.val % 12 = 11 → (cfg0.win 8).flush t = true :=
  (by decide +kernel : ∀ t : Fin grid0.N, t.val % 12 = 11 → win0_8.flush t = true)

/-! ## The state, point by point -/

/-- What is carried from point to point: the output block, the kept rows written out, the halo, the last activation. -/
structure St (F : FTy → Type) where
  o : Vec F S512x2048 .f32
  tail : Vec F S1x8x512 .f32
  halo : Vec F S11x8x512 .f32
  act : Vec F S1x512x512 .bf16

/-- One point's step. -/
def step (c : Dev nD) (t : Fin cfg0.N) (s : St F) : St F :=
  if t.val % 12 = 0 then
    { o := k0_pay7 (iblk m c 1 t)
      tail := k0_pay24 (iblk m c 0 t) (iblk m c 2 t)
      halo := setSlab (if t.val < 12 then k0_pay6 else s.halo) ((grid0.coords t) 1).val (k0_pay24 (iblk m c 0 t) (iblk m c 2 t))
      act := actOf (grid0.coords t) (iblk m c 0 t) (iblk m c 2 t) (iblk m c 3 t) (iblk m c 5 t) (iblk m c 6 t)
        (slab (if t.val < 12 then k0_pay6 else s.halo) ((grid0.coords t) 1).val) }
  else if t.val % 12 = 11 then
    { s with o := downOf s.o s.act (iblk m c 4 t) }
  else
    { o := downOf s.o s.act (iblk m c 4 t)
      tail := k0_pay24 (iblk m c 0 t) (iblk m c 2 t)
      halo := setSlab s.halo ((grid0.coords t) 1).val (k0_pay24 (iblk m c 0 t) (iblk m c 2 t))
      act := actOf (grid0.coords t) (iblk m c 0 t) (iblk m c 2 t) (iblk m c 3 t) (iblk m c 5 t) (iblk m c 6 t) (slab s.halo ((grid0.coords t) 1).val) }

theorem numPoints : cfg0.N = 384 := N_0

/-- Point `n`, wrapped around the grid so that it is one for every number. -/
def pt (n : ℕ) : Fin cfg0.N := ⟨n % 384, lt_of_lt_of_eq (Nat.mod_lt _ (by decide)) numPoints.symm⟩

theorem pt_val (t : Fin cfg0.N) : pt t.val = t := Fin.ext (Nat.mod_eq_of_lt (lt_of_lt_of_eq t.isLt numPoints))

/-- The state before point `n` (before the first point it is never read). -/
def stBefore (c : Dev nD) : ℕ → St F
  | 0 => { o := iblk m c 1 (pt 0), tail := k0_pay24 (iblk m c 0 (pt 0)) (iblk m c 2 (pt 0)), halo := k0_pay6,
           act := actOf (grid0.coords (pt 0)) (iblk m c 0 (pt 0)) (iblk m c 2 (pt 0)) (iblk m c 3 (pt 0)) (iblk m c 5 (pt 0)) (iblk m c 6 (pt 0)) (slab k0_pay6 0) }
  | n + 1 => step m c (pt n) (stBefore c n)

theorem stBefore_succ (c : Dev nD) (t : Fin cfg0.N) : stBefore m c (t.val + 1) = step m c t (stBefore m c t.val) := by
  show step m c (pt t.val) _ = _
  rw [pt_val]

/-! ## One point -/

/-- Window 0's staging buffer at a point. -/
abbrev sm0 (t : Fin cfg0.N) : Memref sig .tc .vmem S512x2048 .bf16 := win0_0.stage (cfg0.slots t 0)
/-- Window 1's staging buffer at a point. -/
abbrev sm1 (t : Fin cfg0.N) : Memref sig .tc .vmem S512x2048 .f32 := win0_1.stage (cfg0.slots t 1)
/-- Window 2's staging buffer at a point. -/
abbrev sm2 (t : Fin cfg0.N) : Memref sig .tc .vmem S2048x512 .bf16 := win0_2.stage (cfg0.slots t 2)
/-- Window 3's staging buffer at a point. -/
abbrev sm3 (t : Fin cfg0.N) : Memref sig .tc .vmem S2048x512 .bf16 := win0_3.stage (cfg0.slots t 3)
/-- Window 4's staging buffer at a point. -/
abbrev sm4 (t : Fin cfg0.N) : Memref sig .tc .vmem S512x2048 .bf16 := win0_4.stage (cfg0.slots t 4)
/-- Window 5's staging buffer at a point. -/
abbrev sm5 (t : Fin cfg0.N) : Memref sig .tc .vmem S3x512 .f32 := win0_5.stage (cfg0.slots t 5)
/-- Window 6's staging buffer at a point. -/
abbrev sm6 (t : Fin cfg0.N) : Memref sig .tc .vmem S1x512 .f32 := win0_6.stage (cfg0.slots t 6)
/-- Window 7's staging buffer at a point. -/
abbrev sm7 (t : Fin cfg0.N) : Memref sig .tc .vmem S512x2048 .f32 := win0_7.stage (cfg0.slots t 7)
/-- Window 8's staging buffer at a point. -/
abbrev sm8 (t : Fin cfg0.N) : Memref sig .tc .vmem S1x8x512 .f32 := win0_8.stage (cfg0.slots t 8)
/-- The activation buffer and the halo, as memrefs. -/
abbrev actM : Memref sig .tc .vmem S2x512x512 .bf16 := Memref.whole cc0_scratch0
abbrev haloM : Memref sig .tc .vmem S11x8x512 .f32 := Memref.whole cc0_scratch1

theorem half_two (d : Vec F S2x512x512 .bf16) (k : ℕ) : half d (k + 2) = half d k := by
  unfold half
  simp only [Nat.add_mod_right]

/-- The staged inputs at a point, each at its block. -/
def ins (c : Dev nD) (t : Fin cfg0.N) : sProp 𝕄 :=
  iprop(owns (c : Thread nD τ) (sm0 t) fullShare (iblk m c 0 t) ∗ owns (c : Thread nD τ) (sm1 t) fullShare (iblk m c 1 t) ∗ owns (c : Thread nD τ) (sm2 t) fullShare (iblk m c 2 t) ∗ owns (c : Thread nD τ) (sm3 t) fullShare (iblk m c 3 t) ∗ owns (c : Thread nD τ) (sm4 t) fullShare (iblk m c 4 t) ∗ owns (c : Thread nD τ) (sm5 t) fullShare (iblk m c 5 t) ∗ owns (c : Thread nD τ) (sm6 t) fullShare (iblk m c 6 t))

set_option maxHeartbeats 4000000 in
/-- The body at any point, from a state the buffers agree with as far as the point reads it. -/
theorem body_step (c : Dev nD) (t : Fin cfg0.N) (s : St F) (x7 : Vec F S512x2048 .f32) (x8 : Vec F S1x8x512 .f32) (xs0 : Vec F S2x512x512 .bf16) (xs1 : Vec F S11x8x512 .f32)
    (h7 : t.val % 12 ≠ 0 → x7 = s.o) (h8 : t.val % 12 = 11 → x8 = s.tail) (hs0 : t.val % 12 ≠ 0 → half xs0 (t.val % 12 + 1) = s.act) (hs1 : t.val ≠ 0 → xs1 = s.halo)
    (K : PUnit → sProp 𝕄) :
    iprop(ins m c t ∗ owns (c : Thread nD τ) (sm7 t) fullShare x7 ∗ owns (c : Thread nD τ) (sm8 t) fullShare x8 ∗ owns (c : Thread nD τ) actM fullShare xs0 ∗ owns (c : Thread nD τ) haloM fullShare xs1
        ∗ (iprop(ins m c t ∗ owns (c : Thread nD τ) (sm7 t) fullShare (step m c t s).o ∗ owns (c : Thread nD τ) (sm8 t) fullShare (step m c t s).tail
            ∗ (∃ d, iprop(⌜t.val % 12 ≠ 11 → half d (t.val % 12) = (step m c t s).act⌝ ∗ owns (c : Thread nD τ) actM fullShare d)) ∗ owns (c : Thread nD τ) haloM fullShare (step m c t s).halo) -∗ K ⟨⟩))
      ⊢ wp frame (wpE (defs₀ (F := F)) Variants.none c none) Set.univ (bodyAt0 t) K := by
  have hN : t.val < 384 := lt_of_lt_of_eq t.isLt numPoints
  have e1 := coord_col t
  unfold ins bodyAt0
  by_cases h0 : t.val % 12 = 0
  · have es : step m c t s = { o := k0_pay7 (iblk m c 1 t)
                               tail := k0_pay24 (iblk m c 0 t) (iblk m c 2 t)
                               halo := setSlab (if t.val < 12 then k0_pay6 else s.halo) ((grid0.coords t) 1).val (k0_pay24 (iblk m c 0 t) (iblk m c 2 t))
                               act := actOf (grid0.coords t) (iblk m c 0 t) (iblk m c 2 t) (iblk m c 3 t) (iblk m c 5 t) (iblk m c 6 t)
                                 (slab (if t.val < 12 then k0_pay6 else s.halo) ((grid0.coords t) 1).val) } := if_pos h0
    by_cases h1 : t.val < 12
    · rw [es, if_pos h1]
      dsimp only
      iintro ⟨⟨H0, H1, H2, H3, H4, H5, H6⟩, H7, H8, HS0, HS1, Hk⟩
      iapply (runA c (grid0.coords t) _ _ _ _ _ _ _ _ _ _ _ _ _ _ _ _ _ _ _ _ _ _ ((cond_first t).mpr h0) ((cond_clear t).mpr h1) (fun h => ((cond_mid t).mp h).1 h0) (fun h => by have := (cond_last t).mp h; omega)
        (iblk m c 0 t) (iblk m c 1 t) (iblk m c 2 t) (iblk m c 3 t) (iblk m c 4 t) (iblk m c 5 t) (iblk m c 6 t) xs0 Set.univ K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexists _; iexact HS1
      iintro ⟨H0, H1, H2, H3, H4, H5, H6, H7, H8, HS0, HS1⟩
      iapply Hk
      isplitl [H0 H1 H2 H3 H4 H5 H6]
      · isplitl [H0]; · iexact H0
        isplitl [H1]; · iexact H1
        isplitl [H2]; · iexact H2
        isplitl [H3]; · iexact H3
        isplitl [H4]; · iexact H4
        isplitl [H5]; · iexact H5
        iexact H6
      isplitl [H7]; · iexact H7
      isplitl [H8]; · iexact H8
      isplitl [HS0]
      · iexists _; isplitr; swap; · iexact HS0
        ipureintro
        intro _
        rw [← e1]
        exact half_setHalf _ _ _
      iexact HS1
    · have hx1 : xs1 = s.halo := hs1 (by omega)
      subst hx1
      rw [es, if_neg h1]
      dsimp only
      iintro ⟨⟨H0, H1, H2, H3, H4, H5, H6⟩, H7, H8, HS0, HS1, Hk⟩
      iapply (runD c (grid0.coords t) _ _ _ _ _ _ _ _ _ _ _ _ _ _ _ _ _ _ _ _ _ _ ((cond_first t).mpr h0) (fun h => h1 ((cond_clear t).mp h)) (fun h => ((cond_mid t).mp h).1 h0) (fun h => by have := (cond_last t).mp h; omega)
        (iblk m c 0 t) (iblk m c 1 t) (iblk m c 2 t) (iblk m c 3 t) (iblk m c 4 t) (iblk m c 5 t) (iblk m c 6 t) xs0 s.halo Set.univ K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      iintro ⟨H0, H1, H2, H3, H4, H5, H6, H7, H8, HS0, HS1⟩
      iapply Hk
      isplitl [H0 H1 H2 H3 H4 H5 H6]
      · isplitl [H0]; · iexact H0
        isplitl [H1]; · iexact H1
        isplitl [H2]; · iexact H2
        isplitl [H3]; · iexact H3
        isplitl [H4]; · iexact H4
        isplitl [H5]; · iexact H5
        iexact H6
      isplitl [H7]; · iexact H7
      isplitl [H8]; · iexact H8
      isplitl [HS0]
      · iexists _; isplitr; swap; · iexact HS0
        ipureintro
        intro _
        rw [← e1]
        exact half_setHalf _ _ _
      iexact HS1
  · have hx7 : x7 = s.o := h7 h0
    have hx1 : xs1 = s.halo := hs1 (by omega)
    subst hx7 hx1
    by_cases h11 : t.val % 12 = 11
    · have es : step m c t s = { s with o := downOf s.o s.act (iblk m c 4 t) } := (if_neg h0).trans (if_pos h11)
      have hx8 : x8 = s.tail := h8 h11
      subst hx8
      rw [es, ← hs0 h0, ← e1]
      dsimp only
      iintro ⟨⟨H0, H1, H2, H3, H4, H5, H6⟩, H7, H8, HS0, HS1, Hk⟩
      iapply (runC c (grid0.coords t) _ _ _ _ _ _ _ _ _ _ _ _ _ _ _ _ _ _ _ _ _ _ (fun h => h0 ((cond_first t).mp h)) (fun h => ((cond_mid t).mp h).2 h11) ((cond_last t).mpr h11)
        (iblk m c 0 t) (iblk m c 1 t) (iblk m c 2 t) (iblk m c 3 t) (iblk m c 4 t) (iblk m c 5 t) (iblk m c 6 t) s.o s.tail xs0 s.halo Set.univ K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      iapply Hk
      isplitl [H0 H1 H2 H3 H4 H5 H6]
      · isplitl [H0]; · iexact H0
        isplitl [H1]; · iexact H1
        isplitl [H2]; · iexact H2
        isplitl [H3]; · iexact H3
        isplitl [H4]; · iexact H4
        isplitl [H5]; · iexact H5
        iexact H6
      isplitl [H7]; · iexact H7
      isplitl [H8]; · iexact H8
      isplitl [HS0]
      · iexists _; isplitr; swap; · iexact HS0
        ipureintro
        intro hne
        omega
      iexact HS1
    · have es : step m c t s = { o := downOf s.o s.act (iblk m c 4 t)
                                 tail := k0_pay24 (iblk m c 0 t) (iblk m c 2 t)
                                 halo := setSlab s.halo ((grid0.coords t) 1).val (k0_pay24 (iblk m c 0 t) (iblk m c 2 t))
                                 act := actOf (grid0.coords t) (iblk m c 0 t) (iblk m c 2 t) (iblk m c 3 t) (iblk m c 5 t) (iblk m c 6 t) (slab s.halo ((grid0.coords t) 1).val) } :=
        (if_neg h0).trans (if_neg h11)
      rw [es, ← hs0 h0, ← e1]
      dsimp only
      iintro ⟨⟨H0, H1, H2, H3, H4, H5, H6⟩, H7, H8, HS0, HS1, Hk⟩
      iapply (runB c (grid0.coords t) _ _ _ _ _ _ _ _ _ _ _ _ _ _ _ _ _ _ _ _ _ _ (fun h => h0 ((cond_first t).mp h)) ((cond_mid t).mpr ⟨h0, h11⟩) (fun h => h11 ((cond_last t).mp h))
        (iblk m c 0 t) (iblk m c 1 t) (iblk m c 2 t) (iblk m c 3 t) (iblk m c 4 t) (iblk m c 5 t) (iblk m c 6 t) s.o xs0 s.halo Set.univ K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, H8, HS0, HS1⟩
      iapply Hk
      isplitl [H0 H1 H2 H3 H4 H5 H6]
      · isplitl [H0]; · iexact H0
        isplitl [H1]; · iexact H1
        isplitl [H2]; · iexact H2
        isplitl [H3]; · iexact H3
        isplitl [H4]; · iexact H4
        isplitl [H5]; · iexact H5
        iexact H6
      isplitl [H7]; · iexact H7
      isplitl [H8]; · iexact H8
      isplitl [HS0]
      · iexists _; isplitr; swap; · iexact HS0
        ipureintro
        intro _
        exact half_setHalf _ _ _
      iexact HS1

/-! ## The windows' values along the grid -/

/-- The scratch buffers before point `n`: they agree with the state as far as the point reads them. -/
def PhiS (c : Dev nD) (n : ℕ) : sProp 𝕄 :=
  iprop((∃ d, iprop(⌜n % 12 ≠ 0 → half d (n % 12 + 1) = (stBefore m c n).act⌝ ∗ owns (c : Thread nD τ) actM fullShare d))
    ∗ (∃ d, iprop(⌜n ≠ 0 → d = (stBefore m c n).halo⌝ ∗ owns (c : Thread nD τ) haloM fullShare d)) ∗ (∃ r, prngReg (c : Dev nD) r))

/-- The values of the windows at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (stBefore m c (t.val + 1)).o
    | ⟨8, _⟩ => (stBefore m c (t.val + 1)).tail
  Φ t := PhiS m c t.val
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (stBefore m c (t.val + 1)).o := by dsimp only [dats]
theorem after_8 (c : Dev nD) (t : Fin cfg0.N) : (dats m 0 c).after 8 t = (stBefore m c (t.val + 1)).tail := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- The output block a later point of a tile sees is the one the point before left. -/
theorem before_7 (c : Dev nD) (t : Fin cfg0.N) (h : t.val % 12 ≠ 0) (d) : (dats m 0 c).before 7 t d = (stBefore m c t.val).o := by
  have hp : 0 < t.val := Nat.pos_of_ne_zero fun e => h (by rw [e])
  have hlt : t.val - 1 < cfg0.N := by have := t.isLt; omega
  rw [Dat.before_of_pos _ 7 t hp.ne' ((cfg0.win 7).fetch_out rfl t) d, if_neg (by rw [flush_o ⟨t.val - 1, hlt⟩ (by show (t.val - 1) % 12 ≠ 11; omega)]; exact Bool.false_ne_true)]
  unfold Dat.left
  rw [live_o]
  have e : t.val - 1 + 1 = t.val := by omega
  exact (after_7 m c ⟨t.val - 1, hlt⟩).trans (congrArg (fun n => (stBefore m c n).o) e)

/-- At a tile's last point the kept rows are the ones the point before left. -/
theorem before_8 (c : Dev nD) (t : Fin cfg0.N) (h : t.val % 12 = 11) (d) : (dats m 0 c).before 8 t d = (stBefore m c t.val).tail := by
  have hp : 0 < t.val := by omega
  have hlt : t.val - 1 < cfg0.N := by have := t.isLt; omega
  have hm : (t.val - 1) % 12 = 10 := by omega
  rw [Dat.before_of_pos _ 8 t hp.ne' ((cfg0.win 8).fetch_out rfl t) d, if_neg (by rw [flush_tail ⟨t.val - 1, hlt⟩ hm]; exact Bool.false_ne_true)]
  unfold Dat.left
  rw [live_tail ⟨t.val - 1, hlt⟩ (by show (t.val - 1) % 12 ≠ 11; omega)]
  have e : t.val - 1 + 1 = t.val := by omega
  exact (after_8 m c ⟨t.val - 1, hlt⟩).trans (congrArg (fun n => (stBefore m c n).tail) e)

/-! ## The body's obligation -/

theorem leaves_0 (c : Dev nD) (t : Fin cfg0.N) : (dats m 0 c).leavesExact 0 t = owns (c : Thread nD τ) (sm0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (sm1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (sm2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (sm3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (sm4 t) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (sm5 t) fullShare (iblk m c 5 t) := by
  unfold Dat.leavesExact; rw [show cfg0.idle 5 (grid0.coords t) = false from rfl, after_5]
theorem leaves_6 (c : Dev nD) (t : Fin cfg0.N) : (dats m 0 c).leavesExact 6 t = owns (c : Thread nD τ) (sm6 t) fullShare (iblk m c 6 t) := by
  unfold Dat.leavesExact; rw [show cfg0.idle 6 (grid0.coords t) = false from rfl, after_6]
theorem leaves_7 (c : Dev nD) (t : Fin cfg0.N) : (dats m 0 c).leavesExact 7 t = owns (c : Thread nD τ) (sm7 t) fullShare (stBefore m c (t.val + 1)).o := by
  unfold Dat.leavesExact; rw [live_o t, after_7]
theorem leaves_8 (c : Dev nD) (t : Fin cfg0.N) : (dats m 0 c).leavesExact 8 t = owns (c : Thread nD τ) (sm8 t) fullShare (stBefore m c (t.val + 1)).tail := by
  unfold Dat.leavesExact
  by_cases h : t.val % 12 = 11
  · cases hi : cfg0.idle 8 (grid0.coords t)
    · rw [after_8]
    · rw [flush_tail_last t h, after_8]
  · rw [live_tail t h, after_8]

/-- The buffers a point starts from. -/
def bodyPre (c : Dev nD) (t : Fin cfg0.N) : sProp 𝕄 :=
  iprop((dats m 0 c).Φ t.castSucc ∗ (dats m 0 c).owesAt () t.castSucc
    ∗ (∃ d, owns (c : Thread nD τ) (sm0 t) fullShare ((dats m 0 c).before 0 t d)) ∗ (∃ d, owns (c : Thread nD τ) (sm1 t) fullShare ((dats m 0 c).before 1 t d)) ∗ (∃ d, owns (c : Thread nD τ) (sm2 t) fullShare ((dats m 0 c).before 2 t d)) ∗ (∃ d, owns (c : Thread nD τ) (sm3 t) fullShare ((dats m 0 c).before 3 t d)) ∗ (∃ d, owns (c : Thread nD τ) (sm4 t) fullShare ((dats m 0 c).before 4 t d)) ∗ (∃ d, owns (c : Thread nD τ) (sm5 t) fullShare ((dats m 0 c).before 5 t d)) ∗ (∃ d, owns (c : Thread nD τ) (sm6 t) fullShare ((dats m 0 c).before 6 t d)) ∗ (∃ d, owns (c : Thread nD τ) (sm7 t) fullShare ((dats m 0 c).before 7 t d)) ∗ (∃ d, owns (c : Thread nD τ) (sm8 t) fullShare ((dats m 0 c).before 8 t d)))

/-- The buffers a point leaves. -/
def bodyPost (c : Dev nD) (t : Fin cfg0.N) : PUnit → sProp 𝕄 :=
  fun _ => iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t)

set_option maxHeartbeats 4000000 in
theorem sound_body (c : Dev nD) (t : Fin cfg0.N) : bodyPre m c t ⊢ wp frame (wpE (defs₀ (F := F)) Variants.none c none) Set.univ (bodyAt0 t) (bodyPost m c t) := by
  unfold bodyPre bodyPost
  rw [leaves_0, leaves_1, leaves_2, leaves_3, leaves_4, leaves_5, leaves_6, leaves_7, leaves_8]
  rw [show (dats m 0 c).owesAt () t.succ = (dats m 0 c).owesAt () t.castSucc from rfl,
    show (dats m 0 c).Φ t.castSucc = PhiS m c t.val from rfl, show (dats m 0 c).Φ t.succ = PhiS m c (t.val + 1) from rfl]
  simp only [before_0, before_1, before_2, before_3, before_4, before_5, before_6]
  unfold PhiS
  iintro ⟨⟨⟨%xs0, %hs0, HS0⟩, ⟨%xs1, %hs1, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_step m c t (stBefore m c t.val) _ _ xs0 xs1 (fun h => before_7 m c t h d7) (fun h => before_8 m c t h d8) hs0 hs1 _)
  unfold ins
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexact H7
  isplitl [H8]; · iexact H8
  isplitl [HS0]; · iexact HS0
  isplitl [HS1]; · iexact HS1
  rw [← stBefore_succ m c t]
  iintro ⟨⟨H0, H1, H2, H3, H4, H5, H6⟩, H7, H8, ⟨%xa, %ha, HS0⟩, HS1⟩
  isplitl [HS0 HS1 Hr]
  · isplitl [HS0]
    · iexists xa; isplitr; swap; · iexact HS0
      ipureintro
      intro hne
      have e : (t.val + 1) % 12 + 1 = t.val % 12 + 2 := by omega
      rw [e, half_two]
      exact ha (by omega)
    isplitl [HS1]
    · iexists _; isplitr; swap; · iexact HS1
      ipureintro
      intro _
      rfl
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) : defs₀ (F := F) .tc cfg0.body (cfg0.bodyArgs t (cfg0.slots t)) = bodyAt0 t := by
  unfold defs₀
  rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The grid -/

theorem PhiA0_eq (c : Dev nD) : (Pipeline.ΦA spec0 c : sProp 𝕄) = iprop(iprop((∃ d, owns (c : Thread nD τ) actM fullShare d) ∗ (∃ d, owns (c : Thread nD τ) haloM fullShare d)) ∗ (∃ r, prngReg c r)) := by
  unfold Pipeline.ΦA
  rw [scopedRest0_eq]
  simp only [actM, haloM, owns_whole]
  try rfl

theorem hin (c : Dev nD) : (Pipeline.ΦA spec0 c : sProp 𝕄) ⊢ (dats m 0 c).Φ 0 := by
  rw [PhiA0_eq, show (dats m 0 c).Φ 0 = PhiS m c 0 from rfl]
  unfold PhiS
  iintro ⟨⟨⟨%d0, H0⟩, ⟨%d1, H1⟩⟩, Hr⟩
  isplitl [H0]
  · iexists d0; isplitr; swap; · iexact H0
    ipureintro
    intro h
    exact absurd rfl h
  isplitl [H1]
  · iexists d1; isplitr; swap; · iexact H1
    ipureintro
    intro h
    exact absurd rfl h
  iexact Hr

theorem hout (c : Dev nD) : (dats m 0 c).Φ (Fin.last cfg0.N) ⊢ (Pipeline.ΦA spec0 c : sProp 𝕄) := by
  rw [PhiA0_eq, show (dats m 0 c).Φ (Fin.last cfg0.N) = PhiS m c cfg0.N from rfl]
  unfold PhiS
  iintro ⟨⟨%d0, %h0, H0⟩, ⟨%d1, %h1, H1⟩, Hr⟩
  isplitl [H0 H1]
  · isplitl [H0]; · iexists d0; iexact H0
    iexists d1; iexact H1
  iexact Hr

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl) (howed := fun _ _ => rfl)
    (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

end Cert.FfnIdeal.Ff

end
-- ==== Proof.FfnChunk.lean ====
/- What one grid point of the feed-forward kernel computes, element by element, over the extended reals: the two projections of a row, the rows before a row
   (taken from the same tile or from the kept rows of the tile before), the gated activation, the down product's addition. -/
module

public import proofs.«01_k».proof.Proof.FfnFrame
public import Idealize.ShloMosaic.Lib.Pointwise
public import Idealize.ShloMosaic.Lib.KernelVsHost
public import Idealize.ShloMosaic.PureOps.Ideal.Laws

@[expose] public section

set_option maxRecDepth 16384

noncomputable section

namespace Cert.FfnIdeal.Ff

open Cert.FfnIdeal Cert.FfnIdeal.Gen
open Idealize.ShloMosaic Idealize.ShloMosaic.TcCoe Idealize.SL.Sem

theorem up_at (x : Vec Ideal S512x2048 .bf16) (w : Vec Ideal S2048x512 .bf16) (r j : Fin 512) :
    k0_pay19 (F := Ideal) x w (ix2 r j) = ∑ d : Fin 2048, x (ix2 r d) * w (ix2 d j) := by
  pointwise [k0_pay19, k0_pay18]

theorem gate_at (x : Vec Ideal S512x2048 .bf16) (w : Vec Ideal S2048x512 .bf16) (r j : Fin 512) :
    k0_pay20 (F := Ideal) x w (ix2 r j) = ∑ d : Fin 2048, x (ix2 r d) * w (ix2 d j) := by
  pointwise [k0_pay20, k0_pay18]

theorem kept_at (x : Vec Ideal S512x2048 .bf16) (w : Vec Ideal S2048x512 .bf16) (q : Fin 8) (j : Fin 512) :
    k0_pay24 (F := Ideal) x w (ix3 0 q j) = k0_pay19 (F := Ideal) x w (ix2 ⟨504 + q.val, by omega⟩ j) := by
  unfold k0_pay24
  generalize k0_pay19 (F := Ideal) x w = Q
  pointwise

/-- The kept rows as a point uses them: zero at a sequence's first tile. -/
theorem cleared_at (i : ℕ) (hi : i < 32) (s : Vec Ideal S1x8x512 .f32) (q : Fin 8) (j : Fin 512) :
    k0_pay21 (F := Ideal) (BitVec.ofNat 32 i) s (ix2 q j) = if i % 4 = 0 then 0 else s (ix3 0 q j) := by
  have hc : ∀ i : Fin 32, (Scalar.cmpi .eq (Scalar.remsi (BitVec.ofNat 32 i.val) 4#32) 0#32 : BitVec 1) = if i.val % 4 = 0 then 1#1 else 0#1 := by decide +kernel
  unfold k0_pay21
  have h := hc ⟨i, hi⟩
  dsimp only at h ⊢
  rw [h]
  by_cases h4 : i % 4 = 0
  · rw [if_pos h4, if_pos h4]
    pointwise
  · rw [if_neg h4, if_neg h4]
    pointwise

theorem back1_at (a : BitVec 32) (x : Vec Ideal S512x2048 .bf16) (w : Vec Ideal S2048x512 .bf16) (s : Vec Ideal S1x8x512 .f32) (r j : Fin 512) :
    k0_pay22 (F := Ideal) a x w s (ix2 r j)
      = if h : r.val < 1 then k0_pay21 (F := Ideal) a s (ix2 ⟨r.val + 7, by omega⟩ j) else k0_pay19 (F := Ideal) x w (ix2 ⟨r.val - 1, by omega⟩ j) := by
  unfold k0_pay22
  generalize k0_pay19 (F := Ideal) x w = Q
  generalize k0_pay21 (F := Ideal) a s = R
  pointwise
  have hw : ∀ q : Fin 8, IntOp.cmpi CmpIPredicate.slt (BitVec.ofNat 32 q.val) 1#32 = if q.val < 1 then 1#1 else 0#1 := by decide +kernel
  by_cases h8 : r.val < 8
  · rw [dif_pos h8, hw ⟨r.val, h8⟩]
    by_cases h1 : r.val < 1
    · rw [if_pos h1, dif_pos h1]
      exact (if_pos rfl).trans (congrArg (fun z => R (ix2 z j)) (Fin.ext (by show (r.val + 8 - 1) % 8 = r.val + 7; omega)))
    · rw [if_neg h1, dif_neg h1]
      exact (if_neg (by decide)).trans (congrArg (fun z => Q (ix2 z j)) (Fin.ext (by show (r.val + 512 - 1) % 512 = r.val - 1; omega)))
  · rw [dif_neg h8, dif_neg (by omega : ¬ r.val < 1)]
    exact congrArg (fun z => Q (ix2 z j)) (Fin.ext (by show (8 + (r.val - 8) + 512 - 1) % 512 = r.val - 1; omega))

theorem back2_at (a : BitVec 32) (x : Vec Ideal S512x2048 .bf16) (w : Vec Ideal S2048x512 .bf16) (s : Vec Ideal S1x8x512 .f32) (r j : Fin 512) :
    k0_pay23 (F := Ideal) a x w s (ix2 r j)
      = if h : r.val < 2 then k0_pay21 (F := Ideal) a s (ix2 ⟨r.val + 6, by omega⟩ j) else k0_pay19 (F := Ideal) x w (ix2 ⟨r.val - 2, by omega⟩ j) := by
  unfold k0_pay23
  generalize k0_pay19 (F := Ideal) x w = Q
  generalize k0_pay21 (F := Ideal) a s = R
  pointwise
  have hw : ∀ q : Fin 8, IntOp.cmpi CmpIPredicate.slt (BitVec.ofNat 32 q.val) 2#32 = if q.val < 2 then 1#1 else 0#1 := by decide +kernel
  by_cases h8 : r.val < 8
  · rw [dif_pos h8, hw ⟨r.val, h8⟩]
    by_cases h1 : r.val < 2
    · rw [if_pos h1, dif_pos h1]
      exact (if_pos rfl).trans (congrArg (fun z => R (ix2 z j)) (Fin.ext (by show (r.val + 8 - 2) % 8 = r.val + 6; omega)))
    · rw [if_neg h1, dif_neg h1]
      exact (if_neg (by decide)).trans (congrArg (fun z => Q (ix2 z j)) (Fin.ext (by show (r.val + 512 - 2) % 512 = r.val - 2; omega)))
  · rw [dif_neg h8, dif_neg (by omega : ¬ r.val < 2)]
    exact congrArg (fun z => Q (ix2 z j)) (Fin.ext (by show (8 + (r.val - 8) + 512 - 2) % 512 = r.val - 2; omega))

theorem act_at (v15 v18 v40 v42 : Vec Ideal S512x512 .f32) (cw : Vec Ideal S3x512 .f32) (cb : Vec Ideal S1x512 .f32) (r j : Fin 512) :
    k0_pay27 (F := Ideal) v15 v18 v40 v42 cw cb (ix3 0 r j)
      = (cb (ix2 0 j) + cw (ix2 0 j) * v42 (ix2 r j) + cw (ix2 1 j) * v40 (ix2 r j) + cw (ix2 2 j) * v15 (ix2 r j))
        * Ideal.logistic (cb (ix2 0 j) + cw (ix2 0 j) * v42 (ix2 r j) + cw (ix2 1 j) * v40 (ix2 r j) + cw (ix2 2 j) * v15 (ix2 r j)) * v18 (ix2 r j) := by
  pointwise [k0_pay27]

theorem down_at (o : Vec Ideal S512x2048 .f32) (a : Vec Ideal S1x512x512 .bf16) (w : Vec Ideal S512x2048 .bf16) (r : Fin 512) (e : Fin 2048) :
    downOf (F := Ideal) o a w (ix2 r e) = o (ix2 r e) + ∑ j : Fin 512, a (ix3 0 r j) * w (ix2 j e) := by
  pointwise [downOf, k0_pay5]

theorem start_at (x : Vec Ideal S512x2048 .f32) (r : Fin 512) (e : Fin 2048) : k0_pay7 (F := Ideal) x (ix2 r e) = x (ix2 r e) := by
  pointwise [k0_pay7]

/-! ## The function both programs compute -/

/-- An arrays' row, the rows of all sequences numbered in order. -/
def rowOf (h : Vec Ideal S8x2048x2048 .f32) (n : ℕ) (d : Fin 2048) : EReal :=
  h (ix3 ⟨n / 2048 % 8, Nat.mod_lt _ (by decide)⟩ ⟨n % 2048, Nat.mod_lt _ (by decide)⟩ d)

/-- A column of the up projection. -/
def colOf (w : Vec Ideal S1x2048x11264 .f32) (k : ℕ) (d : Fin 2048) : EReal := w (ix3 0 d ⟨k % 11264, Nat.mod_lt _ (by decide)⟩)

/-- The up projection of row `n` at column `k`. -/
def upOf (h : Vec Ideal S8x2048x2048 .f32) (w : Vec Ideal S1x2048x11264 .f32) (n k : ℕ) : EReal := ∑ d : Fin 2048, rowOf h n d * colOf w k d

/-- The same `j` rows earlier in the sequence, zero before its start. -/
def backOf (h : Vec Ideal S8x2048x2048 .f32) (w : Vec Ideal S1x2048x11264 .f32) (j n k : ℕ) : EReal := if n % 2048 < j then 0 else upOf h w (n - j) k

/-- A tap's weight. -/
def tapOf (cw : Vec Ideal S1x3x5632 .f32) (j : Fin 3) (k : ℕ) : EReal := cw (ix3 0 j ⟨k % 5632, Nat.mod_lt _ (by decide)⟩)

/-- The convolution's bias. -/
def biasOf (cb : Vec Ideal S1x5632 .f32) (k : ℕ) : EReal := cb (ix2 0 ⟨k % 5632, Nat.mod_lt _ (by decide)⟩)

/-- The causal convolution at row `n`, channel `k`. -/
def convOf (h : Vec Ideal S8x2048x2048 .f32) (w : Vec Ideal S1x2048x11264 .f32) (cw : Vec Ideal S1x3x5632 .f32) (cb : Vec Ideal S1x5632 .f32) (n k : ℕ) : EReal :=
  biasOf cb k + tapOf cw 0 k * backOf h w 2 n k + tapOf cw 1 k * backOf h w 1 n k + tapOf cw 2 k * upOf h w n k

/-- The gated activation at row `n`, channel `k`. -/
def gatedOf (h : Vec Ideal S8x2048x2048 .f32) (w : Vec Ideal S1x2048x11264 .f32) (cw : Vec Ideal S1x3x5632 .f32) (cb : Vec Ideal S1x5632 .f32) (n k : ℕ) : EReal :=
  convOf h w cw cb n k * Ideal.logistic (convOf h w cw cb n k) * upOf h w n (5632 + k)

/-- An entry of the down projection. -/
def downW (wd : Vec Ideal S1x5632x2048 .f32) (k : ℕ) (e : Fin 2048) : EReal := wd (ix3 0 ⟨k % 5632, Nat.mod_lt _ (by decide)⟩ e)

/-! ## A point's results as that function -/

section Point
variable (h : Vec Ideal S8x2048x2048 .f32) (w : Vec Ideal S1x2048x11264 .f32) (cw : Vec Ideal S1x3x5632 .f32) (cb : Vec Ideal S1x5632 .f32)
  (i c : ℕ) (x : Vec Ideal S512x2048 .bf16) (wa wg : Vec Ideal S2048x512 .bf16)
  (hx : ∀ r d, x (ix2 r d) = rowOf h (512 * i + r.val) d) (ha : ∀ d j, wa (ix2 d j) = colOf w (512 * c + j.val) d) (hg : ∀ d j, wg (ix2 d j) = colOf w (5632 + (512 * c + j.val)) d)

include hx ha in
theorem up_eq (r j : Fin 512) : k0_pay19 (F := Ideal) x wa (ix2 r j) = upOf h w (512 * i + r.val) (512 * c + j.val) := by
  rw [up_at]
  simp only [hx, ha]
  rfl

include hx hg in
theorem gate_eq (r j : Fin 512) : k0_pay20 (F := Ideal) x wg (ix2 r j) = upOf h w (512 * i + r.val) (5632 + (512 * c + j.val)) := by
  rw [gate_at]
  simp only [hx, hg]
  rfl

include hx ha in
theorem kept_eq (q : Fin 8) (j : Fin 512) : k0_pay24 (F := Ideal) x wa (ix3 0 q j) = upOf h w (512 * i + 504 + q.val) (512 * c + j.val) := by
  rw [kept_at, up_eq h w i c x wa hx ha, Nat.add_assoc (512 * i) 504 q.val]

variable (hi : i < 32) (s : Vec Ideal S1x8x512 .f32)
  (hs : i % 4 ≠ 0 → ∀ q j, s (ix3 0 q j) = upOf h w (512 * (i - 1) + 504 + q.val) (512 * c + j.val))

include hx ha hi hs in
theorem back1_eq (r j : Fin 512) : k0_pay22 (F := Ideal) (BitVec.ofNat 32 i) x wa s (ix2 r j) = backOf h w 1 (512 * i + r.val) (512 * c + j.val) := by
  rw [back1_at]
  unfold backOf
  by_cases hr : r.val < 1
  · rw [dif_pos hr, cleared_at i hi]
    by_cases h4 : i % 4 = 0
    · rw [if_pos h4, if_pos (by omega)]
    · rw [if_neg h4, if_neg (by omega), hs h4]
      exact congrArg (fun n => upOf h w n _) (by show 512 * (i - 1) + 504 + (r.val + 7) = 512 * i + r.val - 1; omega)
  · rw [dif_neg hr, if_neg (by omega), up_eq h w i c x wa hx ha]
    exact congrArg (fun n => upOf h w n _) (by show 512 * i + (r.val - 1) = 512 * i + r.val - 1; omega)

include hx ha hi hs in
theorem back2_eq (r j : Fin 512) : k0_pay23 (F := Ideal) (BitVec.ofNat 32 i) x wa s (ix2 r j) = backOf h w 2 (512 * i + r.val) (512 * c + j.val) := by
  rw [back2_at]
  unfold backOf
  by_cases hr : r.val < 2
  · rw [dif_pos hr, cleared_at i hi]
    by_cases h4 : i % 4 = 0
    · rw [if_pos h4, if_pos (by omega)]
    · rw [if_neg h4, if_neg (by omega), hs h4]
      exact congrArg (fun n => upOf h w n _) (by show 512 * (i - 1) + 504 + (r.val + 6) = 512 * i + r.val - 2; omega)
  · rw [dif_neg hr, if_neg (by omega), up_eq h w i c x wa hx ha]
    exact congrArg (fun n => upOf h w n _) (by show 512 * i + (r.val - 2) = 512 * i + r.val - 2; omega)

variable (xc : Vec Ideal S3x512 .f32) (xb : Vec Ideal S1x512 .f32)
  (hc : ∀ a j, xc (ix2 a j) = tapOf cw a (512 * c + j.val)) (hb : ∀ j, xb (ix2 0 j) = biasOf cb (512 * c + j.val))

include hx ha hg hi hs hc hb in
theorem gated_eq (g : grid0.Coords) (hgi : (g 0).val = i) (r j : Fin 512) :
    actOf (F := Ideal) g x wa wg xc xb s (ix3 0 r j) = gatedOf h w cw cb (512 * i + r.val) (512 * c + j.val) := by
  unfold actOf
  rw [act_at, hgi, back1_eq h w i c x wa hx ha hi s hs, back2_eq h w i c x wa hx ha hi s hs, up_eq h w i c x wa hx ha, gate_eq h w i c x wg hx hg]
  simp only [hc, hb]
  rfl

end Point

end Cert.FfnIdeal.Ff

end
-- ==== Proof.FfnState.lean ====
/- The feed-forward kernel's state along the grid as the function of the launched arrays: after each point the output block holds the sum of the chunks done,
   the activation its chunk's, the halo the last eight rows of this tile (chunks done) or of the tile before (chunks to come). -/
module

public import proofs.«01_k».proof.Proof.FfnChunk
public import Idealize.ShloMosaic.Lib.Pipeline.ValueKit

@[expose] public section

set_option maxRecDepth 16384

noncomputable section

namespace Cert.FfnIdeal.Ff

open Cert.FfnIdeal Cert.FfnIdeal.Gen
open Idealize.ShloMosaic Idealize.ShloMosaic.TcCoe Idealize.SL.Sem

variable (m : (ℓ : Loc nD τ sig) → Buf (Elt Ideal) ℓ)

theorem idx : ∀ t : Fin cfg0.N,
    win0_0.index t = ![t.val / 12, 0] ∧ win0_1.index t = ![t.val / 12, 0] ∧ win0_2.index t = ![0, min (t.val % 12) 10] ∧ win0_3.index t = ![0, 11 + min (t.val % 12) 10]
    ∧ win0_4.index t = ![t.val % 12 - 1, 0] ∧ win0_5.index t = ![0, min (t.val % 12) 10] ∧ win0_6.index t = ![0, min (t.val % 12) 10]
    ∧ win0_7.index t = ![t.val / 12, 0] ∧ win0_8.index t = ![t.val / 12, 0, min (t.val % 12) 10] ∧ t.val / 12 < 32 ∧ ((grid0.coords t) 0).val = t.val / 12 := by decide +kernel

/-- The normalised rows as launched. -/
abbrev hs (c : Dev nD) : Vec Ideal S8x2048x2048 .f32 := m ((c : Thread nD τ).loc main_arg0)
/-- The residual as launched. -/
abbrev xs (c : Dev nD) : Vec Ideal S8x2048x2048 .f32 := m ((c : Thread nD τ).loc main_arg1)
/-- The up projection's weight as launched. -/
abbrev ws (c : Dev nD) : Vec Ideal S1x2048x11264 .f32 := m ((c : Thread nD τ).loc main_arg2)
/-- The convolution's taps as launched. -/
abbrev cws (c : Dev nD) : Vec Ideal S1x3x5632 .f32 := m ((c : Thread nD τ).loc main_arg3)
/-- The convolution's bias as launched. -/
abbrev cbs (c : Dev nD) : Vec Ideal S1x5632 .f32 := m ((c : Thread nD τ).loc main_arg4)
/-- The down projection's weight as launched. -/
abbrev wds (c : Dev nD) : Vec Ideal S1x5632x2048 .f32 := m ((c : Thread nD τ).loc main_arg5)

theorem v0 (c : Dev nD) (i : Fin 16384) (d : Fin 2048) :
    (V m c (Pipeline.arrRef spec0 0) : Vec Ideal S16384x2048 .bf16) (ix2 i d) = rowOf (hs m c) i.val d := by
  simp only [V]
  entry_read
  pointwise
  unfold rowOf
  rw [show (⟨i.val / 2048, by omega⟩ : Fin 8) = ⟨i.val / 2048 % 8, Nat.mod_lt _ (by decide)⟩ from Fin.ext (by show i.val / 2048 = i.val / 2048 % 8; omega)]

theorem v1 (c : Dev nD) (i : Fin 16384) (d : Fin 2048) :
    (V m c (Pipeline.arrRef spec0 1) : Vec Ideal S16384x2048 .f32) (ix2 i d) = rowOf (xs m c) i.val d := by
  simp only [V]
  entry_read
  pointwise
  unfold rowOf
  rw [show (⟨i.val / 2048, by omega⟩ : Fin 8) = ⟨i.val / 2048 % 8, Nat.mod_lt _ (by decide)⟩ from Fin.ext (by show i.val / 2048 = i.val / 2048 % 8; omega)]

theorem v2 (c : Dev nD) (d : Fin 2048) (k : Fin 11264) :
    (V m c (Pipeline.arrRef spec0 2) : Vec Ideal S2048x11264 .bf16) (ix2 d k) = colOf (ws m c) k.val d := by
  simp only [V]
  entry_read
  pointwise
  unfold colOf
  rw [show (⟨k.val % 11264, Nat.mod_lt _ (by decide)⟩ : Fin 11264) = k from Fin.ext (Nat.mod_eq_of_lt k.isLt)]

theorem v4 (c : Dev nD) (k : Fin 5632) (e : Fin 2048) :
    (V m c (Pipeline.arrRef spec0 4) : Vec Ideal S5632x2048 .bf16) (ix2 k e) = downW (wds m c) k.val e := by
  simp only [V]
  entry_read
  pointwise
  unfold downW
  rw [show (⟨k.val % 5632, Nat.mod_lt _ (by decide)⟩ : Fin 5632) = k from Fin.ext (Nat.mod_eq_of_lt k.isLt)]

theorem v5 (c : Dev nD) (a : Fin 3) (k : Fin 5632) :
    (V m c (Pipeline.arrRef spec0 5) : Vec Ideal S3x5632 .f32) (ix2 a k) = tapOf (cws m c) a k.val := by
  simp only [V]
  entry_read
  pointwise
  unfold tapOf
  rw [show (⟨k.val % 5632, Nat.mod_lt _ (by decide)⟩ : Fin 5632) = k from Fin.ext (Nat.mod_eq_of_lt k.isLt)]

theorem v6 (c : Dev nD) (k : Fin 5632) :
    (V m c (Pipeline.arrRef spec0 6) : Vec Ideal S1x5632 .f32) (ix2 0 k) = biasOf (cbs m c) k.val := by
  simp only [V]
  entry_read
  pointwise
  unfold biasOf
  rw [show (⟨k.val % 5632, Nat.mod_lt _ (by decide)⟩ : Fin 5632) = k from Fin.ext (Nat.mod_eq_of_lt k.isLt)]

theorem b0 (c : Dev nD) (t : Fin cfg0.N) (r : Fin 512) (d : Fin 2048) :
    (iblk m c 0 t : Vec Ideal S512x2048 .bf16) (ix2 r d) = rowOf (hs m c) (512 * (t.val / 12) + r.val) d := by
  obtain ⟨e0, e1, e2, e3, e4, e5, e6, e7, e8, hi, -⟩ := idx t
  rw [← v0 m c ⟨512 * (t.val / 12) + r.val, by omega⟩ d]
  blk_ext [iblk, e0]

theorem b1 (c : Dev nD) (t : Fin cfg0.N) (r : Fin 512) (d : Fin 2048) :
    (iblk m c 1 t : Vec Ideal S512x2048 .f32) (ix2 r d) = rowOf (xs m c) (512 * (t.val / 12) + r.val) d := by
  obtain ⟨e0, e1, e2, e3, e4, e5, e6, e7, e8, hi, -⟩ := idx t
  rw [← v1 m c ⟨512 * (t.val / 12) + r.val, by omega⟩ d]
  blk_ext [iblk, e1]

theorem b2 (c : Dev nD) (t : Fin cfg0.N) (h : t.val % 12 ≤ 10) (d : Fin 2048) (j : Fin 512) :
    (iblk m c 2 t : Vec Ideal S2048x512 .bf16) (ix2 d j) = colOf (ws m c) (512 * (t.val % 12) + j.val) d := by
  obtain ⟨e0, e1, e2, e3, e4, e5, e6, e7, e8, hi, -⟩ := idx t
  rw [Nat.min_eq_left h] at e2
  rw [← v2 m c d ⟨512 * (t.val % 12) + j.val, by omega⟩]
  blk_ext [iblk, e2]

theorem b3 (c : Dev nD) (t : Fin cfg0.N) (h : t.val % 12 ≤ 10) (d : Fin 2048) (j : Fin 512) :
    (iblk m c 3 t : Vec Ideal S2048x512 .bf16) (ix2 d j) = colOf (ws m c) (5632 + (512 * (t.val % 12) + j.val)) d := by
  obtain ⟨e0, e1, e2, e3, e4, e5, e6, e7, e8, hi, -⟩ := idx t
  rw [Nat.min_eq_left h] at e3
  rw [← v2 m c d ⟨5632 + (512 * (t.val % 12) + j.val), by omega⟩]
  blk_ext [iblk, e3]

theorem b4 (c : Dev nD) (t : Fin cfg0.N) (j : Fin 512) (e : Fin 2048) :
    (iblk m c 4 t : Vec Ideal S512x2048 .bf16) (ix2 j e) = downW (wds m c) (512 * (t.val % 12 - 1) + j.val) e := by
  obtain ⟨e0, e1, e2, e3, e4, e5, e6, e7, e8, hi, -⟩ := idx t
  rw [← v4 m c ⟨512 * (t.val % 12 - 1) + j.val, by omega⟩ e]
  blk_ext [iblk, e4]

theorem b5 (c : Dev nD) (t : Fin cfg0.N) (h : t.val % 12 ≤ 10) (a : Fin 3) (j : Fin 512) :
    (iblk m c 5 t : Vec Ideal S3x512 .f32) (ix2 a j) = tapOf (cws m c) a (512 * (t.val % 12) + j.val) := by
  obtain ⟨e0, e1, e2, e3, e4, e5, e6, e7, e8, hi, -⟩ := idx t
  rw [Nat.min_eq_left h] at e5
  rw [← v5 m c a ⟨512 * (t.val % 12) + j.val, by omega⟩]
  blk_ext [iblk, e5]

theorem b6 (c : Dev nD) (t : Fin cfg0.N) (h : t.val % 12 ≤ 10) (j : Fin 512) :
    (iblk m c 6 t : Vec Ideal S1x512 .f32) (ix2 0 j) = biasOf (cbs m c) (512 * (t.val % 12) + j.val) := by
  obtain ⟨e0, e1, e2, e3, e4, e5, e6, e7, e8, hi, -⟩ := idx t
  rw [Nat.min_eq_left h] at e6
  rw [← v6 m c ⟨512 * (t.val % 12) + j.val, by omega⟩]
  blk_ext [iblk, e6]

end Cert.FfnIdeal.Ff

end
-- ==== Proof.FfnInv.lean ====
/- The feed-forward kernel's state after each grid point, by induction along the grid. -/
module

public import proofs.«01_k».proof.Proof.FfnState

@[expose] public section

set_option maxRecDepth 16384

noncomputable section

namespace Cert.FfnIdeal.Ff

open Cert.FfnIdeal Cert.FfnIdeal.Gen
open Idealize.ShloMosaic Idealize.ShloMosaic.TcCoe Idealize.SL.Sem

theorem inb_slab (k : ℕ) (hk : k < 11) : ∀ a, (![k, 0, 0] : Fin 3 → ℕ) a + S1x8x512.size a ≤ S11x8x512.size a := fun a => by
  fin_cases a
  · show k + 1 ≤ 11; omega
  · show 0 + 8 ≤ 8; omega
  · show 0 + 512 ≤ 512; omega

theorem slab_setSlab (h : Vec Ideal S11x8x512 .f32) (k : ℕ) (hk : k < 11) (w : Vec Ideal S1x8x512 .f32) : slab (setSlab h k w) k = w := by
  rw [← window_slab _ k hk (inb_slab k hk)]
  exact VecWindow.window_put_same _ _ _ _ _

theorem slab_setSlab_ne (h : Vec Ideal S11x8x512 .f32) (k k' : ℕ) (hk : k < 11) (hk' : k' < 11) (hne : k' ≠ k) (w : Vec Ideal S1x8x512 .f32) :
    slab (setSlab h k w) k' = slab h k' := by
  rw [← window_slab _ k' hk' (inb_slab k' hk'), ← window_slab h k' hk' (inb_slab k' hk')]
  refine VecWindow.window_put_of_disjoint _ _ _ _ _ _ _ 0 ?_
  show k' + 1 ≤ k ∨ k + 1 ≤ k'
  omega

variable (m : (ℓ : Loc nD τ sig) → Buf (Elt Ideal) ℓ)

/-- One channel's term of the down projection. -/
def term (c : Dev nD) (n : ℕ) (e : Fin 2048) (k : ℕ) : EReal := gatedOf (hs m c) (ws m c) (cws m c) (cbs m c) n k * downW (wds m c) k e

/-- The state after point `t` (tile `t / 12`, step `t % 12`). -/
structure Inv (c : Dev nD) (t : ℕ) (s : St Ideal) : Prop where
  o : ∀ (r : Fin 512) (e : Fin 2048), s.o (ix2 r e) = rowOf (xs m c) (512 * (t / 12) + r.val) e + ∑ k ∈ Finset.range (512 * (t % 12)), term m c (512 * (t / 12) + r.val) e k
  tail : ∀ (q : Fin 8) (j : Fin 512), s.tail (ix3 0 q j) = upOf (hs m c) (ws m c) (512 * (t / 12) + 504 + q.val) (512 * min (t % 12) 10 + j.val)
  act : t % 12 ≤ 10 → ∀ r j : Fin 512, s.act (ix3 0 r j) = gatedOf (hs m c) (ws m c) (cws m c) (cbs m c) (512 * (t / 12) + r.val) (512 * (t % 12) + j.val)
  halo : ∀ k < 11, ∀ n, (n = t / 12 ∧ k ≤ t % 12 ∨ n + 1 = t / 12 ∧ t % 12 < k) → ∀ (q : Fin 8) (j : Fin 512),
    slab s.halo k (ix3 0 q j) = upOf (hs m c) (ws m c) (512 * n + 504 + q.val) (512 * k + j.val)

/-- The kept rows a point writes, and the halo they give. -/
theorem halo_step (c : Dev nD) (t : Fin cfg0.N) (ht : t.val % 12 ≤ 10) (h : Vec Ideal S11x8x512 .f32)
    (hp : ∀ k < 11, ∀ n, (n = t.val / 12 ∧ k < t.val % 12 ∨ n + 1 = t.val / 12 ∧ t.val % 12 < k) → ∀ (q : Fin 8) (j : Fin 512),
      slab h k (ix3 0 q j) = upOf (hs m c) (ws m c) (512 * n + 504 + q.val) (512 * k + j.val)) :
    ∀ k < 11, ∀ n, (n = t.val / 12 ∧ k ≤ t.val % 12 ∨ n + 1 = t.val / 12 ∧ t.val % 12 < k) → ∀ (q : Fin 8) (j : Fin 512),
      slab (setSlab h ((grid0.coords t) 1).val (k0_pay24 (iblk m c 0 t) (iblk m c 2 t))) k (ix3 0 q j) = upOf (hs m c) (ws m c) (512 * n + 504 + q.val) (512 * k + j.val) := by
  intro k hk n hn q j
  rw [coord_col]
  by_cases e : k = t.val % 12
  · subst e
    rw [slab_setSlab _ _ hk, kept_eq (hs m c) (ws m c) (t.val / 12) (t.val % 12) _ _ (b0 m c t) (b2 m c t ht)]
    rw [show n = t.val / 12 by omega]
  · rw [slab_setSlab_ne _ _ _ (by omega) hk e]
    exact hp k hk n (by omega) q j

/-- The activation a point stores. -/
theorem act_step (c : Dev nD) (t : Fin cfg0.N) (ht : t.val % 12 ≤ 10) (h : Vec Ideal S11x8x512 .f32)
    (hp : t.val / 12 % 4 ≠ 0 → ∀ (q : Fin 8) (j : Fin 512),
      slab h (t.val % 12) (ix3 0 q j) = upOf (hs m c) (ws m c) (512 * (t.val / 12 - 1) + 504 + q.val) (512 * (t.val % 12) + j.val)) (r j : Fin 512) :
    actOf (F := Ideal) (grid0.coords t) (iblk m c 0 t) (iblk m c 2 t) (iblk m c 3 t) (iblk m c 5 t) (iblk m c 6 t) (slab h ((grid0.coords t) 1).val) (ix3 0 r j)
      = gatedOf (hs m c) (ws m c) (cws m c) (cbs m c) (512 * (t.val / 12) + r.val) (512 * (t.val % 12) + j.val) := by
  obtain ⟨-, -, -, -, -, -, -, -, -, hi, hg⟩ := idx t
  rw [coord_col]
  exact gated_eq (hs m c) (ws m c) (cws m c) (cbs m c) (t.val / 12) (t.val % 12) _ _ _ (b0 m c t) (b2 m c t ht) (b3 m c t ht) hi _ hp _ _ (b5 m c t ht) (b6 m c t ht) _ hg r j

/-- The down product a point adds. -/
theorem down_step (c : Dev nD) (t : Fin cfg0.N) (ht : t.val % 12 ≠ 0) (o : Vec Ideal S512x2048 .f32) (a : Vec Ideal S1x512x512 .bf16)
    (ho : ∀ (r : Fin 512) (e : Fin 2048), o (ix2 r e) = rowOf (xs m c) (512 * (t.val / 12) + r.val) e
      + ∑ k ∈ Finset.range (512 * (t.val % 12 - 1)), term m c (512 * (t.val / 12) + r.val) e k)
    (ha : ∀ r j : Fin 512, a (ix3 0 r j) = gatedOf (hs m c) (ws m c) (cws m c) (cbs m c) (512 * (t.val / 12) + r.val) (512 * (t.val % 12 - 1) + j.val)) (r : Fin 512) (e : Fin 2048) :
    downOf (F := Ideal) o a (iblk m c 4 t) (ix2 r e) = rowOf (xs m c) (512 * (t.val / 12) + r.val) e
      + ∑ k ∈ Finset.range (512 * (t.val % 12)), term m c (512 * (t.val / 12) + r.val) e k := by
  rw [down_at, ho, show 512 * (t.val % 12) = 512 * (t.val % 12 - 1) + 512 by omega, Finset.sum_range_add, ← add_assoc, Finset.sum_range (n := 512)]
  congr 1
  exact Finset.sum_congr rfl fun j _ => by rw [ha, b4]; rfl

theorem inv_zero (c : Dev nD) (s : St Ideal) (t : Fin cfg0.N) (h0 : t.val = 0) : Inv m c t.val (step m c t s) := by
  have e : step m c t s = _ := if_pos (by rw [h0])
  rw [e]
  have hc : t.val % 12 ≤ 10 := by rw [h0]; decide
  refine ⟨fun r e => ?_, fun q j => ?_, fun _ r j => ?_, ?_⟩
  · dsimp only
    rw [start_at, b1, h0]
    simp
  · dsimp only
    rw [kept_eq (hs m c) (ws m c) (t.val / 12) (t.val % 12) _ _ (b0 m c t) (b2 m c t hc), Nat.min_eq_left hc]
  · exact act_step m c t hc _ (fun h => absurd (by rw [h0]) h) r j
  · exact halo_step m c t hc _ (fun k hk n hn => by omega)

theorem inv_succ (c : Dev nD) (s : St Ideal) (t : Fin cfg0.N) (n : ℕ) (hn : t.val = n + 1) (I : Inv m c n s) : Inv m c t.val (step m c t s) := by
  by_cases h0 : t.val % 12 = 0
  · have e : step m c t s = _ := if_pos h0
    rw [e, if_neg (by omega : ¬ t.val < 12)]
    have hc : t.val % 12 ≤ 10 := by omega
    refine ⟨fun r e => ?_, fun q j => ?_, fun _ r j => ?_, ?_⟩
    · dsimp only
      rw [start_at, b1, h0]
      simp
    · dsimp only
      rw [kept_eq (hs m c) (ws m c) (t.val / 12) (t.val % 12) _ _ (b0 m c t) (b2 m c t hc), Nat.min_eq_left hc]
    · exact act_step m c t hc _ (fun h => I.halo _ (by omega) _ (by omega)) r j
    · exact halo_step m c t hc _ (fun k hk n hn => I.halo k hk n (by omega))
  have e1 : n / 12 = t.val / 12 := by omega
  have e2 : n % 12 = t.val % 12 - 1 := by omega
  have ho := I.o
  have ha := I.act (by omega)
  rw [e1, e2] at ho ha
  by_cases h11 : t.val % 12 = 11
  · have e : step m c t s = _ := (if_neg h0).trans (if_pos h11)
    rw [e]
    refine ⟨fun r e => ?_, fun q j => ?_, fun h => absurd h (by omega), fun k hk n' hn' => I.halo k hk n' (by omega)⟩
    · exact down_step m c t h0 _ _ ho ha r e
    · refine (I.tail q j).trans ?_
      rw [e1, show min (n % 12) 10 = min (t.val % 12) 10 by omega]
  · have e : step m c t s = _ := (if_neg h0).trans (if_neg h11)
    rw [e]
    have hc : t.val % 12 ≤ 10 := by omega
    refine ⟨fun r e => ?_, fun q j => ?_, fun _ r j => ?_, ?_⟩
    · exact down_step m c t h0 _ _ ho ha r e
    · dsimp only
      rw [kept_eq (hs m c) (ws m c) (t.val / 12) (t.val % 12) _ _ (b0 m c t) (b2 m c t hc), Nat.min_eq_left hc]
    · exact act_step m c t hc _ (fun h => I.halo _ (by omega) _ (by omega)) r j
    · exact halo_step m c t hc _ (fun k hk n' hn' => I.halo k hk n' (by omega))

/-- The state after each point. -/
theorem inv (c : Dev nD) (n : ℕ) (hn : n < cfg0.N) : Inv m c n (stBefore m c (n + 1)) := by
  induction n with
  | zero => rw [stBefore_succ m c ⟨0, hn⟩]; exact inv_zero m c _ ⟨0, hn⟩ rfl
  | succ n ih => rw [stBefore_succ m c ⟨n + 1, hn⟩]; exact inv_succ m c _ ⟨n + 1, hn⟩ n rfl (ih (by omega))

end Cert.FfnIdeal.Ff

end
-- ==== Proof.Ffn.lean ====
/- The feed-forward call's claims: every row is projected up, its first half convolved causally along its sequence and gated by its second half, and the
   product is projected down and added to the residual; the last eight projected rows of each tile are a second result. The kernel does so by tiles of rows
   and chunks of channels, the reference for the whole array at once; both are the same function of the launched arrays. -/
module

public import proofs.«01_k».proof.Defs
public import proofs.«01_k».proof.Proof.FfnInv
public import proofs.«01_k».proof.Proof.Gen.FfnReferenceIdeal.Read
public import proofs.«01_k».proof.Proof.Gen.Ffn.Frame
public import Idealize.ShloMosaic.Lib.Claim
public import Idealize.ShloMosaic.Lib.Quiescent

@[expose] public section

set_option maxRecDepth 16384

noncomputable section

namespace Cert.FfnReferenceIdeal.Read

open Idealize.ShloMosaic Idealize.ShloMosaic.TcCoe Cert.FfnReferenceIdeal
open Cert.FfnIdeal.Ff (rowOf colOf upOf backOf tapOf biasOf convOf gatedOf downW)

/-- A row by its sequence and its place. -/
theorem row_at (x : Vec Ideal S8x2048x2048 .f32) (b : Fin 8) (t d : Fin 2048) (n : ℕ) (hn : n = 2048 * b.val + t.val) : x (ix3 b t d) = rowOf x n d := by
  subst hn
  unfold rowOf
  rw [show (⟨(2048 * b.val + t.val) / 2048 % 8, Nat.mod_lt _ (by decide)⟩ : Fin 8) = b from Fin.ext (by show (2048 * b.val + t.val) / 2048 % 8 = b.val; omega),
    show (⟨(2048 * b.val + t.val) % 2048, Nat.mod_lt _ (by decide)⟩ : Fin 2048) = t from Fin.ext (by show (2048 * b.val + t.val) % 2048 = t.val; omega)]

theorem up_at (x0 : Vec Ideal S8x2048x2048 .f32) (x2 : Vec Ideal S1x2048x11264 .f32) (b : Fin 8) (t : Fin 2048) (k : Fin 11264) (n : ℕ) (hn : n = 2048 * b.val + t.val) :
    val_main_v1 (F := Ideal) x0 x2 (ix3 b t k) = upOf x0 x2 n k.val := by
  have e : val_main_v1 (F := Ideal) x0 x2 (ix3 b t k) = ∑ d : Fin 2048, x0 (ix3 b t d) * x2 (ix3 0 d k) := by
    pointwise [val_main_v1, val_main_v0]
  rw [e]
  unfold upOf
  refine Finset.sum_congr rfl fun d _ => ?_
  rw [row_at x0 b t d n hn]
  unfold colOf
  rw [show (⟨k.val % 11264, Nat.mod_lt _ (by decide)⟩ : Fin 11264) = k from Fin.ext (Nat.mod_eq_of_lt k.isLt)]

theorem low_at (x0 : Vec Ideal S8x2048x2048 .f32) (x2 : Vec Ideal S1x2048x11264 .f32) (b : Fin 8) (t : Fin 2048) (k : Fin 5632) (n : ℕ) (hn : n = 2048 * b.val + t.val) :
    val_main_v2 (F := Ideal) x0 x2 (ix3 b t k) = upOf x0 x2 n k.val := by
  refine Eq.trans ?_ (up_at x0 x2 b t ⟨k.val, by omega⟩ n hn)
  unfold val_main_v2
  generalize val_main_v1 (F := Ideal) x0 x2 = Q
  pointwise

theorem high_at (x0 : Vec Ideal S8x2048x2048 .f32) (x2 : Vec Ideal S1x2048x11264 .f32) (b : Fin 8) (t : Fin 2048) (k : Fin 5632) (n : ℕ) (hn : n = 2048 * b.val + t.val) :
    val_main_v3 (F := Ideal) x0 x2 (ix3 b t k) = upOf x0 x2 n (5632 + k.val) := by
  refine Eq.trans ?_ (up_at x0 x2 b t ⟨5632 + k.val, by omega⟩ n hn)
  unfold val_main_v3
  generalize val_main_v1 (F := Ideal) x0 x2 = Q
  pointwise

/-- The rows with two zero rows before them, read `2 - j` rows ahead: row `n` moved back by `j`. -/
theorem ext_at (x0 : Vec Ideal S8x2048x2048 .f32) (x2 : Vec Ideal S1x2048x11264 .f32) (b : Fin 8) (t : Fin 2048) (k : Fin 5632) (n : ℕ) (hn : n = 2048 * b.val + t.val)
    (j : ℕ) (hj : j ≤ 2) (u : Fin 2050) (hu : u.val = t.val + (2 - j)) :
    val_main_v5 (F := Ideal) x0 x2 (ix3 b u k) = backOf x0 x2 j n k.val := by
  have h2 := low_at x0 x2 b
  unfold val_main_v5
  generalize val_main_v2 (F := Ideal) x0 x2 = Q at h2 ⊢
  pointwise [val_main_v4, val_main_cst]
  unfold backOf
  by_cases h : u.val < 2
  · rw [dif_pos h, if_pos (by omega)]
  · rw [dif_neg h]
    have hj' : ¬ n % 2048 < j := by omega
    exact (h2 ⟨u.val - 2, by omega⟩ k (n - j) (by show n - j = 2048 * b.val + (u.val - 2); omega)).trans (if_neg hj').symm

theorem conv_at (x0 : Vec Ideal S8x2048x2048 .f32) (x2 : Vec Ideal S1x2048x11264 .f32) (x3 : Vec Ideal S1x3x5632 .f32) (x4 : Vec Ideal S1x5632 .f32)
    (b : Fin 8) (t : Fin 2048) (k : Fin 5632) (n : ℕ) (hn : n = 2048 * b.val + t.val) :
    val_main_v29 (F := Ideal) x0 x2 x3 x4 (ix3 b t k) = convOf x0 x2 x3 x4 n k.val := by
  have h2 := ext_at x0 x2 b t k n hn 2 (by decide) ⟨t.val, by omega⟩ rfl
  have h1 := ext_at x0 x2 b t k n hn 1 (by decide) ⟨1 + t.val, by omega⟩ (Nat.add_comm _ _)
  have h0 := ext_at x0 x2 b t k n hn 0 (by decide) ⟨2 + t.val, by omega⟩ (Nat.add_comm _ _)
  unfold val_main_v29 val_main_v28 val_main_v25 val_main_v22 val_main_v21 val_main_v18 val_main_v15 val_main_v12 val_main_v9
  generalize val_main_v5 (F := Ideal) x0 x2 = Q at h0 h1 h2 ⊢
  pointwise [val_main_v14, val_main_v13, val_main_v6, val_main_v11, val_main_v10, val_main_v8, val_main_v7, val_main_v20, val_main_v19, val_main_v17, val_main_v16,
    val_main_v27, val_main_v26, val_main_v24, val_main_v23]
  simp only [h0, h1, h2]
  unfold convOf tapOf biasOf
  rw [show (⟨k.val % 5632, Nat.mod_lt _ (by decide)⟩ : Fin 5632) = k from Fin.ext (Nat.mod_eq_of_lt k.isLt)]
  unfold backOf
  rw [if_neg (by omega : ¬ n % 2048 < 0)]
  rfl

theorem gated_at (x0 : Vec Ideal S8x2048x2048 .f32) (x2 : Vec Ideal S1x2048x11264 .f32) (x3 : Vec Ideal S1x3x5632 .f32) (x4 : Vec Ideal S1x5632 .f32)
    (b : Fin 8) (t : Fin 2048) (k : Fin 5632) (n : ℕ) (hn : n = 2048 * b.val + t.val) :
    val_main_v31 (F := Ideal) x0 x2 x3 x4 (ix3 b t k) = gatedOf x0 x2 x3 x4 n k.val := by
  have hc := conv_at x0 x2 x3 x4 b t k n hn
  have hg := high_at x0 x2 b t k n hn
  unfold val_main_v31 val_main_v30 val_main_call0_v5 val_main_call0_v3 val_main_call0_v1 val_main_call0_v0
  generalize val_main_v29 (F := Ideal) x0 x2 x3 x4 = Q at hc ⊢
  generalize val_main_v3 (F := Ideal) x0 x2 = R at hg ⊢
  pointwise [val_main_call0_v4, val_main_call0_v2, val_main_call0_cst, val_main_call0_cst_0]
  rw [hc, hg]
  rfl

theorem out_at (x0 x1 : Vec Ideal S8x2048x2048 .f32) (x2 : Vec Ideal S1x2048x11264 .f32) (x3 : Vec Ideal S1x3x5632 .f32) (x4 : Vec Ideal S1x5632 .f32)
    (x5 : Vec Ideal S1x5632x2048 .f32) (b : Fin 8) (t e : Fin 2048) (n : ℕ) (hn : n = 2048 * b.val + t.val) :
    val_main_v34 (F := Ideal) x0 x1 x2 x3 x4 x5 (ix3 b t e) = rowOf x1 n e + ∑ k ∈ Finset.range 5632, gatedOf x0 x2 x3 x4 n k * downW x5 k e := by
  have hg := fun k => gated_at x0 x2 x3 x4 b t k n hn
  unfold val_main_v34 val_main_v33
  generalize val_main_v31 (F := Ideal) x0 x2 x3 x4 = Q at hg ⊢
  pointwise [val_main_v32]
  rw [row_at x1 b t e n hn, Finset.sum_range]
  congr 1
  refine Finset.sum_congr rfl fun k _ => ?_
  rw [hg]
  unfold downW
  rw [show (⟨k.val % 5632, Nat.mod_lt _ (by decide)⟩ : Fin 5632) = k from Fin.ext (Nat.mod_eq_of_lt k.isLt)]

theorem flat_at (x0 x1 : Vec Ideal S8x2048x2048 .f32) (x2 : Vec Ideal S1x2048x11264 .f32) (x3 : Vec Ideal S1x3x5632 .f32) (x4 : Vec Ideal S1x5632 .f32)
    (x5 : Vec Ideal S1x5632x2048 .f32) (n : Fin 16384) (e : Fin 2048) :
    val_main_v35 (F := Ideal) x0 x1 x2 x3 x4 x5 (ix2 n e) = rowOf x1 n.val e + ∑ k ∈ Finset.range 5632, gatedOf x0 x2 x3 x4 n.val k * downW x5 k e := by
  refine Eq.trans ?_ (out_at x0 x1 x2 x3 x4 x5 ⟨n.val / 2048, by omega⟩ ⟨n.val % 2048, by omega⟩ e n.val (by show n.val = 2048 * (n.val / 2048) + n.val % 2048; omega))
  unfold val_main_v35
  generalize val_main_v34 (F := Ideal) x0 x1 x2 x3 x4 x5 = Q
  pointwise

theorem kept_at (x0 : Vec Ideal S8x2048x2048 .f32) (x2 : Vec Ideal S1x2048x11264 .f32) (i : Fin 32) (q : Fin 8) (k : Fin 5632) :
    val_main_v37 (F := Ideal) x0 x2 (ix3 i q k) = upOf x0 x2 (512 * i.val + 504 + q.val) k.val := by
  refine Eq.trans ?_ (low_at x0 x2 ⟨i.val / 4, by omega⟩ ⟨512 * (i.val % 4) + 504 + q.val, by omega⟩ k _
    (by show 512 * i.val + 504 + q.val = 2048 * (i.val / 4) + (512 * (i.val % 4) + 504 + q.val); omega))
  unfold val_main_v37 val_main_v36
  generalize val_main_v2 (F := Ideal) x0 x2 = Q
  pointwise
  rw [show (⟨i.val % 4 * 512 + (504 + q.val), by omega⟩ : Fin 2048) = ⟨512 * (i.val % 4) + 504 + q.val, by omega⟩ from Fin.ext (by
    show i.val % 4 * 512 + (504 + q.val) = 512 * (i.val % 4) + 504 + q.val; omega)]

end Cert.FfnReferenceIdeal.Read

namespace Cert.FfnIdeal.Ff

open Cert.FfnIdeal Cert.FfnIdeal.Gen
open Idealize.ShloMosaic Idealize.ShloMosaic.TcCoe Idealize.SL.Sem

section Frames

variable {F : FTy → Type} [FloatOps F]
variable (m : (ℓ : Loc nD τ sig) → Buf (Elt F) ℓ) (ρ : Dev nD → PrngReg)

/-- The run ends with the six arguments as launched and every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  θ_run_and (frame_of m ρ (dats m) (A_eq m) (run_main m ρ)) ((θ_run defs _ _).mono (fun _ h => h.2) (run_main_quiescent m ρ))

end Frames

theorem frame : Cert.quiescent_FfnIdeal := fun m g _ => run_frame m g

/-- The kernel and its idealization have the same bodies, -/
theorem defs₀_eq : @Cert.Ffn.defs₀ Bits _ _ = @Cert.FfnIdeal.defs₀ Bits _ _ := by
  unfold Cert.Ffn.defs₀ Cert.FfnIdeal.defs₀
  refine congrArg Defs.onTc (funext fun l => funext fun a => ?_)
  match l, a with
  | 0, (t, s) => rfl

/-- so their calls run the same. -/
theorem defs_eq : @Cert.Ffn.defs Bits _ _ = @Cert.FfnIdeal.defs Bits _ _ :=
  congrArg (Pipeline.defs (Cert.FfnIdeal.pcfgs (F := Bits))) defs₀_eq

theorem frame_bits : Cert.quiescent_Ffn := fun m g _ => by
  rw [defs_eq]
  exact (θ_run Cert.FfnIdeal.defs _ _).mono (fun _ h => h) (run_frame (F := Bits) m g)

theorem frame_ref : Cert.quiescent_FfnReferenceIdeal := fun m g _ =>
  (θ_run _ _ _).mono (fun r h => ⟨fun c => (h c).2.2, sem_eq_zero_of_no_sems rfl _⟩) (Cert.FfnReferenceIdeal.Value.run m g)

variable (m : (ℓ : Loc nD τ sig) → Buf (Elt Ideal) ℓ) (ρ : Dev nD → PrngReg)

/-- The first result at a row. -/
def outOf (c : Dev nD) (n : ℕ) (e : Fin 2048) : EReal := rowOf (xs m c) n e + ∑ k ∈ Finset.range 5632, term m c n e k

theorem outOf_congr (c : Dev nD) (n n' : ℕ) (e e' : Fin 2048) (hn : n = n') (he : e.val = e'.val) : outOf m c n e = outOf m c n' e' := by
  rw [hn, Fin.ext he]

theorem arr7 (c : Dev nD) : (dats m 0 c).arrAt 7 cfg0.N = fun i : S16384x2048.Idx => outOf m c (i 0).val (i 1) := by
  refine (dats m 0 c).arrAt_eq_of_covers 7 _ (by decide +kernel) fun t hf y => ?_
  have h11 : t.val % 12 = 11 := (flush0_7 t).mp hf
  obtain ⟨-, -, -, -, -, -, -, e7, -, ht, -⟩ := idx t
  obtain ⟨r, e, rfl⟩ : ∃ (r : Fin 512) (e : Fin 2048), y = ix2 r e := ⟨y 0, y 1, eq_ix2 y⟩
  blk_simp
  have h := (inv m c t.val t.isLt).o r e
  rw [h11] at h
  have h0 : win0_7.index t 0 = t.val / 12 := by rw [e7]; rfl
  have h1 : (((win0_7.blk t).view.emb (ix2 r e) : S16384x2048.Idx) 1).val = e.val := by blk_simp; simp [e7]
  rw [after_7]
  refine h.trans (outOf_congr m c _ _ _ _ ?_ h1.symm)
  show 512 * (t.val / 12) + r.val = win0_7.index t 0 * 512 + r.val
  rw [h0, Nat.mul_comm]

theorem arr8 (c : Dev nD) : (dats m 0 c).arrAt 8 cfg0.N
    = fun i : S32x8x5632.Idx => upOf (hs m c) (ws m c) (512 * (i 0).val + 504 + (i 1).val) (i 2).val := by
  refine (dats m 0 c).arrAt_eq_of_covers 8 _ (by decide +kernel) fun t hf y => ?_
  obtain ⟨-, -, -, -, -, -, -, -, e8, ht, -⟩ := idx t
  obtain ⟨q, j, hy⟩ : ∃ (q : Fin 8) (j : Fin 512), y = ix3 (0 : Fin 1) q j := ⟨y 1, y 2, (eq_ix3 y).trans (by
    rw [show y 0 = (0 : Fin 1) from Subsingleton.elim (α := Fin 1) _ _])⟩
  subst hy
  blk_simp
  have h := (inv m c t.val t.isLt).tail q j
  have g0 : win0_8.index t 0 + (0 : Fin 1).val = t.val / 12 := by rw [e8]; rfl
  have g1 : win0_8.index t 1 * 8 + q.val = q.val := by rw [e8]; exact Nat.zero_add _
  have g2 : win0_8.index t 2 * 512 + j.val = 512 * min (t.val % 12) 10 + j.val := by rw [e8, Nat.mul_comm]; rfl
  rw [after_8]
  exact h.trans (congrArg₂ (upOf (hs m c) (ws m c)) (congrArg₂ (fun a b => 512 * a + 504 + b) g0.symm g1.symm) g2.symm)

/-- The run with its two results named. -/
theorem run_named : θ_run defs (onTc (τ := τ) (main (F := Ideal))) ⟨m, fun _ => 0, ρ⟩ (fun r => ∀ c : Dev nD,
      r.2.mem ((c.tc : Thread nD τ).loc main_v10_0) = (dats m 0 c).arrAt 7 cfg0.N
      ∧ r.2.mem ((c.tc : Thread nD τ).loc main_v10_1) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).1 7, (h.1 c).1 8, h.2 c⟩)
    (θ_run_and (run_main m ρ) (frame_of m ρ (dats m) (A_eq m) (run_main m ρ)))

theorem same7 (c : Dev nD) :
    Cert.FfnReferenceIdeal.Read.val_main_v35 (F := Ideal) (hs m c) (xs m c) (ws m c) (cws m c) (cbs m c) (wds m c) = (dats m 0 c).arrAt 7 cfg0.N := by
  rw [arr7]
  funext i
  obtain ⟨x, y, rfl⟩ : ∃ (x : Fin 16384) (y : Fin 2048), i = ix2 x y := ⟨i 0, i 1, eq_ix2 i⟩
  exact Cert.FfnReferenceIdeal.Read.flat_at _ _ _ _ _ _ x y

theorem same8 (c : Dev nD) :
    Cert.FfnReferenceIdeal.Read.val_main_v37 (F := Ideal) (hs m c) (ws m c) = (dats m 0 c).arrAt 8 cfg0.N := by
  rw [arr8]
  funext i
  obtain ⟨x, q, k, rfl⟩ : ∃ (x : Fin 32) (q : Fin 8) (k : Fin 5632), i = ix3 x q k := ⟨i 0, i 1, i 2, eq_ix3 i⟩
  exact Cert.FfnReferenceIdeal.Read.kept_at _ _ x q k

theorem equal : Cert.algebraic_FfnIdeal_FfnReferenceIdeal := by
  pair_intro
  · run_from Cert.FfnIdeal.Ff.run_named m g
  · run_from Cert.FfnReferenceIdeal.Value.run m' g'
    · rw [Cert.FfnReferenceIdeal.Read.val_main_v35_eq]
      obtain ⟨h0, h1, h2, h3, h4, h5⟩ := hagree c
      rw [h0, h1, h2, h3, h4, h5]
      exact same7 m c
    · rw [Cert.FfnReferenceIdeal.Read.val_main_v37_eq]
      exact same8 m c

end Cert.FfnIdeal.Ff

end
-- ==== Proof.Rows.lean ====
/-
  What the calls that work on single rows compute, as functions of a row and of the weights.
-/
module

public import Idealize.ShloMosaic.Lib.Pointwise

@[expose] public section

noncomputable section

namespace Rows

open Idealize.ShloMosaic

/-- One over the root mean square of a row of 2048 entries, with the small constant both programs add. -/
def inv (x : Fin 2048 → EReal) : EReal :=
  Ideal.rsqrt (Ideal.div (∑ d, x d * x d) (Ideal.ofBits FTy.f32 1157627904#32) + Ideal.ofBits FTy.f32 897988541#32)

/-- A row plus the gated projection of its embedding. -/
def mixed (x : Fin 2048 → EReal) (p : Fin 256 → EReal) (g : Fin 2048 → EReal) (wg : Fin 2048 → Fin 2048 → EReal)
    (wp : Fin 256 → Fin 2048 → EReal) (e : Fin 2048) : EReal :=
  x e + Ideal.logistic (∑ d, x d * inv x * g d * wg d e) * ∑ j, p j * wp j e

/-- The normalised row. -/
def ple (x : Fin 2048 → EReal) (p : Fin 256 → EReal) (g : Fin 2048 → EReal) (wg : Fin 2048 → Fin 2048 → EReal)
    (wp : Fin 256 → Fin 2048 → EReal) (f : Fin 2048 → EReal) (e : Fin 2048) : EReal :=
  mixed x p g wg wp e * inv (mixed x p g wg wp) * f e

/-- A row plus the projection of two rows of 1024 entries set beside each other. -/
def proj (x : Fin 2048 → EReal) (h g : Fin 1024 → EReal) (w : Fin 2048 → Fin 2048 → EReal) (e : Fin 2048) : EReal :=
  x e + ((∑ j, h j * w ⟨j.val, by omega⟩ e) + ∑ j, g j * w ⟨1024 + j.val, by omega⟩ e)

/-- That row normalised. -/
def projNorm (x : Fin 2048 → EReal) (h g : Fin 1024 → EReal) (w : Fin 2048 → Fin 2048 → EReal) (f : Fin 2048 → EReal)
    (e : Fin 2048) : EReal :=
  proj x h g w e * inv (proj x h g w) * f e

end Rows

end
-- ==== Proof.Ple.lean ====
/-
  The per-layer embedding's claims: a row is normalised, projected and gated, an embedding's projection is added under the
  gate, and the sum is normalised again. The kernel does so tile by tile, the reference for all rows at once; both are read
  here as the same function of the launched arrays.
-/
module

public import proofs.«01_k».proof.Defs
public import proofs.«01_k».proof.Proof.Rows
public import proofs.«01_k».proof.Proof.Gen.Ple.Frame
public import proofs.«01_k».proof.Proof.Gen.PleIdeal.Value
public import proofs.«01_k».proof.Proof.Gen.PleReferenceIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.PleReferenceIdeal.Read

open Idealize.ShloMosaic Idealize.ShloMosaic.TcCoe Cert.PleReferenceIdeal

theorem mixed_at (x0 : Vec Ideal S8x2048x2048 .f32) (x1 : Vec Ideal S1x8x2048x256 .f32) (x2 : Vec Ideal S1x2048 .f32)
    (x3 : Vec Ideal S1x2048x2048 .f32) (x4 : Vec Ideal S1x256x2048 .f32) (b : Fin 8) (t e : Fin 2048) :
    val_main_v26 (F := Ideal) x0 x1 x2 x3 x4 (ix3 b t e)
      = Rows.mixed (fun d => x0 (ix3 b t d)) (fun j => x1 (ix4 0 b t j)) (fun d => x2 (ix2 0 d)) (fun d e => x3 (ix3 0 d e))
          (fun j e => x4 (ix3 0 j e)) e := by
  pointwise [val_main_v26, val_main_v25, val_main_v24, val_main_v23, val_main_v22, val_main_v21, val_main_v20, val_main_v19,
    val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1, val_main_cst_2, val_main_cst_3]
  rfl

theorem ple_at (x0 : Vec Ideal S8x2048x2048 .f32) (x1 : Vec Ideal S1x8x2048x256 .f32) (x2 : Vec Ideal S1x2048 .f32)
    (x3 : Vec Ideal S1x2048x2048 .f32) (x4 : Vec Ideal S1x256x2048 .f32) (x5 : Vec Ideal S2048 .f32) (b : Fin 8) (t e : Fin 2048) :
    val_main_v39 (F := Ideal) x0 x1 x2 x3 x4 x5 (ix3 b t e)
      = Rows.ple (fun d => x0 (ix3 b t d)) (fun j => x1 (ix4 0 b t j)) (fun d => x2 (ix2 0 d)) (fun d e => x3 (ix3 0 d e))
          (fun j e => x4 (ix3 0 j e)) (fun d => x5 (ix1 d)) e := by
  unfold val_main_v39 val_main_v36 val_main_v35 val_main_v34 val_main_v33 val_main_v31 val_main_v29 val_main_v28 val_main_v27
  have h := mixed_at x0 x1 x2 x3 x4 b t
  generalize val_main_v26 (F := Ideal) x0 x1 x2 x3 x4 = Q at h ⊢
  pointwise [val_main_v38, val_main_v37, val_main_v32, val_main_v30, val_main_cst_6, val_main_cst_5, val_main_cst_4]
  simp only [h]
  rfl

end Cert.PleReferenceIdeal.Read

namespace Cert.PleIdeal.Pl

open Idealize.ShloMosaic Idealize.ShloMosaic.TcCoe Cert.PleIdeal Cert.PleIdeal.Gen Idealize.SL.Sem

/-- What a grid point stores, at a row and a column of its tile. -/
theorem tile_at (x0 : Vec Ideal S512x2048 .f32) (x1 : Vec Ideal S512x256 .f32) (x2 : Vec Ideal S1x2048 .f32)
    (x3 : Vec Ideal S2048x2048 .bf16) (x4 : Vec Ideal S256x2048 .bf16) (x5 : Vec Ideal S1x2048 .f32) (r : Fin 512) (e : Fin 2048) :
    out0_6 (F := Ideal) x0 x1 x2 x3 x4 x5 (ix2 r e)
      = Rows.ple (fun d => x0 (ix2 r d)) (fun j => x1 (ix2 r j)) (fun d => x2 (ix2 0 d)) (fun d e => x3 (ix2 d e))
          (fun j e => x4 (ix2 j e)) (fun d => x5 (ix2 0 d)) e := by
  have hm : ∀ e, k0_pay2 (F := Ideal) x0 x2 x3 x1 x4 (ix2 r e)
      = Rows.mixed (fun d => x0 (ix2 r d)) (fun j => x1 (ix2 r j)) (fun d => x2 (ix2 0 d)) (fun d e => x3 (ix2 d e))
          (fun j e => x4 (ix2 j e)) e := by
    intro e
    pointwise [k0_pay2]
    rfl
  have hp : k0_pay1 (F := Ideal) (k0_pay2 x0 x2 x3 x1 x4) (k0_pay3 x5) (k0_pay4 x0 x2 x3 x1 x4) (ix2 r e)
      = Rows.ple (fun d => x0 (ix2 r d)) (fun j => x1 (ix2 r j)) (fun d => x2 (ix2 0 d)) (fun d e => x3 (ix2 d e))
          (fun j e => x4 (ix2 j e)) (fun d => x5 (ix2 0 d)) e := by
    unfold k0_pay4
    generalize k0_pay2 (F := Ideal) x0 x2 x3 x1 x4 = Q at hm ⊢
    pointwise [k0_pay1, k0_pay3]
    simp only [hm]
    rfl
  refine Eq.trans ?_ hp
  frame_out

variable (m : (ℓ : Loc nD τ sig) → Buf (Elt Ideal) ℓ)

theorem idx : ∀ t : Fin cfg0.N,
    win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![t.val, 0] ∧ t.val < 32 := by decide +kernel

/-- The rows as launched. -/
abbrev xs (c : Dev nD) : Vec Ideal S8x2048x2048 .f32 := m ((c : Thread nD τ).loc main_arg0)
/-- The embeddings as launched. -/
abbrev es (c : Dev nD) : Vec Ideal S1x8x2048x256 .f32 := m ((c : Thread nD τ).loc main_arg1)
/-- The first norm's weight as launched. -/
abbrev gs (c : Dev nD) : Vec Ideal S1x2048 .f32 := m ((c : Thread nD τ).loc main_arg2)
/-- The gate's weight as launched. -/
abbrev wgs (c : Dev nD) : Vec Ideal S1x2048x2048 .f32 := m ((c : Thread nD τ).loc main_arg3)
/-- The embeddings' projection as launched. -/
abbrev wps (c : Dev nD) : Vec Ideal S1x256x2048 .f32 := m ((c : Thread nD τ).loc main_arg4)
/-- The last norm's weight as launched. -/
abbrev fs (c : Dev nD) : Vec Ideal S2048 .f32 := m ((c : Thread nD τ).loc main_arg5)

theorem v0 (c : Dev nD) (b : Fin 8) (t d : Fin 2048) (i : Fin 16384) (hi : i.val = 2048 * b.val + t.val) :
    (V m c (Pipeline.arrRef spec0 0) : Vec Ideal S16384x2048 .f32) (ix2 i d) = xs m c (ix3 b t d) := by
  simp only [V]
  entry_read
  pointwise
  rw [show (⟨i.val / 2048, by omega⟩ : Fin 8) = b from Fin.ext (by show i.val / 2048 = b.val; omega),
    show (⟨i.val % 2048, by omega⟩ : Fin 2048) = t from Fin.ext (by show i.val % 2048 = t.val; omega)]

theorem v1 (c : Dev nD) (b : Fin 8) (t : Fin 2048) (d : Fin 256) (i : Fin 16384) (hi : i.val = 2048 * b.val + t.val) :
    (V m c (Pipeline.arrRef spec0 1) : Vec Ideal S16384x256 .f32) (ix2 i d) = es m c (ix4 0 b t d) := by
  simp only [V]
  entry_read
  pointwise
  rw [show (⟨i.val / 2048, by omega⟩ : Fin 8) = b from Fin.ext (by show i.val / 2048 = b.val; omega),
    show (⟨i.val % 2048, by omega⟩ : Fin 2048) = t from Fin.ext (by show i.val % 2048 = t.val; omega)]

theorem v2 (c : Dev nD) (d : Fin 2048) : (V m c (Pipeline.arrRef spec0 2) : Vec Ideal S1x2048 .f32) (ix2 0 d) = gs m c (ix2 0 d) := by
  simp only [V]
  entry_read
  pointwise

theorem v3 (c : Dev nD) (d e : Fin 2048) : (V m c (Pipeline.arrRef spec0 3) : Vec Ideal S2048x2048 .bf16) (ix2 d e) = wgs m c (ix3 0 d e) := by
  simp only [V]
  entry_read
  pointwise

theorem v4 (c : Dev nD) (d : Fin 256) (e : Fin 2048) : (V m c (Pipeline.arrRef spec0 4) : Vec Ideal S256x2048 .bf16) (ix2 d e) = wps m c (ix3 0 d e) := by
  simp only [V]
  entry_read
  pointwise

theorem v5 (c : Dev nD) (d : Fin 2048) : (V m c (Pipeline.arrRef spec0 5) : Vec Ideal S1x2048 .f32) (ix2 0 d) = fs m c (ix1 d) := by
  simp only [V]
  entry_read
  pointwise

/-- The result at a row of a sequence. -/
def G (c : Dev nD) (b : Fin 8) (t e : Fin 2048) : EReal :=
  Rows.ple (fun d => xs m c (ix3 b t d)) (fun j => es m c (ix4 0 b t j)) (fun d => gs m c (ix2 0 d)) (fun d e => wgs m c (ix3 0 d e))
    (fun j e => wps m c (ix3 0 j e)) (fun d => fs m c (ix1 d)) e

theorem G_congr (c : Dev nD) (b b' : Fin 8) (t t' e e' : Fin 2048) (hb : b.val = b'.val) (ht : t.val = t'.val) (he : e.val = e'.val) :
    G m c b t e = G m c b' t' e' := by
  rw [Fin.ext hb, Fin.ext ht, Fin.ext he]

theorem after_at (c : Dev nD) (t : Fin cfg0.N) (r : Fin 512) (e : Fin 2048) (b : Fin 8) (s : Fin 2048)
    (hs : 512 * t.val + r.val = 2048 * b.val + s.val) : (dats m 0 c).after 6 t (ix2 r e) = G m c b s e := by
  obtain ⟨e0, e1, e2, e3, e4, e5, e6, ht⟩ := idx t
  have b0 : ∀ d, (iblk m c 0 t : Vec Ideal S512x2048 .f32) (ix2 r d) = xs m c (ix3 b s d) := fun d => by
    rw [← v0 m c b s d ⟨512 * t.val + r.val, by omega⟩ hs]
    blk_ext [iblk, e0]
  have b1 : ∀ d, (iblk m c 1 t : Vec Ideal S512x256 .f32) (ix2 r d) = es m c (ix4 0 b s d) := fun d => by
    rw [← v1 m c b s d ⟨512 * t.val + r.val, by omega⟩ hs]
    blk_ext [iblk, e1]
  have b2 : ∀ d, (iblk m c 2 t : Vec Ideal S1x2048 .f32) (ix2 0 d) = gs m c (ix2 0 d) := fun d => by
    rw [← v2 m c d]
    blk_ext [iblk, e2]
  have b3 : ∀ d e, (iblk m c 3 t : Vec Ideal S2048x2048 .bf16) (ix2 d e) = wgs m c (ix3 0 d e) := fun d e => by
    rw [← v3 m c d e]
    blk_ext [iblk, e3]
  have b4 : ∀ d e, (iblk m c 4 t : Vec Ideal S256x2048 .bf16) (ix2 d e) = wps m c (ix3 0 d e) := fun d e => by
    rw [← v4 m c d e]
    blk_ext [iblk, e4]
  have b5 : ∀ d, (iblk m c 5 t : Vec Ideal S1x2048 .f32) (ix2 0 d) = fs m c (ix1 d) := fun d => by
    rw [← v5 m c d]
    blk_ext [iblk, e5]
  rw [after0_6]
  refine (tile_at _ _ _ _ _ _ r e).trans ?_
  simp only [b0, b1, b2, b3, b4, b5]
  rfl

theorem arr (c : Dev nD) : (dats m 0 c).arrAt 6 cfg0.N = fun i : S16384x2048.Idx =>
    G m c ⟨(i 0).val / 2048, by have := (i 0).isLt; simp at this; omega⟩ ⟨(i 0).val % 2048, by omega⟩ (i 1) := by
  refine (dats m 0 c).arrAt_eq_of_covers 6 _ (by decide +kernel) fun t hf y => ?_
  obtain ⟨-, -, -, -, -, -, e6, ht⟩ := idx t
  obtain ⟨r, e, rfl⟩ : ∃ (r : Fin 512) (e : Fin 2048), y = ix2 r e := ⟨y 0, y 1, eq_ix2 y⟩
  blk_simp
  have h := after_at m c t r e ⟨(512 * t.val + r.val) / 2048, by omega⟩ ⟨(512 * t.val + r.val) % 2048, by omega⟩
    (by show 512 * t.val + r.val = 2048 * ((512 * t.val + r.val) / 2048) + (512 * t.val + r.val) % 2048; omega)
  have h0 : win0_6.index t 0 = t.val := by rw [e6]; rfl
  have h1 : (((win0_6.blk t).view.emb (ix2 r e) : S16384x2048.Idx) 1).val = e.val := by blk_simp; simp [e6]
  refine h.trans (G_congr m c _ _ _ _ _ _ ?_ ?_ h1.symm)
  · show (512 * t.val + r.val) / 2048 = (win0_6.index t 0 * 512 + r.val) / 2048
    rw [h0, Nat.mul_comm]
  · show (512 * t.val + r.val) % 2048 = (win0_6.index t 0 * 512 + r.val) % 2048
    rw [h0, Nat.mul_comm]

theorem frame : Cert.quiescent_PleIdeal := fun m g _ => Gen.frame m g

theorem frame_bits : Cert.quiescent_Ple := fun m g _ => Cert.Ple.Gen.frame m g

theorem frame_ref : Cert.quiescent_PleReferenceIdeal := fun m g _ =>
  (θ_run _ _ _).mono (fun r h => ⟨fun c => (h c).2, sem_eq_zero_of_no_sems rfl _⟩) (Cert.PleReferenceIdeal.Value.run m g)

theorem same (c : Dev nD) :
    Cert.PleReferenceIdeal.Read.val_main_v40 (F := Ideal) (xs m c) (es m c) (gs m c) (wgs m c) (wps m c) (fs m c)
      = (dats m 0 c).arrAt 6 cfg0.N := by
  rw [arr]
  funext i
  refine (Cert.PleReferenceIdeal.Read.val_main_v40_apply _ _ _ _ _ _ i).trans ?_
  refine Eq.trans (congrArg _ ?_) (Cert.PleReferenceIdeal.Read.ple_at _ _ _ _ _ _ _ _ _)
  obtain ⟨x, y, rfl⟩ : ∃ (x : Fin 16384) (y : Fin 2048), i = ix2 x y := ⟨i 0, i 1, eq_ix2 i⟩
  funext a
  refine Fin.ext ?_
  match a with
  | ⟨0, _⟩ => show (x.val * 2048 + y.val) / 4194304 = x.val / 2048; omega
  | ⟨1, _⟩ => show (x.val * 2048 + y.val) / 2048 % 2048 = x.val % 2048; omega
  | ⟨2, _⟩ => show (x.val * 2048 + y.val) % 2048 = y.val; omega

theorem equal : Cert.algebraic_PleIdeal_PleReferenceIdeal := by
  pair_intro
  · run_from Cert.PleIdeal.Value.run_blocks m g
  · run_from Cert.PleReferenceIdeal.Value.run m' g'
    rw [Cert.PleReferenceIdeal.Read.val_main_v40_eq]
    obtain ⟨h0, h1, h2, h3, h4, h5⟩ := hagree c
    rw [h0, h1, h2, h3, h4, h5]
    exact same m c

end Cert.PleIdeal.Pl

end
-- ==== Proof.OutProj.lean ====
/-
  The output projection's claims: two rows of heads, set beside each other, are projected and added to the residual row, and
  the sum is also normalised. The kernel multiplies the two halves apart and adds; the reference multiplies the joined row.
-/
module

public import proofs.«01_k».proof.Defs
public import proofs.«01_k».proof.Proof.Rows
public import proofs.«01_k».proof.Proof.Gen.OutProj.Frame
public import proofs.«01_k».proof.Proof.Gen.OutProjIdeal.Value
public import proofs.«01_k».proof.Proof.Gen.OutProjReferenceIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.OutProjReferenceIdeal.Read

open Idealize.ShloMosaic Idealize.ShloMosaic.TcCoe Cert.OutProjReferenceIdeal

theorem proj_at (x0 x1 : Vec Ideal S8x2048x1024 .f32) (x2 : Vec Ideal S8x2048x2048 .f32) (x3 : Vec Ideal S1x2048x2048 .f32)
    (b : Fin 8) (t e : Fin 2048) :
    val_main_v3 (F := Ideal) x0 x1 x2 x3 (ix3 b t e)
      = Rows.proj (fun d => x2 (ix3 b t d)) (fun j => x0 (ix3 b t j)) (fun j => x1 (ix3 b t j)) (fun d e => x3 (ix3 0 d e)) e := by
  pointwise [val_main_v3, val_main_v2, val_main_v1, val_main_v0]
  rfl

theorem norm_at (x0 x1 : Vec Ideal S8x2048x1024 .f32) (x2 : Vec Ideal S8x2048x2048 .f32) (x3 : Vec Ideal S1x2048x2048 .f32)
    (x4 : Vec Ideal S1x2048 .f32) (b : Fin 8) (t e : Fin 2048) :
    val_main_v18 (F := Ideal) x0 x1 x2 x3 x4 (ix3 b t e)
      = Rows.projNorm (fun d => x2 (ix3 b t d)) (fun j => x0 (ix3 b t j)) (fun j => x1 (ix3 b t j)) (fun d e => x3 (ix3 0 d e))
          (fun d => x4 (ix2 0 d)) e := by
  unfold val_main_v18 val_main_v15 val_main_v14 val_main_v13 val_main_v12 val_main_v10 val_main_v8 val_main_v7 val_main_v6
  have h := proj_at x0 x1 x2 x3 b t
  generalize val_main_v3 (F := Ideal) x0 x1 x2 x3 = Q at h ⊢
  pointwise [val_main_v17, val_main_v16, val_main_v11, val_main_v9, val_main_v5, val_main_cst, val_main_cst_0, val_main_cst_1]
  simp only [h]
  rfl

end Cert.OutProjReferenceIdeal.Read

namespace Cert.OutProjIdeal.Op

open Idealize.ShloMosaic Idealize.ShloMosaic.TcCoe Cert.OutProjIdeal Cert.OutProjIdeal.Gen Idealize.SL.Sem

/-- A whole weight from its two halves' arrays. -/
def joined (w1 w2 : Vec Ideal S1024x2048 .bf16) (d e : Fin 2048) : EReal :=
  if h : d.val < 1024 then w1 (ix2 ⟨d.val, h⟩ e) else w2 (ix2 ⟨d.val - 1024, by omega⟩ e)

theorem pay1_at (x0 x1 : Vec Ideal S512x1024 .bf16) (x2 : Vec Ideal S512x2048 .f32) (x3 x4 : Vec Ideal S1024x2048 .bf16)
    (r : Fin 512) (e : Fin 2048) :
    k0_pay1 (F := Ideal) x0 x3 x1 x4 x2 (ix2 r e)
      = Rows.proj (fun d => x2 (ix2 r d)) (fun j => x0 (ix2 r j)) (fun j => x1 (ix2 r j)) (joined x3 x4) e := by
  pointwise [k0_pay1]
  unfold Rows.proj
  refine congrArg (x2 (ix2 r e) + ·) (congrArg₂ (· + ·) (Finset.sum_congr rfl fun j _ => ?_) (Finset.sum_congr rfl fun j _ => ?_))
  · unfold joined
    rw [dif_pos j.isLt]
  · unfold joined
    rw [dif_neg (by show ¬ 1024 + j.val < 1024; omega)]
    congr 3
    refine Fin.ext ?_
    show j.val = 1024 + j.val - 1024
    omega

/-- The first tile a grid point stores, at a row and a column. -/
theorem tile6_at (x0 x1 : Vec Ideal S512x1024 .bf16) (x2 : Vec Ideal S512x2048 .f32) (x3 x4 : Vec Ideal S1024x2048 .bf16)
    (x5 : Vec Ideal S1x2048 .f32) (r : Fin 512) (e : Fin 2048) :
    out0_6 (F := Ideal) x0 x1 x2 x3 x4 x5 (ix2 r e)
      = Rows.proj (fun d => x2 (ix2 r d)) (fun j => x0 (ix2 r j)) (fun j => x1 (ix2 r j)) (joined x3 x4) e := by
  refine Eq.trans ?_ (pay1_at x0 x1 x2 x3 x4 r e)
  frame_out

/-- The second tile a grid point stores, at a row and a column. -/
theorem tile7_at (x0 x1 : Vec Ideal S512x1024 .bf16) (x2 : Vec Ideal S512x2048 .f32) (x3 x4 : Vec Ideal S1024x2048 .bf16)
    (x5 : Vec Ideal S1x2048 .f32) (r : Fin 512) (e : Fin 2048) :
    out0_7 (F := Ideal) x0 x1 x2 x3 x4 x5 (ix2 r e)
      = Rows.projNorm (fun d => x2 (ix2 r d)) (fun j => x0 (ix2 r j)) (fun j => x1 (ix2 r j)) (joined x3 x4) (fun d => x5 (ix2 0 d)) e := by
  have h : k0_pay2 (F := Ideal) x0 x3 x1 x4 x2 x5 (ix2 r e)
      = Rows.projNorm (fun d => x2 (ix2 r d)) (fun j => x0 (ix2 r j)) (fun j => x1 (ix2 r j)) (joined x3 x4) (fun d => x5 (ix2 0 d)) e := by
    unfold k0_pay2
    have hm := pay1_at x0 x1 x2 x3 x4 r
    generalize k0_pay1 (F := Ideal) x0 x3 x1 x4 x2 = Q at hm ⊢
    pointwise
    simp only [hm]
    rfl
  refine Eq.trans ?_ h
  frame_out

variable (m : (ℓ : Loc nD τ sig) → Buf (Elt Ideal) ℓ)

theorem idx : ∀ t : Fin cfg0.N,
    win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![t.val, 0] ∧ win0_7.index t = ![t.val, 0]
    ∧ t.val < 32 := by decide +kernel

/-- The recurrence's rows as launched. -/
abbrev hs (c : Dev nD) : Vec Ideal S8x2048x1024 .f32 := m ((c : Thread nD τ).loc main_arg0)
/-- The attention's rows as launched. -/
abbrev ms (c : Dev nD) : Vec Ideal S8x2048x1024 .f32 := m ((c : Thread nD τ).loc main_arg1)
/-- The residual rows as launched. -/
abbrev xs (c : Dev nD) : Vec Ideal S8x2048x2048 .f32 := m ((c : Thread nD τ).loc main_arg2)
/-- The projection's weight as launched. -/
abbrev ws (c : Dev nD) : Vec Ideal S1x2048x2048 .f32 := m ((c : Thread nD τ).loc main_arg3)
/-- The norm's weight as launched. -/
abbrev fs (c : Dev nD) : Vec Ideal S1x2048 .f32 := m ((c : Thread nD τ).loc main_arg4)

theorem v0 (c : Dev nD) (b : Fin 8) (t : Fin 2048) (d : Fin 1024) (i : Fin 16384) (hi : i.val = 2048 * b.val + t.val) :
    (V m c (Pipeline.arrRef spec0 0) : Vec Ideal S16384x1024 .bf16) (ix2 i d) = hs m c (ix3 b t d) := by
  simp only [V]
  entry_read
  pointwise
  rw [show (⟨i.val / 2048, by omega⟩ : Fin 8) = b from Fin.ext (by show i.val / 2048 = b.val; omega),
    show (⟨i.val % 2048, by omega⟩ : Fin 2048) = t from Fin.ext (by show i.val % 2048 = t.val; omega)]

theorem v1 (c : Dev nD) (b : Fin 8) (t : Fin 2048) (d : Fin 1024) (i : Fin 16384) (hi : i.val = 2048 * b.val + t.val) :
    (V m c (Pipeline.arrRef spec0 1) : Vec Ideal S16384x1024 .bf16) (ix2 i d) = ms m c (ix3 b t d) := by
  simp only [V]
  entry_read
  pointwise
  rw [show (⟨i.val / 2048, by omega⟩ : Fin 8) = b from Fin.ext (by show i.val / 2048 = b.val; omega),
    show (⟨i.val % 2048, by omega⟩ : Fin 2048) = t from Fin.ext (by show i.val % 2048 = t.val; omega)]

theorem v2 (c : Dev nD) (b : Fin 8) (t d : Fin 2048) (i : Fin 16384) (hi : i.val = 2048 * b.val + t.val) :
    (V m c (Pipeline.arrRef spec0 2) : Vec Ideal S16384x2048 .f32) (ix2 i d) = xs m c (ix3 b t d) := by
  simp only [V]
  entry_read
  pointwise
  rw [show (⟨i.val / 2048, by omega⟩ : Fin 8) = b from Fin.ext (by show i.val / 2048 = b.val; omega),
    show (⟨i.val % 2048, by omega⟩ : Fin 2048) = t from Fin.ext (by show i.val % 2048 = t.val; omega)]

theorem v3 (c : Dev nD) (d : Fin 1024) (e : Fin 2048) :
    (V m c (Pipeline.arrRef spec0 3) : Vec Ideal S1024x2048 .bf16) (ix2 d e) = ws m c (ix3 0 ⟨d.val, by omega⟩ e) := by
  simp only [V]
  entry_read
  pointwise

theorem v4 (c : Dev nD) (d : Fin 1024) (e : Fin 2048) :
    (V m c (Pipeline.arrRef spec0 4) : Vec Ideal S1024x2048 .bf16) (ix2 d e) = ws m c (ix3 0 ⟨1024 + d.val, by omega⟩ e) := by
  simp only [V]
  entry_read
  pointwise

theorem v5 (c : Dev nD) (d : Fin 2048) : (V m c (Pipeline.arrRef spec0 5) : Vec Ideal S1x2048 .f32) (ix2 0 d) = fs m c (ix2 0 d) := by
  simp only [V]
  entry_read
  pointwise

/-- The first result at a row of a sequence. -/
def G6 (c : Dev nD) (b : Fin 8) (t e : Fin 2048) : EReal :=
  Rows.proj (fun d => xs m c (ix3 b t d)) (fun j => hs m c (ix3 b t j)) (fun j => ms m c (ix3 b t j)) (fun d e => ws m c (ix3 0 d e)) e

/-- The second result at a row of a sequence. -/
def G7 (c : Dev nD) (b : Fin 8) (t e : Fin 2048) : EReal :=
  Rows.projNorm (fun d => xs m c (ix3 b t d)) (fun j => hs m c (ix3 b t j)) (fun j => ms m c (ix3 b t j)) (fun d e => ws m c (ix3 0 d e))
    (fun d => fs m c (ix2 0 d)) e

theorem congr_row (G : Fin 8 → Fin 2048 → Fin 2048 → EReal) (b b' : Fin 8) (t t' e e' : Fin 2048) (hb : b.val = b'.val)
    (ht : t.val = t'.val) (he : e.val = e'.val) : G b t e = G b' t' e' := by
  rw [Fin.ext hb, Fin.ext ht, Fin.ext he]

/-- What a grid point's windows hold, at a row of the tile. -/
theorem blocks (c : Dev nD) (t : Fin cfg0.N) (r : Fin 512) (b : Fin 8) (s : Fin 2048)
    (hr : 512 * t.val + r.val = 2048 * b.val + s.val) :
    ((fun d => (iblk m c 0 t : Vec Ideal S512x1024 .bf16) (ix2 r d)) = fun d => hs m c (ix3 b s d))
    ∧ ((fun d => (iblk m c 1 t : Vec Ideal S512x1024 .bf16) (ix2 r d)) = fun d => ms m c (ix3 b s d))
    ∧ ((fun d => (iblk m c 2 t : Vec Ideal S512x2048 .f32) (ix2 r d)) = fun d => xs m c (ix3 b s d))
    ∧ joined (iblk m c 3 t : Vec Ideal S1024x2048 .bf16) (iblk m c 4 t : Vec Ideal S1024x2048 .bf16) = (fun d e => ws m c (ix3 0 d e))
    ∧ ((fun d => (iblk m c 5 t : Vec Ideal S1x2048 .f32) (ix2 0 d)) = fun d => fs m c (ix2 0 d)) := by
  obtain ⟨e0, e1, e2, e3, e4, e5, -, -, ht⟩ := idx t
  have b3 : ∀ d e, (iblk m c 3 t : Vec Ideal S1024x2048 .bf16) (ix2 d e) = ws m c (ix3 0 ⟨d.val, by omega⟩ e) := fun d e => by
    rw [← v3 m c d e]
    blk_ext [iblk, e3]
  have b4 : ∀ d e, (iblk m c 4 t : Vec Ideal S1024x2048 .bf16) (ix2 d e) = ws m c (ix3 0 ⟨1024 + d.val, by omega⟩ e) := fun d e => by
    rw [← v4 m c d e]
    blk_ext [iblk, e4]
  refine ⟨funext fun d => ?_, funext fun d => ?_, funext fun d => ?_, funext fun d => funext fun e => ?_, funext fun d => ?_⟩
  · rw [← v0 m c b s d ⟨512 * t.val + r.val, by omega⟩ hr]
    blk_ext [iblk, e0]
  · rw [← v1 m c b s d ⟨512 * t.val + r.val, by omega⟩ hr]
    blk_ext [iblk, e1]
  · rw [← v2 m c b s d ⟨512 * t.val + r.val, by omega⟩ hr]
    blk_ext [iblk, e2]
  · unfold joined
    by_cases h : d.val < 1024
    · rw [dif_pos h, b3]
    · rw [dif_neg h, b4]
      congr 2
      refine Fin.ext ?_
      show 1024 + (d.val - 1024) = d.val
      omega
  · rw [← v5 m c d]
    blk_ext [iblk, e5]

theorem after6_at (c : Dev nD) (t : Fin cfg0.N) (r : Fin 512) (e : Fin 2048) (b : Fin 8) (s : Fin 2048)
    (hr : 512 * t.val + r.val = 2048 * b.val + s.val) : (dats m 0 c).after 6 t (ix2 r e) = G6 m c b s e := by
  obtain ⟨b0, b1, b2, b3, b5⟩ := blocks m c t r b s hr
  rw [after0_6]
  refine (tile6_at _ _ _ _ _ _ r e).trans ?_
  unfold G6
  rw [← b0, ← b1, ← b2, ← b3]

theorem after7_at (c : Dev nD) (t : Fin cfg0.N) (r : Fin 512) (e : Fin 2048) (b : Fin 8) (s : Fin 2048)
    (hr : 512 * t.val + r.val = 2048 * b.val + s.val) : (dats m 0 c).after 7 t (ix2 r e) = G7 m c b s e := by
  obtain ⟨b0, b1, b2, b3, b5⟩ := blocks m c t r b s hr
  rw [after0_7]
  refine (tile7_at _ _ _ _ _ _ r e).trans ?_
  unfold G7
  rw [← b0, ← b1, ← b2, ← b3, ← b5]

theorem arr6 (c : Dev nD) : (dats m 0 c).arrAt 6 cfg0.N = fun i : S16384x2048.Idx =>
    G6 m c ⟨(i 0).val / 2048, by have := (i 0).isLt; simp at this; omega⟩ ⟨(i 0).val % 2048, by omega⟩ (i 1) := by
  refine (dats m 0 c).arrAt_eq_of_covers 6 _ (by decide +kernel) fun t hf y => ?_
  obtain ⟨-, -, -, -, -, -, e6, -, ht⟩ := idx t
  obtain ⟨r, e, rfl⟩ : ∃ (r : Fin 512) (e : Fin 2048), y = ix2 r e := ⟨y 0, y 1, eq_ix2 y⟩
  blk_simp
  have h := after6_at m c t r e ⟨(512 * t.val + r.val) / 2048, by omega⟩ ⟨(512 * t.val + r.val) % 2048, by omega⟩
    (by show 512 * t.val + r.val = 2048 * ((512 * t.val + r.val) / 2048) + (512 * t.val + r.val) % 2048; omega)
  have h0 : win0_6.index t 0 = t.val := by rw [e6]; rfl
  have h1 : (((win0_6.blk t).view.emb (ix2 r e) : S16384x2048.Idx) 1).val = e.val := by blk_simp; simp [e6]
  refine h.trans (congr_row (G6 m c) _ _ _ _ _ _ ?_ ?_ h1.symm)
  · show (512 * t.val + r.val) / 2048 = (win0_6.index t 0 * 512 + r.val) / 2048
    rw [h0, Nat.mul_comm]
  · show (512 * t.val + r.val) % 2048 = (win0_6.index t 0 * 512 + r.val) % 2048
    rw [h0, Nat.mul_comm]

theorem arr7 (c : Dev nD) : (dats m 0 c).arrAt 7 cfg0.N = fun i : S16384x2048.Idx =>
    G7 m c ⟨(i 0).val / 2048, by have := (i 0).isLt; simp at this; omega⟩ ⟨(i 0).val % 2048, by omega⟩ (i 1) := by
  refine (dats m 0 c).arrAt_eq_of_covers 7 _ (by decide +kernel) fun t hf y => ?_
  obtain ⟨-, -, -, -, -, -, -, e7, ht⟩ := idx t
  obtain ⟨r, e, rfl⟩ : ∃ (r : Fin 512) (e : Fin 2048), y = ix2 r e := ⟨y 0, y 1, eq_ix2 y⟩
  blk_simp
  have h := after7_at m c t r e ⟨(512 * t.val + r.val) / 2048, by omega⟩ ⟨(512 * t.val + r.val) % 2048, by omega⟩
    (by show 512 * t.val + r.val = 2048 * ((512 * t.val + r.val) / 2048) + (512 * t.val + r.val) % 2048; omega)
  have h0 : win0_7.index t 0 = t.val := by rw [e7]; rfl
  have h1 : (((win0_7.blk t).view.emb (ix2 r e) : S16384x2048.Idx) 1).val = e.val := by blk_simp; simp [e7]
  refine h.trans (congr_row (G7 m c) _ _ _ _ _ _ ?_ ?_ h1.symm)
  · show (512 * t.val + r.val) / 2048 = (win0_7.index t 0 * 512 + r.val) / 2048
    rw [h0, Nat.mul_comm]
  · show (512 * t.val + r.val) % 2048 = (win0_7.index t 0 * 512 + r.val) % 2048
    rw [h0, Nat.mul_comm]

theorem frame : Cert.quiescent_OutProjIdeal := fun m g _ => Gen.frame m g

theorem frame_bits : Cert.quiescent_OutProj := fun m g _ => Cert.OutProj.Gen.frame m g

theorem frame_ref : Cert.quiescent_OutProjReferenceIdeal := fun m g _ =>
  (θ_run _ _ _).mono (fun r h => ⟨fun c => (h c).2.2, sem_eq_zero_of_no_sems rfl _⟩) (Cert.OutProjReferenceIdeal.Value.run m g)

/-- The row and the column of a flat position, as the reshape reads them. -/
theorem row_idx (x : Fin 16384) (y : Fin 2048) :
    Cert.OutProjReferenceIdeal.Read.idx_main_v4 (ix2 x y) = ix3 (⟨x.val / 2048, by omega⟩ : Fin 8) (⟨x.val % 2048, by omega⟩ : Fin 2048) y := by
  funext a
  refine Fin.ext ?_
  match a with
  | ⟨0, _⟩ => show (x.val * 2048 + y.val) / 4194304 = x.val / 2048; omega
  | ⟨1, _⟩ => show (x.val * 2048 + y.val) / 2048 % 2048 = x.val % 2048; omega
  | ⟨2, _⟩ => show (x.val * 2048 + y.val) % 2048 = y.val; omega

theorem same6 (c : Dev nD) :
    Cert.OutProjReferenceIdeal.Read.val_main_v4 (F := Ideal) (hs m c) (ms m c) (xs m c) (ws m c) = (dats m 0 c).arrAt 6 cfg0.N := by
  rw [arr6]
  funext i
  obtain ⟨x, y, rfl⟩ : ∃ (x : Fin 16384) (y : Fin 2048), i = ix2 x y := ⟨i 0, i 1, eq_ix2 i⟩
  refine (Cert.OutProjReferenceIdeal.Read.val_main_v4_apply _ _ _ _ _).trans ?_
  exact (congrArg _ (row_idx x y)).trans (Cert.OutProjReferenceIdeal.Read.proj_at _ _ _ _ _ _ _)

theorem same7 (c : Dev nD) :
    Cert.OutProjReferenceIdeal.Read.val_main_v20 (F := Ideal) (hs m c) (ms m c) (xs m c) (ws m c) (fs m c)
      = (dats m 0 c).arrAt 7 cfg0.N := by
  rw [arr7]
  funext i
  obtain ⟨x, y, rfl⟩ : ∃ (x : Fin 16384) (y : Fin 2048), i = ix2 x y := ⟨i 0, i 1, eq_ix2 i⟩
  refine (Cert.OutProjReferenceIdeal.Read.val_main_v20_apply _ _ _ _ _ _).trans ?_
  refine (Cert.OutProjReferenceIdeal.Read.val_main_v19_apply _ _ _ _ _ _).trans ?_
  exact (congrArg _ (row_idx x y)).trans (Cert.OutProjReferenceIdeal.Read.norm_at _ _ _ _ _ _ _ _)

theorem equal : Cert.algebraic_OutProjIdeal_OutProjReferenceIdeal := by
  pair_intro
  · run_from Cert.OutProjIdeal.Value.run_blocks m g
  · run_from Cert.OutProjReferenceIdeal.Value.run m' g'
    · rw [Cert.OutProjReferenceIdeal.Read.val_main_v4_eq]
      exact same6 m c
    · rw [Cert.OutProjReferenceIdeal.Read.val_main_v20_eq]
      exact same7 m c

end Cert.OutProjIdeal.Op

end
-- ==== Proof.InProj.lean ====
/-
  The input projection's claims: every row is normalised and projected, and the rotary columns are projected a second time,
  turned by a quarter. The kernel keeps a tile's normalised rows while it goes through the blocks of the prepared weight; the
  reference multiplies the normalised rows by each part of the weight and sets the products beside each other.
-/
module

public import proofs.«01_k».proof.Defs
public import proofs.«01_k».proof.Proof.Rows
public import proofs.«01_k».proof.Proof.Gen.InProj.Frame
public import proofs.«01_k».proof.Proof.Gen.InProjIdeal.Value
public import proofs.«01_k».proof.Proof.Gen.InProjReferenceIdeal.Read
public import Idealize.ShloMosaic.Lib.Pipeline.ValueKit
public import Idealize.ShloMosaic.Lib.Pointwise
public import Idealize.ShloMosaic.Lib.Claim
public import Idealize.ShloMosaic.Lib.Quiescent
public import Idealize.ShloMosaic.Lib.StableHlo.RunRead

@[expose] public section

set_option maxRecDepth 16384

noncomputable section

namespace Cert.InProjReferenceIdeal.Read

open Idealize.ShloMosaic Idealize.ShloMosaic.TcCoe Cert.InProjReferenceIdeal

/-- A normalised row. -/
def normed (x g : Fin 2048 → EReal) (d : Fin 2048) : EReal := x d * Rows.inv x * g d

/-- Column `k` of the weight with the turned rotary columns and the empty columns behind it. -/
def column (w : Vec Ideal S1x2048x4928 .f32) (k : ℕ) (d : Fin 2048) : EReal :=
  if h : k < 4928 then w (ix3 0 d ⟨k, h⟩)
  else if h : k < 4960 then -w (ix3 0 d ⟨k - 32, by omega⟩)
  else if h : k < 4992 then w (ix3 0 d ⟨k - 96, by omega⟩)
  else 0

/-- A row's projection on column `k`. -/
def projected (x g : Fin 2048 → EReal) (w : Vec Ideal S1x2048x4928 .f32) (k : ℕ) : EReal := ∑ d, normed x g d * column w k d

theorem normed_at (x0 : Vec Ideal S8x2048x2048 .f32) (x1 : Vec Ideal S1x2048 .f32) (b : Fin 8) (t d : Fin 2048) :
    val_main_v13 (F := Ideal) x0 x1 (ix3 b t d) = normed (fun d => x0 (ix3 b t d)) (fun d => x1 (ix2 0 d)) d := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]
  rfl

theorem projected_at (x0 : Vec Ideal S8x2048x2048 .f32) (x1 : Vec Ideal S1x2048 .f32) (x2 : Vec Ideal S1x2048x4928 .f32) (b : Fin 8) (t : Fin 2048)
    (k : Fin 5120) :
    val_main_v24 (F := Ideal) x0 x1 x2 (ix3 b t k) = projected (fun d => x0 (ix3 b t d)) (fun d => x1 (ix2 0 d)) x2 k.val := by
  have h := normed_at x0 x1 b t
  unfold val_main_v24 val_main_v22 val_main_v21 val_main_v19
  generalize val_main_v13 (F := Ideal) x0 x1 = Q at h ⊢
  pointwise [val_main_v23, val_main_cst_2, val_main_v20, val_main_v18, val_main_v17, val_main_v16, val_main_v15, val_main_v14]
  unfold projected
  by_cases h1 : k.val < 4928
  · rw [dif_pos h1]
    refine Finset.sum_congr rfl fun d _ => ?_
    rw [h d, column, dif_pos h1]
  · rw [dif_neg h1]
    by_cases h2 : k.val < 4960
    · rw [dif_pos (show k.val - 4928 < 32 by omega)]
      refine Finset.sum_congr rfl fun d _ => ?_
      rw [h d, column, dif_neg h1, dif_pos h2]
      refine congrArg (fun j => _ * -x2 (ix3 0 d j)) (Fin.ext ?_)
      show 4896 + (k.val - 4928) = k.val - 32
      omega
    · rw [dif_neg (show ¬k.val - 4928 < 32 by omega)]
      by_cases h3 : k.val < 4992
      · rw [dif_pos (show k.val - 4928 - 32 < 32 by omega)]
        refine Finset.sum_congr rfl fun d _ => ?_
        rw [h d, column, dif_neg h1, dif_neg h2, dif_pos h3]
        refine congrArg (fun j => _ * x2 (ix3 0 d j)) (Fin.ext ?_)
        show 4864 + (k.val - 4928 - 32) = k.val - 96
        omega
      · rw [dif_neg (show ¬k.val - 4928 - 32 < 32 by omega)]
        refine (Finset.sum_eq_zero fun d _ => ?_).symm
        rw [column, dif_neg h1, dif_neg h2, dif_neg h3, mul_zero]

end Cert.InProjReferenceIdeal.Read

namespace Cert.InProjIdeal.Ip

open Idealize.ShloMosaic Idealize.ShloMosaic.TcCoe Cert.InProjIdeal Cert.InProjIdeal.Gen Idealize.SL.Sem
open Cert.InProjReferenceIdeal.Read (normed column projected)

theorem pay1_at (x0 : Vec Ideal S1024x2048 .f32) (x1 : Vec Ideal S1x2048 .f32) (r : Fin 1024) (d : Fin 2048) :
    k0_pay1 (F := Ideal) x0 x1 (ix2 r d) = normed (fun d => x0 (ix2 r d)) (fun d => x1 (ix2 0 d)) d := by
  pointwise [k0_pay1]
  rfl

theorem pay2_at (h w : Vec Ideal S1024x2048 .bf16) (r e : Fin 1024) :
    k0_pay2 (F := Ideal) h w (ix2 r e) = ∑ d : Fin 2048, h (ix2 r d) * w (ix2 e d) := by
  pointwise [k0_pay2]

variable (m : (ℓ : Loc nD τ sig) → Buf (Elt Ideal) ℓ)

theorem idx : ∀ t : Fin cfg0.N,
    win0_0.index t = ![t.val / 5, 0] ∧ win0_1.index t = ![0, 0] ∧ win0_2.index t = ![t.val % 5, 0] ∧ win0_3.index t = ![t.val / 5, t.val % 5]
    ∧ t.val / 5 < 16 := by decide +kernel

/-- The rows as launched. -/
abbrev xs (c : Dev nD) : Vec Ideal S8x2048x2048 .f32 := m ((c : Thread nD τ).loc main_arg0)
/-- The norm's weight as launched. -/
abbrev gs (c : Dev nD) : Vec Ideal S1x2048 .f32 := m ((c : Thread nD τ).loc main_arg1)
/-- The projection's weight as launched. -/
abbrev ws (c : Dev nD) : Vec Ideal S1x2048x4928 .f32 := m ((c : Thread nD τ).loc main_arg2)

theorem v0 (c : Dev nD) (i : Fin 16384) (d : Fin 2048) :
    (V m c (Pipeline.arrRef spec0 0) : Vec Ideal S16384x2048 .f32) (ix2 i d) = xs m c (ix3 ⟨i.val / 2048, by omega⟩ ⟨i.val % 2048, by omega⟩ d) := by
  simp only [V]
  entry_read
  pointwise

theorem v1 (c : Dev nD) (d : Fin 2048) : (V m c (Pipeline.arrRef spec0 1) : Vec Ideal S1x2048 .f32) (ix2 0 d) = gs m c (ix2 0 d) := by
  simp only [V]
  entry_read
  pointwise

theorem part1 (c : Dev nD) (k : Fin 4928) (d : Fin 2048) :
    (StableHlo.upto hostOps0 (fun b => m (c, b)) 11 (Proc.devRef .tc main_v1) : Vec Ideal S4928x2048 .f32) (ix2 k d) = ws m c (ix3 0 d k) := by
  after_reads_simp
  pointwise

theorem part5 (c : Dev nD) (d : Fin 2048) (j : Fin 32) :
    (StableHlo.upto hostOps0 (fun b => m (c, b)) 7 (Proc.devRef .tc main_v5) : Vec Ideal S2048x32 .f32) (ix2 d j)
      = -ws m c (ix3 0 d ⟨4896 + j.val, by omega⟩) := by
  after_reads_simp
  pointwise
  refine congrArg (fun k => -ws m c (ix3 0 d k)) (Fin.ext ?_)
  show 4864 + (32 + j.val) = 4896 + j.val
  omega

theorem part6 (c : Dev nD) (d : Fin 2048) (j : Fin 32) :
    (StableHlo.upto hostOps0 (fun b => m (c, b)) 7 (Proc.devRef .tc main_v6) : Vec Ideal S2048x32 .f32) (ix2 d j)
      = ws m c (ix3 0 d ⟨4864 + j.val, by omega⟩) := by
  after_reads_simp
  pointwise

theorem part8 (c : Dev nD) (k : Fin 64) (d : Fin 2048) :
    (StableHlo.upto hostOps0 (fun b => m (c, b)) 11 (Proc.devRef .tc main_v8) : Vec Ideal S64x2048 .f32) (ix2 k d)
      = if h : k.val < 32 then -ws m c (ix3 0 d ⟨4896 + k.val, by omega⟩) else ws m c (ix3 0 d ⟨4864 + (k.val - 32), by omega⟩) := by
  after_reads_simp
  pointwise
  by_cases h : k.val < 32
  · rw [dif_pos h, dif_pos h]
    exact part5 m c d ⟨k.val, h⟩
  · rw [dif_neg h, dif_neg h]
    exact part6 m c d ⟨k.val - 32, by omega⟩

theorem part9 (c : Dev nD) (k : Fin 128) (d : Fin 2048) :
    (StableHlo.upto hostOps0 (fun b => m (c, b)) 11 (Proc.devRef .tc main_v9) : Vec Ideal S128x2048 .f32) (ix2 k d) = (0 : EReal) := by
  after_reads_simp
  pointwise

theorem v2 (c : Dev nD) (k : Fin 5120) (d : Fin 2048) :
    (V m c (Pipeline.arrRef spec0 2) : Vec Ideal S5120x2048 .bf16) (ix2 k d) = column (ws m c) k.val d := by
  have p1 := part1 m c
  have p8 := part8 m c
  have p9 := part9 m c
  simp only [V]
  after_reads_simp
  dsimp only [Matrix.cons_val]
  generalize StableHlo.upto hostOps0 (fun b => m (c, b)) 11 (Proc.devRef .tc main_v1) = q1 at p1 ⊢
  generalize StableHlo.upto hostOps0 (fun b => m (c, b)) 11 (Proc.devRef .tc main_v8) = q8 at p8 ⊢
  generalize StableHlo.upto hostOps0 (fun b => m (c, b)) 11 (Proc.devRef .tc main_v9) = q9 at p9 ⊢
  pointwise
  unfold column
  by_cases h1 : k.val < 4928
  · rw [dif_pos h1, dif_pos h1]
    exact p1 ⟨k.val, h1⟩ d
  · rw [dif_neg h1, dif_neg h1]
    by_cases h2 : k.val < 4992
    · rw [dif_pos (show k.val - 4928 < 64 by omega)]
      refine (p8 ⟨k.val - 4928, by omega⟩ d).trans ?_
      by_cases h3 : k.val < 4960
      · rw [dif_pos h3]
        refine (dif_pos (show k.val - 4928 < 32 by omega)).trans ?_
        refine congrArg (fun j => -ws m c (ix3 0 d j)) (Fin.ext ?_)
        show 4896 + (k.val - 4928) = k.val - 32
        omega
      · rw [dif_neg h3, dif_pos h2]
        refine (dif_neg (show ¬k.val - 4928 < 32 by omega)).trans ?_
        refine congrArg (fun j => ws m c (ix3 0 d j)) (Fin.ext ?_)
        show 4864 + (k.val - 4928 - 32) = k.val - 96
        omega
    · rw [dif_neg (show ¬k.val - 4928 < 64 by omega), dif_neg (show ¬k.val < 4960 by omega), dif_neg h2]
      exact p9 ⟨k.val - 4928 - 64, by omega⟩ d

/-- A case's output from the rows kept and the block of the weight. -/
theorem outB (c : Dev nD) (i : grid0.Coords) (a2 : Memref sig .tc .vmem S1024x2048 .f32) (h2 : a2.IsWhole) (a3 : Memref sig .tc .vmem S1x2048 .f32) (h3 : a3.IsWhole)
    (a4 : Memref sig .tc .vmem S1024x2048 .bf16) (h4 : a4.IsWhole) (a5 : Memref sig .tc .vmem S1024x1024 .f32) (h5 : a5.IsWhole) (a6 : Memref sig .tc .vmem S1024x2048 .bf16) (h6 : a6.IsWhole)
    (hc : ¬cond0_0 i) (x0 : Vec Ideal S1024x2048 .f32) (x1 : Vec Ideal S1x2048 .f32) (x2 k : Vec Ideal S1024x2048 .bf16) (r e : Fin 1024) :
    out0_B_3 (F := Ideal) c i a2 h2 a3 h3 a4 h4 a5 h5 a6 h6 hc x0 x1 x2 k (ix2 r e) = k0_pay2 (F := Ideal) k x2 (ix2 r e) := by
  frame_out

theorem outA (c : Dev nD) (i : grid0.Coords) (a2 : Memref sig .tc .vmem S1024x2048 .f32) (h2 : a2.IsWhole) (a3 : Memref sig .tc .vmem S1x2048 .f32) (h3 : a3.IsWhole)
    (a4 : Memref sig .tc .vmem S1024x2048 .bf16) (h4 : a4.IsWhole) (a5 : Memref sig .tc .vmem S1024x1024 .f32) (h5 : a5.IsWhole) (a6 : Memref sig .tc .vmem S1024x2048 .bf16) (h6 : a6.IsWhole)
    (hc : cond0_0 i) (x0 : Vec Ideal S1024x2048 .f32) (x1 : Vec Ideal S1x2048 .f32) (x2 : Vec Ideal S1024x2048 .bf16) (r e : Fin 1024) :
    out0_A_3 (F := Ideal) c i a2 h2 a3 h3 a4 h4 a5 h5 a6 h6 hc x0 x1 x2 (ix2 r e) = k0_pay2 (F := Ideal) (k0_pay1 x0 x1) x2 (ix2 r e) := by
  frame_out

theorem keepA (c : Dev nD) (i : grid0.Coords) (a2 : Memref sig .tc .vmem S1024x2048 .f32) (h2 : a2.IsWhole) (a3 : Memref sig .tc .vmem S1x2048 .f32) (h3 : a3.IsWhole)
    (a4 : Memref sig .tc .vmem S1024x2048 .bf16) (h4 : a4.IsWhole) (a5 : Memref sig .tc .vmem S1024x1024 .f32) (h5 : a5.IsWhole) (a6 : Memref sig .tc .vmem S1024x2048 .bf16) (h6 : a6.IsWhole)
    (hc : cond0_0 i) (x0 : Vec Ideal S1024x2048 .f32) (x1 : Vec Ideal S1x2048 .f32) (x2 : Vec Ideal S1024x2048 .bf16) (r : Fin 1024) (d : Fin 2048) :
    sout0_A_0 (F := Ideal) c i a2 h2 a3 h3 a4 h4 a5 h5 a6 h6 hc x0 x1 x2 (ix2 r d) = k0_pay1 (F := Ideal) x0 x1 (ix2 r d) := by
  frame_out

/-- The result at a row of a sequence. -/
def G (c : Dev nD) (b : Fin 8) (t : Fin 2048) (k : Fin 5120) : EReal :=
  projected (fun d => xs m c (ix3 b t d)) (fun d => gs m c (ix2 0 d)) (ws m c) k.val

theorem congr_row (c : Dev nD) (b b' : Fin 8) (t t' : Fin 2048) (k k' : Fin 5120) (hb : b.val = b'.val) (ht : t.val = t'.val)
    (hk : k.val = k'.val) : G m c b t k = G m c b' t' k' := by
  rw [Fin.ext hb, Fin.ext ht, Fin.ext hk]

/-- The normalised row at a flat position, one after the sequences' last position standing for none. -/
def row (c : Dev nD) (n : ℕ) (d : Fin 2048) : EReal :=
  if h : n < 16384 then normed (fun d => xs m c (ix3 ⟨n / 2048, by omega⟩ ⟨n % 2048, by omega⟩ d)) (fun d => gs m c (ix2 0 d)) d else 0

/-- What the first step of a tile of rows keeps. -/
theorem fresh (c : Dev nD) (t : Fin cfg0.N) (r : Fin 1024) (d : Fin 2048) :
    k0_pay1 (F := Ideal) (iblk m c 0 t : Vec Ideal S1024x2048 .f32) (iblk m c 1 t : Vec Ideal S1x2048 .f32) (ix2 r d)
      = row m c (1024 * (t.val / 5) + r.val) d := by
  obtain ⟨e0, e1, -, -, ht⟩ := idx t
  have b0 : (fun d => (iblk m c 0 t : Vec Ideal S1024x2048 .f32) (ix2 r d))
      = fun d => xs m c (ix3 ⟨(1024 * (t.val / 5) + r.val) / 2048, by omega⟩ ⟨(1024 * (t.val / 5) + r.val) % 2048, by omega⟩ d) := funext fun d => by
    rw [← v0 m c ⟨1024 * (t.val / 5) + r.val, by omega⟩ d]
    blk_ext [iblk, e0]
  have b1 : (fun d => (iblk m c 1 t : Vec Ideal S1x2048 .f32) (ix2 0 d)) = fun d => gs m c (ix2 0 d) := funext fun d => by
    rw [← v1 m c d]
    blk_ext [iblk, e1]
  rw [pay1_at, b0, b1, row, dif_pos (by omega)]

/-- The block of the weight at a grid point. -/
theorem weight (c : Dev nD) (t : Fin cfg0.N) (e : Fin 1024) (d : Fin 2048) :
    (iblk m c 2 t : Vec Ideal S1024x2048 .bf16) (ix2 e d) = column (ws m c) (1024 * (t.val % 5) + e.val) d := by
  obtain ⟨-, -, e2, -, ht⟩ := idx t
  refine Eq.trans ?_ (v2 m c ⟨1024 * (t.val % 5) + e.val, by omega⟩ d)
  blk_ext [iblk, e2]

/-- A tile's first step keeps fresh rows. -/
theorem first (c : Dev nD) (t : Fin cfg0.N) (h : t.val % 5 = 0) (r : Fin 1024) (d : Fin 2048) :
    (outsAt0 m c t.val t.isLt).2 (ix2 r d) = row m c (1024 * (t.val / 5) + r.val) d := by
  rw [outsAt0_A m c t h]
  dsimp only
  rw [keepA]
  exact fresh m c t r d

/-- A later step keeps the rows as they are. -/
theorem later (c : Dev nD) (t : Fin cfg0.N) (h : ¬t.val % 5 = 0) :
    (outsAt0 m c t.val t.isLt).2 = (outsAt0 m c (t.val - 1) (Nat.lt_of_le_of_lt (Nat.sub_le _ _) t.isLt)).2 := by
  rw [outsAt0_B m c t h]
  rfl

/-- The rows kept through a tile are the tile's normalised rows. -/
theorem kept (c : Dev nD) (r : Fin 1024) (d : Fin 2048) : ∀ (n : ℕ) (hn : n < cfg0.N),
    (outsAt0 m c n hn).2 (ix2 r d) = row m c (1024 * (n / 5) + r.val) d := by
  intro n
  induction n with
  | zero => exact fun hn => first m c ⟨0, hn⟩ rfl r d
  | succ n ih =>
    intro hn
    by_cases h : (n + 1) % 5 = 0
    · exact first m c ⟨n + 1, hn⟩ h r d
    · refine (congrFun (later m c ⟨n + 1, hn⟩ h) (ix2 r d)).trans ((ih (Nat.lt_of_succ_lt hn)).trans ?_)
      rw [show (n + 1) / 5 = n / 5 by omega]

/-- What a grid point leaves in the result's block. -/
theorem left (c : Dev nD) (t : Fin cfg0.N) (r e : Fin 1024) :
    (outsAt0 m c t.val t.isLt).1 (ix2 r e)
      = ∑ d, row m c (1024 * (t.val / 5) + r.val) d * column (ws m c) (1024 * (t.val % 5) + e.val) d := by
  by_cases h : t.val % 5 = 0
  · rw [outsAt0_A m c t h]
    dsimp only
    rw [outA, pay2_at]
    refine Finset.sum_congr rfl fun d _ => ?_
    rw [fresh, weight]
  · rw [outsAt0_B m c t h]
    dsimp only
    rw [outB, pay2_at]
    refine Finset.sum_congr rfl fun d _ => ?_
    rw [kept, weight, show (t.val - 1) / 5 = t.val / 5 by omega]

theorem after3_at (c : Dev nD) (t : Fin cfg0.N) (r e : Fin 1024) (b : Fin 8) (s : Fin 2048) (k : Fin 5120)
    (hr : 1024 * (t.val / 5) + r.val = 2048 * b.val + s.val) (hk : 1024 * (t.val % 5) + e.val = k.val) :
    (dats m 0 c).after 3 t (ix2 r e) = G m c b s k := by
  obtain ⟨-, -, -, -, ht⟩ := idx t
  rw [after0_3]
  refine (left m c t r e).trans ?_
  rw [G, projected, hk]
  refine Finset.sum_congr rfl fun d _ => ?_
  rw [row, dif_pos (by omega)]
  have hb : (⟨(1024 * (t.val / 5) + r.val) / 2048, by omega⟩ : Fin 8) = b := Fin.ext (by show (1024 * (t.val / 5) + r.val) / 2048 = b.val; omega)
  have hs : (⟨(1024 * (t.val / 5) + r.val) % 2048, by omega⟩ : Fin 2048) = s := Fin.ext (by show (1024 * (t.val / 5) + r.val) % 2048 = s.val; omega)
  rw [hb, hs]

theorem arr3 (c : Dev nD) : (dats m 0 c).arrAt 3 cfg0.N = fun i : S16384x5120.Idx =>
    G m c ⟨(i 0).val / 2048, by have := (i 0).isLt; simp at this; omega⟩ ⟨(i 0).val % 2048, by omega⟩ (i 1) := by
  refine (dats m 0 c).arrAt_eq_of_covers 3 _ (by decide +kernel) fun t hf y => ?_
  obtain ⟨-, -, -, e3, ht⟩ := idx t
  obtain ⟨r, e, rfl⟩ : ∃ (r e : Fin 1024), y = ix2 r e := ⟨y 0, y 1, eq_ix2 y⟩
  blk_simp
  have h := after3_at m c t r e ⟨(1024 * (t.val / 5) + r.val) / 2048, by omega⟩ ⟨(1024 * (t.val / 5) + r.val) % 2048, by omega⟩
    ⟨1024 * (t.val % 5) + e.val, by omega⟩
    (by show 1024 * (t.val / 5) + r.val = 2048 * ((1024 * (t.val / 5) + r.val) / 2048) + (1024 * (t.val / 5) + r.val) % 2048; omega) rfl
  have h0 : win0_3.index t 0 = t.val / 5 := by rw [e3]; rfl
  have h1 : (((win0_3.blk t).view.emb (ix2 r e) : S16384x5120.Idx) 1).val = 1024 * (t.val % 5) + e.val := by
    blk_simp
    simp [e3]
    omega
  refine h.trans (congr_row m c _ _ _ _ _ _ ?_ ?_ h1.symm)
  · show (1024 * (t.val / 5) + r.val) / 2048 = (win0_3.index t 0 * 1024 + r.val) / 2048
    rw [h0, Nat.mul_comm]
  · show (1024 * (t.val / 5) + r.val) % 2048 = (win0_3.index t 0 * 1024 + r.val) % 2048
    rw [h0, Nat.mul_comm]

theorem frame : Cert.quiescent_InProjIdeal := fun m g _ => Gen.frame m g

theorem frame_bits : Cert.quiescent_InProj := fun m g _ => Cert.InProj.Gen.frame m g

theorem frame_ref : Cert.quiescent_InProjReferenceIdeal := fun m g _ =>
  (θ_run _ _ _).mono (fun r h => ⟨fun c => (h c).2, sem_eq_zero_of_no_sems rfl _⟩) (Cert.InProjReferenceIdeal.Value.run m g)

/-- The row and the column of a flat position, as the reshape reads them. -/
theorem row_idx (x : Fin 16384) (y : Fin 5120) :
    Cert.InProjReferenceIdeal.Read.idx_main_v25 (ix2 x y) = ix3 (⟨x.val / 2048, by omega⟩ : Fin 8) (⟨x.val % 2048, by omega⟩ : Fin 2048) y := by
  funext a
  refine Fin.ext ?_
  match a with
  | ⟨0, _⟩ => show (x.val * 5120 + y.val) / 10485760 = x.val / 2048; omega
  | ⟨1, _⟩ => show (x.val * 5120 + y.val) / 5120 % 2048 = x.val % 2048; omega
  | ⟨2, _⟩ => show (x.val * 5120 + y.val) % 5120 = y.val; omega

theorem same (c : Dev nD) :
    Cert.InProjReferenceIdeal.Read.val_main_v25 (F := Ideal) (xs m c) (gs m c) (ws m c) = (dats m 0 c).arrAt 3 cfg0.N := by
  rw [arr3]
  funext i
  obtain ⟨x, y, rfl⟩ : ∃ (x : Fin 16384) (y : Fin 5120), i = ix2 x y := ⟨i 0, i 1, eq_ix2 i⟩
  refine (Cert.InProjReferenceIdeal.Read.val_main_v25_apply _ _ _ _).trans ?_
  exact (congrArg _ (row_idx x y)).trans (Cert.InProjReferenceIdeal.Read.projected_at _ _ _ _ _ _)

theorem equal : Cert.algebraic_InProjIdeal_InProjReferenceIdeal := by
  pair_intro
  · run_from Cert.InProjIdeal.Value.run_blocks m g
  · run_from Cert.InProjReferenceIdeal.Value.run m' g'
    rw [Cert.InProjReferenceIdeal.Read.val_main_v25_eq]
    rw [(hagree c).2.2]
    exact same m c

end Cert.InProjIdeal.Ip

end
-- ==== Proof.MlaProj.lean ====
/-
  The attention's projections: the latent rows of the queries and of the keys are normalised, the keys' rotary columns are
  turned by their position, and every head's query is absorbed into the latent space, its rotary part turned and set behind it.
  The kernel keeps the rotary columns beside their copy turned by a quarter, so that one product with the table of cosines and
  sines and one roll by half the columns turn them; the reference turns each half by the usual two products.
-/
module

public import proofs.«01_k».proof.Defs
public import proofs.«01_k».proof.Proof.Gen.MlaProj.Frame
public import proofs.«01_k».proof.Proof.Gen.MlaProjIdeal.Value
public import proofs.«01_k».proof.Proof.Gen.MlaProjReferenceIdeal.Read
public import Idealize.ShloMosaic.Lib.Pipeline.ValueKit
public import Idealize.ShloMosaic.Lib.Pointwise
public import Idealize.ShloMosaic.Lib.Claim
public import Idealize.ShloMosaic.Lib.Quiescent
public import Idealize.ShloMosaic.Lib.StableHlo.RunRead

@[expose] public section

set_option maxRecDepth 16384

noncomputable section

namespace Cert.MlaProjReferenceIdeal.Read

open Idealize.ShloMosaic Idealize.ShloMosaic.TcCoe Cert.MlaProjReferenceIdeal

/-- A normalised latent row of the queries. -/
def normQ (x g : Fin 512 → EReal) (d : Fin 512) : EReal :=
  x d * Ideal.rsqrt (Ideal.div (∑ e, x e * x e) (Ideal.ofBits .f32 1140850688#32) + Ideal.ofBits .f32 897988541#32) * g d

/-- A normalised latent row of the keys. -/
def normK (x g : Fin 256 → EReal) (d : Fin 256) : EReal :=
  x d * Ideal.rsqrt (Ideal.div (∑ e, x e * x e) (Ideal.ofBits .f32 1132462080#32) + Ideal.ofBits .f32 897988541#32) * g d

/-- Column `k` of the queries' weight, every head's rotary columns followed by their copy turned by a quarter. -/
def column (w : Vec Ideal S1x512x1536 .f32) (k : Fin 2048) (d : Fin 512) : EReal :=
  if h : k.val % 256 < 192 then w (ix3 0 d ⟨192 * (k.val / 256) + k.val % 256, by omega⟩)
  else if h : k.val % 256 < 224 then -w (ix3 0 d ⟨192 * (k.val / 256) + k.val % 256 - 32, by omega⟩)
  else w (ix3 0 d ⟨192 * (k.val / 256) + k.val % 256 - 96, by omega⟩)

/-- A head's weight from its columns to the latent space. -/
def lift (u : Vec Ideal S1x256x2048 .f32) (h : Fin 8) (n : Fin 128) (i : Fin 256) : EReal := u (ix3 0 i ⟨256 * h.val + n.val, by omega⟩)

/-- A position's cosines twice, then its sines twice. -/
def tab (C S : Fin 32 → EReal) (j : Fin 128) : EReal :=
  if h : j.val < 32 then C ⟨j.val, h⟩
  else if h : j.val < 64 then C ⟨j.val - 32, by omega⟩
  else if h : j.val < 96 then S ⟨j.val - 64, by omega⟩
  else S ⟨j.val - 96, by omega⟩

/-- Columns and their copy, each weighed by the table, added. -/
def turn (f c : Fin 128 → EReal) (j : Fin 64) : EReal :=
  f ⟨j.val, by omega⟩ * c ⟨j.val, by omega⟩ + f ⟨64 + j.val, by omega⟩ * c ⟨64 + j.val, by omega⟩

/-- A row's rotary columns followed by their copy turned by a quarter. -/
def keys (x : Fin 64 → EReal) (j : Fin 128) : EReal :=
  if h : j.val < 64 then x ⟨j.val, h⟩
  else if h : j.val < 96 then -x ⟨j.val - 32, by omega⟩
  else x ⟨j.val - 96, by omega⟩

/-- A key: the normalised latent row, the turned rotary columns, and zeros. -/
def key (k : Fin 256 → EReal) (r : Fin 64 → EReal) (i : Fin 384) : EReal :=
  if h : i.val < 256 then k ⟨i.val, h⟩ else if h : i.val < 320 then r ⟨i.val - 256, by omega⟩ else 0

/-- A row's projection on column `k`. -/
def projected (x g : Fin 512 → EReal) (w : Fin 2048 → Fin 512 → EReal) (k : Fin 2048) : EReal := ∑ d, normQ x g d * w k d

/-- A head's query: its columns absorbed into the latent space, its rotary columns turned, and zeros. -/
def query (p : Fin 2048 → EReal) (u : Fin 8 → Fin 128 → Fin 256 → EReal) (c : Fin 128 → EReal) (h : Fin 8) (i : Fin 384) : EReal :=
  if hi : i.val < 256 then (∑ n : Fin 128, p ⟨256 * h.val + n.val, by omega⟩ * u h n ⟨i.val, hi⟩) * Ideal.ofBits .f32 1033096506#32
  else if hi : i.val < 320 then
    turn (fun j => p ⟨256 * h.val + (128 + j.val), by omega⟩) c ⟨i.val - 256, by omega⟩ * Ideal.ofBits .f32 1033096506#32
  else 0

/-- The table's row at a position. -/
abbrev table (t : Fin 2048) : Fin 128 → EReal :=
  tab (fun j => val_main_v34 (F := Ideal) (ix2 t j)) (fun j => val_main_v35 (F := Ideal) (ix2 t j))

theorem normq_at (x0 : Vec Ideal S8x2048x512 .f32) (x3 : Vec Ideal S1x512 .f32) (b : Fin 8) (t : Fin 2048) (d : Fin 512) :
    val_main_v13 (F := Ideal) x0 x3 (ix3 b t d) = normQ (fun d => x0 (ix3 b t d)) (fun d => x3 (ix2 0 d)) d := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]
  rfl

theorem normk_at (x1 : Vec Ideal S8x2048x256 .f32) (x5 : Vec Ideal S1x256 .f32) (b : Fin 8) (t : Fin 2048) (d : Fin 256) :
    val_main_v87 (F := Ideal) x1 x5 (ix3 b t d) = normK (fun d => x1 (ix3 b t d)) (fun d => x5 (ix2 0 d)) d := by
  pointwise [val_main_v87, val_main_v86, val_main_v85, val_main_v84, val_main_v83, val_main_v82, val_main_v81, val_main_v80, val_main_v79, val_main_v78,
    val_main_v77, val_main_v76, val_main_v75, val_main_v74, val_main_cst_6, val_main_cst_7, val_main_cst_8]
  rfl

/-- The keys' rotary columns, the first half: a difference is a sum with the negative. -/
theorem turn_lo (x : Fin 64 → EReal) (C S : Fin 32 → EReal) (d : Fin 64) (h : d.val < 32) :
    turn (keys x) (tab C S) d = x d * C ⟨d.val, h⟩ - x ⟨32 + d.val, by omega⟩ * S ⟨d.val, h⟩ := by
  unfold turn keys tab
  rw [dif_pos (show d.val < 64 by omega), dif_pos h, dif_neg (show ¬64 + d.val < 64 by omega), dif_pos (show 64 + d.val < 96 by omega),
    dif_neg (show ¬64 + d.val < 32 by omega), dif_neg (show ¬64 + d.val < 64 by omega), dif_pos (show 64 + d.val < 96 by omega), sub_eq_add_neg,
    EReal.neg_mul]
  have e1 : (⟨64 + d.val - 32, by omega⟩ : Fin 64) = ⟨32 + d.val, by omega⟩ := Fin.ext (by show 64 + d.val - 32 = 32 + d.val; omega)
  have e2 : (⟨64 + d.val - 64, by omega⟩ : Fin 32) = ⟨d.val, h⟩ := Fin.ext (by show 64 + d.val - 64 = d.val; omega)
  rw [e1, e2]

/-- The keys' rotary columns, the second half. -/
theorem turn_hi (x : Fin 64 → EReal) (C S : Fin 32 → EReal) (d : Fin 64) (h : ¬d.val < 32) :
    turn (keys x) (tab C S) d = x d * C ⟨d.val - 32, by omega⟩ + x ⟨d.val - 32, by omega⟩ * S ⟨d.val - 32, by omega⟩ := by
  unfold turn keys tab
  rw [dif_pos (show d.val < 64 by omega), dif_neg h, dif_pos (show d.val < 64 by omega), dif_neg (show ¬64 + d.val < 64 by omega),
    dif_neg (show ¬64 + d.val < 96 by omega), dif_neg (show ¬64 + d.val < 32 by omega), dif_neg (show ¬64 + d.val < 64 by omega),
    dif_neg (show ¬64 + d.val < 96 by omega)]
  have e1 : (⟨64 + d.val - 96, by omega⟩ : Fin 64) = ⟨d.val - 32, by omega⟩ := Fin.ext (by show 64 + d.val - 96 = d.val - 32; omega)
  have e2 : (⟨64 + d.val - 96, by omega⟩ : Fin 32) = ⟨d.val - 32, by omega⟩ := Fin.ext (by show 64 + d.val - 96 = d.val - 32; omega)
  rw [e1, e2]

theorem keyr_at (x2 : Vec Ideal S8x2048x64 .f32) (b : Fin 8) (t : Fin 2048) (d : Fin 64) :
    val_main_v73 (F := Ideal) x2 (ix3 b t d) = turn (keys fun d => x2 (ix3 b t d)) (table t) d := by
  unfold val_main_v73 val_main_v65 val_main_v72 val_main_v61 val_main_v64 val_main_v68 val_main_v71 val_main_v60 val_main_v63 val_main_v67
    val_main_v70 val_main_v59 val_main_v62 val_main_v66 val_main_v69 table
  generalize val_main_v34 (F := Ideal) = C
  generalize val_main_v35 (F := Ideal) = S
  pointwise [val_main_v57, val_main_v58]
  by_cases h : d.val < 32
  · rw [dif_pos h, turn_lo _ _ _ d h]
  · rw [dif_neg h, turn_hi _ _ _ d h]
    refine congrArg (fun k => x2 (ix3 b t k) * C _ + _) (Fin.ext ?_)
    show 32 + (d.val - 32) = d.val
    omega

theorem key_at (x1 : Vec Ideal S8x2048x256 .f32) (x2 : Vec Ideal S8x2048x64 .f32) (x5 : Vec Ideal S1x256 .f32) (b : Fin 8) (t : Fin 2048) (i : Fin 384) :
    val_main_v97 (F := Ideal) x1 x2 x5 (ix3 b t i)
      = key (normK (fun d => x1 (ix3 b t d)) (fun d => x5 (ix2 0 d))) (turn (keys fun d => x2 (ix3 b t d)) (table t)) i := by
  have hk := normk_at x1 x5 b t
  have hr := keyr_at x2 b t
  unfold val_main_v97
  generalize val_main_v87 (F := Ideal) x1 x5 = K at hk ⊢
  generalize val_main_v73 (F := Ideal) x2 = R at hr ⊢
  pointwise [val_main_v96, val_main_cst_10]
  unfold key
  by_cases h : i.val < 256
  · rw [dif_pos h, dif_pos h]
    exact hk _
  · rw [dif_neg h, dif_neg h]
    by_cases h2 : i.val < 320
    · rw [dif_pos h2, dif_pos (show i.val - 256 < 64 by omega)]
      exact hr _
    · rw [dif_neg h2, dif_neg (show ¬i.val - 256 < 64 by omega)]

theorem projected_lo (x g : Fin 512 → EReal) (w : Vec Ideal S1x512x1536 .f32) (h : Fin 8) (j : ℕ) (hj : j < 192) :
    projected x g (column w) ⟨256 * h.val + j, by omega⟩ = ∑ d, normQ x g d * w (ix3 0 d ⟨h.val * 192 + j, by omega⟩) := by
  refine Finset.sum_congr rfl fun d _ => ?_
  unfold column
  rw [dif_pos (show (256 * h.val + j) % 256 < 192 by omega)]
  refine congrArg (fun k => _ * w (ix3 0 d k)) (Fin.ext ?_)
  show 192 * ((256 * h.val + j) / 256) + (256 * h.val + j) % 256 = h.val * 192 + j
  omega

theorem projected_mid (x g : Fin 512 → EReal) (w : Vec Ideal S1x512x1536 .f32) (h : Fin 8) (j : ℕ) (hj : j < 32) :
    projected x g (column w) ⟨256 * h.val + (192 + j), by omega⟩ = ∑ d, normQ x g d * -w (ix3 0 d ⟨h.val * 192 + (160 + j), by omega⟩) := by
  refine Finset.sum_congr rfl fun d _ => ?_
  unfold column
  rw [dif_neg (show ¬(256 * h.val + (192 + j)) % 256 < 192 by omega), dif_pos (show (256 * h.val + (192 + j)) % 256 < 224 by omega)]
  refine congrArg (fun k => _ * -w (ix3 0 d k)) (Fin.ext ?_)
  show 192 * ((256 * h.val + (192 + j)) / 256) + (256 * h.val + (192 + j)) % 256 - 32 = h.val * 192 + (160 + j)
  omega

theorem projected_hi (x g : Fin 512 → EReal) (w : Vec Ideal S1x512x1536 .f32) (h : Fin 8) (j : ℕ) (hj : j < 32) :
    projected x g (column w) ⟨256 * h.val + (224 + j), by omega⟩ = ∑ d, normQ x g d * w (ix3 0 d ⟨h.val * 192 + (128 + j), by omega⟩) := by
  refine Finset.sum_congr rfl fun d _ => ?_
  unfold column
  rw [dif_neg (show ¬(256 * h.val + (224 + j)) % 256 < 192 by omega), dif_neg (show ¬(256 * h.val + (224 + j)) % 256 < 224 by omega)]
  refine congrArg (fun k => _ * w (ix3 0 d k)) (Fin.ext ?_)
  show 192 * ((256 * h.val + (224 + j)) / 256) + (256 * h.val + (224 + j)) % 256 - 96 = h.val * 192 + (128 + j)
  omega

/-- The queries' rotary columns, the first half: the turned copy holds the negated columns. -/
theorem turnq_lo (p : Fin 2048 → EReal) (C S : Fin 32 → EReal) (h : Fin 8) (j : Fin 64) (hj : j.val < 32) :
    turn (fun j => p ⟨256 * h.val + (128 + j.val), by omega⟩) (tab C S) j
      = p ⟨256 * h.val + (128 + j.val), by omega⟩ * C ⟨j.val, hj⟩ + p ⟨256 * h.val + (192 + j.val), by omega⟩ * S ⟨j.val, hj⟩ := by
  unfold turn tab
  rw [dif_pos hj, dif_neg (show ¬64 + j.val < 32 by omega), dif_neg (show ¬64 + j.val < 64 by omega), dif_pos (show 64 + j.val < 96 by omega)]
  have e1 : (⟨256 * h.val + (128 + (64 + j.val)), by omega⟩ : Fin 2048) = ⟨256 * h.val + (192 + j.val), by omega⟩ :=
    Fin.ext (by show 256 * h.val + (128 + (64 + j.val)) = 256 * h.val + (192 + j.val); omega)
  have e2 : (⟨64 + j.val - 64, by omega⟩ : Fin 32) = ⟨j.val, hj⟩ := Fin.ext (by show 64 + j.val - 64 = j.val; omega)
  dsimp only
  rw [e1, e2]

/-- The queries' rotary columns, the second half. -/
theorem turnq_hi (p : Fin 2048 → EReal) (C S : Fin 32 → EReal) (h : Fin 8) (j : Fin 64) (hj : ¬j.val < 32) :
    turn (fun j => p ⟨256 * h.val + (128 + j.val), by omega⟩) (tab C S) j
      = p ⟨256 * h.val + (160 + (j.val - 32)), by omega⟩ * C ⟨j.val - 32, by omega⟩
        + p ⟨256 * h.val + (224 + (j.val - 32)), by omega⟩ * S ⟨j.val - 32, by omega⟩ := by
  unfold turn tab
  rw [dif_neg hj, dif_pos (show j.val < 64 by omega), dif_neg (show ¬64 + j.val < 32 by omega), dif_neg (show ¬64 + j.val < 64 by omega),
    dif_neg (show ¬64 + j.val < 96 by omega)]
  have e0 : (⟨256 * h.val + (128 + j.val), by omega⟩ : Fin 2048) = ⟨256 * h.val + (160 + (j.val - 32)), by omega⟩ :=
    Fin.ext (by show 256 * h.val + (128 + j.val) = 256 * h.val + (160 + (j.val - 32)); omega)
  have e1 : (⟨256 * h.val + (128 + (64 + j.val)), by omega⟩ : Fin 2048) = ⟨256 * h.val + (224 + (j.val - 32)), by omega⟩ :=
    Fin.ext (by show 256 * h.val + (128 + (64 + j.val)) = 256 * h.val + (224 + (j.val - 32)); omega)
  have e2 : (⟨64 + j.val - 96, by omega⟩ : Fin 32) = ⟨j.val - 32, by omega⟩ := Fin.ext (by show 64 + j.val - 96 = j.val - 32; omega)
  dsimp only
  rw [e0, e1, e2]

/-- The reference's form of a head's query, the projections given by their sums. -/
theorem query_form (p : Fin 2048 → EReal) (q : Fin 512 → EReal) (x4 : Vec Ideal S1x512x1536 .f32) (x6 : Vec Ideal S1x256x2048 .f32) (C S : Fin 32 → EReal)
    (h : Fin 8) (i : Fin 384)
    (lo : ∀ (j : ℕ) (hj : j < 192), p ⟨256 * h.val + j, by omega⟩ = ∑ d, q d * x4 (ix3 0 d ⟨h.val * 192 + j, by omega⟩))
    (mid : ∀ (j : ℕ) (hj : j < 32), p ⟨256 * h.val + (192 + j), by omega⟩ = ∑ d, q d * -x4 (ix3 0 d ⟨h.val * 192 + (160 + j), by omega⟩))
    (hi : ∀ (j : ℕ) (hj : j < 32), p ⟨256 * h.val + (224 + j), by omega⟩ = ∑ d, q d * x4 (ix3 0 d ⟨h.val * 192 + (128 + j), by omega⟩)) :
    (if h1 : i.val < 256 then
      (∑ n : Fin 128, x6 (ix3 0 ⟨i.val, h1⟩ ⟨h.val * 256 + n.val, by omega⟩) * ∑ d, q d * x4 (ix3 0 d ⟨h.val * 192 + n.val, by omega⟩))
        * Ideal.ofBits .f32 1033096506#32
    else if h2 : i.val - 256 < 64 then
      (if h3 : i.val - 256 < 32 then
        (∑ d, q d * x4 (ix3 0 d ⟨h.val * 192 + (128 + (i.val - 256)), by omega⟩)) * C ⟨i.val - 256, h3⟩
          + (∑ d, q d * -x4 (ix3 0 d ⟨h.val * 192 + (160 + (i.val - 256)), by omega⟩)) * S ⟨i.val - 256, h3⟩
      else
        (∑ d, q d * x4 (ix3 0 d ⟨h.val * 192 + (160 + (i.val - 256 - 32)), by omega⟩)) * C ⟨i.val - 256 - 32, by omega⟩
          + (∑ d, q d * x4 (ix3 0 d ⟨h.val * 192 + (128 + (i.val - 256 - 32)), by omega⟩)) * S ⟨i.val - 256 - 32, by omega⟩)
        * Ideal.ofBits .f32 1033096506#32
    else (0 : EReal)) = query p (lift x6) (tab C S) h i := by
  unfold query
  by_cases h1 : i.val < 256
  · rw [dif_pos h1, dif_pos h1]
    refine congrArg (fun s => s * Ideal.ofBits .f32 1033096506#32) (Finset.sum_congr rfl fun n _ => ?_)
    rw [mul_comm, lo n.val (by omega)]
    refine congrArg (fun k => _ * x6 (ix3 0 (⟨i.val, h1⟩ : Fin 256) k)) (Fin.ext ?_)
    show h.val * 256 + n.val = 256 * h.val + n.val
    omega
  · rw [dif_neg h1, dif_neg h1]
    by_cases h2 : i.val < 320
    · rw [dif_pos h2, dif_pos (show i.val - 256 < 64 by omega)]
      refine congrArg (fun s => s * Ideal.ofBits .f32 1033096506#32) ?_
      by_cases h3 : i.val - 256 < 32
      · rw [dif_pos h3]
        refine Eq.trans ?_ (turnq_lo p _ _ h ⟨i.val - 256, by omega⟩ h3).symm
        rw [lo (128 + (i.val - 256)) (by omega), mid (i.val - 256) h3]
      · rw [dif_neg h3]
        refine Eq.trans ?_ (turnq_hi p _ _ h ⟨i.val - 256, by omega⟩ h3).symm
        rw [lo (160 + (i.val - 256 - 32)) (by omega), hi (i.val - 256 - 32) (by omega)]
    · rw [dif_neg h2, dif_neg (show ¬i.val - 256 < 64 by omega)]

theorem query_at (x0 : Vec Ideal S8x2048x512 .f32) (x3 : Vec Ideal S1x512 .f32) (x4 : Vec Ideal S1x512x1536 .f32) (x6 : Vec Ideal S1x256x2048 .f32)
    (b : Fin 8) (t : Fin 2048) (h : Fin 8) (i : Fin 384) :
    val_main_v99 (F := Ideal) x0 x3 x4 x6 (ix4 b t h i)
      = query (projected (fun d => x0 (ix3 b t d)) (fun d => x3 (ix2 0 d)) (column x4)) (lift x6) (table t) h i := by
  have hn := fun d => normq_at x0 x3 b t d
  unfold val_main_v99 val_main_v95 val_main_v93 val_main_v92 val_main_v91 val_main_v56 val_main_v54 val_main_v46 val_main_v53 val_main_v42 val_main_v45 val_main_v49
    val_main_v52 val_main_v38 val_main_v39 val_main_v16 val_main_v19 val_main_v41 val_main_v44 val_main_v48 val_main_v51 val_main_v40 val_main_v43 val_main_v47
    val_main_v50 val_main_v36 val_main_v37 table
  generalize val_main_v34 (F := Ideal) = C
  generalize val_main_v35 (F := Ideal) = S
  generalize val_main_v13 (F := Ideal) x0 x3 = N at hn ⊢
  pointwise [val_main_v98, val_main_cst_11, val_main_v94, val_main_cst_9, val_main_v90, val_main_v89, val_main_v88, val_main_v55, val_main_cst_5, val_main_v18, val_main_v17,
    val_main_v15, val_main_v14]
  simp only [hn]
  exact query_form (projected (fun d => x0 (ix3 b t d)) (fun d => x3 (ix2 0 d)) (column x4)) (normQ (fun d => x0 (ix3 b t d)) (fun d => x3 (ix2 0 d)))
    x4 x6 (fun j => C (ix2 t j)) (fun j => S (ix2 t j)) h i (projected_lo _ _ x4 h) (projected_mid _ _ x4 h) (projected_hi _ _ x4 h)

end Cert.MlaProjReferenceIdeal.Read

namespace Cert.MlaProjIdeal.Mp

open Idealize.ShloMosaic Idealize.ShloMosaic.TcCoe Cert.MlaProjIdeal Cert.MlaProjIdeal.Gen Idealize.SL.Sem
open Cert.MlaProjReferenceIdeal.Read (normQ normK column lift tab turn keys key projected query table)

theorem pay11_at (x0 : Vec Ideal S256x1024 .f32) (x2 : Vec Ideal S1x512 .f32) (x4 : Vec Ideal S512x2048 .bf16) (r : Fin 256) (k : Fin 2048) :
    k0_pay11 (F := Ideal) (k0_pay5 x0 x2) x4 (ix2 r k)
      = projected (fun d => x0 (ix2 r ⟨d.val, by omega⟩)) (fun d => x2 (ix2 0 d)) (fun k d => x4 (ix2 d k)) k := by
  pointwise [k0_pay11, k0_pay5, k0_pay3]
  rfl

theorem pay6_at (x0 : Vec Ideal S256x1024 .f32) (x3 : Vec Ideal S1x256 .f32) (r d : Fin 256) :
    k0_pay6 (F := Ideal) x0 x3 (ix2 r d) = normK (fun d => x0 (ix2 r ⟨512 + d.val, by omega⟩)) (fun d => x3 (ix2 0 d)) d := by
  pointwise [k0_pay6, k0_pay3]
  rfl

theorem pay7_at (x0 : Vec Ideal S256x1024 .f32) (x1 : Vec Ideal S256x128 .f32) (r : Fin 256) (j : Fin 64) :
    k0_pay7 (F := Ideal) x0 x1 (ix2 r ⟨j.val, by omega⟩)
      = turn (fun j => x0 (ix2 r ⟨768 + j.val, by omega⟩)) (fun j => x1 (ix2 r j)) j := by
  pointwise [k0_pay7, k0_pay4, k0_pay3]
  unfold turn
  refine congrArg₂ (· + ·) rfl (congrArg₂ (· * ·) (congrArg (fun k => x0 (ix2 r k)) (Fin.ext ?_)) (congrArg (fun k => x1 (ix2 r k)) (Fin.ext ?_)))
  · show 768 + (j.val + 128 - 64) % 128 = 768 + (64 + j.val)
    omega
  · show (j.val + 128 - 64) % 128 = 64 + j.val
    omega

/-- The lanes before the rotary columns' end, as the comparison picks them. -/
theorem lane (j : Fin 128) (a b : EReal) :
    Scalar.select (IntOp.cmpi CmpIPredicate.slt (BitVec.ofNat 32 j.val) 64#32) a b = if j.val < 64 then a else b := by
  have h : ∀ j : Fin 128, IntOp.cmpi CmpIPredicate.slt (BitVec.ofNat 32 j.val) 64#32 = if j.val < 64 then 1#1 else 0#1 := by decide +kernel
  rw [h j]
  by_cases hj : j.val < 64
  · rw [if_pos hj, if_pos hj]
    rfl
  · rw [if_neg hj, if_neg hj]
    rfl

/-- A head's stored columns of the latent space. -/
theorem latent_piece (p : Fin 2048 → EReal) (u : Fin 8 → Fin 128 → Fin 256 → EReal) (c : Fin 128 → EReal) (h h' : Fin 8) (e : Fin 384) (j : Fin 256)
    (k : Fin 128 → Fin 2048) (he : e.val = j.val) (hh : h'.val = h.val) (hk : ∀ n, (k n).val = 256 * h.val + n.val) :
    (∑ n, p (k n) * u h' n j) * Ideal.ofBits .f32 1033096506#32 = query p u c h e := by
  obtain rfl : h' = h := Fin.ext hh
  have hlt : e.val < 256 := by omega
  obtain rfl : j = ⟨e.val, hlt⟩ := Fin.ext he.symm
  unfold query
  rw [dif_pos hlt]
  refine congrArg (fun s => s * Ideal.ofBits .f32 1033096506#32) (Finset.sum_congr rfl fun n _ => ?_)
  have hx : k n = ⟨256 * h'.val + n.val, by omega⟩ := Fin.ext (hk n)
  rw [hx]

/-- A head's stored rotary columns, the lanes past their end zero. -/
theorem rotary_piece (p : Fin 2048 → EReal) (u : Fin 8 → Fin 128 → Fin 256 → EReal) (c : Fin 128 → EReal) (h : Fin 8) (e : Fin 384) (j l : Fin 128)
    (k k' : Fin 2048) (he : e.val = 256 + j.val) (hl : l.val = (j.val + 128 - 64) % 128) (hk : k.val = 256 * h.val + 128 + j.val)
    (hk' : k'.val = 256 * h.val + 128 + (j.val + 128 - 64) % 128) :
    Scalar.select (IntOp.cmpi CmpIPredicate.slt (BitVec.ofNat 32 j.val) 64#32) ((p k * c j + p k' * c l) * Ideal.ofBits .f32 1033096506#32) 0
      = query p u c h e := by
  rw [lane]
  unfold query
  rw [dif_neg (show ¬e.val < 256 by omega)]
  by_cases hj : j.val < 64
  · rw [if_pos hj, dif_pos (show e.val < 320 by omega)]
    refine congrArg (fun s => s * Ideal.ofBits .f32 1033096506#32) ?_
    unfold turn
    refine congrArg₂ (· + ·) (congrArg₂ (· * ·) (congrArg p (Fin.ext ?_)) (congrArg c (Fin.ext ?_))) (congrArg₂ (· * ·) (congrArg p (Fin.ext ?_)) (congrArg c (Fin.ext ?_)))
    · show k.val = 256 * h.val + (128 + (e.val - 256))
      omega
    · show j.val = e.val - 256
      omega
    · show k'.val = 256 * h.val + (128 + (64 + (e.val - 256)))
      omega
    · show l.val = 64 + (e.val - 256)
      omega
  · rw [if_neg hj, dif_neg (show ¬e.val < 320 by omega)]

section
variable (c : Dev nD) (i : grid0.Coords) (a1 : Memref sig .tc .vmem S256x1024 .f32) (h1 : a1.IsWhole) (a2 : Memref sig .tc .vmem S256x128 .f32) (h2 : a2.IsWhole)
  (a3 : Memref sig .tc .vmem S1x512 .f32) (h3 : a3.IsWhole) (a4 : Memref sig .tc .vmem S1x256 .f32) (h4 : a4.IsWhole)
  (a5 : Memref sig .tc .vmem S512x2048 .bf16) (h5 : a5.IsWhole) (a6 : Memref sig .tc .vmem S8x128x256 .bf16) (h6 : a6.IsWhole)
  (a7 : Memref sig .tc .vmem S256x256 .f32) (h7 : a7.IsWhole) (a8 : Memref sig .tc .vmem S256x64 .f32) (h8 : a8.IsWhole)
  (a9 : Memref sig .tc .vmem S256x384 .bf16) (h9 : a9.IsWhole) (a10 : Memref sig .tc .vmem S256x3072 .bf16) (h10 : a10.IsWhole)
  (x0 : Vec Ideal S256x1024 .f32) (x1 : Vec Ideal S256x128 .f32) (x2 : Vec Ideal S1x512 .f32) (x3 : Vec Ideal S1x256 .f32)
  (x4 : Vec Ideal S512x2048 .bf16) (x5 : Vec Ideal S8x128x256 .bf16)

theorem tile6_at (r e : Fin 256) :
    out0_A_6 (F := Ideal) c i a1 h1 a2 h2 a3 h3 a4 h4 a5 h5 a6 h6 a7 h7 a8 h8 a9 h9 a10 h10 x0 x1 x2 x3 x4 x5 (ix2 r e)
      = normK (fun d => x0 (ix2 r ⟨512 + d.val, by omega⟩)) (fun d => x3 (ix2 0 d)) e := by
  rw [← pay6_at]
  frame_out

theorem tile7_at (r : Fin 256) (e : Fin 64) :
    out0_A_7 (F := Ideal) c i a1 h1 a2 h2 a3 h3 a4 h4 a5 h5 a6 h6 a7 h7 a8 h8 a9 h9 a10 h10 x0 x1 x2 x3 x4 x5 (ix2 r e)
      = turn (fun j => x0 (ix2 r ⟨768 + j.val, by omega⟩)) (fun j => x1 (ix2 r j)) e := by
  have h : out0_A_7 (F := Ideal) c i a1 h1 a2 h2 a3 h3 a4 h4 a5 h5 a6 h6 a7 h7 a8 h8 a9 h9 a10 h10 x0 x1 x2 x3 x4 x5 (ix2 r e)
      = k0_pay8 (F := Ideal) (k0_pay7 x0 x1) (ix2 r e) := by
    frame_out
  rw [h, ← pay7_at]
  generalize k0_pay7 x0 x1 = q
  pointwise [k0_pay8]

theorem tile8_at (y : S256x384.Idx) (r : Fin 256) (e : Fin 384) (hr : (y 0).val = r.val) (he : (y 1).val = e.val) :
    out0_A_8 (F := Ideal) c i a1 h1 a2 h2 a3 h3 a4 h4 a5 h5 a6 h6 a7 h7 a8 h8 a9 h9 a10 h10 x0 x1 x2 x3 x4 x5 y
      = key (fun d => k0_pay6 (F := Ideal) x0 x3 (ix2 r d)) (fun j => k0_pay7 (F := Ideal) x0 x1 (ix2 r ⟨j.val, by omega⟩)) e := by
  frame_out
  generalize k0_pay6 (F := Ideal) x0 x3 = K
  generalize k0_pay7 (F := Ideal) x0 x1 = R
  canon_tiles x hx using View.cover_of_tiledBy _ ![256, 128] (by sl_kernel_rfl) y
  all_goals obtain ⟨r', j, rfl⟩ : ∃ r' j, x = ix2 r' j := ⟨x 0, x 1, eq_ix2 x⟩
  all_goals obtain rfl : r' = r := Fin.ext (hx0.symm.trans hr)
  · have hj : e.val = 256 + j.val := he.symm.trans hx1
    pointwise [k0_pay10]
    rw [lane]
    unfold key
    rw [dif_neg (show ¬e.val < 256 by omega)]
    by_cases h : j.val < 64
    · rw [if_pos h, dif_pos (show e.val < 320 by omega)]
      refine congrArg (fun k => R (ix2 r' k)) (Fin.ext ?_)
      show j.val = e.val - 256
      omega
    · rw [if_neg h, dif_neg (show ¬e.val < 320 by omega)]
  · have hj : e.val = j.val := he.symm.trans hx1
    pointwise [k0_pay9]
    unfold key
    rw [dif_pos (show e.val < 256 by omega)]
    exact congrArg (fun k => K (ix2 r' k)) (Fin.ext hj.symm)

theorem tile9_at (y : S256x3072.Idx) (r : Fin 256) (h : Fin 8) (e : Fin 384) (hr : (y 0).val = r.val) (he : (y 1).val = 384 * h.val + e.val) :
    out0_A_9 (F := Ideal) c i a1 h1 a2 h2 a3 h3 a4 h4 a5 h5 a6 h6 a7 h7 a8 h8 a9 h9 a10 h10 x0 x1 x2 x3 x4 x5 y
      = query (fun k => k0_pay11 (F := Ideal) (k0_pay5 x0 x2) x4 (ix2 r k)) (fun h n i => x5 (ix3 h n i)) (fun j => x1 (ix2 r j)) h e := by
  frame_out
  canon_tiles x hx using View.cover_of_tiledBy _ ![256, 128] (by sl_kernel_rfl) y
  all_goals obtain ⟨r', j, rfl⟩ : ∃ r' j, x = ix2 r' j := ⟨x 0, x 1, eq_ix2 x⟩
  all_goals obtain rfl : r' = r := Fin.ext (hx0.symm.trans hr)
  all_goals have hj := he.symm.trans hx1
  all_goals open_payloads
  all_goals generalize k0_pay11 (F := Ideal) (k0_pay5 x0 x2) x4 = Q
  case piece15 =>
    change _ = j.val at hj
    pointwise
    refine latent_piece (fun k => Q (ix2 r' k)) (fun h n i => x5 (ix3 h n i)) (fun j => x1 (ix2 r' j)) h _ e j _ ?_ ?_ fun n => ?_
    all_goals first | omega | (simp; done) | (simp; omega)
  case piece1 | piece3 | piece5 | piece7 | piece9 | piece11 | piece13 =>
    change _ = _ + j.val at hj
    pointwise
    refine latent_piece (fun k => Q (ix2 r' k)) (fun h n i => x5 (ix3 h n i)) (fun j => x1 (ix2 r' j)) h _ e j _ ?_ ?_ fun n => ?_
    all_goals first | omega | (simp; done) | (simp; omega)
  all_goals
    change _ = _ + j.val at hj
    pointwise
    refine rotary_piece (fun k => Q (ix2 r' k)) (fun h n i => x5 (ix3 h n i)) (fun j => x1 (ix2 r' j)) h e j _ _ _ ?_ ?_ ?_ ?_
    all_goals first | omega | (simp; done) | (simp; omega)
end

variable (m : (ℓ : Loc nD τ sig) → Buf (Elt Ideal) ℓ)

theorem idx : ∀ t : Fin cfg0.N,
    win0_0.index t = ![t.val, 4] ∧ win0_1.index t = ![t.val % 8, 0] ∧ win0_2.index t = ![0, 0] ∧ win0_3.index t = ![0, 0] ∧ win0_4.index t = ![0, 0]
    ∧ win0_5.index t = ![0, 0, 0] ∧ win0_6.index t = ![t.val, 0] ∧ win0_7.index t = ![t.val, 0] ∧ win0_8.index t = ![t.val, 0]
    ∧ win0_9.index t = ![t.val, 0] ∧ t.val < 64 := by decide +kernel

/-- The queries' latent rows as launched. -/
abbrev qs (c : Dev nD) : Vec Ideal S8x2048x512 .f32 := m ((c : Thread nD τ).loc main_arg0)
/-- The keys' latent rows as launched. -/
abbrev ks (c : Dev nD) : Vec Ideal S8x2048x256 .f32 := m ((c : Thread nD τ).loc main_arg1)
/-- The keys' rotary columns as launched. -/
abbrev rs (c : Dev nD) : Vec Ideal S8x2048x64 .f32 := m ((c : Thread nD τ).loc main_arg2)
/-- The queries' norm as launched. -/
abbrev gq (c : Dev nD) : Vec Ideal S1x512 .f32 := m ((c : Thread nD τ).loc main_arg3)
/-- The queries' weight as launched. -/
abbrev wq (c : Dev nD) : Vec Ideal S1x512x1536 .f32 := m ((c : Thread nD τ).loc main_arg4)
/-- The keys' norm as launched. -/
abbrev gk (c : Dev nD) : Vec Ideal S1x256 .f32 := m ((c : Thread nD τ).loc main_arg5)
/-- The keys' weight as launched. -/
abbrev wu (c : Dev nD) : Vec Ideal S1x256x2048 .f32 := m ((c : Thread nD τ).loc main_arg6)

theorem part5 (c : Dev nD) (i : Fin 16384) (d : Fin 512) :
    (StableHlo.upto hostOps0 (fun b => m (c, b)) 12 (Proc.devRef .tc main_v5) : Vec Ideal S16384x512 .f32) (ix2 i d)
      = qs m c (ix3 ⟨i.val / 2048, by omega⟩ ⟨i.val % 2048, by omega⟩ d) := by
  after_reads_simp
  pointwise

theorem part6 (c : Dev nD) (i : Fin 16384) (d : Fin 256) :
    (StableHlo.upto hostOps0 (fun b => m (c, b)) 12 (Proc.devRef .tc main_v6) : Vec Ideal S16384x256 .f32) (ix2 i d)
      = ks m c (ix3 ⟨i.val / 2048, by omega⟩ ⟨i.val % 2048, by omega⟩ d) := by
  after_reads_simp
  pointwise

theorem part7 (c : Dev nD) (i : Fin 16384) (d : Fin 64) :
    (StableHlo.upto hostOps0 (fun b => m (c, b)) 12 (Proc.devRef .tc main_v7) : Vec Ideal S16384x64 .f32) (ix2 i d)
      = rs m c (ix3 ⟨i.val / 2048, by omega⟩ ⟨i.val % 2048, by omega⟩ d) := by
  after_reads_simp
  pointwise

theorem part1 (c : Dev nD) (b : Fin 8) (t : Fin 2048) (d : Fin 32) :
    (StableHlo.upto hostOps0 (fun b => m (c, b)) 3 (Proc.devRef .tc main_v1) : Vec Ideal S8x2048x32 .f32) (ix3 b t d)
      = -rs m c (ix3 b t ⟨32 + d.val, by omega⟩) := by
  after_reads_simp
  pointwise

theorem part2 (c : Dev nD) (b : Fin 8) (t : Fin 2048) (d : Fin 32) :
    (StableHlo.upto hostOps0 (fun b => m (c, b)) 3 (Proc.devRef .tc main_v2) : Vec Ideal S8x2048x32 .f32) (ix3 b t d)
      = rs m c (ix3 b t ⟨d.val, by omega⟩) := by
  after_reads_simp
  pointwise

theorem part8 (c : Dev nD) (i : Fin 16384) (d : Fin 64) :
    (StableHlo.upto hostOps0 (fun b => m (c, b)) 12 (Proc.devRef .tc main_v8) : Vec Ideal S16384x64 .f32) (ix2 i d)
      = keys (fun d => rs m c (ix3 ⟨i.val / 2048, by omega⟩ ⟨i.val % 2048, by omega⟩ d)) ⟨64 + d.val, by omega⟩ := by
  after_reads_simp
  pointwise
  by_cases h : d.val < 32
  · rw [dif_pos h]
    refine (part1 m c _ _ _).trans ?_
    unfold keys
    rw [dif_neg (show ¬64 + d.val < 64 by omega), dif_pos (show 64 + d.val < 96 by omega)]
    refine congrArg (fun k => -rs m c (ix3 _ _ k)) (Fin.ext ?_)
    show 32 + d.val = 64 + d.val - 32
    omega
  · rw [dif_neg h]
    refine (part2 m c _ _ _).trans ?_
    unfold keys
    rw [dif_neg (show ¬64 + d.val < 64 by omega), dif_neg (show ¬64 + d.val < 96 by omega)]
    refine congrArg (fun k => rs m c (ix3 _ _ k)) (Fin.ext ?_)
    show d.val - 32 = 64 + d.val - 96
    omega

theorem v0q (c : Dev nD) (i : Fin 16384) (d : Fin 512) :
    (V m c (Pipeline.arrRef spec0 0) : Vec Ideal S16384x5120 .f32) (ix2 i ⟨4096 + d.val, by omega⟩)
      = qs m c (ix3 ⟨i.val / 2048, by omega⟩ ⟨i.val % 2048, by omega⟩ d) := by
  simp only [V]
  after_reads_simp
  dsimp only [Matrix.cons_val]
  pointwise
  after_reads_simp
  pointwise

theorem v0k (c : Dev nD) (i : Fin 16384) (d : Fin 256) :
    (V m c (Pipeline.arrRef spec0 0) : Vec Ideal S16384x5120 .f32) (ix2 i ⟨4096 + (512 + d.val), by omega⟩)
      = ks m c (ix3 ⟨i.val / 2048, by omega⟩ ⟨i.val % 2048, by omega⟩ d) := by
  simp only [V]
  after_reads_simp
  dsimp only [Matrix.cons_val]
  pointwise
  after_reads_simp
  pointwise

theorem v0r (c : Dev nD) (i : Fin 16384) (j : Fin 128) :
    (V m c (Pipeline.arrRef spec0 0) : Vec Ideal S16384x5120 .f32) (ix2 i ⟨4096 + (768 + j.val), by omega⟩)
      = keys (fun d => rs m c (ix3 ⟨i.val / 2048, by omega⟩ ⟨i.val % 2048, by omega⟩ d)) j := by
  have p7 := part7 m c i
  have p8 := part8 m c i
  simp only [V]
  after_reads_simp
  dsimp only [Matrix.cons_val]
  pointwise
  rw [dif_neg (show ¬768 + j.val < 512 by omega), dif_neg (show ¬768 + j.val - 512 < 256 by omega)]
  by_cases h : j.val < 64
  · rw [dif_pos (show 768 + j.val - 512 - 256 < 64 by omega)]
    refine Eq.trans (?_ : _ = _) ((p7 ⟨j.val, h⟩).trans (by unfold keys; rw [dif_pos h]))
    after_reads_simp
    refine congrArg (fun k => shapeCast S16384x64 (rs m c) shapeCasts_S8x2048x64_S16384x64 (ix2 i k)) (Fin.ext ?_)
    show 768 + j.val - 512 - 256 = j.val
    omega
  · rw [dif_neg (show ¬768 + j.val - 512 - 256 < 64 by omega), dif_pos (show 768 + j.val - 512 - 256 - 64 < 64 by omega)]
    have e : (⟨64 + (768 + j.val - 512 - 256 - 64), by omega⟩ : Fin 128) = j := Fin.ext (by show 64 + (768 + j.val - 512 - 256 - 64) = j.val; omega)
    refine Eq.trans (?_ : _ = _) ((p8 ⟨768 + j.val - 512 - 256 - 64, by omega⟩).trans (congrArg _ e))
    after_reads_simp

theorem v1 (c : Dev nD) (t : Fin 2048) (j : Fin 128) :
    (V m c (Pipeline.arrRef spec0 1) : Vec Ideal S2048x128 .f32) (ix2 t j) = table t j := by
  simp only [V]
  after_reads_simp
  dsimp only [Matrix.cons_val]
  after_reads_simp
  refine (show _ = concatenate S2048x128 1 [⟨S2048x32, Cert.MlaProjReferenceIdeal.Read.val_main_v34 (F := Ideal)⟩,
    ⟨S2048x32, Cert.MlaProjReferenceIdeal.Read.val_main_v34 (F := Ideal)⟩, ⟨S2048x32, Cert.MlaProjReferenceIdeal.Read.val_main_v35 (F := Ideal)⟩,
    ⟨S2048x32, Cert.MlaProjReferenceIdeal.Read.val_main_v35 (F := Ideal)⟩] concatenates_S2048x32_S2048x32_S2048x32_S2048x32_S2048x128_d1 (ix2 t j) from rfl).trans ?_
  unfold table
  generalize Cert.MlaProjReferenceIdeal.Read.val_main_v34 (F := Ideal) = C
  generalize Cert.MlaProjReferenceIdeal.Read.val_main_v35 (F := Ideal) = S
  pointwise
  unfold tab
  by_cases h1 : j.val < 32
  · rw [dif_pos h1, dif_pos h1]
  · rw [dif_neg h1, dif_neg h1]
    by_cases h2 : j.val < 64
    · rw [dif_pos h2, dif_pos (show j.val - 32 < 32 by omega)]
    · rw [dif_neg h2, dif_neg (show ¬j.val - 32 < 32 by omega)]
      by_cases h3 : j.val < 96
      · rw [dif_pos h3, dif_pos (show j.val - 32 - 32 < 32 by omega)]
        refine congrArg (fun k => S (ix2 t k)) (Fin.ext ?_)
        show j.val - 32 - 32 = j.val - 64
        omega
      · rw [dif_neg h3, dif_neg (show ¬j.val - 32 - 32 < 32 by omega)]
        refine congrArg (fun k => S (ix2 t k)) (Fin.ext ?_)
        show j.val - 32 - 32 - 32 = j.val - 96
        omega

theorem v2 (c : Dev nD) (d : Fin 512) : (V m c (Pipeline.arrRef spec0 2) : Vec Ideal S1x512 .f32) (ix2 0 d) = gq m c (ix2 0 d) := by
  simp only [V]
  after_reads_simp
  pointwise

theorem v3 (c : Dev nD) (d : Fin 256) : (V m c (Pipeline.arrRef spec0 3) : Vec Ideal S1x256 .f32) (ix2 0 d) = gk m c (ix2 0 d) := by
  simp only [V]
  after_reads_simp
  pointwise

theorem part12 (c : Dev nD) (d : Fin 512) (h : Fin 8) (j : Fin 192) :
    (StableHlo.upto hostOps0 (fun b => m (c, b)) 20 (Proc.devRef .tc main_v12) : Vec Ideal S512x8x192 .f32) (ix3 d h j)
      = wq m c (ix3 0 d ⟨192 * h.val + j.val, by omega⟩) := by
  after_reads_simp
  pointwise
  refine congrArg (fun k => wq m c (ix3 0 d k)) (Fin.ext ?_)
  show h.val * 192 + j.val = 192 * h.val + j.val
  omega

theorem part17 (c : Dev nD) (d : Fin 512) (h : Fin 8) (j : Fin 64) :
    (StableHlo.upto hostOps0 (fun b => m (c, b)) 20 (Proc.devRef .tc main_v17) : Vec Ideal S512x8x64 .f32) (ix3 d h j)
      = if hj : j.val < 32 then -wq m c (ix3 0 d ⟨192 * h.val + (160 + j.val), by omega⟩)
        else wq m c (ix3 0 d ⟨192 * h.val + (128 + (j.val - 32)), by omega⟩) := by
  after_reads_simp
  pointwise
  by_cases hj : j.val < 32
  · rw [dif_pos hj, dif_pos hj]
    refine congrArg (fun k => -wq m c (ix3 0 d k)) (Fin.ext ?_)
    show h.val * 192 + (128 + (32 + j.val)) = 192 * h.val + (160 + j.val)
    omega
  · rw [dif_neg hj, dif_neg hj]
    refine congrArg (fun k => wq m c (ix3 0 d k)) (Fin.ext ?_)
    show h.val * 192 + (128 + (j.val - 32)) = 192 * h.val + (128 + (j.val - 32))
    omega

theorem v4 (c : Dev nD) (d : Fin 512) (k : Fin 2048) :
    (V m c (Pipeline.arrRef spec0 4) : Vec Ideal S512x2048 .bf16) (ix2 d k) = column (wq m c) k d := by
  simp only [V]
  after_reads_simp
  pointwise
  unfold column
  by_cases h1 : k.val % 256 < 192
  · rw [dif_pos h1, dif_pos h1]
    exact part12 m c d ⟨k.val / 256, by omega⟩ ⟨k.val % 256, h1⟩
  · rw [dif_neg h1, dif_neg h1]
    refine (part17 m c d ⟨k.val / 256, by omega⟩ ⟨k.val % 256 - 192, by omega⟩).trans ?_
    by_cases h2 : k.val % 256 < 224
    · rw [dif_pos h2]
      refine (dif_pos (show k.val % 256 - 192 < 32 by omega)).trans ?_
      refine congrArg (fun k => -wq m c (ix3 0 d k)) (Fin.ext ?_)
      show 192 * (k.val / 256) + (160 + (k.val % 256 - 192)) = 192 * (k.val / 256) + k.val % 256 - 32
      omega
    · rw [dif_neg h2]
      refine (dif_neg (show ¬k.val % 256 - 192 < 32 by omega)).trans ?_
      refine congrArg (fun k => wq m c (ix3 0 d k)) (Fin.ext ?_)
      show 192 * (k.val / 256) + (128 + (k.val % 256 - 192 - 32)) = 192 * (k.val / 256) + k.val % 256 - 96
      omega

theorem v5 (c : Dev nD) (h : Fin 8) (n : Fin 128) (i : Fin 256) :
    (V m c (Pipeline.arrRef spec0 5) : Vec Ideal S8x128x256 .bf16) (ix3 h n i) = lift (wu m c) h n i := by
  simp only [V]
  after_reads_simp
  pointwise
  refine congrArg (fun k => wu m c (ix3 0 i k)) (Fin.ext ?_)
  show h.val * 256 + n.val = 256 * h.val + n.val
  omega

/-- A normalised latent row of the keys. -/
def G6 (c : Dev nD) (b : Fin 8) (s : Fin 2048) (e : Fin 256) : EReal := normK (fun d => ks m c (ix3 b s d)) (fun d => gk m c (ix2 0 d)) e
/-- The keys' turned rotary columns. -/
def G7 (c : Dev nD) (b : Fin 8) (s : Fin 2048) (e : Fin 64) : EReal := turn (keys fun d => rs m c (ix3 b s d)) (table s) e
/-- A key. -/
def G8 (c : Dev nD) (b : Fin 8) (s : Fin 2048) (e : Fin 384) : EReal := key (G6 m c b s) (G7 m c b s) e
/-- The heads' queries behind each other. -/
def G9 (c : Dev nD) (b : Fin 8) (s : Fin 2048) (e : Fin 3072) : EReal :=
  query (projected (fun d => qs m c (ix3 b s d)) (fun d => gq m c (ix2 0 d)) (column (wq m c))) (lift (wu m c)) (table s)
    ⟨e.val / 384, by omega⟩ ⟨e.val % 384, by omega⟩

theorem congr_row {n : ℕ} (G : Fin 8 → Fin 2048 → Fin n → EReal) (b b' : Fin 8) (t t' : Fin 2048) (k k' : Fin n) (hb : b.val = b'.val) (ht : t.val = t'.val)
    (hk : k.val = k'.val) : G b t k = G b' t' k' := by
  rw [Fin.ext hb, Fin.ext ht, Fin.ext hk]

/-- The rows of a tile. -/
theorem rows (c : Dev nD) (t : Fin cfg0.N) (r : Fin 256) (b : Fin 8) (s : Fin 2048) (hr : 256 * t.val + r.val = 2048 * b.val + s.val) :
    (fun d : Fin 512 => (iblk m c 0 t : Vec Ideal S256x1024 .f32) (ix2 r ⟨d.val, by omega⟩)) = (fun d => qs m c (ix3 b s d))
    ∧ (fun d : Fin 256 => (iblk m c 0 t : Vec Ideal S256x1024 .f32) (ix2 r ⟨512 + d.val, by omega⟩)) = (fun d => ks m c (ix3 b s d))
    ∧ (fun j : Fin 128 => (iblk m c 0 t : Vec Ideal S256x1024 .f32) (ix2 r ⟨768 + j.val, by omega⟩)) = keys (fun d => rs m c (ix3 b s d)) := by
  obtain ⟨e0, -, -, -, -, -, -, -, -, -, ht⟩ := idx t
  have hb : (⟨(256 * t.val + r.val) / 2048, by omega⟩ : Fin 8) = b := Fin.ext (by show (256 * t.val + r.val) / 2048 = b.val; omega)
  have hs : (⟨(256 * t.val + r.val) % 2048, by omega⟩ : Fin 2048) = s := Fin.ext (by show (256 * t.val + r.val) % 2048 = s.val; omega)
  refine ⟨funext fun d => ?_, funext fun d => ?_, funext fun j => ?_⟩
  · have h := v0q m c ⟨256 * t.val + r.val, by omega⟩ d
    rw [hb, hs] at h
    rw [← h]
    blk_ext [iblk, e0]
  · have h := v0k m c ⟨256 * t.val + r.val, by omega⟩ d
    rw [hb, hs] at h
    rw [← h]
    blk_ext [iblk, e0]
  · have h := v0r m c ⟨256 * t.val + r.val, by omega⟩ j
    rw [hb, hs] at h
    rw [← h]
    blk_ext [iblk, e0]

theorem block1 (c : Dev nD) (t : Fin cfg0.N) (r : Fin 256) (b : Fin 8) (s : Fin 2048) (hr : 256 * t.val + r.val = 2048 * b.val + s.val) (j : Fin 128) :
    (iblk m c 1 t : Vec Ideal S256x128 .f32) (ix2 r j) = table s j := by
  obtain ⟨-, e1, -, -, -, -, -, -, -, -, ht⟩ := idx t
  have hs : (⟨256 * (t.val % 8) + r.val, by omega⟩ : Fin 2048) = s := Fin.ext (by show 256 * (t.val % 8) + r.val = s.val; omega)
  have h := v1 m c ⟨256 * (t.val % 8) + r.val, by omega⟩ j
  rw [← hs]
  refine Eq.trans ?_ h
  blk_ext [iblk, e1]

theorem block2 (c : Dev nD) (t : Fin cfg0.N) (d : Fin 512) : (iblk m c 2 t : Vec Ideal S1x512 .f32) (ix2 0 d) = gq m c (ix2 0 d) := by
  obtain ⟨-, -, e2, -, -, -, -, -, -, -, ht⟩ := idx t
  rw [← v2 m c d]
  blk_ext [iblk, e2]

theorem block3 (c : Dev nD) (t : Fin cfg0.N) (d : Fin 256) : (iblk m c 3 t : Vec Ideal S1x256 .f32) (ix2 0 d) = gk m c (ix2 0 d) := by
  obtain ⟨-, -, -, e3, -, -, -, -, -, -, ht⟩ := idx t
  rw [← v3 m c d]
  blk_ext [iblk, e3]

theorem block4 (c : Dev nD) (t : Fin cfg0.N) (k : Fin 2048) (d : Fin 512) :
    (iblk m c 4 t : Vec Ideal S512x2048 .bf16) (ix2 d k) = column (wq m c) k d := by
  obtain ⟨-, -, -, -, e4, -, -, -, -, -, ht⟩ := idx t
  rw [← v4 m c d k]
  blk_ext [iblk, e4]

theorem block5 (c : Dev nD) (t : Fin cfg0.N) (h : Fin 8) (n : Fin 128) (i : Fin 256) :
    (iblk m c 5 t : Vec Ideal S8x128x256 .bf16) (ix3 h n i) = lift (wu m c) h n i := by
  obtain ⟨-, -, -, -, -, e5, -, -, -, -, ht⟩ := idx t
  rw [← v5 m c h n i]
  blk_ext [iblk, e5]

/-- The other blocks of a tile. -/
theorem blocks (c : Dev nD) (t : Fin cfg0.N) (r : Fin 256) (b : Fin 8) (s : Fin 2048) (hr : 256 * t.val + r.val = 2048 * b.val + s.val) :
    (fun j => (iblk m c 1 t : Vec Ideal S256x128 .f32) (ix2 r j)) = table s
    ∧ (fun d => (iblk m c 2 t : Vec Ideal S1x512 .f32) (ix2 0 d)) = (fun d => gq m c (ix2 0 d))
    ∧ (fun d => (iblk m c 3 t : Vec Ideal S1x256 .f32) (ix2 0 d)) = (fun d => gk m c (ix2 0 d))
    ∧ (fun k d => (iblk m c 4 t : Vec Ideal S512x2048 .bf16) (ix2 d k)) = column (wq m c)
    ∧ (fun h n i => (iblk m c 5 t : Vec Ideal S8x128x256 .bf16) (ix3 h n i)) = lift (wu m c) :=
  ⟨funext fun j => block1 m c t r b s hr j, funext fun d => block2 m c t d, funext fun d => block3 m c t d,
    funext fun k => funext fun d => block4 m c t k d, funext fun h => funext fun n => funext fun i => block5 m c t h n i⟩

theorem after6_at (c : Dev nD) (t : Fin cfg0.N) (r e : Fin 256) (b : Fin 8) (s : Fin 2048) (hr : 256 * t.val + r.val = 2048 * b.val + s.val) :
    (dats m 0 c).after 6 t (ix2 r e) = G6 m c b s e := by
  obtain ⟨-, a1, -⟩ := rows m c t r b s hr
  obtain ⟨-, -, b3, -, -⟩ := blocks m c t r b s hr
  rw [after0_6]
  unfold outsAt0
  dsimp only
  rw [tile6_at, a1, b3]
  rfl

theorem after7_at (c : Dev nD) (t : Fin cfg0.N) (r : Fin 256) (e : Fin 64) (b : Fin 8) (s : Fin 2048) (hr : 256 * t.val + r.val = 2048 * b.val + s.val) :
    (dats m 0 c).after 7 t (ix2 r e) = G7 m c b s e := by
  obtain ⟨-, -, a2⟩ := rows m c t r b s hr
  obtain ⟨b1, -, -, -, -⟩ := blocks m c t r b s hr
  rw [after0_7]
  unfold outsAt0
  dsimp only
  rw [tile7_at, a2, b1]
  rfl

theorem after8_at (c : Dev nD) (t : Fin cfg0.N) (r : Fin 256) (e : Fin 384) (b : Fin 8) (s : Fin 2048) (hr : 256 * t.val + r.val = 2048 * b.val + s.val) :
    (dats m 0 c).after 8 t (ix2 r e) = G8 m c b s e := by
  obtain ⟨-, a1, a2⟩ := rows m c t r b s hr
  obtain ⟨b1, -, b3, -, -⟩ := blocks m c t r b s hr
  have h6 : (fun d => k0_pay6 (F := Ideal) (iblk m c 0 t : Vec Ideal S256x1024 .f32) (iblk m c 3 t : Vec Ideal S1x256 .f32) (ix2 r d)) = G6 m c b s :=
    funext fun d => by
      rw [pay6_at, a1, b3]
      rfl
  have h7 : (fun j : Fin 64 => k0_pay7 (F := Ideal) (iblk m c 0 t : Vec Ideal S256x1024 .f32) (iblk m c 1 t : Vec Ideal S256x128 .f32) (ix2 r ⟨j.val, by omega⟩)) = G7 m c b s :=
    funext fun j => by
      rw [pay7_at, a2, b1]
      rfl
  rw [after0_8]
  unfold outsAt0
  dsimp only
  rw [tile8_at _ _ _ _ _ _ _ _ _ _ _ _ _ _ _ _ _ _ _ _ _ _ _ _ _ _ _ _ (ix2 r e) r e rfl rfl, h6, h7]
  rfl

theorem after9_at (c : Dev nD) (t : Fin cfg0.N) (r : Fin 256) (e : Fin 3072) (b : Fin 8) (s : Fin 2048) (hr : 256 * t.val + r.val = 2048 * b.val + s.val) :
    (dats m 0 c).after 9 t (ix2 r e) = G9 m c b s e := by
  obtain ⟨a0, -, -⟩ := rows m c t r b s hr
  obtain ⟨b1, b2, -, b4, b5⟩ := blocks m c t r b s hr
  have h11 : (fun k => k0_pay11 (F := Ideal) (k0_pay5 (iblk m c 0 t : Vec Ideal S256x1024 .f32) (iblk m c 2 t : Vec Ideal S1x512 .f32))
      (iblk m c 4 t : Vec Ideal S512x2048 .bf16) (ix2 r k))
      = projected (fun d => qs m c (ix3 b s d)) (fun d => gq m c (ix2 0 d)) (column (wq m c)) := funext fun k => by
    rw [pay11_at, a0, b2, b4]
  rw [after0_9]
  unfold outsAt0
  dsimp only
  rw [tile9_at _ _ _ _ _ _ _ _ _ _ _ _ _ _ _ _ _ _ _ _ _ _ _ _ _ _ _ _ (ix2 r e) r ⟨e.val / 384, by omega⟩ ⟨e.val % 384, by omega⟩ rfl
    (by show e.val = 384 * (e.val / 384) + e.val % 384; omega), h11, b1, b5]
  rfl

theorem arr6 (c : Dev nD) : (dats m 0 c).arrAt 6 cfg0.N = fun i : S16384x256.Idx =>
    G6 m c ⟨(i 0).val / 2048, by have := (i 0).isLt; simp at this; omega⟩ ⟨(i 0).val % 2048, by omega⟩ (i 1) := by
  refine (dats m 0 c).arrAt_eq_of_covers 6 _ (by decide +kernel) fun t hf y => ?_
  obtain ⟨-, -, -, -, -, -, e6, e7, e8, e9, ht⟩ := idx t
  obtain ⟨r, e, rfl⟩ : ∃ (r : Fin 256) (e : Fin 256), y = ix2 r e := ⟨y 0, y 1, eq_ix2 y⟩
  blk_simp
  have h := after6_at m c t r e ⟨(256 * t.val + r.val) / 2048, by omega⟩ ⟨(256 * t.val + r.val) % 2048, by omega⟩
    (by show 256 * t.val + r.val = 2048 * ((256 * t.val + r.val) / 2048) + (256 * t.val + r.val) % 2048; omega)
  have h0 : win0_6.index t 0 = t.val := by rw [e6]; rfl
  have h1 : (((win0_6.blk t).view.emb (ix2 r e) : S16384x256.Idx) 1).val = e.val := by blk_simp; simp [e6]
  refine h.trans (congr_row (G6 m c) _ _ _ _ _ _ ?_ ?_ h1.symm)
  · show (256 * t.val + r.val) / 2048 = (win0_6.index t 0 * 256 + r.val) / 2048
    rw [h0, Nat.mul_comm]
  · show (256 * t.val + r.val) % 2048 = (win0_6.index t 0 * 256 + r.val) % 2048
    rw [h0, Nat.mul_comm]

theorem arr7 (c : Dev nD) : (dats m 0 c).arrAt 7 cfg0.N = fun i : S16384x64.Idx =>
    G7 m c ⟨(i 0).val / 2048, by have := (i 0).isLt; simp at this; omega⟩ ⟨(i 0).val % 2048, by omega⟩ (i 1) := by
  refine (dats m 0 c).arrAt_eq_of_covers 7 _ (by decide +kernel) fun t hf y => ?_
  obtain ⟨-, -, -, -, -, -, e6, e7, e8, e9, ht⟩ := idx t
  obtain ⟨r, e, rfl⟩ : ∃ (r : Fin 256) (e : Fin 64), y = ix2 r e := ⟨y 0, y 1, eq_ix2 y⟩
  blk_simp
  have h := after7_at m c t r e ⟨(256 * t.val + r.val) / 2048, by omega⟩ ⟨(256 * t.val + r.val) % 2048, by omega⟩
    (by show 256 * t.val + r.val = 2048 * ((256 * t.val + r.val) / 2048) + (256 * t.val + r.val) % 2048; omega)
  have h0 : win0_7.index t 0 = t.val := by rw [e7]; rfl
  have h1 : (((win0_7.blk t).view.emb (ix2 r e) : S16384x64.Idx) 1).val = e.val := by blk_simp; simp [e7]
  refine h.trans (congr_row (G7 m c) _ _ _ _ _ _ ?_ ?_ h1.symm)
  · show (256 * t.val + r.val) / 2048 = (win0_7.index t 0 * 256 + r.val) / 2048
    rw [h0, Nat.mul_comm]
  · show (256 * t.val + r.val) % 2048 = (win0_7.index t 0 * 256 + r.val) % 2048
    rw [h0, Nat.mul_comm]

theorem arr8 (c : Dev nD) : (dats m 0 c).arrAt 8 cfg0.N = fun i : S16384x384.Idx =>
    G8 m c ⟨(i 0).val / 2048, by have := (i 0).isLt; simp at this; omega⟩ ⟨(i 0).val % 2048, by omega⟩ (i 1) := by
  refine (dats m 0 c).arrAt_eq_of_covers 8 _ (by decide +kernel) fun t hf y => ?_
  obtain ⟨-, -, -, -, -, -, e6, e7, e8, e9, ht⟩ := idx t
  obtain ⟨r, e, rfl⟩ : ∃ (r : Fin 256) (e : Fin 384), y = ix2 r e := ⟨y 0, y 1, eq_ix2 y⟩
  blk_simp
  have h := after8_at m c t r e ⟨(256 * t.val + r.val) / 2048, by omega⟩ ⟨(256 * t.val + r.val) % 2048, by omega⟩
    (by show 256 * t.val + r.val = 2048 * ((256 * t.val + r.val) / 2048) + (256 * t.val + r.val) % 2048; omega)
  have h0 : win0_8.index t 0 = t.val := by rw [e8]; rfl
  have h1 : (((win0_8.blk t).view.emb (ix2 r e) : S16384x384.Idx) 1).val = e.val := by blk_simp; simp [e8]
  refine h.trans (congr_row (G8 m c) _ _ _ _ _ _ ?_ ?_ h1.symm)
  · show (256 * t.val + r.val) / 2048 = (win0_8.index t 0 * 256 + r.val) / 2048
    rw [h0, Nat.mul_comm]
  · show (256 * t.val + r.val) % 2048 = (win0_8.index t 0 * 256 + r.val) % 2048
    rw [h0, Nat.mul_comm]

theorem arr9 (c : Dev nD) : (dats m 0 c).arrAt 9 cfg0.N = fun i : S16384x3072.Idx =>
    G9 m c ⟨(i 0).val / 2048, by have := (i 0).isLt; simp at this; omega⟩ ⟨(i 0).val % 2048, by omega⟩ (i 1) := by
  refine (dats m 0 c).arrAt_eq_of_covers 9 _ (by decide +kernel) fun t hf y => ?_
  obtain ⟨-, -, -, -, -, -, e6, e7, e8, e9, ht⟩ := idx t
  obtain ⟨r, e, rfl⟩ : ∃ (r : Fin 256) (e : Fin 3072), y = ix2 r e := ⟨y 0, y 1, eq_ix2 y⟩
  blk_simp
  have h := after9_at m c t r e ⟨(256 * t.val + r.val) / 2048, by omega⟩ ⟨(256 * t.val + r.val) % 2048, by omega⟩
    (by show 256 * t.val + r.val = 2048 * ((256 * t.val + r.val) / 2048) + (256 * t.val + r.val) % 2048; omega)
  have h0 : win0_9.index t 0 = t.val := by rw [e9]; rfl
  have h1 : (((win0_9.blk t).view.emb (ix2 r e) : S16384x3072.Idx) 1).val = e.val := by blk_simp; simp [e9]
  refine h.trans (congr_row (G9 m c) _ _ _ _ _ _ ?_ ?_ h1.symm)
  · show (256 * t.val + r.val) / 2048 = (win0_9.index t 0 * 256 + r.val) / 2048
    rw [h0, Nat.mul_comm]
  · show (256 * t.val + r.val) % 2048 = (win0_9.index t 0 * 256 + r.val) % 2048
    rw [h0, Nat.mul_comm]

theorem frame : Cert.quiescent_MlaProjIdeal := fun m g _ => Gen.frame m g

theorem frame_bits : Cert.quiescent_MlaProj := fun m g _ => Cert.MlaProj.Gen.frame m g

theorem frame_ref : Cert.quiescent_MlaProjReferenceIdeal := fun m g _ =>
  (θ_run _ _ _).mono (fun r h => ⟨fun c => (h c).2.2.2.2, sem_eq_zero_of_no_sems rfl _⟩) (Cert.MlaProjReferenceIdeal.Value.run m g)

theorem row_idx100 (x : Fin 16384) (y : Fin 256) :
    Cert.MlaProjReferenceIdeal.Read.idx_main_v100 (ix2 x y) = ix3 (⟨x.val / 2048, by omega⟩ : Fin 8) (⟨x.val % 2048, by omega⟩ : Fin 2048) y := by
  funext a
  refine Fin.ext ?_
  match a with
  | ⟨0, _⟩ => show (x.val * 256 + y.val) / 524288 = x.val / 2048; omega
  | ⟨1, _⟩ => show (x.val * 256 + y.val) / 256 % 2048 = x.val % 2048; omega
  | ⟨2, _⟩ => show (x.val * 256 + y.val) % 256 = y.val; omega

theorem row_idx101 (x : Fin 16384) (y : Fin 64) :
    Cert.MlaProjReferenceIdeal.Read.idx_main_v101 (ix2 x y) = ix3 (⟨x.val / 2048, by omega⟩ : Fin 8) (⟨x.val % 2048, by omega⟩ : Fin 2048) y := by
  funext a
  refine Fin.ext ?_
  match a with
  | ⟨0, _⟩ => show (x.val * 64 + y.val) / 131072 = x.val / 2048; omega
  | ⟨1, _⟩ => show (x.val * 64 + y.val) / 64 % 2048 = x.val % 2048; omega
  | ⟨2, _⟩ => show (x.val * 64 + y.val) % 64 = y.val; omega

theorem row_idx102 (x : Fin 16384) (y : Fin 384) :
    Cert.MlaProjReferenceIdeal.Read.idx_main_v102 (ix2 x y) = ix3 (⟨x.val / 2048, by omega⟩ : Fin 8) (⟨x.val % 2048, by omega⟩ : Fin 2048) y := by
  funext a
  refine Fin.ext ?_
  match a with
  | ⟨0, _⟩ => show (x.val * 384 + y.val) / 786432 = x.val / 2048; omega
  | ⟨1, _⟩ => show (x.val * 384 + y.val) / 384 % 2048 = x.val % 2048; omega
  | ⟨2, _⟩ => show (x.val * 384 + y.val) % 384 = y.val; omega

theorem row_idx104 (x : Fin 16384) (y : Fin 3072) :
    Cert.MlaProjReferenceIdeal.Read.idx_main_v104 (ix2 x y) = ix4 (⟨x.val / 2048, by omega⟩ : Fin 8) (⟨x.val % 2048, by omega⟩ : Fin 2048)
      (⟨y.val / 384, by omega⟩ : Fin 8) (⟨y.val % 384, by omega⟩ : Fin 384) := by
  funext a
  refine Fin.ext ?_
  match a with
  | ⟨0, _⟩ => show (x.val * 3072 + y.val) / 6291456 = x.val / 2048; omega
  | ⟨1, _⟩ => show (x.val * 3072 + y.val) / 3072 % 2048 = x.val % 2048; omega
  | ⟨2, _⟩ => show (x.val * 3072 + y.val) / 384 % 8 = y.val / 384; omega
  | ⟨3, _⟩ => show (x.val * 3072 + y.val) % 384 = y.val % 384; omega

theorem same6 (c : Dev nD) :
    Cert.MlaProjReferenceIdeal.Read.val_main_v100 (F := Ideal) (ks m c) (gk m c) = (dats m 0 c).arrAt 6 cfg0.N := by
  rw [arr6]
  funext i
  obtain ⟨x, y, rfl⟩ : ∃ (x : Fin 16384) (y : Fin 256), i = ix2 x y := ⟨i 0, i 1, eq_ix2 i⟩
  refine (Cert.MlaProjReferenceIdeal.Read.val_main_v100_apply _ _ _).trans ?_
  exact (congrArg _ (row_idx100 x y)).trans (Cert.MlaProjReferenceIdeal.Read.normk_at _ _ _ _ _)

theorem same7 (c : Dev nD) :
    Cert.MlaProjReferenceIdeal.Read.val_main_v101 (F := Ideal) (rs m c) = (dats m 0 c).arrAt 7 cfg0.N := by
  rw [arr7]
  funext i
  obtain ⟨x, y, rfl⟩ : ∃ (x : Fin 16384) (y : Fin 64), i = ix2 x y := ⟨i 0, i 1, eq_ix2 i⟩
  refine (Cert.MlaProjReferenceIdeal.Read.val_main_v101_apply _ _).trans ?_
  exact (congrArg _ (row_idx101 x y)).trans (Cert.MlaProjReferenceIdeal.Read.keyr_at _ _ _ _)

theorem same8 (c : Dev nD) :
    Cert.MlaProjReferenceIdeal.Read.val_main_v103 (F := Ideal) (ks m c) (rs m c) (gk m c) = (dats m 0 c).arrAt 8 cfg0.N := by
  rw [arr8]
  funext i
  obtain ⟨x, y, rfl⟩ : ∃ (x : Fin 16384) (y : Fin 384), i = ix2 x y := ⟨i 0, i 1, eq_ix2 i⟩
  refine (Cert.MlaProjReferenceIdeal.Read.val_main_v103_apply _ _ _ _).trans ?_
  refine (Cert.MlaProjReferenceIdeal.Read.val_main_v102_apply _ _ _ _).trans ?_
  exact (congrArg _ (row_idx102 x y)).trans (Cert.MlaProjReferenceIdeal.Read.key_at _ _ _ _ _ _)

theorem same9 (c : Dev nD) :
    Cert.MlaProjReferenceIdeal.Read.val_main_v105 (F := Ideal) (qs m c) (gq m c) (wq m c) (wu m c) = (dats m 0 c).arrAt 9 cfg0.N := by
  rw [arr9]
  funext i
  obtain ⟨x, y, rfl⟩ : ∃ (x : Fin 16384) (y : Fin 3072), i = ix2 x y := ⟨i 0, i 1, eq_ix2 i⟩
  refine (Cert.MlaProjReferenceIdeal.Read.val_main_v105_apply _ _ _ _ _).trans ?_
  refine (Cert.MlaProjReferenceIdeal.Read.val_main_v104_apply _ _ _ _ _).trans ?_
  exact (congrArg _ (row_idx104 x y)).trans (Cert.MlaProjReferenceIdeal.Read.query_at _ _ _ _ _ _ _ _)

theorem equal : Cert.algebraic_MlaProjIdeal_MlaProjReferenceIdeal := by
  pair_intro
  · run_from Cert.MlaProjIdeal.Value.run_blocks m g
  · run_from Cert.MlaProjReferenceIdeal.Value.run m' g'
    · rw [Cert.MlaProjReferenceIdeal.Read.val_main_v100_eq]
      exact same6 m c
    · rw [Cert.MlaProjReferenceIdeal.Read.val_main_v101_eq]
      rw [(hagree c).2.2.1]
      exact same7 m c
    · rw [Cert.MlaProjReferenceIdeal.Read.val_main_v103_eq]
      rw [(hagree c).2.1, (hagree c).2.2.1, (hagree c).2.2.2.2.2.1]
      exact same8 m c
    · rw [Cert.MlaProjReferenceIdeal.Read.val_main_v105_eq]
      rw [(hagree c).1, (hagree c).2.2.2.1, (hagree c).2.2.2.2.1, (hagree c).2.2.2.2.2.2]
      exact same9 m c

end Cert.MlaProjIdeal.Mp

end
-- ==== Proof.PleSample.lean ====
/-
  The per-layer embedding's claims for the sample: the same function of a row as for the prompt (Proof/Ple.lean), over two tiles
  of 512 rows, eight rows a sequence.
-/
module

public import proofs.«01_k».proof.Defs
public import proofs.«01_k».proof.Proof.Rows
public import proofs.«01_k».proof.Proof.Gen.PleSample.Frame
public import proofs.«01_k».proof.Proof.Gen.PleSampleIdeal.Value
public import proofs.«01_k».proof.Proof.Gen.PleSampleReferenceIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.PleSampleReferenceIdeal.Read

open Idealize.ShloMosaic Idealize.ShloMosaic.TcCoe Cert.PleSampleReferenceIdeal

theorem mixed_at (x0 : Vec Ideal S128x8x2048 .f32) (x1 : Vec Ideal S1x128x8x256 .f32) (x2 : Vec Ideal S1x2048 .f32)
    (x3 : Vec Ideal S1x2048x2048 .f32) (x4 : Vec Ideal S1x256x2048 .f32) (b : Fin 128) (t : Fin 8) (e : Fin 2048) :
    val_main_v26 (F := Ideal) x0 x1 x2 x3 x4 (ix3 b t e)
      = Rows.mixed (fun d => x0 (ix3 b t d)) (fun j => x1 (ix4 0 b t j)) (fun d => x2 (ix2 0 d)) (fun d e => x3 (ix3 0 d e))
          (fun j e => x4 (ix3 0 j e)) e := by
  pointwise [val_main_v26, val_main_v25, val_main_v24, val_main_v23, val_main_v22, val_main_v21, val_main_v20, val_main_v19,
    val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1, val_main_cst_2, val_main_cst_3]
  rfl

theorem ple_at (x0 : Vec Ideal S128x8x2048 .f32) (x1 : Vec Ideal S1x128x8x256 .f32) (x2 : Vec Ideal S1x2048 .f32)
    (x3 : Vec Ideal S1x2048x2048 .f32) (x4 : Vec Ideal S1x256x2048 .f32) (x5 : Vec Ideal S2048 .f32) (b : Fin 128) (t : Fin 8) (e : Fin 2048) :
    val_main_v39 (F := Ideal) x0 x1 x2 x3 x4 x5 (ix3 b t e)
      = Rows.ple (fun d => x0 (ix3 b t d)) (fun j => x1 (ix4 0 b t j)) (fun d => x2 (ix2 0 d)) (fun d e => x3 (ix3 0 d e))
          (fun j e => x4 (ix3 0 j e)) (fun d => x5 (ix1 d)) e := by
  unfold val_main_v39 val_main_v36 val_main_v35 val_main_v34 val_main_v33 val_main_v31 val_main_v29 val_main_v28 val_main_v27
  have h := mixed_at x0 x1 x2 x3 x4 b t
  generalize val_main_v26 (F := Ideal) x0 x1 x2 x3 x4 = Q at h ⊢
  pointwise [val_main_v38, val_main_v37, val_main_v32, val_main_v30, val_main_cst_6, val_main_cst_5, val_main_cst_4]
  simp only [h]
  rfl

end Cert.PleSampleReferenceIdeal.Read

namespace Cert.PleSampleIdeal.Ps

open Idealize.ShloMosaic Idealize.ShloMosaic.TcCoe Cert.PleSampleIdeal Cert.PleSampleIdeal.Gen Idealize.SL.Sem

/-- What a grid point stores, at a row and a column of its tile. -/
theorem tile_at (x0 : Vec Ideal S512x2048 .f32) (x1 : Vec Ideal S512x256 .f32) (x2 : Vec Ideal S1x2048 .f32)
    (x3 : Vec Ideal S2048x2048 .bf16) (x4 : Vec Ideal S256x2048 .bf16) (x5 : Vec Ideal S1x2048 .f32) (r : Fin 512) (e : Fin 2048) :
    out0_6 (F := Ideal) x0 x1 x2 x3 x4 x5 (ix2 r e)
      = Rows.ple (fun d => x0 (ix2 r d)) (fun j => x1 (ix2 r j)) (fun d => x2 (ix2 0 d)) (fun d e => x3 (ix2 d e))
          (fun j e => x4 (ix2 j e)) (fun d => x5 (ix2 0 d)) e := by
  have hm : ∀ e, k0_pay2 (F := Ideal) x0 x2 x3 x1 x4 (ix2 r e)
      = Rows.mixed (fun d => x0 (ix2 r d)) (fun j => x1 (ix2 r j)) (fun d => x2 (ix2 0 d)) (fun d e => x3 (ix2 d e))
          (fun j e => x4 (ix2 j e)) e := by
    intro e
    pointwise [k0_pay2]
    rfl
  have hp : k0_pay1 (F := Ideal) (k0_pay2 x0 x2 x3 x1 x4) (k0_pay3 x5) (k0_pay4 x0 x2 x3 x1 x4) (ix2 r e)
      = Rows.ple (fun d => x0 (ix2 r d)) (fun j => x1 (ix2 r j)) (fun d => x2 (ix2 0 d)) (fun d e => x3 (ix2 d e))
          (fun j e => x4 (ix2 j e)) (fun d => x5 (ix2 0 d)) e := by
    unfold k0_pay4
    generalize k0_pay2 (F := Ideal) x0 x2 x3 x1 x4 = Q at hm ⊢
    pointwise [k0_pay1, k0_pay3]
    simp only [hm]
    rfl
  refine Eq.trans ?_ hp
  frame_out

variable (m : (ℓ : Loc nD τ sig) → Buf (Elt Ideal) ℓ)

theorem idx : ∀ t : Fin cfg0.N,
    win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![t.val, 0] ∧ t.val < 2 := by decide +kernel

/-- The rows as launched. -/
abbrev xs (c : Dev nD) : Vec Ideal S128x8x2048 .f32 := m ((c : Thread nD τ).loc main_arg0)
/-- The embeddings as launched. -/
abbrev es (c : Dev nD) : Vec Ideal S1x128x8x256 .f32 := m ((c : Thread nD τ).loc main_arg1)
/-- The first norm's weight as launched. -/
abbrev gs (c : Dev nD) : Vec Ideal S1x2048 .f32 := m ((c : Thread nD τ).loc main_arg2)
/-- The gate's weight as launched. -/
abbrev wgs (c : Dev nD) : Vec Ideal S1x2048x2048 .f32 := m ((c : Thread nD τ).loc main_arg3)
/-- The embeddings' projection as launched. -/
abbrev wps (c : Dev nD) : Vec Ideal S1x256x2048 .f32 := m ((c : Thread nD τ).loc main_arg4)
/-- The last norm's weight as launched. -/
abbrev fs (c : Dev nD) : Vec Ideal S2048 .f32 := m ((c : Thread nD τ).loc main_arg5)

theorem v0 (c : Dev nD) (b : Fin 128) (t : Fin 8) (d : Fin 2048) (i : Fin 1024) (hi : i.val = 8 * b.val + t.val) :
    (V m c (Pipeline.arrRef spec0 0) : Vec Ideal S1024x2048 .f32) (ix2 i d) = xs m c (ix3 b t d) := by
  simp only [V]
  entry_read
  pointwise
  rw [show (⟨i.val / 8, by omega⟩ : Fin 128) = b from Fin.ext (by show i.val / 8 = b.val; omega),
    show (⟨i.val % 8, by omega⟩ : Fin 8) = t from Fin.ext (by show i.val % 8 = t.val; omega)]

theorem v1 (c : Dev nD) (b : Fin 128) (t : Fin 8) (d : Fin 256) (i : Fin 1024) (hi : i.val = 8 * b.val + t.val) :
    (V m c (Pipeline.arrRef spec0 1) : Vec Ideal S1024x256 .f32) (ix2 i d) = es m c (ix4 0 b t d) := by
  simp only [V]
  entry_read
  pointwise
  rw [show (⟨i.val / 8, by omega⟩ : Fin 128) = b from Fin.ext (by show i.val / 8 = b.val; omega),
    show (⟨i.val % 8, by omega⟩ : Fin 8) = t from Fin.ext (by show i.val % 8 = t.val; omega)]

theorem v2 (c : Dev nD) (d : Fin 2048) : (V m c (Pipeline.arrRef spec0 2) : Vec Ideal S1x2048 .f32) (ix2 0 d) = gs m c (ix2 0 d) := by
  simp only [V]
  entry_read
  pointwise

theorem v3 (c : Dev nD) (d e : Fin 2048) : (V m c (Pipeline.arrRef spec0 3) : Vec Ideal S2048x2048 .bf16) (ix2 d e) = wgs m c (ix3 0 d e) := by
  simp only [V]
  entry_read
  pointwise

theorem v4 (c : Dev nD) (d : Fin 256) (e : Fin 2048) : (V m c (Pipeline.arrRef spec0 4) : Vec Ideal S256x2048 .bf16) (ix2 d e) = wps m c (ix3 0 d e) := by
  simp only [V]
  entry_read
  pointwise

theorem v5 (c : Dev nD) (d : Fin 2048) : (V m c (Pipeline.arrRef spec0 5) : Vec Ideal S1x2048 .f32) (ix2 0 d) = fs m c (ix1 d) := by
  simp only [V]
  entry_read
  pointwise

/-- The result at a row of a sequence. -/
def G (c : Dev nD) (b : Fin 128) (t : Fin 8) (e : Fin 2048) : EReal :=
  Rows.ple (fun d => xs m c (ix3 b t d)) (fun j => es m c (ix4 0 b t j)) (fun d => gs m c (ix2 0 d)) (fun d e => wgs m c (ix3 0 d e))
    (fun j e => wps m c (ix3 0 j e)) (fun d => fs m c (ix1 d)) e

theorem G_congr (c : Dev nD) (b b' : Fin 128) (t t' : Fin 8) (e e' : Fin 2048) (hb : b.val = b'.val) (ht : t.val = t'.val) (he : e.val = e'.val) :
    G m c b t e = G m c b' t' e' := by
  rw [Fin.ext hb, Fin.ext ht, Fin.ext he]

theorem after_at (c : Dev nD) (t : Fin cfg0.N) (r : Fin 512) (e : Fin 2048) (b : Fin 128) (s : Fin 8)
    (hs : 512 * t.val + r.val = 8 * b.val + s.val) : (dats m 0 c).after 6 t (ix2 r e) = G m c b s e := by
  obtain ⟨e0, e1, e2, e3, e4, e5, e6, ht⟩ := idx t
  have b0 : ∀ d, (iblk m c 0 t : Vec Ideal S512x2048 .f32) (ix2 r d) = xs m c (ix3 b s d) := fun d => by
    rw [← v0 m c b s d ⟨512 * t.val + r.val, by omega⟩ hs]
    blk_ext [iblk, e0]
  have b1 : ∀ d, (iblk m c 1 t : Vec Ideal S512x256 .f32) (ix2 r d) = es m c (ix4 0 b s d) := fun d => by
    rw [← v1 m c b s d ⟨512 * t.val + r.val, by omega⟩ hs]
    blk_ext [iblk, e1]
  have b2 : ∀ d, (iblk m c 2 t : Vec Ideal S1x2048 .f32) (ix2 0 d) = gs m c (ix2 0 d) := fun d => by
    rw [← v2 m c d]
    blk_ext [iblk, e2]
  have b3 : ∀ d e, (iblk m c 3 t : Vec Ideal S2048x2048 .bf16) (ix2 d e) = wgs m c (ix3 0 d e) := fun d e => by
    rw [← v3 m c d e]
    blk_ext [iblk, e3]
  have b4 : ∀ d e, (iblk m c 4 t : Vec Ideal S256x2048 .bf16) (ix2 d e) = wps m c (ix3 0 d e) := fun d e => by
    rw [← v4 m c d e]
    blk_ext [iblk, e4]
  have b5 : ∀ d, (iblk m c 5 t : Vec Ideal S1x2048 .f32) (ix2 0 d) = fs m c (ix1 d) := fun d => by
    rw [← v5 m c d]
    blk_ext [iblk, e5]
  rw [after0_6]
  refine (tile_at _ _ _ _ _ _ r e).trans ?_
  simp only [b0, b1, b2, b3, b4, b5]
  rfl

theorem arr (c : Dev nD) : (dats m 0 c).arrAt 6 cfg0.N = fun i : S1024x2048.Idx =>
    G m c ⟨(i 0).val / 8, by have := (i 0).isLt; simp at this; omega⟩ ⟨(i 0).val % 8, by omega⟩ (i 1) := by
  refine (dats m 0 c).arrAt_eq_of_covers 6 _ (by decide +kernel) fun t hf y => ?_
  obtain ⟨-, -, -, -, -, -, e6, ht⟩ := idx t
  obtain ⟨r, e, rfl⟩ : ∃ (r : Fin 512) (e : Fin 2048), y = ix2 r e := ⟨y 0, y 1, eq_ix2 y⟩
  blk_simp
  have h := after_at m c t r e ⟨(512 * t.val + r.val) / 8, by omega⟩ ⟨(512 * t.val + r.val) % 8, by omega⟩
    (by show 512 * t.val + r.val = 8 * ((512 * t.val + r.val) / 8) + (512 * t.val + r.val) % 8; omega)
  have h0 : win0_6.index t 0 = t.val := by rw [e6]; rfl
  have h1 : (((win0_6.blk t).view.emb (ix2 r e) : S1024x2048.Idx) 1).val = e.val := by blk_simp; simp [e6]
  refine h.trans (G_congr m c _ _ _ _ _ _ ?_ ?_ h1.symm)
  · show (512 * t.val + r.val) / 8 = (win0_6.index t 0 * 512 + r.val) / 8
    rw [h0, Nat.mul_comm]
  · show (512 * t.val + r.val) % 8 = (win0_6.index t 0 * 512 + r.val) % 8
    rw [h0, Nat.mul_comm]

theorem frame : Cert.quiescent_PleSampleIdeal := fun m g _ => Gen.frame m g

theorem frame_bits : Cert.quiescent_PleSample := fun m g _ => Cert.PleSample.Gen.frame m g

theorem frame_ref : Cert.quiescent_PleSampleReferenceIdeal := fun m g _ =>
  (θ_run _ _ _).mono (fun r h => ⟨fun c => (h c).2, sem_eq_zero_of_no_sems rfl _⟩) (Cert.PleSampleReferenceIdeal.Value.run m g)

theorem same (c : Dev nD) :
    Cert.PleSampleReferenceIdeal.Read.val_main_v40 (F := Ideal) (xs m c) (es m c) (gs m c) (wgs m c) (wps m c) (fs m c)
      = (dats m 0 c).arrAt 6 cfg0.N := by
  rw [arr]
  funext i
  refine (Cert.PleSampleReferenceIdeal.Read.val_main_v40_apply _ _ _ _ _ _ i).trans ?_
  refine Eq.trans (congrArg _ ?_) (Cert.PleSampleReferenceIdeal.Read.ple_at _ _ _ _ _ _ _ _ _)
  obtain ⟨x, y, rfl⟩ : ∃ (x : Fin 1024) (y : Fin 2048), i = ix2 x y := ⟨i 0, i 1, eq_ix2 i⟩
  funext a
  refine Fin.ext ?_
  match a with
  | ⟨0, _⟩ => show (x.val * 2048 + y.val) / 16384 = x.val / 8; omega
  | ⟨1, _⟩ => show (x.val * 2048 + y.val) / 2048 % 8 = x.val % 8; omega
  | ⟨2, _⟩ => show (x.val * 2048 + y.val) % 2048 = y.val; omega

theorem equal : Cert.algebraic_PleSampleIdeal_PleSampleReferenceIdeal := by
  pair_intro
  · run_from Cert.PleSampleIdeal.Value.run_blocks m g
  · run_from Cert.PleSampleReferenceIdeal.Value.run m' g'
    rw [Cert.PleSampleReferenceIdeal.Read.val_main_v40_eq]
    obtain ⟨h0, h1, h2, h3, h4, h5⟩ := hagree c
    rw [h0, h1, h2, h3, h4, h5]
    exact same m c

end Cert.PleSampleIdeal.Ps

end
-- ==== Proof.MlaSample.lean ====
/-
  The attention's projections for the sample: the functions of a row are the prompt's (Proof/MlaProj.lean), over four tiles of
  256 rows, eight rows a sequence, at the positions behind the cached ones; the queries are stored as they are computed.
-/
module

public import proofs.«01_k».proof.Defs
public import proofs.«01_k».proof.Proof.MlaProj
public import proofs.«01_k».proof.Proof.Gen.MlaSample.Frame
public import proofs.«01_k».proof.Proof.Gen.MlaSampleIdeal.Value
public import proofs.«01_k».proof.Proof.Gen.MlaSampleReferenceIdeal.Read
public import Idealize.ShloMosaic.Lib.Pipeline.ValueKit
public import Idealize.ShloMosaic.Lib.Pointwise
public import Idealize.ShloMosaic.Lib.Claim
public import Idealize.ShloMosaic.Lib.Quiescent
public import Idealize.ShloMosaic.Lib.StableHlo.RunRead

@[expose] public section

set_option maxRecDepth 16384

noncomputable section

namespace Cert.MlaSampleReferenceIdeal.Read

open Idealize.ShloMosaic Idealize.ShloMosaic.TcCoe Cert.MlaSampleReferenceIdeal
open Cert.MlaProjReferenceIdeal.Read (normQ normK column lift tab turn keys key projected query turn_lo turn_hi query_form projected_lo
  projected_mid projected_hi)

/-- The table's row at a position. -/
abbrev table (t : Fin 8) : Fin 128 → EReal :=
  tab (fun j => val_main_v36 (F := Ideal) (ix2 t j)) (fun j => val_main_v37 (F := Ideal) (ix2 t j))

theorem normq_at (x0 : Vec Ideal S128x8x512 .f32) (x3 : Vec Ideal S1x512 .f32) (b : Fin 128) (t : Fin 8) (d : Fin 512) :
    val_main_v13 (F := Ideal) x0 x3 (ix3 b t d) = normQ (fun d => x0 (ix3 b t d)) (fun d => x3 (ix2 0 d)) d := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]
  rfl

theorem normk_at (x1 : Vec Ideal S128x8x256 .f32) (x5 : Vec Ideal S1x256 .f32) (b : Fin 128) (t : Fin 8) (d : Fin 256) :
    val_main_v89 (F := Ideal) x1 x5 (ix3 b t d) = normK (fun d => x1 (ix3 b t d)) (fun d => x5 (ix2 0 d)) d := by
  pointwise [val_main_v89, val_main_v88, val_main_v87, val_main_v86, val_main_v85, val_main_v84, val_main_v83, val_main_v82, val_main_v81, val_main_v80,
    val_main_v79, val_main_v78, val_main_v77, val_main_v76, val_main_cst_6, val_main_cst_7, val_main_cst_8]
  rfl

theorem keyr_at (x2 : Vec Ideal S128x8x64 .f32) (b : Fin 128) (t : Fin 8) (d : Fin 64) :
    val_main_v75 (F := Ideal) x2 (ix3 b t d) = turn (keys fun d => x2 (ix3 b t d)) (table t) d := by
  unfold val_main_v75 val_main_v67 val_main_v74 val_main_v63 val_main_v66 val_main_v70 val_main_v73 val_main_v62 val_main_v65 val_main_v69
    val_main_v72 val_main_v61 val_main_v64 val_main_v68 val_main_v71 table
  generalize val_main_v36 (F := Ideal) = C
  generalize val_main_v37 (F := Ideal) = S
  pointwise [val_main_v59, val_main_v60]
  by_cases h : d.val < 32
  · rw [dif_pos h, turn_lo _ _ _ d h]
  · rw [dif_neg h, turn_hi _ _ _ d h]
    refine congrArg (fun k => x2 (ix3 b t k) * C _ + _) (Fin.ext ?_)
    show 32 + (d.val - 32) = d.val
    omega

theorem key_at (x1 : Vec Ideal S128x8x256 .f32) (x2 : Vec Ideal S128x8x64 .f32) (x5 : Vec Ideal S1x256 .f32) (b : Fin 128) (t : Fin 8) (i : Fin 384) :
    val_main_v99 (F := Ideal) x1 x2 x5 (ix3 b t i)
      = key (normK (fun d => x1 (ix3 b t d)) (fun d => x5 (ix2 0 d))) (turn (keys fun d => x2 (ix3 b t d)) (table t)) i := by
  have hk := normk_at x1 x5 b t
  have hr := keyr_at x2 b t
  unfold val_main_v99
  generalize val_main_v89 (F := Ideal) x1 x5 = K at hk ⊢
  generalize val_main_v75 (F := Ideal) x2 = R at hr ⊢
  pointwise [val_main_v98, val_main_cst_10]
  unfold key
  by_cases h : i.val < 256
  · rw [dif_pos h, dif_pos h]
    exact hk _
  · rw [dif_neg h, dif_neg h]
    by_cases h2 : i.val < 320
    · rw [dif_pos h2, dif_pos (show i.val - 256 < 64 by omega)]
      exact hr _
    · rw [dif_neg h2, dif_neg (show ¬i.val - 256 < 64 by omega)]

theorem query_at (x0 : Vec Ideal S128x8x512 .f32) (x3 : Vec Ideal S1x512 .f32) (x4 : Vec Ideal S1x512x1536 .f32) (x6 : Vec Ideal S1x256x2048 .f32)
    (b : Fin 128) (t : Fin 8) (h : Fin 8) (i : Fin 384) :
    val_main_v101 (F := Ideal) x0 x3 x4 x6 (ix4 b t h i)
      = query (projected (fun d => x0 (ix3 b t d)) (fun d => x3 (ix2 0 d)) (column x4)) (lift x6) (table t) h i := by
  have hn := fun d => normq_at x0 x3 b t d
  unfold val_main_v101 val_main_v97 val_main_v95 val_main_v94 val_main_v93 val_main_v58 val_main_v56 val_main_v48 val_main_v55 val_main_v44 val_main_v47 val_main_v51
    val_main_v54 val_main_v40 val_main_v41 val_main_v16 val_main_v19 val_main_v43 val_main_v46 val_main_v50 val_main_v53 val_main_v42 val_main_v45 val_main_v49
    val_main_v52 val_main_v38 val_main_v39 table
  generalize val_main_v36 (F := Ideal) = C
  generalize val_main_v37 (F := Ideal) = S
  generalize val_main_v13 (F := Ideal) x0 x3 = N at hn ⊢
  pointwise [val_main_v100, val_main_cst_11, val_main_v96, val_main_cst_9, val_main_v92, val_main_v91, val_main_v90, val_main_v57, val_main_cst_5, val_main_v18, val_main_v17,
    val_main_v15, val_main_v14]
  simp only [hn]
  exact query_form (projected (fun d => x0 (ix3 b t d)) (fun d => x3 (ix2 0 d)) (column x4)) (normQ (fun d => x0 (ix3 b t d)) (fun d => x3 (ix2 0 d)))
    x4 x6 (fun j => C (ix2 t j)) (fun j => S (ix2 t j)) h i (projected_lo _ _ x4 h) (projected_mid _ _ x4 h) (projected_hi _ _ x4 h)

end Cert.MlaSampleReferenceIdeal.Read

namespace Cert.MlaSampleIdeal.Ms

open Idealize.ShloMosaic Idealize.ShloMosaic.TcCoe Cert.MlaSampleIdeal Cert.MlaSampleIdeal.Gen Idealize.SL.Sem
open Cert.MlaProjReferenceIdeal.Read (normQ normK column lift tab turn keys key projected query)
open Cert.MlaProjIdeal.Mp (lane latent_piece rotary_piece)
open Cert.MlaSampleReferenceIdeal.Read (table)

theorem pay11_at (x0 : Vec Ideal S256x1024 .f32) (x2 : Vec Ideal S1x512 .f32) (x4 : Vec Ideal S512x2048 .bf16) (r : Fin 256) (k : Fin 2048) :
    k0_pay10 (F := Ideal) (k0_pay4 x0 x2) x4 (ix2 r k)
      = projected (fun d => x0 (ix2 r ⟨d.val, by omega⟩)) (fun d => x2 (ix2 0 d)) (fun k d => x4 (ix2 d k)) k := by
  pointwise [k0_pay10, k0_pay4, k0_pay2]
  rfl

theorem pay6_at (x0 : Vec Ideal S256x1024 .f32) (x3 : Vec Ideal S1x256 .f32) (r d : Fin 256) :
    k0_pay5 (F := Ideal) x0 x3 (ix2 r d) = normK (fun d => x0 (ix2 r ⟨512 + d.val, by omega⟩)) (fun d => x3 (ix2 0 d)) d := by
  pointwise [k0_pay5, k0_pay2]
  rfl

theorem pay7_at (x0 : Vec Ideal S256x1024 .f32) (x1 : Vec Ideal S256x128 .f32) (r : Fin 256) (j : Fin 64) :
    k0_pay6 (F := Ideal) x0 x1 (ix2 r ⟨j.val, by omega⟩)
      = turn (fun j => x0 (ix2 r ⟨768 + j.val, by omega⟩)) (fun j => x1 (ix2 r j)) j := by
  pointwise [k0_pay6, k0_pay3, k0_pay2]
  unfold turn
  refine congrArg₂ (· + ·) rfl (congrArg₂ (· * ·) (congrArg (fun k => x0 (ix2 r k)) (Fin.ext ?_)) (congrArg (fun k => x1 (ix2 r k)) (Fin.ext ?_)))
  · show 768 + (j.val + 128 - 64) % 128 = 768 + (64 + j.val)
    omega
  · show (j.val + 128 - 64) % 128 = 64 + j.val
    omega

section
variable (c : Dev nD) (i : grid0.Coords) (a1 : Memref sig .tc .vmem S256x1024 .f32) (h1 : a1.IsWhole) (a2 : Memref sig .tc .vmem S256x128 .f32) (h2 : a2.IsWhole)
  (a3 : Memref sig .tc .vmem S1x512 .f32) (h3 : a3.IsWhole) (a4 : Memref sig .tc .vmem S1x256 .f32) (h4 : a4.IsWhole)
  (a5 : Memref sig .tc .vmem S512x2048 .bf16) (h5 : a5.IsWhole) (a6 : Memref sig .tc .vmem S8x128x256 .bf16) (h6 : a6.IsWhole)
  (a7 : Memref sig .tc .vmem S256x256 .f32) (h7 : a7.IsWhole) (a8 : Memref sig .tc .vmem S256x64 .f32) (h8 : a8.IsWhole)
  (a9 : Memref sig .tc .vmem S256x384 .bf16) (h9 : a9.IsWhole) (a10 : Memref sig .tc .vmem S256x3072 .f32) (h10 : a10.IsWhole)
  (x0 : Vec Ideal S256x1024 .f32) (x1 : Vec Ideal S256x128 .f32) (x2 : Vec Ideal S1x512 .f32) (x3 : Vec Ideal S1x256 .f32)
  (x4 : Vec Ideal S512x2048 .bf16) (x5 : Vec Ideal S8x128x256 .bf16)

theorem tile6_at (r e : Fin 256) :
    out0_A_6 (F := Ideal) c i a1 h1 a2 h2 a3 h3 a4 h4 a5 h5 a6 h6 a7 h7 a8 h8 a9 h9 a10 h10 x0 x1 x2 x3 x4 x5 (ix2 r e)
      = normK (fun d => x0 (ix2 r ⟨512 + d.val, by omega⟩)) (fun d => x3 (ix2 0 d)) e := by
  rw [← pay6_at]
  frame_out

theorem tile7_at (r : Fin 256) (e : Fin 64) :
    out0_A_7 (F := Ideal) c i a1 h1 a2 h2 a3 h3 a4 h4 a5 h5 a6 h6 a7 h7 a8 h8 a9 h9 a10 h10 x0 x1 x2 x3 x4 x5 (ix2 r e)
      = turn (fun j => x0 (ix2 r ⟨768 + j.val, by omega⟩)) (fun j => x1 (ix2 r j)) e := by
  have h : out0_A_7 (F := Ideal) c i a1 h1 a2 h2 a3 h3 a4 h4 a5 h5 a6 h6 a7 h7 a8 h8 a9 h9 a10 h10 x0 x1 x2 x3 x4 x5 (ix2 r e)
      = k0_pay7 (F := Ideal) (k0_pay6 x0 x1) (ix2 r e) := by
    frame_out
  rw [h, ← pay7_at]
  generalize k0_pay6 x0 x1 = q
  pointwise [k0_pay7]

theorem tile8_at (y : S256x384.Idx) (r : Fin 256) (e : Fin 384) (hr : (y 0).val = r.val) (he : (y 1).val = e.val) :
    out0_A_8 (F := Ideal) c i a1 h1 a2 h2 a3 h3 a4 h4 a5 h5 a6 h6 a7 h7 a8 h8 a9 h9 a10 h10 x0 x1 x2 x3 x4 x5 y
      = key (fun d => k0_pay5 (F := Ideal) x0 x3 (ix2 r d)) (fun j => k0_pay6 (F := Ideal) x0 x1 (ix2 r ⟨j.val, by omega⟩)) e := by
  frame_out
  generalize k0_pay5 (F := Ideal) x0 x3 = K
  generalize k0_pay6 (F := Ideal) x0 x1 = R
  canon_tiles x hx using View.cover_of_tiledBy _ ![256, 128] (by sl_kernel_rfl) y
  all_goals obtain ⟨r', j, rfl⟩ : ∃ r' j, x = ix2 r' j := ⟨x 0, x 1, eq_ix2 x⟩
  all_goals obtain rfl : r' = r := Fin.ext (hx0.symm.trans hr)
  · have hj : e.val = 256 + j.val := he.symm.trans hx1
    pointwise [k0_pay9]
    rw [lane]
    unfold key
    rw [dif_neg (show ¬e.val < 256 by omega)]
    by_cases h : j.val < 64
    · rw [if_pos h, dif_pos (show e.val < 320 by omega)]
      refine congrArg (fun k => R (ix2 r' k)) (Fin.ext ?_)
      show j.val = e.val - 256
      omega
    · rw [if_neg h, dif_neg (show ¬e.val < 320 by omega)]
  · have hj : e.val = j.val := he.symm.trans hx1
    pointwise [k0_pay8]
    unfold key
    rw [dif_pos (show e.val < 256 by omega)]
    exact congrArg (fun k => K (ix2 r' k)) (Fin.ext hj.symm)

theorem tile9_at (y : S256x3072.Idx) (r : Fin 256) (h : Fin 8) (e : Fin 384) (hr : (y 0).val = r.val) (he : (y 1).val = 384 * h.val + e.val) :
    out0_A_9 (F := Ideal) c i a1 h1 a2 h2 a3 h3 a4 h4 a5 h5 a6 h6 a7 h7 a8 h8 a9 h9 a10 h10 x0 x1 x2 x3 x4 x5 y
      = query (fun k => k0_pay10 (F := Ideal) (k0_pay4 x0 x2) x4 (ix2 r k)) (fun h n i => x5 (ix3 h n i)) (fun j => x1 (ix2 r j)) h e := by
  frame_out
  canon_tiles x hx using View.cover_of_tiledBy _ ![256, 128] (by sl_kernel_rfl) y
  all_goals obtain ⟨r', j, rfl⟩ : ∃ r' j, x = ix2 r' j := ⟨x 0, x 1, eq_ix2 x⟩
  all_goals obtain rfl : r' = r := Fin.ext (hx0.symm.trans hr)
  all_goals have hj := he.symm.trans hx1
  all_goals open_payloads
  all_goals generalize k0_pay10 (F := Ideal) (k0_pay4 x0 x2) x4 = Q
  case piece15 =>
    change _ = j.val at hj
    pointwise
    refine latent_piece (fun k => Q (ix2 r' k)) (fun h n i => x5 (ix3 h n i)) (fun j => x1 (ix2 r' j)) h _ e j _ ?_ ?_ fun n => ?_
    all_goals first | omega | (simp; done) | (simp; omega)
  case piece1 | piece3 | piece5 | piece7 | piece9 | piece11 | piece13 =>
    change _ = _ + j.val at hj
    pointwise
    refine latent_piece (fun k => Q (ix2 r' k)) (fun h n i => x5 (ix3 h n i)) (fun j => x1 (ix2 r' j)) h _ e j _ ?_ ?_ fun n => ?_
    all_goals first | omega | (simp; done) | (simp; omega)
  all_goals
    change _ = _ + j.val at hj
    pointwise
    refine rotary_piece (fun k => Q (ix2 r' k)) (fun h n i => x5 (ix3 h n i)) (fun j => x1 (ix2 r' j)) h e j _ _ _ ?_ ?_ ?_ ?_
    all_goals first | omega | (simp; done) | (simp; omega)
end

variable (m : (ℓ : Loc nD τ sig) → Buf (Elt Ideal) ℓ)

theorem idx : ∀ t : Fin cfg0.N,
    win0_0.index t = ![t.val, 4] ∧ win0_1.index t = ![t.val, 0] ∧ win0_2.index t = ![0, 0] ∧ win0_3.index t = ![0, 0] ∧ win0_4.index t = ![0, 0]
    ∧ win0_5.index t = ![0, 0, 0] ∧ win0_6.index t = ![t.val, 0] ∧ win0_7.index t = ![t.val, 0] ∧ win0_8.index t = ![t.val, 0]
    ∧ win0_9.index t = ![t.val, 0] ∧ t.val < 4 := by decide +kernel

/-- The queries' latent rows as launched. -/
abbrev qs (c : Dev nD) : Vec Ideal S128x8x512 .f32 := m ((c : Thread nD τ).loc main_arg0)
/-- The keys' latent rows as launched. -/
abbrev ks (c : Dev nD) : Vec Ideal S128x8x256 .f32 := m ((c : Thread nD τ).loc main_arg1)
/-- The keys' rotary columns as launched. -/
abbrev rs (c : Dev nD) : Vec Ideal S128x8x64 .f32 := m ((c : Thread nD τ).loc main_arg2)
/-- The queries' norm as launched. -/
abbrev gq (c : Dev nD) : Vec Ideal S1x512 .f32 := m ((c : Thread nD τ).loc main_arg3)
/-- The queries' weight as launched. -/
abbrev wq (c : Dev nD) : Vec Ideal S1x512x1536 .f32 := m ((c : Thread nD τ).loc main_arg4)
/-- The keys' norm as launched. -/
abbrev gk (c : Dev nD) : Vec Ideal S1x256 .f32 := m ((c : Thread nD τ).loc main_arg5)
/-- The keys' weight as launched. -/
abbrev wu (c : Dev nD) : Vec Ideal S1x256x2048 .f32 := m ((c : Thread nD τ).loc main_arg6)

theorem part5 (c : Dev nD) (i : Fin 1024) (d : Fin 512) :
    (StableHlo.upto hostOps0 (fun b => m (c, b)) 12 (Proc.devRef .tc main_v5) : Vec Ideal S1024x512 .f32) (ix2 i d)
      = qs m c (ix3 ⟨i.val / 8, by omega⟩ ⟨i.val % 8, by omega⟩ d) := by
  after_reads_simp
  pointwise

theorem part6 (c : Dev nD) (i : Fin 1024) (d : Fin 256) :
    (StableHlo.upto hostOps0 (fun b => m (c, b)) 12 (Proc.devRef .tc main_v6) : Vec Ideal S1024x256 .f32) (ix2 i d)
      = ks m c (ix3 ⟨i.val / 8, by omega⟩ ⟨i.val % 8, by omega⟩ d) := by
  after_reads_simp
  pointwise

theorem part7 (c : Dev nD) (i : Fin 1024) (d : Fin 64) :
    (StableHlo.upto hostOps0 (fun b => m (c, b)) 12 (Proc.devRef .tc main_v7) : Vec Ideal S1024x64 .f32) (ix2 i d)
      = rs m c (ix3 ⟨i.val / 8, by omega⟩ ⟨i.val % 8, by omega⟩ d) := by
  after_reads_simp
  pointwise

theorem part1 (c : Dev nD) (b : Fin 128) (t : Fin 8) (d : Fin 32) :
    (StableHlo.upto hostOps0 (fun b => m (c, b)) 3 (Proc.devRef .tc main_v1) : Vec Ideal S128x8x32 .f32) (ix3 b t d)
      = -rs m c (ix3 b t ⟨32 + d.val, by omega⟩) := by
  after_reads_simp
  pointwise

theorem part2 (c : Dev nD) (b : Fin 128) (t : Fin 8) (d : Fin 32) :
    (StableHlo.upto hostOps0 (fun b => m (c, b)) 3 (Proc.devRef .tc main_v2) : Vec Ideal S128x8x32 .f32) (ix3 b t d)
      = rs m c (ix3 b t ⟨d.val, by omega⟩) := by
  after_reads_simp
  pointwise

theorem part8 (c : Dev nD) (i : Fin 1024) (d : Fin 64) :
    (StableHlo.upto hostOps0 (fun b => m (c, b)) 12 (Proc.devRef .tc main_v8) : Vec Ideal S1024x64 .f32) (ix2 i d)
      = keys (fun d => rs m c (ix3 ⟨i.val / 8, by omega⟩ ⟨i.val % 8, by omega⟩ d)) ⟨64 + d.val, by omega⟩ := by
  after_reads_simp
  pointwise
  by_cases h : d.val < 32
  · rw [dif_pos h]
    refine (part1 m c _ _ _).trans ?_
    unfold keys
    rw [dif_neg (show ¬64 + d.val < 64 by omega), dif_pos (show 64 + d.val < 96 by omega)]
    refine congrArg (fun k => -rs m c (ix3 _ _ k)) (Fin.ext ?_)
    show 32 + d.val = 64 + d.val - 32
    omega
  · rw [dif_neg h]
    refine (part2 m c _ _ _).trans ?_
    unfold keys
    rw [dif_neg (show ¬64 + d.val < 64 by omega), dif_neg (show ¬64 + d.val < 96 by omega)]
    refine congrArg (fun k => rs m c (ix3 _ _ k)) (Fin.ext ?_)
    show d.val - 32 = 64 + d.val - 96
    omega

theorem v0q (c : Dev nD) (i : Fin 1024) (d : Fin 512) :
    (V m c (Pipeline.arrRef spec0 0) : Vec Ideal S1024x5120 .f32) (ix2 i ⟨4096 + d.val, by omega⟩)
      = qs m c (ix3 ⟨i.val / 8, by omega⟩ ⟨i.val % 8, by omega⟩ d) := by
  simp only [V]
  after_reads_simp
  dsimp only [Matrix.cons_val]
  pointwise
  after_reads_simp
  pointwise

theorem v0k (c : Dev nD) (i : Fin 1024) (d : Fin 256) :
    (V m c (Pipeline.arrRef spec0 0) : Vec Ideal S1024x5120 .f32) (ix2 i ⟨4096 + (512 + d.val), by omega⟩)
      = ks m c (ix3 ⟨i.val / 8, by omega⟩ ⟨i.val % 8, by omega⟩ d) := by
  simp only [V]
  after_reads_simp
  dsimp only [Matrix.cons_val]
  pointwise
  after_reads_simp
  pointwise

theorem v0r (c : Dev nD) (i : Fin 1024) (j : Fin 128) :
    (V m c (Pipeline.arrRef spec0 0) : Vec Ideal S1024x5120 .f32) (ix2 i ⟨4096 + (768 + j.val), by omega⟩)
      = keys (fun d => rs m c (ix3 ⟨i.val / 8, by omega⟩ ⟨i.val % 8, by omega⟩ d)) j := by
  have p7 := part7 m c i
  have p8 := part8 m c i
  simp only [V]
  after_reads_simp
  dsimp only [Matrix.cons_val]
  pointwise
  rw [dif_neg (show ¬768 + j.val < 512 by omega), dif_neg (show ¬768 + j.val - 512 < 256 by omega)]
  by_cases h : j.val < 64
  · rw [dif_pos (show 768 + j.val - 512 - 256 < 64 by omega)]
    refine Eq.trans (?_ : _ = _) ((p7 ⟨j.val, h⟩).trans (by unfold keys; rw [dif_pos h]))
    after_reads_simp
    refine congrArg (fun k => shapeCast S1024x64 (rs m c) shapeCasts_S128x8x64_S1024x64 (ix2 i k)) (Fin.ext ?_)
    show 768 + j.val - 512 - 256 = j.val
    omega
  · rw [dif_neg (show ¬768 + j.val - 512 - 256 < 64 by omega), dif_pos (show 768 + j.val - 512 - 256 - 64 < 64 by omega)]
    have e : (⟨64 + (768 + j.val - 512 - 256 - 64), by omega⟩ : Fin 128) = j := Fin.ext (by show 64 + (768 + j.val - 512 - 256 - 64) = j.val; omega)
    refine Eq.trans (?_ : _ = _) ((p8 ⟨768 + j.val - 512 - 256 - 64, by omega⟩).trans (congrArg _ e))
    after_reads_simp

/-- The four quarters of a row of the table. -/
theorem quarters (C S : Vec Ideal S8x32 .f32) (t : Fin 8) (j : Fin 128) :
    concatenate S8x128 1 [⟨S8x32, C⟩, ⟨S8x32, C⟩, ⟨S8x32, S⟩, ⟨S8x32, S⟩] concatenates_S8x32_S8x32_S8x32_S8x32_S8x128_d1 (ix2 t j)
      = tab (fun j => C (ix2 t j)) (fun j => S (ix2 t j)) j := by
  pointwise
  unfold tab
  by_cases h1 : j.val < 32
  · rw [dif_pos h1, dif_pos h1]
  · rw [dif_neg h1, dif_neg h1]
    by_cases h2 : j.val < 64
    · rw [dif_pos h2, dif_pos (show j.val - 32 < 32 by omega)]
    · rw [dif_neg h2, dif_neg (show ¬j.val - 32 < 32 by omega)]
      by_cases h3 : j.val < 96
      · rw [dif_pos h3, dif_pos (show j.val - 32 - 32 < 32 by omega)]
        refine congrArg (fun k => S (ix2 t k)) (Fin.ext ?_)
        show j.val - 32 - 32 = j.val - 64
        omega
      · rw [dif_neg h3, dif_neg (show ¬j.val - 32 - 32 < 32 by omega)]
        refine congrArg (fun k => S (ix2 t k)) (Fin.ext ?_)
        show j.val - 32 - 32 - 32 = j.val - 96
        omega

theorem v1 (c : Dev nD) (i : Fin 1024) (j : Fin 128) :
    (V m c (Pipeline.arrRef spec0 1) : Vec Ideal S1024x128 .f32) (ix2 i j) = table ⟨i.val % 8, by omega⟩ j := by
  simp only [V]
  after_reads_simp
  refine (show _ = shapeCast S1024x128 (broadcastInDim S128x8x1x128 ![0, 1, 2, 3] bcast_S1x8x1x128_S128x8x1x128_0_1_2_3 (shapeCast S1x8x1x128
    (concatenate S8x128 1 [⟨S8x32, Cert.MlaSampleReferenceIdeal.Read.val_main_v36 (F := Ideal)⟩,
    ⟨S8x32, Cert.MlaSampleReferenceIdeal.Read.val_main_v36 (F := Ideal)⟩, ⟨S8x32, Cert.MlaSampleReferenceIdeal.Read.val_main_v37 (F := Ideal)⟩,
    ⟨S8x32, Cert.MlaSampleReferenceIdeal.Read.val_main_v37 (F := Ideal)⟩] concatenates_S8x32_S8x32_S8x32_S8x32_S8x128_d1)
    shapeCasts_S8x128_S1x8x1x128)) shapeCasts_S128x8x1x128_S1024x128 (ix2 i j) from rfl).trans ?_
  unfold table
  have h := quarters (Cert.MlaSampleReferenceIdeal.Read.val_main_v36 (F := Ideal)) (Cert.MlaSampleReferenceIdeal.Read.val_main_v37 (F := Ideal))
  generalize concatenate S8x128 1 _ _ = Q at h ⊢
  rw [← h]
  pointwise

theorem v2 (c : Dev nD) (d : Fin 512) : (V m c (Pipeline.arrRef spec0 2) : Vec Ideal S1x512 .f32) (ix2 0 d) = gq m c (ix2 0 d) := by
  simp only [V]
  after_reads_simp
  pointwise

theorem v3 (c : Dev nD) (d : Fin 256) : (V m c (Pipeline.arrRef spec0 3) : Vec Ideal S1x256 .f32) (ix2 0 d) = gk m c (ix2 0 d) := by
  simp only [V]
  after_reads_simp
  pointwise

theorem part12 (c : Dev nD) (d : Fin 512) (h : Fin 8) (j : Fin 192) :
    (StableHlo.upto hostOps0 (fun b => m (c, b)) 20 (Proc.devRef .tc main_v12) : Vec Ideal S512x8x192 .f32) (ix3 d h j)
      = wq m c (ix3 0 d ⟨192 * h.val + j.val, by omega⟩) := by
  after_reads_simp
  pointwise
  refine congrArg (fun k => wq m c (ix3 0 d k)) (Fin.ext ?_)
  show h.val * 192 + j.val = 192 * h.val + j.val
  omega

theorem part17 (c : Dev nD) (d : Fin 512) (h : Fin 8) (j : Fin 64) :
    (StableHlo.upto hostOps0 (fun b => m (c, b)) 20 (Proc.devRef .tc main_v17) : Vec Ideal S512x8x64 .f32) (ix3 d h j)
      = if hj : j.val < 32 then -wq m c (ix3 0 d ⟨192 * h.val + (160 + j.val), by omega⟩)
        else wq m c (ix3 0 d ⟨192 * h.val + (128 + (j.val - 32)), by omega⟩) := by
  after_reads_simp
  pointwise
  by_cases hj : j.val < 32
  · rw [dif_pos hj, dif_pos hj]
    refine congrArg (fun k => -wq m c (ix3 0 d k)) (Fin.ext ?_)
    show h.val * 192 + (128 + (32 + j.val)) = 192 * h.val + (160 + j.val)
    omega
  · rw [dif_neg hj, dif_neg hj]
    refine congrArg (fun k => wq m c (ix3 0 d k)) (Fin.ext ?_)
    show h.val * 192 + (128 + (j.val - 32)) = 192 * h.val + (128 + (j.val - 32))
    omega

theorem v4 (c : Dev nD) (d : Fin 512) (k : Fin 2048) :
    (V m c (Pipeline.arrRef spec0 4) : Vec Ideal S512x2048 .bf16) (ix2 d k) = column (wq m c) k d := by
  simp only [V]
  after_reads_simp
  pointwise
  unfold column
  by_cases h1 : k.val % 256 < 192
  · rw [dif_pos h1, dif_pos h1]
    exact part12 m c d ⟨k.val / 256, by omega⟩ ⟨k.val % 256, h1⟩
  · rw [dif_neg h1, dif_neg h1]
    refine (part17 m c d ⟨k.val / 256, by omega⟩ ⟨k.val % 256 - 192, by omega⟩).trans ?_
    by_cases h2 : k.val % 256 < 224
    · rw [dif_pos h2]
      refine (dif_pos (show k.val % 256 - 192 < 32 by omega)).trans ?_
      refine congrArg (fun k => -wq m c (ix3 0 d k)) (Fin.ext ?_)
      show 192 * (k.val / 256) + (160 + (k.val % 256 - 192)) = 192 * (k.val / 256) + k.val % 256 - 32
      omega
    · rw [dif_neg h2]
      refine (dif_neg (show ¬k.val % 256 - 192 < 32 by omega)).trans ?_
      refine congrArg (fun k => wq m c (ix3 0 d k)) (Fin.ext ?_)
      show 192 * (k.val / 256) + (128 + (k.val % 256 - 192 - 32)) = 192 * (k.val / 256) + k.val % 256 - 96
      omega

theorem v5 (c : Dev nD) (h : Fin 8) (n : Fin 128) (i : Fin 256) :
    (V m c (Pipeline.arrRef spec0 5) : Vec Ideal S8x128x256 .bf16) (ix3 h n i) = lift (wu m c) h n i := by
  simp only [V]
  after_reads_simp
  pointwise
  refine congrArg (fun k => wu m c (ix3 0 i k)) (Fin.ext ?_)
  show h.val * 256 + n.val = 256 * h.val + n.val
  omega

/-- A normalised latent row of the keys. -/
def G6 (c : Dev nD) (b : Fin 128) (s : Fin 8) (e : Fin 256) : EReal := normK (fun d => ks m c (ix3 b s d)) (fun d => gk m c (ix2 0 d)) e
/-- The keys' turned rotary columns. -/
def G7 (c : Dev nD) (b : Fin 128) (s : Fin 8) (e : Fin 64) : EReal := turn (keys fun d => rs m c (ix3 b s d)) (table s) e
/-- A key. -/
def G8 (c : Dev nD) (b : Fin 128) (s : Fin 8) (e : Fin 384) : EReal := key (G6 m c b s) (G7 m c b s) e
/-- The heads' queries behind each other. -/
def G9 (c : Dev nD) (b : Fin 128) (s : Fin 8) (e : Fin 3072) : EReal :=
  query (projected (fun d => qs m c (ix3 b s d)) (fun d => gq m c (ix2 0 d)) (column (wq m c))) (lift (wu m c)) (table s)
    ⟨e.val / 384, by omega⟩ ⟨e.val % 384, by omega⟩

theorem congr_row {n : ℕ} (G : Fin 128 → Fin 8 → Fin n → EReal) (b b' : Fin 128) (t t' : Fin 8) (k k' : Fin n) (hb : b.val = b'.val) (ht : t.val = t'.val)
    (hk : k.val = k'.val) : G b t k = G b' t' k' := by
  rw [Fin.ext hb, Fin.ext ht, Fin.ext hk]

/-- The rows of a tile. -/
theorem rows (c : Dev nD) (t : Fin cfg0.N) (r : Fin 256) (b : Fin 128) (s : Fin 8) (hr : 256 * t.val + r.val = 8 * b.val + s.val) :
    (fun d : Fin 512 => (iblk m c 0 t : Vec Ideal S256x1024 .f32) (ix2 r ⟨d.val, by omega⟩)) = (fun d => qs m c (ix3 b s d))
    ∧ (fun d : Fin 256 => (iblk m c 0 t : Vec Ideal S256x1024 .f32) (ix2 r ⟨512 + d.val, by omega⟩)) = (fun d => ks m c (ix3 b s d))
    ∧ (fun j : Fin 128 => (iblk m c 0 t : Vec Ideal S256x1024 .f32) (ix2 r ⟨768 + j.val, by omega⟩)) = keys (fun d => rs m c (ix3 b s d)) := by
  obtain ⟨e0, -, -, -, -, -, -, -, -, -, ht⟩ := idx t
  have hb : (⟨(256 * t.val + r.val) / 8, by omega⟩ : Fin 128) = b := Fin.ext (by show (256 * t.val + r.val) / 8 = b.val; omega)
  have hs : (⟨(256 * t.val + r.val) % 8, by omega⟩ : Fin 8) = s := Fin.ext (by show (256 * t.val + r.val) % 8 = s.val; omega)
  refine ⟨funext fun d => ?_, funext fun d => ?_, funext fun j => ?_⟩
  · have h := v0q m c ⟨256 * t.val + r.val, by omega⟩ d
    rw [hb, hs] at h
    rw [← h]
    blk_ext [iblk, e0]
  · have h := v0k m c ⟨256 * t.val + r.val, by omega⟩ d
    rw [hb, hs] at h
    rw [← h]
    blk_ext [iblk, e0]
  · have h := v0r m c ⟨256 * t.val + r.val, by omega⟩ j
    rw [hb, hs] at h
    rw [← h]
    blk_ext [iblk, e0]

theorem block1 (c : Dev nD) (t : Fin cfg0.N) (r : Fin 256) (b : Fin 128) (s : Fin 8) (hr : 256 * t.val + r.val = 8 * b.val + s.val) (j : Fin 128) :
    (iblk m c 1 t : Vec Ideal S256x128 .f32) (ix2 r j) = table s j := by
  obtain ⟨-, e1, -, -, -, -, -, -, -, -, ht⟩ := idx t
  have hs : (⟨(256 * t.val + r.val) % 8, by omega⟩ : Fin 8) = s := Fin.ext (by show (256 * t.val + r.val) % 8 = s.val; omega)
  have h := v1 m c ⟨256 * t.val + r.val, by omega⟩ j
  rw [← hs]
  refine Eq.trans ?_ h
  blk_ext [iblk, e1]

theorem block2 (c : Dev nD) (t : Fin cfg0.N) (d : Fin 512) : (iblk m c 2 t : Vec Ideal S1x512 .f32) (ix2 0 d) = gq m c (ix2 0 d) := by
  obtain ⟨-, -, e2, -, -, -, -, -, -, -, ht⟩ := idx t
  rw [← v2 m c d]
  blk_ext [iblk, e2]

theorem block3 (c : Dev nD) (t : Fin cfg0.N) (d : Fin 256) : (iblk m c 3 t : Vec Ideal S1x256 .f32) (ix2 0 d) = gk m c (ix2 0 d) := by
  obtain ⟨-, -, -, e3, -, -, -, -, -, -, ht⟩ := idx t
  rw [← v3 m c d]
  blk_ext [iblk, e3]

theorem block4 (c : Dev nD) (t : Fin cfg0.N) (k : Fin 2048) (d : Fin 512) :
    (iblk m c 4 t : Vec Ideal S512x2048 .bf16) (ix2 d k) = column (wq m c) k d := by
  obtain ⟨-, -, -, -, e4, -, -, -, -, -, ht⟩ := idx t
  rw [← v4 m c d k]
  blk_ext [iblk, e4]

theorem block5 (c : Dev nD) (t : Fin cfg0.N) (h : Fin 8) (n : Fin 128) (i : Fin 256) :
    (iblk m c 5 t : Vec Ideal S8x128x256 .bf16) (ix3 h n i) = lift (wu m c) h n i := by
  obtain ⟨-, -, -, -, -, e5, -, -, -, -, ht⟩ := idx t
  rw [← v5 m c h n i]
  blk_ext [iblk, e5]

/-- The other blocks of a tile. -/
theorem blocks (c : Dev nD) (t : Fin cfg0.N) (r : Fin 256) (b : Fin 128) (s : Fin 8) (hr : 256 * t.val + r.val = 8 * b.val + s.val) :
    (fun j => (iblk m c 1 t : Vec Ideal S256x128 .f32) (ix2 r j)) = table s
    ∧ (fun d => (iblk m c 2 t : Vec Ideal S1x512 .f32) (ix2 0 d)) = (fun d => gq m c (ix2 0 d))
    ∧ (fun d => (iblk m c 3 t : Vec Ideal S1x256 .f32) (ix2 0 d)) = (fun d => gk m c (ix2 0 d))
    ∧ (fun k d => (iblk m c 4 t : Vec Ideal S512x2048 .bf16) (ix2 d k)) = column (wq m c)
    ∧ (fun h n i => (iblk m c 5 t : Vec Ideal S8x128x256 .bf16) (ix3 h n i)) = lift (wu m c) :=
  ⟨funext fun j => block1 m c t r b s hr j, funext fun d => block2 m c t d, funext fun d => block3 m c t d,
    funext fun k => funext fun d => block4 m c t k d, funext fun h => funext fun n => funext fun i => block5 m c t h n i⟩

theorem after6_at (c : Dev nD) (t : Fin cfg0.N) (r e : Fin 256) (b : Fin 128) (s : Fin 8) (hr : 256 * t.val + r.val = 8 * b.val + s.val) :
    (dats m 0 c).after 6 t (ix2 r e) = G6 m c b s e := by
  obtain ⟨-, a1, -⟩ := rows m c t r b s hr
  obtain ⟨-, -, b3, -, -⟩ := blocks m c t r b s hr
  rw [after0_6]
  unfold outsAt0
  dsimp only
  rw [tile6_at, a1, b3]
  rfl

theorem after7_at (c : Dev nD) (t : Fin cfg0.N) (r : Fin 256) (e : Fin 64) (b : Fin 128) (s : Fin 8) (hr : 256 * t.val + r.val = 8 * b.val + s.val) :
    (dats m 0 c).after 7 t (ix2 r e) = G7 m c b s e := by
  obtain ⟨-, -, a2⟩ := rows m c t r b s hr
  obtain ⟨b1, -, -, -, -⟩ := blocks m c t r b s hr
  rw [after0_7]
  unfold outsAt0
  dsimp only
  rw [tile7_at, a2, b1]
  rfl

theorem after8_at (c : Dev nD) (t : Fin cfg0.N) (r : Fin 256) (e : Fin 384) (b : Fin 128) (s : Fin 8) (hr : 256 * t.val + r.val = 8 * b.val + s.val) :
    (dats m 0 c).after 8 t (ix2 r e) = G8 m c b s e := by
  obtain ⟨-, a1, a2⟩ := rows m c t r b s hr
  obtain ⟨b1, -, b3, -, -⟩ := blocks m c t r b s hr
  have h6 : (fun d => k0_pay5 (F := Ideal) (iblk m c 0 t : Vec Ideal S256x1024 .f32) (iblk m c 3 t : Vec Ideal S1x256 .f32) (ix2 r d)) = G6 m c b s :=
    funext fun d => by
      rw [pay6_at, a1, b3]
      rfl
  have h7 : (fun j : Fin 64 => k0_pay6 (F := Ideal) (iblk m c 0 t : Vec Ideal S256x1024 .f32) (iblk m c 1 t : Vec Ideal S256x128 .f32) (ix2 r ⟨j.val, by omega⟩)) = G7 m c b s :=
    funext fun j => by
      rw [pay7_at, a2, b1]
      rfl
  rw [after0_8]
  unfold outsAt0
  dsimp only
  rw [tile8_at _ _ _ _ _ _ _ _ _ _ _ _ _ _ _ _ _ _ _ _ _ _ _ _ _ _ _ _ (ix2 r e) r e rfl rfl, h6, h7]
  rfl

theorem after9_at (c : Dev nD) (t : Fin cfg0.N) (r : Fin 256) (e : Fin 3072) (b : Fin 128) (s : Fin 8) (hr : 256 * t.val + r.val = 8 * b.val + s.val) :
    (dats m 0 c).after 9 t (ix2 r e) = G9 m c b s e := by
  obtain ⟨a0, -, -⟩ := rows m c t r b s hr
  obtain ⟨b1, b2, -, b4, b5⟩ := blocks m c t r b s hr
  have h11 : (fun k => k0_pay10 (F := Ideal) (k0_pay4 (iblk m c 0 t : Vec Ideal S256x1024 .f32) (iblk m c 2 t : Vec Ideal S1x512 .f32))
      (iblk m c 4 t : Vec Ideal S512x2048 .bf16) (ix2 r k))
      = projected (fun d => qs m c (ix3 b s d)) (fun d => gq m c (ix2 0 d)) (column (wq m c)) := funext fun k => by
    rw [pay11_at, a0, b2, b4]
  rw [after0_9]
  unfold outsAt0
  dsimp only
  rw [tile9_at _ _ _ _ _ _ _ _ _ _ _ _ _ _ _ _ _ _ _ _ _ _ _ _ _ _ _ _ (ix2 r e) r ⟨e.val / 384, by omega⟩ ⟨e.val % 384, by omega⟩ rfl
    (by show e.val = 384 * (e.val / 384) + e.val % 384; omega), h11, b1, b5]
  rfl

theorem arr6 (c : Dev nD) : (dats m 0 c).arrAt 6 cfg0.N = fun i : S1024x256.Idx =>
    G6 m c ⟨(i 0).val / 8, by have := (i 0).isLt; simp at this; omega⟩ ⟨(i 0).val % 8, by omega⟩ (i 1) := by
  refine (dats m 0 c).arrAt_eq_of_covers 6 _ (by decide +kernel) fun t hf y => ?_
  obtain ⟨-, -, -, -, -, -, e6, e7, e8, e9, ht⟩ := idx t
  obtain ⟨r, e, rfl⟩ : ∃ (r : Fin 256) (e : Fin 256), y = ix2 r e := ⟨y 0, y 1, eq_ix2 y⟩
  blk_simp
  have h := after6_at m c t r e ⟨(256 * t.val + r.val) / 8, by omega⟩ ⟨(256 * t.val + r.val) % 8, by omega⟩
    (by show 256 * t.val + r.val = 8 * ((256 * t.val + r.val) / 8) + (256 * t.val + r.val) % 8; omega)
  have h0 : win0_6.index t 0 = t.val := by rw [e6]; rfl
  have h1 : (((win0_6.blk t).view.emb (ix2 r e) : S1024x256.Idx) 1).val = e.val := by blk_simp; simp [e6]
  refine h.trans (congr_row (G6 m c) _ _ _ _ _ _ ?_ ?_ h1.symm)
  · show (256 * t.val + r.val) / 8 = (win0_6.index t 0 * 256 + r.val) / 8
    rw [h0, Nat.mul_comm]
  · show (256 * t.val + r.val) % 8 = (win0_6.index t 0 * 256 + r.val) % 8
    rw [h0, Nat.mul_comm]

theorem arr7 (c : Dev nD) : (dats m 0 c).arrAt 7 cfg0.N = fun i : S1024x64.Idx =>
    G7 m c ⟨(i 0).val / 8, by have := (i 0).isLt; simp at this; omega⟩ ⟨(i 0).val % 8, by omega⟩ (i 1) := by
  refine (dats m 0 c).arrAt_eq_of_covers 7 _ (by decide +kernel) fun t hf y => ?_
  obtain ⟨-, -, -, -, -, -, e6, e7, e8, e9, ht⟩ := idx t
  obtain ⟨r, e, rfl⟩ : ∃ (r : Fin 256) (e : Fin 64), y = ix2 r e := ⟨y 0, y 1, eq_ix2 y⟩
  blk_simp
  have h := after7_at m c t r e ⟨(256 * t.val + r.val) / 8, by omega⟩ ⟨(256 * t.val + r.val) % 8, by omega⟩
    (by show 256 * t.val + r.val = 8 * ((256 * t.val + r.val) / 8) + (256 * t.val + r.val) % 8; omega)
  have h0 : win0_7.index t 0 = t.val := by rw [e7]; rfl
  have h1 : (((win0_7.blk t).view.emb (ix2 r e) : S1024x64.Idx) 1).val = e.val := by blk_simp; simp [e7]
  refine h.trans (congr_row (G7 m c) _ _ _ _ _ _ ?_ ?_ h1.symm)
  · show (256 * t.val + r.val) / 8 = (win0_7.index t 0 * 256 + r.val) / 8
    rw [h0, Nat.mul_comm]
  · show (256 * t.val + r.val) % 8 = (win0_7.index t 0 * 256 + r.val) % 8
    rw [h0, Nat.mul_comm]

theorem arr8 (c : Dev nD) : (dats m 0 c).arrAt 8 cfg0.N = fun i : S1024x384.Idx =>
    G8 m c ⟨(i 0).val / 8, by have := (i 0).isLt; simp at this; omega⟩ ⟨(i 0).val % 8, by omega⟩ (i 1) := by
  refine (dats m 0 c).arrAt_eq_of_covers 8 _ (by decide +kernel) fun t hf y => ?_
  obtain ⟨-, -, -, -, -, -, e6, e7, e8, e9, ht⟩ := idx t
  obtain ⟨r, e, rfl⟩ : ∃ (r : Fin 256) (e : Fin 384), y = ix2 r e := ⟨y 0, y 1, eq_ix2 y⟩
  blk_simp
  have h := after8_at m c t r e ⟨(256 * t.val + r.val) / 8, by omega⟩ ⟨(256 * t.val + r.val) % 8, by omega⟩
    (by show 256 * t.val + r.val = 8 * ((256 * t.val + r.val) / 8) + (256 * t.val + r.val) % 8; omega)
  have h0 : win0_8.index t 0 = t.val := by rw [e8]; rfl
  have h1 : (((win0_8.blk t).view.emb (ix2 r e) : S1024x384.Idx) 1).val = e.val := by blk_simp; simp [e8]
  refine h.trans (congr_row (G8 m c) _ _ _ _ _ _ ?_ ?_ h1.symm)
  · show (256 * t.val + r.val) / 8 = (win0_8.index t 0 * 256 + r.val) / 8
    rw [h0, Nat.mul_comm]
  · show (256 * t.val + r.val) % 8 = (win0_8.index t 0 * 256 + r.val) % 8
    rw [h0, Nat.mul_comm]

theorem arr9 (c : Dev nD) : (dats m 0 c).arrAt 9 cfg0.N = fun i : S1024x3072.Idx =>
    G9 m c ⟨(i 0).val / 8, by have := (i 0).isLt; simp at this; omega⟩ ⟨(i 0).val % 8, by omega⟩ (i 1) := by
  refine (dats m 0 c).arrAt_eq_of_covers 9 _ (by decide +kernel) fun t hf y => ?_
  obtain ⟨-, -, -, -, -, -, e6, e7, e8, e9, ht⟩ := idx t
  obtain ⟨r, e, rfl⟩ : ∃ (r : Fin 256) (e : Fin 3072), y = ix2 r e := ⟨y 0, y 1, eq_ix2 y⟩
  blk_simp
  have h := after9_at m c t r e ⟨(256 * t.val + r.val) / 8, by omega⟩ ⟨(256 * t.val + r.val) % 8, by omega⟩
    (by show 256 * t.val + r.val = 8 * ((256 * t.val + r.val) / 8) + (256 * t.val + r.val) % 8; omega)
  have h0 : win0_9.index t 0 = t.val := by rw [e9]; rfl
  have h1 : (((win0_9.blk t).view.emb (ix2 r e) : S1024x3072.Idx) 1).val = e.val := by blk_simp; simp [e9]
  refine h.trans (congr_row (G9 m c) _ _ _ _ _ _ ?_ ?_ h1.symm)
  · show (256 * t.val + r.val) / 8 = (win0_9.index t 0 * 256 + r.val) / 8
    rw [h0, Nat.mul_comm]
  · show (256 * t.val + r.val) % 8 = (win0_9.index t 0 * 256 + r.val) % 8
    rw [h0, Nat.mul_comm]

theorem frame : Cert.quiescent_MlaSampleIdeal := fun m g _ => Gen.frame m g

theorem frame_bits : Cert.quiescent_MlaSample := fun m g _ => Cert.MlaSample.Gen.frame m g

theorem frame_ref : Cert.quiescent_MlaSampleReferenceIdeal := fun m g _ =>
  (θ_run _ _ _).mono (fun r h => ⟨fun c => (h c).2.2.2.2, sem_eq_zero_of_no_sems rfl _⟩) (Cert.MlaSampleReferenceIdeal.Value.run m g)

theorem row_idx102 (x : Fin 1024) (y : Fin 256) :
    Cert.MlaSampleReferenceIdeal.Read.idx_main_v102 (ix2 x y) = ix3 (⟨x.val / 8, by omega⟩ : Fin 128) (⟨x.val % 8, by omega⟩ : Fin 8) y := by
  funext a
  refine Fin.ext ?_
  match a with
  | ⟨0, _⟩ => show (x.val * 256 + y.val) / 2048 = x.val / 8; omega
  | ⟨1, _⟩ => show (x.val * 256 + y.val) / 256 % 8 = x.val % 8; omega
  | ⟨2, _⟩ => show (x.val * 256 + y.val) % 256 = y.val; omega

theorem row_idx103 (x : Fin 1024) (y : Fin 64) :
    Cert.MlaSampleReferenceIdeal.Read.idx_main_v103 (ix2 x y) = ix3 (⟨x.val / 8, by omega⟩ : Fin 128) (⟨x.val % 8, by omega⟩ : Fin 8) y := by
  funext a
  refine Fin.ext ?_
  match a with
  | ⟨0, _⟩ => show (x.val * 64 + y.val) / 512 = x.val / 8; omega
  | ⟨1, _⟩ => show (x.val * 64 + y.val) / 64 % 8 = x.val % 8; omega
  | ⟨2, _⟩ => show (x.val * 64 + y.val) % 64 = y.val; omega

theorem row_idx104 (x : Fin 1024) (y : Fin 384) :
    Cert.MlaSampleReferenceIdeal.Read.idx_main_v104 (ix2 x y) = ix3 (⟨x.val / 8, by omega⟩ : Fin 128) (⟨x.val % 8, by omega⟩ : Fin 8) y := by
  funext a
  refine Fin.ext ?_
  match a with
  | ⟨0, _⟩ => show (x.val * 384 + y.val) / 3072 = x.val / 8; omega
  | ⟨1, _⟩ => show (x.val * 384 + y.val) / 384 % 8 = x.val % 8; omega
  | ⟨2, _⟩ => show (x.val * 384 + y.val) % 384 = y.val; omega

theorem row_idx106 (x : Fin 1024) (y : Fin 3072) :
    Cert.MlaSampleReferenceIdeal.Read.idx_main_v106 (ix2 x y) = ix4 (⟨x.val / 8, by omega⟩ : Fin 128) (⟨x.val % 8, by omega⟩ : Fin 8)
      (⟨y.val / 384, by omega⟩ : Fin 8) (⟨y.val % 384, by omega⟩ : Fin 384) := by
  funext a
  refine Fin.ext ?_
  match a with
  | ⟨0, _⟩ => show (x.val * 3072 + y.val) / 24576 = x.val / 8; omega
  | ⟨1, _⟩ => show (x.val * 3072 + y.val) / 3072 % 8 = x.val % 8; omega
  | ⟨2, _⟩ => show (x.val * 3072 + y.val) / 384 % 8 = y.val / 384; omega
  | ⟨3, _⟩ => show (x.val * 3072 + y.val) % 384 = y.val % 384; omega

theorem same6 (c : Dev nD) :
    Cert.MlaSampleReferenceIdeal.Read.val_main_v102 (F := Ideal) (ks m c) (gk m c) = (dats m 0 c).arrAt 6 cfg0.N := by
  rw [arr6]
  funext i
  obtain ⟨x, y, rfl⟩ : ∃ (x : Fin 1024) (y : Fin 256), i = ix2 x y := ⟨i 0, i 1, eq_ix2 i⟩
  refine (Cert.MlaSampleReferenceIdeal.Read.val_main_v102_apply _ _ _).trans ?_
  exact (congrArg _ (row_idx102 x y)).trans (Cert.MlaSampleReferenceIdeal.Read.normk_at _ _ _ _ _)

theorem same7 (c : Dev nD) :
    Cert.MlaSampleReferenceIdeal.Read.val_main_v103 (F := Ideal) (rs m c) = (dats m 0 c).arrAt 7 cfg0.N := by
  rw [arr7]
  funext i
  obtain ⟨x, y, rfl⟩ : ∃ (x : Fin 1024) (y : Fin 64), i = ix2 x y := ⟨i 0, i 1, eq_ix2 i⟩
  refine (Cert.MlaSampleReferenceIdeal.Read.val_main_v103_apply _ _).trans ?_
  exact (congrArg _ (row_idx103 x y)).trans (Cert.MlaSampleReferenceIdeal.Read.keyr_at _ _ _ _)

theorem same8 (c : Dev nD) :
    Cert.MlaSampleReferenceIdeal.Read.val_main_v105 (F := Ideal) (ks m c) (rs m c) (gk m c) = (dats m 0 c).arrAt 8 cfg0.N := by
  rw [arr8]
  funext i
  obtain ⟨x, y, rfl⟩ : ∃ (x : Fin 1024) (y : Fin 384), i = ix2 x y := ⟨i 0, i 1, eq_ix2 i⟩
  refine (Cert.MlaSampleReferenceIdeal.Read.val_main_v105_apply _ _ _ _).trans ?_
  refine (Cert.MlaSampleReferenceIdeal.Read.val_main_v104_apply _ _ _ _).trans ?_
  exact (congrArg _ (row_idx104 x y)).trans (Cert.MlaSampleReferenceIdeal.Read.key_at _ _ _ _ _ _)

theorem same9 (c : Dev nD) :
    Cert.MlaSampleReferenceIdeal.Read.val_main_v106 (F := Ideal) (qs m c) (gq m c) (wq m c) (wu m c) = (dats m 0 c).arrAt 9 cfg0.N := by
  rw [arr9]
  funext i
  obtain ⟨x, y, rfl⟩ : ∃ (x : Fin 1024) (y : Fin 3072), i = ix2 x y := ⟨i 0, i 1, eq_ix2 i⟩
  refine (Cert.MlaSampleReferenceIdeal.Read.val_main_v106_apply _ _ _ _ _).trans ?_
  exact (congrArg _ (row_idx106 x y)).trans (Cert.MlaSampleReferenceIdeal.Read.query_at _ _ _ _ _ _ _ _)

theorem equal : Cert.algebraic_MlaSampleIdeal_MlaSampleReferenceIdeal := by
  pair_intro
  · run_from Cert.MlaSampleIdeal.Value.run_blocks m g
  · run_from Cert.MlaSampleReferenceIdeal.Value.run m' g'
    · rw [Cert.MlaSampleReferenceIdeal.Read.val_main_v102_eq]
      exact same6 m c
    · rw [Cert.MlaSampleReferenceIdeal.Read.val_main_v103_eq]
      rw [(hagree c).2.2.1]
      exact same7 m c
    · rw [Cert.MlaSampleReferenceIdeal.Read.val_main_v105_eq]
      rw [(hagree c).2.1, (hagree c).2.2.1, (hagree c).2.2.2.2.2.1]
      exact same8 m c
    · rw [Cert.MlaSampleReferenceIdeal.Read.val_main_v106_eq]
      rw [(hagree c).1, (hagree c).2.2.2.1, (hagree c).2.2.2.2.1, (hagree c).2.2.2.2.2.2]
      exact same9 m c

end Cert.MlaSampleIdeal.Ms

end
-- ==== Proof.HsSum.lean ====
/-
  The sample's recurrence as mathematics over the extended reals: a sequence's eight rows are one chunk, so that a head's
  result is what one chunk puts out and what it leaves, from the state carried in.
-/
module

public import proofs.«01_k».proof.Proof.HgrnHead
public import proofs.«01_k».proof.Proof.HgrnWin

@[expose] public section

set_option maxRecDepth 16384

noncomputable section

namespace Hgrn.Small

open Idealize.ShloMosaic

variable (Q K V L : Fin 8 → Fin 128 → EReal) (S : Fin 128 → Fin 128 → EReal)

/-- The running sum of the log gates of eight rows. -/
def cum (r : Fin 8) (d : Fin 128) : EReal := ∑ x : Fin 8, if x.val ≤ r.val then L x d else 0

/-- The sum of the log gates of eight rows. -/
def tot (d : Fin 128) : EReal := ∑ x : Fin 8, L x d

/-- What eight rows put out: their own part, and the carried state's. -/
def outC (r : Fin 8) (e : Fin 128) : EReal :=
  (∑ x : Fin 8, (if x.val ≤ r.val then
      ∑ d, (Q r d * Ideal.exp (cum L r d)) * (K x d * Ideal.exp (-cum L x d)) else 0) * V x e)
    + ∑ d, (Q r d * Ideal.exp (cum L r d)) * S d e

/-- The state they leave. -/
def nextC (d e : Fin 128) : EReal :=
  S d e * Ideal.exp (tot L d) + ∑ x : Fin 8, V x e * (K x d * Ideal.exp (tot L d - cum L x d))

/-- Of 128 rows, the sum over those of sequence `u` is the sum over the sequence's eight. -/
theorem sum_chunk {M : Type*} [AddCommMonoid M] (u : Fin 16) (g : Fin 128 → M) :
    (∑ x : Fin 128, if x.val / 8 = u.val then g x else 0) = ∑ y : Fin 8, g ⟨8 * u.val + y.val, by omega⟩ := by
  rw [← Finset.sum_filter]
  refine Finset.sum_bij' (fun x _ => (⟨x.val % 8, Nat.mod_lt _ (by decide)⟩ : Fin 8))
    (fun y _ => (⟨8 * u.val + y.val, by omega⟩ : Fin 128)) (by simp) ?_ ?_ ?_ ?_
  · intro y _
    simp only [Finset.mem_filter, Finset.mem_univ, true_and]
    omega
  · intro x hx
    have := (Finset.mem_filter.mp hx).2
    apply Fin.ext
    show 8 * u.val + x.val % 8 = x.val
    omega
  · intro y _
    apply Fin.ext
    show (8 * u.val + y.val) % 8 = y.val
    omega
  · intro x hx
    have := (Finset.mem_filter.mp hx).2
    congr 1
    apply Fin.ext
    show x.val = 8 * u.val + x.val % 8
    omega

/-- Of 2048 columns, the sum over those of sequence `u` is the sum over the sequence's 128. -/
theorem sum_cols {M : Type*} [AddCommMonoid M] (u : Fin 16) (g : Fin 16 → Fin 128 → M)
    (f : Fin 2048 → M) (hf : ∀ (c : Fin 16) (d : Fin 128), f ⟨128 * c.val + d.val, by omega⟩ = if u.val = c.val then g c d else 0) :
    (∑ x : Fin 2048, f x) = ∑ d : Fin 128, g u d := by
  have h1 : (∑ x : Fin 2048, f x) = ∑ x : Fin 2048, if x.val / 128 = u.val then f x else 0 := by
    refine Finset.sum_congr rfl fun x _ => ?_
    have h := hf ⟨x.val / 128, by omega⟩ ⟨x.val % 128, by omega⟩
    have hx : (⟨128 * (x.val / 128) + x.val % 128, by omega⟩ : Fin 2048) = x := Fin.ext (by show 128 * (x.val / 128) + x.val % 128 = x.val; omega)
    simp only [hx] at h
    by_cases hu : x.val / 128 = u.val
    · rw [if_pos hu]
    · rw [if_neg hu, h, if_neg (fun h => hu h.symm)]
  rw [h1, ← Finset.sum_filter]
  refine Finset.sum_bij' (fun x _ => (⟨x.val % 128, Nat.mod_lt _ (by decide)⟩ : Fin 128))
    (fun y _ => (⟨128 * u.val + y.val, by omega⟩ : Fin 2048)) (by simp) ?_ ?_ ?_ ?_
  · intro y _
    simp only [Finset.mem_filter, Finset.mem_univ, true_and]
    omega
  · intro x hx
    have := (Finset.mem_filter.mp hx).2
    apply Fin.ext
    show 128 * u.val + x.val % 128 = x.val
    omega
  · intro y _
    apply Fin.ext
    show (128 * u.val + y.val) % 128 = y.val
    omega
  · intro x hx
    have hq := (Finset.mem_filter.mp hx).2
    have h := hf u ⟨x.val % 128, by omega⟩
    have hx' : (⟨128 * u.val + x.val % 128, by omega⟩ : Fin 2048) = x := Fin.ext (by show 128 * u.val + x.val % 128 = x.val; omega)
    simp only [hx'] at h
    rw [h]
    simp

/-! ### One head of one sequence, in terms of the argument arrays -/

/-- The gated query, the key and the logarithm of the forget gate. -/
def qOf (x : Fin 8 → Fin 128 → EReal) (t : Fin 8) (d : Fin 128) : EReal := x t d * Ideal.logistic (x t d)
def kOf (l : Fin 128 → EReal) (x : Fin 8 → Fin 128 → EReal) (t : Fin 8) (d : Fin 128) : EReal := (1 - l d) * Ideal.logistic (-x t d)
def lOf (l : Fin 128 → EReal) (x : Fin 8 → Fin 128 → EReal) (t : Fin 8) (d : Fin 128) : EReal := Hgrn.lgate (l d) (x t d)

/-- One head's output. -/
def headOut (l w : Fin 128 → EReal) (q f v g : Fin 8 → Fin 128 → EReal) (s : Fin 128 → Fin 128 → EReal) (t : Fin 8) (e : Fin 128) : EReal :=
  Hgrn.normed (outC (qOf q) (kOf l f) v (lOf l f) s t) (w e) (g t e) e

/-- One head's state. -/
def headNext (l : Fin 128 → EReal) (f v : Fin 8 → Fin 128 → EReal) (s : Fin 128 → Fin 128 → EReal) : Fin 128 → Fin 128 → EReal :=
  nextC (kOf l f) v (lOf l f) s

/-- Segment `s` of the projection, at one sequence and one head. -/
def seg (a : Vec Ideal (Shape.mk 2 ![1024, 5120]) .f32) (s : Fin 4) (b : Fin 128) (h : Fin 8) (t : Fin 8) (d : Fin 128) : EReal :=
  a (ix2 ⟨8 * b.val + t.val, by omega⟩ ⟨1024 * s.val + 128 * h.val + d.val, by omega⟩)

/-- A read of the projection, by its coordinates. -/
theorem seg_at (a : Vec Ideal (Shape.mk 2 ![1024, 5120]) .f32) (s : Fin 4) (b : Fin 128) (h : Fin 8) (t : Fin 8) (d : Fin 128)
    {x : Fin 1024} {y : Fin 5120} (hx : x.val = 8 * b.val + t.val) (hy : y.val = 1024 * s.val + 128 * h.val + d.val) :
    a (ix2 x y) = seg a s b h t d :=
  congrArg a (congrArg₂ ix2 (Fin.ext hx) (Fin.ext hy))

/-- The state carried in, at one sequence and one head. -/
def carried (a : Vec Ideal (Shape.mk 5 ![1, 128, 8, 128, 128]) .f32) (b : Fin 128) (h : Fin 8) (d e : Fin 128) : EReal :=
  a (ix5 0 b h d e)

/-- Eight rows counted from the row itself backwards are the rows up to it. -/
theorem back_sum (g : Fin 8 → EReal) (r : Fin 8) :
    (∑ k : Fin 8, if hk : 7 ≤ r.val + k.val ∧ r.val + k.val - 7 < 8 then g ⟨r.val + k.val - 7, hk.2⟩ else 0)
      = ∑ x : Fin 8, if x.val ≤ r.val then g x else 0 := by
  rw [← Finset.sum_filter]
  have e : (∑ k : Fin 8, if hk : 7 ≤ r.val + k.val ∧ r.val + k.val - 7 < 8 then g ⟨r.val + k.val - 7, hk.2⟩ else 0)
      = ∑ k : Fin 8 with 7 ≤ r.val + k.val, g ⟨(r.val + k.val - 7) % 8, Nat.mod_lt _ (by decide)⟩ := by
    rw [Finset.sum_filter]
    refine Finset.sum_congr rfl fun k _ => ?_
    by_cases h1 : 7 ≤ r.val + k.val
    · have h2 : r.val + k.val - 7 < 8 := by omega
      rw [dif_pos ⟨h1, h2⟩, if_pos h1]
      congr 2
      omega
    · rw [dif_neg (fun h => h1 h.1), if_neg h1]
  rw [e]
  refine Finset.sum_nbij' (fun k : Fin 8 => (⟨(r.val + k.val - 7) % 8, Nat.mod_lt _ (by decide)⟩ : Fin 8))
    (fun x : Fin 8 => (⟨(x.val + 7 - r.val) % 8, Nat.mod_lt _ (by decide)⟩ : Fin 8)) ?_ ?_ ?_ ?_ ?_
  all_goals intro a ha
  all_goals simp only [Finset.mem_filter, Finset.mem_univ, true_and] at ha ⊢
  · omega
  · omega
  · exact Fin.ext (by show ((r.val + a.val - 7) % 8 + 7 - r.val) % 8 = a.val; omega)
  · exact Fin.ext (by show (r.val + (a.val + 7 - r.val) % 8 - 7) % 8 = a.val; omega)

end Hgrn.Small

end
-- ==== Proof.HsBeside.lean ====
/-
  The sample's recurrence: sixteen blocks put side by side, read at a column of one of them.
-/
module

public import proofs.«01_k».proof.Proof.Gen.HgrnSampleIdeal.Skeleton
public import Idealize.ShloMosaic.Lib.Pointwise
public import Idealize.ShloMosaic.Lib.WordCmp
public import proofs.«01_k».proof.Proof.HsSum

@[expose] public section

set_option maxRecDepth 16384

noncomputable section

namespace Cert.HgrnSampleIdeal.Hs

open Idealize.ShloMosaic Cert.HgrnSampleIdeal Cert.HgrnSampleIdeal.Gen

/-- Blocks of 128 columns beside each other, at a column of the `k`-th. -/
theorem beside_at {α : Type} (ps : List ((s : Shape) × (s.Idx → α))) (hc : Shape.Concatenates (ps.map (·.1)) S128x2048 1)
    (hs : ps.map (·.1) = List.replicate 16 S128x128) (k : Nat) (hk : k < ps.length) (hk' : k < 16) (f : S128x128.Idx → α)
    (hf : ps[k] = ⟨S128x128, f⟩) (a d : Fin 128) (hz : 128 * k + d.val < 2048) :
    concatenate S128x2048 1 ps hc (ix2 a ⟨128 * k + d.val, hz⟩) = f (ix2 a d) := by
  refine concatenate_apply_piece (1 : Fin S128x2048.rank) ps hc _ k hk S128x128 f hf rfl (128 * k) ?_ (ix2 a d) ?_ rfl
  · rw [List.map_take, hs, List.take_replicate, List.map_replicate, List.sum_replicate, Nat.min_eq_left (by omega), dif_pos rfl]
    show k * 128 = 128 * k
    omega
  · intro b hb
    match b, hb with
    | ⟨0, _⟩, _ => rfl
    | ⟨1, _⟩, hb => exact absurd rfl hb

/-- Sixteen blocks beside each other, at a column of one of them. -/
theorem beside {α : Type} (p0 p1 p2 p3 p4 p5 p6 p7 p8 p9 p10 p11 p12 p13 p14 p15 : S128x128.Idx → α) (G : Fin 16 → Fin 128 → Fin 128 → α)
    (h0 : ∀ a d, p0 (ix2 a d) = G 0 a d) (h1 : ∀ a d, p1 (ix2 a d) = G 1 a d) (h2 : ∀ a d, p2 (ix2 a d) = G 2 a d) (h3 : ∀ a d, p3 (ix2 a d) = G 3 a d) (h4 : ∀ a d, p4 (ix2 a d) = G 4 a d) (h5 : ∀ a d, p5 (ix2 a d) = G 5 a d) (h6 : ∀ a d, p6 (ix2 a d) = G 6 a d) (h7 : ∀ a d, p7 (ix2 a d) = G 7 a d) (h8 : ∀ a d, p8 (ix2 a d) = G 8 a d) (h9 : ∀ a d, p9 (ix2 a d) = G 9 a d) (h10 : ∀ a d, p10 (ix2 a d) = G 10 a d) (h11 : ∀ a d, p11 (ix2 a d) = G 11 a d) (h12 : ∀ a d, p12 (ix2 a d) = G 12 a d) (h13 : ∀ a d, p13 (ix2 a d) = G 13 a d) (h14 : ∀ a d, p14 (ix2 a d) = G 14 a d) (h15 : ∀ a d, p15 (ix2 a d) = G 15 a d)
    (u : Fin 16) (a d : Fin 128) :
    concatenate S128x2048 1 [⟨S128x128, p0⟩, ⟨S128x128, p1⟩, ⟨S128x128, p2⟩, ⟨S128x128, p3⟩, ⟨S128x128, p4⟩, ⟨S128x128, p5⟩, ⟨S128x128, p6⟩, ⟨S128x128, p7⟩, ⟨S128x128, p8⟩, ⟨S128x128, p9⟩, ⟨S128x128, p10⟩, ⟨S128x128, p11⟩, ⟨S128x128, p12⟩, ⟨S128x128, p13⟩, ⟨S128x128, p14⟩, ⟨S128x128, p15⟩]
      concatenates_S128x128_S128x128_S128x128_S128x128_S128x128_S128x128_S128x128_S128x128_S128x128_S128x128_S128x128_S128x128_S128x128_S128x128_S128x128_S128x128_S128x2048_d1 (ix2 a ⟨128 * u.val + d.val, by omega⟩) = G u a d := by
  obtain ⟨u, hu⟩ := u
  match u, hu with
  | 0, _ => exact (beside_at _ _ rfl 0 (by show 0 < 16; decide) (by decide) p0 rfl a d _).trans (h0 a d)
  | 1, _ => exact (beside_at _ _ rfl 1 (by show 1 < 16; decide) (by decide) p1 rfl a d _).trans (h1 a d)
  | 2, _ => exact (beside_at _ _ rfl 2 (by show 2 < 16; decide) (by decide) p2 rfl a d _).trans (h2 a d)
  | 3, _ => exact (beside_at _ _ rfl 3 (by show 3 < 16; decide) (by decide) p3 rfl a d _).trans (h3 a d)
  | 4, _ => exact (beside_at _ _ rfl 4 (by show 4 < 16; decide) (by decide) p4 rfl a d _).trans (h4 a d)
  | 5, _ => exact (beside_at _ _ rfl 5 (by show 5 < 16; decide) (by decide) p5 rfl a d _).trans (h5 a d)
  | 6, _ => exact (beside_at _ _ rfl 6 (by show 6 < 16; decide) (by decide) p6 rfl a d _).trans (h6 a d)
  | 7, _ => exact (beside_at _ _ rfl 7 (by show 7 < 16; decide) (by decide) p7 rfl a d _).trans (h7 a d)
  | 8, _ => exact (beside_at _ _ rfl 8 (by show 8 < 16; decide) (by decide) p8 rfl a d _).trans (h8 a d)
  | 9, _ => exact (beside_at _ _ rfl 9 (by show 9 < 16; decide) (by decide) p9 rfl a d _).trans (h9 a d)
  | 10, _ => exact (beside_at _ _ rfl 10 (by show 10 < 16; decide) (by decide) p10 rfl a d _).trans (h10 a d)
  | 11, _ => exact (beside_at _ _ rfl 11 (by show 11 < 16; decide) (by decide) p11 rfl a d _).trans (h11 a d)
  | 12, _ => exact (beside_at _ _ rfl 12 (by show 12 < 16; decide) (by decide) p12 rfl a d _).trans (h12 a d)
  | 13, _ => exact (beside_at _ _ rfl 13 (by show 13 < 16; decide) (by decide) p13 rfl a d _).trans (h13 a d)
  | 14, _ => exact (beside_at _ _ rfl 14 (by show 14 < 16; decide) (by decide) p14 rfl a d _).trans (h14 a d)
  | 15, _ => exact (beside_at _ _ rfl 15 (by show 15 < 16; decide) (by decide) p15 rfl a d _).trans (h15 a d)
  | m + 16, h => exact absurd h (by omega)

end Cert.HgrnSampleIdeal.Hs

end
-- ==== Proof.HsPay.lean ====
/-
  The sample's recurrence: the kernel's payloads read at an index, over the extended reals. A grid point holds sixteen
  sequences of eight rows, one below the other, so that a sequence is one chunk.
-/
module

public import proofs.«01_k».proof.Proof.Gen.HgrnSampleIdeal.Skeleton
public import Idealize.ShloMosaic.Lib.Pointwise
public import Idealize.ShloMosaic.Lib.WordCmp
public import proofs.«01_k».proof.Proof.HsBeside

@[expose] public section

set_option maxRecDepth 16384

noncomputable section

namespace Cert.HgrnSampleIdeal.Hs

open Idealize.ShloMosaic Cert.HgrnSampleIdeal Cert.HgrnSampleIdeal.Gen

abbrev ioR : IVec S128x128 32 := iota .tc S128x128 32 [0] iota_S128x128_d0_w32
abbrev ioC : IVec S128x128 32 := iota .tc S128x128 32 [1] iota_S128x128_d1_w32

theorem pay5_apply (a b : Fin 128) : k0_pay5 (ix2 a b) = BitVec.ofNat 32 (a.val / 8) := by
  pointwise [k0_pay5]
  clear b
  revert a
  decide +kernel

/-- The number of a row's sequence, as the kernel computes it for its two blocks. -/
abbrev cidK : IVec S128x128 32 := k0_pay25 ioR 8#32 k0_pay23 k0_pay24 0#32
abbrev cidQ : IVec S128x128 32 := k0_pay85 ioR

theorem cidK_apply (a b : Fin 128) : cidK (ix2 a b) = BitVec.ofNat 32 (a.val / 8) := by
  unfold cidK
  pointwise [k0_pay25, k0_pay23, k0_pay24]
  clear b
  revert a
  decide +kernel

theorem cidQ_apply (a b : Fin 128) : cidQ (ix2 a b) = BitVec.ofNat 32 (a.val / 8) := by
  unfold cidQ
  pointwise [k0_pay85]
  clear b
  revert a
  decide +kernel

theorem word_eq : ∀ x y : Fin 16,
    IntOp.cmpi .eq (BitVec.ofNat 32 x.val) (BitVec.ofNat 32 y.val) = if x.val = y.val then 1#1 else 0#1 := by
  decide

theorem word_sge : ∀ a b : Fin 128,
    IntOp.cmpi .sge (BitVec.ofNat 32 a.val) (BitVec.ofNat 32 b.val) = if b.val ≤ a.val then 1#1 else 0#1 := by
  intro a b
  rw [Idealize.ShloMosaic.WordCmp.cmpi_sge_ofNat (by omega) (by omega)]
  by_cases h : b.val ≤ a.val
  · rw [if_pos h, decide_eq_true h]; rfl
  · rw [if_neg h, decide_eq_false h]; rfl

/-- A row kept in the block of its own sequence only. -/
theorem pick (n : IVec S128x128 32) (hn : ∀ a b : Fin 128, n (ix2 a b) = BitVec.ofNat 32 (a.val / 8)) (x : FVec Ideal S128x128 .f32)
    (c : Fin 16) (a d : Fin 128) :
    select (cmpi .eq n (broadcast S128x128 (BitVec.ofNat 32 c.val))) x (broadcast S128x128 (Scalar.ofBits (F := Ideal) .f32 0x00000000#32)) (ix2 a d)
      = (if a.val / 8 = c.val then x (ix2 a d) else 0 : EReal) := by
  pointwise
  rw [hn, word_eq ⟨a.val / 8, by omega⟩ c]
  by_cases h : a.val / 8 = c.val <;> simp [h, Scalar.select]

/-- The keys' block, one column group for each sequence. -/
def spreadK (x : FVec Ideal S128x128 .f32) : FVec Ideal S128x2048 .f32 :=
  k0_pay32 x cidK (k0_pay26 x ioR 8#32 k0_pay23 k0_pay24 0#32) (k0_pay27 x ioR 8#32 k0_pay23 k0_pay24 0#32)
    (k0_pay28 x ioR 8#32 k0_pay23 k0_pay24 0#32) (k0_pay29 x ioR 8#32 k0_pay23 k0_pay24 0#32)
    (k0_pay30 x ioR 8#32 k0_pay23 k0_pay24 0#32) (k0_pay31 x ioR 8#32 k0_pay23 k0_pay24 0#32) 6#32

theorem spreadK_apply (x : FVec Ideal S128x128 .f32) (u : Fin 16) (a d : Fin 128) :
    spreadK x (ix2 a ⟨128 * u.val + d.val, by omega⟩) = if a.val / 8 = u.val then x (ix2 a d) else 0 := by
  unfold spreadK k0_pay32
  exact beside _ _ _ _ _ _ _ _ _ _ _ _ _ _ _ _ (fun u a d => if a.val / 8 = u.val then x (ix2 a d) else 0)
    (pick cidK cidK_apply x 0) (pick cidK cidK_apply x 1) (pick cidK cidK_apply x 2) (pick cidK cidK_apply x 3) (pick cidK cidK_apply x 4) (pick cidK cidK_apply x 5) (pick cidK cidK_apply x 6) (pick cidK cidK_apply x 7) (pick cidK cidK_apply x 8) (pick cidK cidK_apply x 9) (pick cidK cidK_apply x 10) (pick cidK cidK_apply x 11) (pick cidK cidK_apply x 12) (pick cidK cidK_apply x 13) (pick cidK cidK_apply x 14) (pick cidK cidK_apply x 15) u a d

/-- The queries' block. -/
def spreadQ (x : FVec Ideal S128x128 .f32) : FVec Ideal S128x2048 .f32 :=
  concatenate S128x2048 1 [⟨S128x128, k0_pay86 x ioR⟩, ⟨S128x128, k0_pay87 x ioR⟩, ⟨S128x128, k0_pay88 x ioR⟩, ⟨S128x128, k0_pay89 x ioR⟩, ⟨S128x128, k0_pay92 x (k0_pay90 ioR) (k0_pay91 (F := Ideal))⟩, ⟨S128x128, k0_pay93 x cidQ⟩, ⟨S128x128, k0_pay94 x cidQ⟩, ⟨S128x128, k0_pay95 x cidQ⟩, ⟨S128x128, k0_pay96 x cidQ⟩, ⟨S128x128, k0_pay97 x cidQ⟩, ⟨S128x128, k0_pay98 x cidQ⟩, ⟨S128x128, k0_pay99 x cidQ⟩, ⟨S128x128, k0_pay100 x cidQ⟩, ⟨S128x128, k0_pay101 x cidQ⟩, ⟨S128x128, (select (k0_pay102 cidQ) x (k0_pay103 (F := Ideal)) : FVec Ideal S128x128 .f32)⟩, ⟨S128x128, k0_pay1 x cidQ⟩]
    concatenates_S128x128_S128x128_S128x128_S128x128_S128x128_S128x128_S128x128_S128x128_S128x128_S128x128_S128x128_S128x128_S128x128_S128x128_S128x128_S128x128_S128x2048_d1

theorem spreadQ_apply (x : FVec Ideal S128x128 .f32) (u : Fin 16) (a d : Fin 128) :
    spreadQ x (ix2 a ⟨128 * u.val + d.val, by omega⟩) = if a.val / 8 = u.val then x (ix2 a d) else 0 := by
  unfold spreadQ
  exact beside _ _ _ _ _ _ _ _ _ _ _ _ _ _ _ _ (fun u a d => if a.val / 8 = u.val then x (ix2 a d) else 0)
    (pick cidQ cidQ_apply x 0) (pick cidQ cidQ_apply x 1) (pick cidQ cidQ_apply x 2) (pick cidQ cidQ_apply x 3) (pick cidQ cidQ_apply x 4) (pick cidQ cidQ_apply x 5) (pick cidQ cidQ_apply x 6) (pick cidQ cidQ_apply x 7) (pick cidQ cidQ_apply x 8) (pick cidQ cidQ_apply x 9) (pick cidQ cidQ_apply x 10) (pick cidQ cidQ_apply x 11) (pick cidQ cidQ_apply x 12) (pick cidQ cidQ_apply x 13) (pick cidQ cidQ_apply x 14) (pick cidQ cidQ_apply x 15) u a d

/-- The states' block, from the sixteen carried states, each turned. -/
def starts (s0 s1 s2 s3 s4 s5 s6 s7 s8 s9 s10 s11 s12 s13 s14 s15 : Vec Ideal S1x1x128x128 .f32) : FVec Ideal S128x2048 .bf16 :=
  concatenate S128x2048 1 [⟨S128x128, k0_pay35 s0⟩, ⟨S128x128, k0_pay38 s1⟩, ⟨S128x128, k0_pay41 s2⟩, ⟨S128x128, k0_pay44 s3⟩, ⟨S128x128, k0_pay47 s4⟩, ⟨S128x128, k0_pay51 s5⟩, ⟨S128x128, k0_pay54 s6⟩, ⟨S128x128, k0_pay58 s7⟩, ⟨S128x128, k0_pay61 s8⟩, ⟨S128x128, k0_pay64 s9⟩, ⟨S128x128, k0_pay67 s10⟩, ⟨S128x128, k0_pay70 (k0_pay69 s11)⟩, ⟨S128x128, k0_pay73 s12⟩, ⟨S128x128, k0_pay76 s13⟩, ⟨S128x128, k0_pay80 s14⟩, ⟨S128x128, k0_pay83 s15⟩]
    concatenates_S128x128_S128x128_S128x128_S128x128_S128x128_S128x128_S128x128_S128x128_S128x128_S128x128_S128x128_S128x128_S128x128_S128x128_S128x128_S128x128_S128x2048_d1

theorem turned (s : Vec Ideal S1x1x128x128 .f32) (e d : Fin 128) : k0_pay35 (F := Ideal) s (ix2 e d) = s (ix4 0 0 d e) := by
  pointwise [k0_pay35, k0_pay34]

theorem starts_apply (S : Fin 16 → Vec Ideal S1x1x128x128 .f32) (u : Fin 16) (e d : Fin 128) :
    starts (S 0) (S 1) (S 2) (S 3) (S 4) (S 5) (S 6) (S 7) (S 8) (S 9) (S 10) (S 11) (S 12) (S 13) (S 14) (S 15) (ix2 e ⟨128 * u.val + d.val, by omega⟩) = S u (ix4 0 0 d e) := by
  unfold starts
  exact beside _ _ _ _ _ _ _ _ _ _ _ _ _ _ _ _ (fun u e d => S u (ix4 0 0 d e))
    (turned (S 0)) (turned (S 1)) (turned (S 2)) (turned (S 3)) (turned (S 4)) (turned (S 5)) (turned (S 6)) (turned (S 7)) (turned (S 8)) (turned (S 9)) (turned (S 10)) (turned (S 11)) (turned (S 12)) (turned (S 13)) (turned (S 14)) (turned (S 15)) u e d

theorem store0 (dec : FVec Ideal S128x128 .f32) (vT : FVec Ideal S128x128 .bf16) (kd : FVec Ideal S128x2048 .f32) (s : Vec Ideal S1x1x128x128 .f32) (d e : Fin 128) :
    k0_pay36 dec vT kd s (ix4 0 0 d e) = s (ix4 0 0 d e) * dec (ix2 ⟨8 * 0, by omega⟩ d) + k0_pay33 vT kd (ix2 e ⟨128 * 0 + d.val, by omega⟩) := by
  generalize hu : k0_pay33 vT kd = upd
  unfold k0_pay36
  rw [hu]
  pointwise [k0_pay34]
  try rfl

theorem store1 (dec : FVec Ideal S128x128 .f32) (vT : FVec Ideal S128x128 .bf16) (kd : FVec Ideal S128x2048 .f32) (s : Vec Ideal S1x1x128x128 .f32) (d e : Fin 128) :
    k0_pay39 dec vT kd s (ix4 0 0 d e) = s (ix4 0 0 d e) * dec (ix2 ⟨8 * 1, by omega⟩ d) + k0_pay33 vT kd (ix2 e ⟨128 * 1 + d.val, by omega⟩) := by
  generalize hu : k0_pay33 vT kd = upd
  unfold k0_pay39
  rw [hu]
  pointwise [k0_pay37]
  try rfl

theorem store2 (dec : FVec Ideal S128x128 .f32) (upd : FVec Ideal S128x2048 .f32) (s : Vec Ideal S1x1x128x128 .f32) (d e : Fin 128) :
    k0_pay42 dec upd s (ix4 0 0 d e) = s (ix4 0 0 d e) * dec (ix2 ⟨8 * 2, by omega⟩ d) + upd (ix2 e ⟨128 * 2 + d.val, by omega⟩) := by
  pointwise [k0_pay42, k0_pay40]
  try rfl

theorem store3 (dec : FVec Ideal S128x128 .f32) (upd : FVec Ideal S128x2048 .f32) (s : Vec Ideal S1x1x128x128 .f32) (d e : Fin 128) :
    k0_pay45 dec upd s (ix4 0 0 d e) = s (ix4 0 0 d e) * dec (ix2 ⟨8 * 3, by omega⟩ d) + upd (ix2 e ⟨128 * 3 + d.val, by omega⟩) := by
  pointwise [k0_pay45, k0_pay43]
  try rfl

theorem store4 (dec : FVec Ideal S128x128 .f32) (upd : FVec Ideal S128x2048 .f32) (s : Vec Ideal S1x1x128x128 .f32) (d e : Fin 128) :
    k0_pay49 upd (k0_pay46 (F := Ideal) s) (k0_pay48 dec) (ix4 0 0 d e) = s (ix4 0 0 d e) * dec (ix2 ⟨8 * 4, by omega⟩ d) + upd (ix2 e ⟨128 * 4 + d.val, by omega⟩) := by
  pointwise [k0_pay49, k0_pay46, k0_pay48]
  try rfl

theorem store5 (dec : FVec Ideal S128x128 .f32) (upd : FVec Ideal S128x2048 .f32) (s : Vec Ideal S1x1x128x128 .f32) (d e : Fin 128) :
    k0_pay52 dec upd s (ix4 0 0 d e) = s (ix4 0 0 d e) * dec (ix2 ⟨8 * 5, by omega⟩ d) + upd (ix2 e ⟨128 * 5 + d.val, by omega⟩) := by
  pointwise [k0_pay52, k0_pay50]
  try rfl

theorem store6 (dec : FVec Ideal S128x128 .f32) (upd : FVec Ideal S128x2048 .f32) (s : Vec Ideal S1x1x128x128 .f32) (d e : Fin 128) :
    k0_pay56 (k0_pay55 dec upd s) (ix4 0 0 d e) = s (ix4 0 0 d e) * dec (ix2 ⟨8 * 6, by omega⟩ d) + upd (ix2 e ⟨128 * 6 + d.val, by omega⟩) := by
  pointwise [k0_pay56, k0_pay55, k0_pay53]
  try rfl

theorem store7 (dec : FVec Ideal S128x128 .f32) (upd : FVec Ideal S128x2048 .f32) (s : Vec Ideal S1x1x128x128 .f32) (d e : Fin 128) :
    k0_pay59 dec upd s (ix4 0 0 d e) = s (ix4 0 0 d e) * dec (ix2 ⟨8 * 7, by omega⟩ d) + upd (ix2 e ⟨128 * 7 + d.val, by omega⟩) := by
  pointwise [k0_pay59, k0_pay57]
  try rfl

theorem store8 (dec : FVec Ideal S128x128 .f32) (upd : FVec Ideal S128x2048 .f32) (s : Vec Ideal S1x1x128x128 .f32) (d e : Fin 128) :
    k0_pay62 dec upd s (ix4 0 0 d e) = s (ix4 0 0 d e) * dec (ix2 ⟨8 * 8, by omega⟩ d) + upd (ix2 e ⟨128 * 8 + d.val, by omega⟩) := by
  pointwise [k0_pay62, k0_pay60]
  try rfl

theorem store9 (dec : FVec Ideal S128x128 .f32) (upd : FVec Ideal S128x2048 .f32) (s : Vec Ideal S1x1x128x128 .f32) (d e : Fin 128) :
    k0_pay65 dec upd s (ix4 0 0 d e) = s (ix4 0 0 d e) * dec (ix2 ⟨8 * 9, by omega⟩ d) + upd (ix2 e ⟨128 * 9 + d.val, by omega⟩) := by
  pointwise [k0_pay65, k0_pay63]
  try rfl

theorem store10 (dec : FVec Ideal S128x128 .f32) (upd : FVec Ideal S128x2048 .f32) (s : Vec Ideal S1x1x128x128 .f32) (d e : Fin 128) :
    k0_pay68 dec upd s (ix4 0 0 d e) = s (ix4 0 0 d e) * dec (ix2 ⟨8 * 10, by omega⟩ d) + upd (ix2 e ⟨128 * 10 + d.val, by omega⟩) := by
  pointwise [k0_pay68, k0_pay66]
  try rfl

theorem store11 (dec : FVec Ideal S128x128 .f32) (upd : FVec Ideal S128x2048 .f32) (s : Vec Ideal S1x1x128x128 .f32) (d e : Fin 128) :
    k0_pay71 dec upd (k0_pay69 (F := Ideal) s) (ix4 0 0 d e) = s (ix4 0 0 d e) * dec (ix2 ⟨8 * 11, by omega⟩ d) + upd (ix2 e ⟨128 * 11 + d.val, by omega⟩) := by
  pointwise [k0_pay71, k0_pay69]
  try rfl

theorem store12 (dec : FVec Ideal S128x128 .f32) (upd : FVec Ideal S128x2048 .f32) (s : Vec Ideal S1x1x128x128 .f32) (d e : Fin 128) :
    k0_pay74 dec upd s (ix4 0 0 d e) = s (ix4 0 0 d e) * dec (ix2 ⟨8 * 12, by omega⟩ d) + upd (ix2 e ⟨128 * 12 + d.val, by omega⟩) := by
  pointwise [k0_pay74, k0_pay72]
  try rfl

theorem store13 (dec : FVec Ideal S128x128 .f32) (upd : FVec Ideal S128x2048 .f32) (s : Vec Ideal S1x1x128x128 .f32) (d e : Fin 128) :
    k0_pay78 (k0_pay77 dec upd s) (ix4 0 0 d e) = s (ix4 0 0 d e) * dec (ix2 ⟨8 * 13, by omega⟩ d) + upd (ix2 e ⟨128 * 13 + d.val, by omega⟩) := by
  pointwise [k0_pay78, k0_pay77, k0_pay75]
  try rfl

theorem store14 (dec : FVec Ideal S128x128 .f32) (upd : FVec Ideal S128x2048 .f32) (s : Vec Ideal S1x1x128x128 .f32) (d e : Fin 128) :
    k0_pay81 dec upd s (ix4 0 0 d e) = s (ix4 0 0 d e) * dec (ix2 ⟨8 * 14, by omega⟩ d) + upd (ix2 e ⟨128 * 14 + d.val, by omega⟩) := by
  pointwise [k0_pay81, k0_pay79]
  try rfl

theorem store15 (dec : FVec Ideal S128x128 .f32) (upd : FVec Ideal S128x2048 .f32) (s : Vec Ideal S1x1x128x128 .f32) (d e : Fin 128) :
    k0_pay84 dec upd s (ix4 0 0 d e) = s (ix4 0 0 d e) * dec (ix2 ⟨8 * 15, by omega⟩ d) + upd (ix2 e ⟨128 * 15 + d.val, by omega⟩) := by
  pointwise [k0_pay84, k0_pay82]
  try rfl

end Cert.HgrnSampleIdeal.Hs

end
-- ==== Proof.HsMath.lean ====
/-
  The sample's recurrence: the kernel's payloads read at an index, over the extended reals. A grid point holds sixteen
  sequences of eight rows, one below the other, so that a sequence is one chunk.
-/
module

public import proofs.«01_k».proof.Proof.HsPay
public import proofs.«01_k».proof.Proof.Gen.HgrnSampleIdeal.Skeleton
public import Idealize.ShloMosaic.Lib.Pointwise
public import Idealize.ShloMosaic.Lib.WordCmp
public import proofs.«01_k».proof.Proof.HgrnMath

@[expose] public section

set_option maxRecDepth 16384

noncomputable section

namespace Cert.HgrnSampleIdeal.Hs

open Idealize.ShloMosaic Cert.HgrnSampleIdeal Cert.HgrnSampleIdeal.Gen

set_option maxHeartbeats 4000000 in
/-! ### The masked sums -/

/-- The same-sequence bit. -/
theorem pay7_apply (a b : Fin 128) :
    k0_pay7 ioC k0_pay5 8#32 k0_pay6 0#32 (ix2 a b) = if a.val / 8 = b.val / 8 then 1#1 else 0#1 := by
  have hb := pay5_apply b b
  pointwise [k0_pay5] at hb
  pointwise [k0_pay7, k0_pay6]
  rw [hb, pay5_apply]
  exact word_eq ⟨a.val / 8, by omega⟩ ⟨b.val / 8, by omega⟩

/-- The same-sequence and not-after bits. -/
abbrev past : IVec S128x128 1 := k0_pay8 ioR ioC k0_pay5 8#32 k0_pay6 0#32

theorem past_apply (a b : Fin 128) : past (ix2 a b) = if a.val / 8 = b.val / 8 ∧ b.val ≤ a.val then 1#1 else 0#1 := by
  unfold past
  pointwise [k0_pay8]
  rw [pay7_apply, word_sge]
  by_cases h : a.val / 8 = b.val / 8 <;> by_cases h' : b.val ≤ a.val <;> simp only [h, h', if_true, if_false, and_self, and_true, true_and, and_false, false_and] <;> rfl

theorem float_bit (p : Prop) [Decidable p] :
    FloatOps.sitofp (F := Ideal) .f32 (BitVec.setWidth 32 (if p then 1#1 else 0#1)) = if p then 1 else 0 := by
  split
  · show (((BitVec.setWidth 32 1#1).toInt : ℝ) : EReal) = 1
    rw [show (BitVec.setWidth 32 1#1).toInt = 1 from by decide]
    norm_num
  · show (((BitVec.setWidth 32 0#1).toInt : ℝ) : EReal) = 0
    rw [show (BitVec.setWidth 32 0#1).toInt = 0 from by decide]
    norm_num

/-- The stacked masks the one matrix product takes both running and whole sums with. -/
abbrev masks : FVec Ideal S256x128 .bf16 := k0_pay9 (F := Ideal) ioR ioC k0_pay5 8#32 k0_pay6 0#32

theorem mask_top (a b : Fin 128) :
    masks (ix2 ⟨a.val, by omega⟩ b) = if a.val / 8 = b.val / 8 ∧ b.val ≤ a.val then 1 else 0 := by
  unfold masks
  have hp := past_apply a b
  unfold past at hp
  pointwise [k0_pay9]
  rw [hp]
  exact float_bit _

theorem mask_bot (a b : Fin 128) :
    masks (ix2 ⟨128 + a.val, by omega⟩ b) = if a.val / 8 = b.val / 8 then 1 else 0 := by
  unfold masks
  pointwise [k0_pay9]
  rw [pay7_apply]
  exact float_bit _

theorem sums_apply (lb : FVec Ideal S1x128 .f32) (f : FVec Ideal S128x128 .f32) (a : Fin 256) (d : Fin 128) :
    k0_pay14 masks (k0_pay11 lb f) (ix2 a d)
      = ((∑ x, masks (ix2 a x) * Hgrn.lgate (lb (ix2 0 d)) (f (ix2 x d)))
          + ∑ x, masks (ix2 a x) * (Hgrn.lgate (lb (ix2 0 d)) (f (ix2 x d)) - Hgrn.lgate (lb (ix2 0 d)) (f (ix2 x d))))
        + ∑ x, masks (ix2 a x) * ((Hgrn.lgate (lb (ix2 0 d)) (f (ix2 x d)) - Hgrn.lgate (lb (ix2 0 d)) (f (ix2 x d)))
            - (Hgrn.lgate (lb (ix2 0 d)) (f (ix2 x d)) - Hgrn.lgate (lb (ix2 0 d)) (f (ix2 x d)))) := by
  unfold Hgrn.lgate
  generalize masks = M
  pointwise [k0_pay14, k0_pay11, k0_pay10]
  refine congrArg _ (Finset.sum_congr rfl fun x _ => ?_)
  rw [dif_neg (by omega), dif_neg (by omega)]
  simp only [show 256 + d.val - 128 - 128 = d.val by omega]

theorem cum_apply (lb : FVec Ideal S1x128 .f32) (hlb : ∀ j, lb j ≠ ⊤) (f : FVec Ideal S128x128 .f32) (a : Fin 128) (d : Fin 128) :
    k0_pay15 masks (k0_pay11 lb f) (ix2 a d)
      = ∑ x : Fin 128, if a.val / 8 = x.val / 8 ∧ x.val ≤ a.val then Hgrn.lgate (lb (ix2 0 d)) (f (ix2 x d)) else 0 := by
  pointwise [k0_pay15]
  rw [sums_apply]
  simp only [mask_top]
  exact Hgrn.three_parts _ _ fun x => Hgrn.lgate_ne_top (hlb _) _

theorem tot_apply (lb : FVec Ideal S1x128 .f32) (hlb : ∀ j, lb j ≠ ⊤) (f : FVec Ideal S128x128 .f32) (a : Fin 128) (d : Fin 128) :
    k0_pay16 masks (k0_pay11 lb f) (ix2 a d)
      = ∑ x : Fin 128, if a.val / 8 = x.val / 8 then Hgrn.lgate (lb (ix2 0 d)) (f (ix2 x d)) else 0 := by
  pointwise [k0_pay16]
  rw [sums_apply]
  simp only [mask_bot]
  exact Hgrn.three_parts _ _ fun x => Hgrn.lgate_ne_top (hlb _) _

theorem key_apply (lb : FVec Ideal S1x128 .f32) (f : FVec Ideal S128x128 .f32) (a : Fin 128) (d : Fin 128) :
    k0_pay13 lb (k0_pay10 f) (k0_pay12 (F := Ideal)) (ix2 a d) = (1 - lb (ix2 0 d)) * Ideal.logistic (-f (ix2 a d)) := by
  rw [← Hgrn.one_sub_logistic]
  pointwise [k0_pay13, k0_pay10, k0_pay12]

theorem qd_apply (M : FVec Ideal S256x128 .bf16) (q l : FVec Ideal S128x128 .f32) (a : Fin 128) (d : Fin 128) :
    k0_pay17 M q l (ix2 a d) = (q (ix2 a d) * Ideal.logistic (q (ix2 a d))) * Ideal.exp (k0_pay15 M l (ix2 a d)) := by
  pointwise [k0_pay17]

theorem ke_apply (lb one : FVec Ideal S1x128 .f32) (M : FVec Ideal S256x128 .bf16) (s l : FVec Ideal S128x128 .f32) (a : Fin 128) (d : Fin 128) :
    k0_pay18 lb M s l one (ix2 a d) = k0_pay13 lb s one (ix2 a d) * Ideal.exp (k0_pay16 M l (ix2 a d) - k0_pay15 M l (ix2 a d)) := by
  pointwise [k0_pay18]

theorem dec_apply (M : FVec Ideal S256x128 .bf16) (l : FVec Ideal S128x128 .f32) (a : Fin 128) (d : Fin 128) :
    k0_pay19 M l (ix2 a d) = Ideal.exp (k0_pay16 M l (ix2 a d)) := by
  pointwise [k0_pay19]

theorem gate_apply (g : Vec Ideal S128x128 .f32) (a : Fin 128) (d : Fin 128) :
    k0_pay20 (F := Ideal) g (ix2 a d) = Ideal.logistic (g (ix2 a d)) := by
  pointwise [k0_pay20]

theorem lb_apply (h : Vec Ideal S2x128 .f32) (d : Fin 128) :
    k0_pay3 (F := Ideal) h (ix2 0 d) = Hgrn.lower (h (ix2 0 d)) (h (ix2 1 d)) := by
  pointwise [k0_pay3]
  unfold Hgrn.lower
  have hm : Finset.fold max (Ideal.ofBits FTy.f32 4286578688#32) (fun x : Fin 2 => h (ix2 x d)) Finset.univ = max (h (ix2 0 d)) (h (ix2 1 d)) := by
    rw [show Ideal.ofBits FTy.f32 4286578688#32 = ⊥ from Hgrn.neg_inf]
    rw [show (Finset.univ : Finset (Fin 2)) = {0, 1} from rfl]
    simp
  rw [hm, Fin.sum_univ_two, Fin.sum_univ_one]

theorem on_apply (h : Vec Ideal S1x128 .f32) (d : Fin 128) :
    k0_pay4 (F := Ideal) h (ix2 0 d) = h (ix2 0 d) := by
  pointwise [k0_pay4]

/-! ### Sixteen sequences -/

variable (lb on : FVec Ideal S1x128 .f32) (q f v g : Vec Ideal S128x128 .f32) (S : Fin 16 → Vec Ideal S1x1x128x128 .f32)

/-- Sequence `u`'s queries, keys, values, log gates and carried state. -/
def qc (u : Fin 16) (r : Fin 8) (d : Fin 128) : EReal :=
  q (ix2 ⟨8 * u.val + r.val, by omega⟩ d) * Ideal.logistic (q (ix2 ⟨8 * u.val + r.val, by omega⟩ d))
def kc (u : Fin 16) (r : Fin 8) (d : Fin 128) : EReal :=
  (1 - lb (ix2 0 d)) * Ideal.logistic (-f (ix2 ⟨8 * u.val + r.val, by omega⟩ d))
def vc (u : Fin 16) (r : Fin 8) (d : Fin 128) : EReal := v (ix2 ⟨8 * u.val + r.val, by omega⟩ d)
def lc (u : Fin 16) (r : Fin 8) (d : Fin 128) : EReal := Hgrn.lgate (lb (ix2 0 d)) (f (ix2 ⟨8 * u.val + r.val, by omega⟩ d))
def sc (u : Fin 16) (d e : Fin 128) : EReal := S u (ix4 0 0 d e)

/-- The decayed queries, the keys to the end, the decay and what the rows add to the states. -/
abbrev qdec : FVec Ideal S128x128 .f32 := k0_pay17 masks q (k0_pay11 lb f)
abbrev kend : FVec Ideal S128x128 .f32 := k0_pay18 lb masks (k0_pay10 f) (k0_pay11 lb f) k0_pay12
abbrev decay : FVec Ideal S128x128 .f32 := k0_pay19 masks (k0_pay11 lb f)
abbrev added : FVec Ideal S128x2048 .f32 := k0_pay33 (k0_pay22 v) (spreadK (kend lb f))
abbrev within : FVec Ideal S128x128 .f32 := k0_pay21 lb past masks q v (k0_pay10 f) (k0_pay11 lb f) k0_pay12

variable (hlb : ∀ j, lb j ≠ ⊤)
include hlb

theorem cum_chunk (u : Fin 16) (r : Fin 8) (d : Fin 128) :
    k0_pay15 masks (k0_pay11 lb f) (ix2 ⟨8 * u.val + r.val, by omega⟩ d) = Hgrn.Small.cum (lc lb f u) r d := by
  rw [cum_apply lb hlb]
  have h := Hgrn.Small.sum_chunk u (fun x : Fin 128 => if x.val ≤ 8 * u.val + r.val then Hgrn.lgate (lb (ix2 0 d)) (f (ix2 x d)) else 0)
  refine Eq.trans (Finset.sum_congr rfl fun x _ => ?_) (h.trans (Finset.sum_congr rfl fun y _ => ?_))
  · have hu : (8 * u.val + r.val) / 8 = u.val := by omega
    simp only [hu, ← ite_and, eq_comm]
  · simp only [Nat.add_le_add_iff_left]
    rfl

theorem tot_chunk (u : Fin 16) (r : Fin 8) (d : Fin 128) :
    k0_pay16 masks (k0_pay11 lb f) (ix2 ⟨8 * u.val + r.val, by omega⟩ d) = Hgrn.Small.tot (lc lb f u) d := by
  rw [tot_apply lb hlb]
  have h := Hgrn.Small.sum_chunk u (fun x : Fin 128 => Hgrn.lgate (lb (ix2 0 d)) (f (ix2 x d)))
  refine Eq.trans (Finset.sum_congr rfl fun x _ => ?_) h
  have hu : (8 * u.val + r.val) / 8 = u.val := by omega
  simp only [hu, eq_comm]

theorem added_apply (u : Fin 16) (e d : Fin 128) :
    added lb f v (ix2 e ⟨128 * u.val + d.val, by omega⟩)
      = ∑ x : Fin 8, vc v u x e * (kc lb f u x d * Ideal.exp (Hgrn.Small.tot (lc lb f u) d - Hgrn.Small.cum (lc lb f u) x d)) := by
  have h := Hgrn.Small.sum_chunk u (fun x : Fin 128 => v (ix2 x e) * kend lb f (ix2 x d))
  have hs := fun x => spreadK_apply (kend lb f) u x d
  unfold added
  generalize spreadK (kend lb f) = B at hs
  refine Eq.trans ?_ (h.trans (Finset.sum_congr rfl fun x _ => ?_))
  · pointwise [k0_pay33, k0_pay22]
    refine Finset.sum_congr rfl fun x _ => ?_
    rw [hs x, mul_ite, mul_zero]
  · unfold kend
    rw [ke_apply, key_apply, cum_chunk lb f hlb, tot_chunk lb f hlb]
    rfl

theorem next_chunk (u : Fin 16) (d e : Fin 128) :
    S u (ix4 0 0 d e) * decay lb f (ix2 ⟨8 * u.val, by omega⟩ d) + added lb f v (ix2 e ⟨128 * u.val + d.val, by omega⟩)
      = Hgrn.Small.nextC (kc lb f u) (vc v u) (lc lb f u) (sc S u) d e := by
  have h0 := tot_chunk lb f hlb u 0 d
  simp only [Fin.val_zero, add_zero] at h0
  unfold Hgrn.Small.nextC decay
  rw [added_apply lb f v hlb, dec_apply, h0]
  rfl

/-- The part of a sequence's output its own rows make. -/
theorem within_apply (u : Fin 16) (r : Fin 8) (e : Fin 128) :
    within lb q f v (ix2 ⟨8 * u.val + r.val, by omega⟩ e)
      = ∑ x : Fin 8, (if x.val ≤ r.val then
          ∑ d, (qc q u r d * Ideal.exp (Hgrn.Small.cum (lc lb f u) r d)) * (kc lb f u x d * Ideal.exp (-Hgrn.Small.cum (lc lb f u) x d)) else 0) * vc v u x e := by
  have h := Hgrn.Small.sum_chunk u (fun x : Fin 128 => (if x.val ≤ 8 * u.val + r.val then
          ∑ d, k0_pay17 masks q (k0_pay11 lb f) (ix2 ⟨8 * u.val + r.val, by omega⟩ d)
            * (k0_pay13 lb (k0_pay10 f) (k0_pay12 (F := Ideal)) (ix2 x d) * Ideal.exp (-(k0_pay15 masks (k0_pay11 lb f) (ix2 x d)))) else 0) * v (ix2 x e))
  refine Eq.trans ?_ (h.trans (Finset.sum_congr rfl fun x _ => ?_))
  · have hm := fun x : Fin 128 => past_apply ⟨8 * u.val + r.val, by omega⟩ x
    unfold within
    generalize past = m at hm ⊢
    generalize masks = M
    generalize k0_pay11 lb f = l
    generalize k0_pay10 f = s
    pointwise [k0_pay21]
    refine Finset.sum_congr rfl fun x _ => ?_
    rw [hm x]
    have hu : (8 * u.val + r.val) / 8 = u.val := by omega
    simp only [hu, @eq_comm _ (x.val / 8), zero_sub]
    by_cases h1 : u.val = x.val / 8 <;> by_cases h2 : x.val ≤ 8 * u.val + r.val <;>
      simp [h1, h2, Scalar.select]
  · simp only [Nat.add_le_add_iff_left, qd_apply, key_apply, cum_chunk lb f hlb]
    rfl

omit hlb in
theorem final_apply (w : FVec Ideal S1x128 .f32) (i : FVec Ideal S128x128 .f32) (A : FVec Ideal S128x2048 .f32) (B : FVec Ideal S128x2048 .bf16)
    (a : Fin 128) (e : Fin 128) :
    k0_pay2 w (k0_pay20 (F := Ideal) g) i A B (ix2 a e)
      = Hgrn.normed (fun x => i (ix2 a x) + ∑ j : Fin 2048, A (ix2 a j) * B (ix2 x j)) (w (ix2 0 e)) (g (ix2 a e)) e := by
  unfold Hgrn.normed
  rw [← gate_apply]
  generalize k0_pay20 (F := Ideal) g = g'
  pointwise [k0_pay2]

/-- What a grid point stores in its output block. -/
def pointOut : FVec Ideal S128x128 .f32 :=
  k0_pay2 on (k0_pay20 (F := Ideal) g) (within lb q f v) (spreadQ (qdec lb q f)) (starts (S 0) (S 1) (S 2) (S 3) (S 4) (S 5) (S 6) (S 7) (S 8) (S 9) (S 10) (S 11) (S 12) (S 13) (S 14) (S 15))

theorem out_apply (u : Fin 16) (r : Fin 8) (e : Fin 128) :
    pointOut lb on q f v g S (ix2 ⟨8 * u.val + r.val, by omega⟩ e)
      = Hgrn.normed (Hgrn.Small.outC (qc q u) (kc lb f u) (vc v u) (lc lb f u) (sc S u) r) (on (ix2 0 e))
          (g (ix2 ⟨8 * u.val + r.val, by omega⟩ e)) e := by
  unfold pointOut
  rw [final_apply]
  refine congrArg (fun o => Hgrn.normed o _ _ e) (funext fun x => ?_)
  rw [within_apply lb q f v hlb]
  unfold Hgrn.Small.outC
  refine congrArg _ ?_
  have hu : (8 * u.val + r.val) / 8 = u.val := by omega
  refine (Hgrn.Small.sum_cols u (fun c d => qdec lb q f (ix2 ⟨8 * u.val + r.val, by omega⟩ d) * S c (ix4 0 0 d x)) _ fun c d => ?_).trans
    (Finset.sum_congr rfl fun d _ => ?_)
  · rw [spreadQ_apply, starts_apply, ite_mul, zero_mul]
    simp only [hu]
  · unfold qdec
    rw [qd_apply, cum_chunk lb f hlb]
    rfl

end Cert.HgrnSampleIdeal.Hs

end
-- ==== Proof.HsTrip.lean ====
/-
  One grid point of the sample's recurrence: what its stores leave in the two output blocks, sequence by sequence.
-/
module

public import proofs.«01_k».proof.Proof.Gen.HgrnSampleIdeal.Value
public import proofs.«01_k».proof.Proof.HsMath
public import Idealize.ShloMosaic.Lib.Pipeline.ValueKit.Tiles

@[expose] public section

set_option maxRecDepth 16384

noncomputable section

namespace Cert.HgrnSampleIdeal.Hs

open Idealize.ShloMosaic Idealize.ShloMosaic.TcCoe Cert.HgrnSampleIdeal Cert.HgrnSampleIdeal.Gen Idealize.SL.Sem

/-- The lower bound row a grid point computes. -/
def lbOf (x0 : Vec Ideal S2x128 .f32) : FVec Ideal S1x128 .f32 := k0_pay3 (F := Ideal) x0

theorem lbOf_ne_top (x0 : Vec Ideal S2x128 .f32) (j : S1x128.Idx) : lbOf x0 j ≠ ⊤ := by
  obtain ⟨a, b, rfl⟩ : ∃ (a : Fin 1) (b : Fin 128), j = ix2 a b := ⟨j 0, j 1, eq_ix2 j⟩
  obtain rfl : a = 0 := Subsingleton.elim _ _
  unfold lbOf
  rw [lb_apply]
  exact Hgrn.lower_ne_top _ _

/-- The carried state of sequence `u`, as the kernel loads it. -/
def stOf (x6 : Vec Ideal S16x1x128x128 .f32) (u : Fin 16) : Vec Ideal S1x1x128x128 .f32 :=
  View.ld x6 (Rect.unit (s := S16x1x128x128) (k0_off2 (BitVec.ofNat 32 u.val)) S1x1x128x128.size (k0_off2_inb u))

theorem off2_eq (u : Fin 16) : k0_off2 (BitVec.ofNat 32 u.val) = ![u.val, 0, 0, 0] := by
  revert u
  decide +kernel

theorem off1_eq : (k0_off1 : Fin S128x128.rank → ℕ) = fun _ => 0 := by decide +kernel

theorem emb2 (u : Fin 16) (d e : Fin 128) :
    (Rect.unit (s := S16x1x128x128) (k0_off2 (BitVec.ofNat 32 u.val)) S1x1x128x128.size (k0_off2_inb u)).emb (ix4 0 0 d e)
      = (ix4 u 0 d e : S16x1x128x128.Idx) := by
  funext k
  refine Fin.ext ((Rect.idx_unit_val _ _ _ _ k).trans ?_)
  match k with
  | 0 => exact congrFun (off2_eq u) 0
  | 1 => exact congrFun (off2_eq u) 1
  | 2 => exact (congrArg (· + d.val) (congrFun (off2_eq u) 2)).trans (Nat.zero_add d.val)
  | 3 => exact (congrArg (· + e.val) (congrFun (off2_eq u) 3)).trans (Nat.zero_add e.val)

theorem stOf_apply (x6 : Vec Ideal S16x1x128x128 .f32) (u : Fin 16) (d e : Fin 128) : stOf x6 u (ix4 0 0 d e) = x6 (ix4 u 0 d e) := by
  unfold stOf
  refine View.ld_unit_apply_of x6 _ _ _ _ _ fun k => ?_
  match k with
  | 0 => exact (congrFun (off2_eq u) 0).symm
  | 1 => exact (congrFun (off2_eq u) 1).symm
  | 2 => exact ((congrArg (· + d.val) (congrFun (off2_eq u) 2)).trans (Nat.zero_add d.val)).symm
  | 3 => exact ((congrArg (· + e.val) (congrFun (off2_eq u) 3)).trans (Nat.zero_add e.val)).symm

/-- What is stored for sequence `z 0` at row `z 2` and column `z 3` of its state. -/
def stateBlock (lb : FVec Ideal S1x128 .f32) (x2 x3 : Vec Ideal S128x128 .f32) (x6 : Vec Ideal S16x1x128x128 .f32) (u : Fin 16) (d e : Fin 128) : EReal :=
  x6 (ix4 u 0 d e) * decay lb x2 (ix2 ⟨8 * u.val, by omega⟩ d) + added lb x2 x3 (ix2 e ⟨128 * u.val + d.val, by omega⟩)

/-- A payload with the values of one sequence's new state is right for the piece of the block it is stored to. -/
theorem piece_eq (lb : FVec Ideal S1x128 .f32) (x2 x3 : Vec Ideal S128x128 .f32) (x6 : Vec Ideal S16x1x128x128 .f32) (u : Fin 16)
    (p : Vec Ideal S1x1x128x128 .f32)
    (h : ∀ d e, p (ix4 0 0 d e) = stOf x6 u (ix4 0 0 d e) * decay lb x2 (ix2 ⟨8 * u.val, by omega⟩ d) + added lb x2 x3 (ix2 e ⟨128 * u.val + d.val, by omega⟩))
    (y : S1x1x128x128.Idx) :
    p y = (fun z : S16x1x128x128.Idx => stateBlock lb x2 x3 x6 (z 0) (z 2) (z 3))
      ((Rect.unit (s := S16x1x128x128) (k0_off2 (BitVec.ofNat 32 u.val)) S1x1x128x128.size (k0_off2_inb u)).emb y) := by
  obtain ⟨a, b, d, e, rfl⟩ : ∃ (a b : Fin 1) (d e : Fin 128), y = ix4 a b d e := ⟨y 0, y 1, y 2, y 3, eq_ix4 y⟩
  obtain rfl : a = 0 := Subsingleton.elim _ _
  obtain rfl : b = 0 := Subsingleton.elim _ _
  rw [emb2, h, stOf_apply]
  rfl

/-- What is stored to the state block, the last store first. -/
def pieces (lb : FVec Ideal S1x128 .f32) (x2 x3 : Vec Ideal S128x128 .f32) (S : Fin 16 → Vec Ideal S1x1x128x128 .f32) :
    List (View.Piece (Elt Ideal) S16x1x128x128 .f32) :=
  [ ⟨Rect.unit (s := S16x1x128x128) (k0_off2 (BitVec.ofNat 32 (15 : Fin 16).val)) S1x1x128x128.size (k0_off2_inb 15), k0_pay84 (decay lb x2) (added lb x2 x3) (S 15)⟩,
    ⟨Rect.unit (s := S16x1x128x128) (k0_off2 (BitVec.ofNat 32 (14 : Fin 16).val)) S1x1x128x128.size (k0_off2_inb 14), k0_pay81 (decay lb x2) (added lb x2 x3) (S 14)⟩,
    ⟨Rect.unit (s := S16x1x128x128) (k0_off2 (BitVec.ofNat 32 (13 : Fin 16).val)) S1x1x128x128.size (k0_off2_inb 13), k0_pay78 (k0_pay77 (decay lb x2) (added lb x2 x3) (S 13))⟩,
    ⟨Rect.unit (s := S16x1x128x128) (k0_off2 (BitVec.ofNat 32 (12 : Fin 16).val)) S1x1x128x128.size (k0_off2_inb 12), k0_pay74 (decay lb x2) (added lb x2 x3) (S 12)⟩,
    ⟨Rect.unit (s := S16x1x128x128) (k0_off2 (BitVec.ofNat 32 (11 : Fin 16).val)) S1x1x128x128.size (k0_off2_inb 11), k0_pay71 (decay lb x2) (added lb x2 x3) (k0_pay69 (S 11))⟩,
    ⟨Rect.unit (s := S16x1x128x128) (k0_off2 (BitVec.ofNat 32 (10 : Fin 16).val)) S1x1x128x128.size (k0_off2_inb 10), k0_pay68 (decay lb x2) (added lb x2 x3) (S 10)⟩,
    ⟨Rect.unit (s := S16x1x128x128) (k0_off2 (BitVec.ofNat 32 (9 : Fin 16).val)) S1x1x128x128.size (k0_off2_inb 9), k0_pay65 (decay lb x2) (added lb x2 x3) (S 9)⟩,
    ⟨Rect.unit (s := S16x1x128x128) (k0_off2 (BitVec.ofNat 32 (8 : Fin 16).val)) S1x1x128x128.size (k0_off2_inb 8), k0_pay62 (decay lb x2) (added lb x2 x3) (S 8)⟩,
    ⟨Rect.unit (s := S16x1x128x128) (k0_off2 (BitVec.ofNat 32 (7 : Fin 16).val)) S1x1x128x128.size (k0_off2_inb 7), k0_pay59 (decay lb x2) (added lb x2 x3) (S 7)⟩,
    ⟨Rect.unit (s := S16x1x128x128) (k0_off2 (BitVec.ofNat 32 (6 : Fin 16).val)) S1x1x128x128.size (k0_off2_inb 6), k0_pay56 (k0_pay55 (decay lb x2) (added lb x2 x3) (S 6))⟩,
    ⟨Rect.unit (s := S16x1x128x128) (k0_off2 (BitVec.ofNat 32 (5 : Fin 16).val)) S1x1x128x128.size (k0_off2_inb 5), k0_pay52 (decay lb x2) (added lb x2 x3) (S 5)⟩,
    ⟨Rect.unit (s := S16x1x128x128) (k0_off2 (BitVec.ofNat 32 (4 : Fin 16).val)) S1x1x128x128.size (k0_off2_inb 4), k0_pay49 (added lb x2 x3) (k0_pay46 (S 4)) (k0_pay48 (decay lb x2))⟩,
    ⟨Rect.unit (s := S16x1x128x128) (k0_off2 (BitVec.ofNat 32 (3 : Fin 16).val)) S1x1x128x128.size (k0_off2_inb 3), k0_pay45 (decay lb x2) (added lb x2 x3) (S 3)⟩,
    ⟨Rect.unit (s := S16x1x128x128) (k0_off2 (BitVec.ofNat 32 (2 : Fin 16).val)) S1x1x128x128.size (k0_off2_inb 2), k0_pay42 (decay lb x2) (added lb x2 x3) (S 2)⟩,
    ⟨Rect.unit (s := S16x1x128x128) (k0_off2 (BitVec.ofNat 32 (1 : Fin 16).val)) S1x1x128x128.size (k0_off2_inb 1), k0_pay39 (decay lb x2) (k0_pay22 x3) (spreadK (kend lb x2)) (S 1)⟩,
    ⟨Rect.unit (s := S16x1x128x128) (k0_off2 (BitVec.ofNat 32 (0 : Fin 16).val)) S1x1x128x128.size (k0_off2_inb 0), k0_pay36 (decay lb x2) (k0_pay22 x3) (spreadK (kend lb x2)) (S 0)⟩ ]

theorem pieces_right (lb : FVec Ideal S1x128 .f32) (x2 x3 : Vec Ideal S128x128 .f32) (x6 : Vec Ideal S16x1x128x128 .f32) :
    ∀ p ∈ pieces lb x2 x3 (stOf x6), ∀ y : p.1.shape.Idx, p.2 y = (fun z : S16x1x128x128.Idx => stateBlock lb x2 x3 x6 (z 0) (z 2) (z 3)) (p.1.emb y) := by
  intro p hp
  unfold pieces at hp
  simp only [List.mem_cons, List.not_mem_nil, or_false] at hp
  rcases hp with rfl | rfl | rfl | rfl | rfl | rfl | rfl | rfl | rfl | rfl | rfl | rfl | rfl | rfl | rfl | rfl
  · exact piece_eq lb x2 x3 x6 15 _ fun d e => store15 _ _ _ d e
  · exact piece_eq lb x2 x3 x6 14 _ fun d e => store14 _ _ _ d e
  · exact piece_eq lb x2 x3 x6 13 _ fun d e => store13 _ _ _ d e
  · exact piece_eq lb x2 x3 x6 12 _ fun d e => store12 _ _ _ d e
  · exact piece_eq lb x2 x3 x6 11 _ fun d e => store11 _ _ _ d e
  · exact piece_eq lb x2 x3 x6 10 _ fun d e => store10 _ _ _ d e
  · exact piece_eq lb x2 x3 x6 9 _ fun d e => store9 _ _ _ d e
  · exact piece_eq lb x2 x3 x6 8 _ fun d e => store8 _ _ _ d e
  · exact piece_eq lb x2 x3 x6 7 _ fun d e => store7 _ _ _ d e
  · exact piece_eq lb x2 x3 x6 6 _ fun d e => store6 _ _ _ d e
  · exact piece_eq lb x2 x3 x6 5 _ fun d e => store5 _ _ _ d e
  · exact piece_eq lb x2 x3 x6 4 _ fun d e => store4 _ _ _ d e
  · exact piece_eq lb x2 x3 x6 3 _ fun d e => store3 _ _ _ d e
  · exact piece_eq lb x2 x3 x6 2 _ fun d e => store2 _ _ _ d e
  · exact piece_eq lb x2 x3 x6 1 _ fun d e => store1 _ _ _ _ d e
  · exact piece_eq lb x2 x3 x6 0 _ fun d e => store0 _ _ _ _ d e

theorem read_rows (a : Memref sig .tc .vmem S128x128 .f32) (ha : a.IsWhole) (x : Vec Ideal S128x128 .f32) :
    View.readAt (Elt Ideal) a.view (Rect.unit (s := S128x128) k0_off1 S128x128.size k0_off1_inb).toLoadRect (ha.unread x) = x := by
  rw [View.readAt_eq_ld, ha.read_unread]
  exact View.ld_unit_zero (S := S128x128) off1_eq _ x

theorem read_low (a : Memref sig .tc .vmem S2x128 .f32) (ha : a.IsWhole) (x : Vec Ideal S2x128 .f32) :
    View.readAt (Elt Ideal) a.view (Rect.unit (s := S2x128) ![0, 0] S2x128.size inb_S2x128_S2x128_0_0).toLoadRect (ha.unread x) = x := by
  rw [View.readAt_eq_ld, ha.read_unread, View.ld_unit_zero (by decide)]

theorem read_wgt (a : Memref sig .tc .vmem S1x128 .f32) (ha : a.IsWhole) (x : Vec Ideal S1x128 .f32) :
    View.readAt (Elt Ideal) a.view (Rect.unit (s := S1x128) ![0, 0] S1x128.size inb_S1x128_S1x128_0_0).toLoadRect (ha.unread x) = x := by
  rw [View.readAt_eq_ld, ha.read_unread, View.ld_unit_zero (by decide)]

theorem read_states (a : Memref sig .tc .vmem S16x1x128x128 .f32) (ha : a.IsWhole) (x : Vec Ideal S16x1x128x128 .f32) :
    (fun u : Fin 16 => View.readAt (Elt Ideal) a.view (Rect.unit (s := S16x1x128x128) (k0_off2 (BitVec.ofNat 32 u.val)) S1x1x128x128.size (k0_off2_inb u)).toLoadRect (ha.unread x))
      = stOf x := by
  funext u
  rw [View.readAt_eq_ld, ha.read_unread]
  rfl

variable (c : Dev nD) (i : grid0.Coords) (arg2 : Memref sig .tc .vmem S2x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S16x1x128x128 .f32) (harg8 : arg8.IsWhole) (arg9 : Memref sig .tc .vmem S128x128 .f32) (harg9 : arg9.IsWhole) (arg10 : Memref sig .tc .vmem S16x1x128x128 .f32) (harg10 : arg10.IsWhole)
  (x0 : Vec Ideal S2x128 .f32) (x1 x2 x3 x4 : Vec Ideal S128x128 .f32) (x5 : Vec Ideal S1x128 .f32) (x6 : Vec Ideal S16x1x128x128 .f32)

theorem run7_eq : (kernelRun0_A (F := Ideal) c i arg2 harg2 arg3 harg3 arg4 harg4 arg5 harg5 arg6 harg6 arg7 harg7 arg8 harg8 arg9 harg9 arg10 harg10 x0 x1 x2 x3 x4 x5 x6).1
    = [⟨Rect.unit (s := S128x128) k0_off1 S128x128.size k0_off1_inb, pointOut (lbOf (View.readAt (Elt Ideal) arg2.view (Rect.unit (s := S2x128) ![0, 0] S2x128.size inb_S2x128_S2x128_0_0).toLoadRect (harg2.unread x0))) (k0_pay4 (View.readAt (Elt Ideal) arg7.view (Rect.unit (s := S1x128) ![0, 0] S1x128.size inb_S1x128_S1x128_0_0).toLoadRect (harg7.unread x5)))
        (View.readAt (Elt Ideal) arg3.view (Rect.unit (s := S128x128) k0_off1 S128x128.size k0_off1_inb).toLoadRect (harg3.unread x1))
        (View.readAt (Elt Ideal) arg4.view (Rect.unit (s := S128x128) k0_off1 S128x128.size k0_off1_inb).toLoadRect (harg4.unread x2))
        (View.readAt (Elt Ideal) arg5.view (Rect.unit (s := S128x128) k0_off1 S128x128.size k0_off1_inb).toLoadRect (harg5.unread x3))
        (View.readAt (Elt Ideal) arg6.view (Rect.unit (s := S128x128) k0_off1 S128x128.size k0_off1_inb).toLoadRect (harg6.unread x4))
        (fun u : Fin 16 => View.readAt (Elt Ideal) arg8.view (Rect.unit (s := S16x1x128x128) (k0_off2 (BitVec.ofNat 32 u.val)) S1x1x128x128.size (k0_off2_inb u)).toLoadRect (harg8.unread x6))⟩] := rfl

theorem run8_eq : (kernelRun0_A (F := Ideal) c i arg2 harg2 arg3 harg3 arg4 harg4 arg5 harg5 arg6 harg6 arg7 harg7 arg8 harg8 arg9 harg9 arg10 harg10 x0 x1 x2 x3 x4 x5 x6).2.1
    = pieces (lbOf (View.readAt (Elt Ideal) arg2.view (Rect.unit (s := S2x128) ![0, 0] S2x128.size inb_S2x128_S2x128_0_0).toLoadRect (harg2.unread x0)))
        (View.readAt (Elt Ideal) arg4.view (Rect.unit (s := S128x128) k0_off1 S128x128.size k0_off1_inb).toLoadRect (harg4.unread x2))
        (View.readAt (Elt Ideal) arg5.view (Rect.unit (s := S128x128) k0_off1 S128x128.size k0_off1_inb).toLoadRect (harg5.unread x3))
        (fun u : Fin 16 => View.readAt (Elt Ideal) arg8.view (Rect.unit (s := S16x1x128x128) (k0_off2 (BitVec.ofNat 32 u.val)) S1x1x128x128.size (k0_off2_inb u)).toLoadRect (harg8.unread x6)) := rfl

theorem out7_eq : out0_A_7 c i arg2 harg2 arg3 harg3 arg4 harg4 arg5 harg5 arg6 harg6 arg7 harg7 arg8 harg8 arg9 harg9 arg10 harg10 x0 x1 x2 x3 x4 x5 x6 = pointOut (lbOf x0) (k0_pay4 x5) x1 x2 x3 x4 (stOf x6) := by
  unfold out0_A_7
  rw [View.read_writes_eq_canon _ _ _ (cover0_A_7 c i arg2 harg2 arg3 harg3 arg4 harg4 arg5 harg5 arg6 harg6 arg7 harg7 arg8 harg8 arg9 harg9 arg10 harg10 x0 x1 x2 x3 x4 x5 x6), run7_eq, View.canon_unit_zero off1_eq]
  rw [read_rows arg3 harg3, read_rows arg4 harg4, read_rows arg5 harg5, read_rows arg6 harg6, read_low arg2 harg2, read_wgt arg7 harg7, read_states arg8 harg8]

theorem out8_eq (u : Fin 16) (d e : Fin 128) :
    out0_A_8 c i arg2 harg2 arg3 harg3 arg4 harg4 arg5 harg5 arg6 harg6 arg7 harg7 arg8 harg8 arg9 harg9 arg10 harg10 x0 x1 x2 x3 x4 x5 x6 (ix4 u 0 d e) = stateBlock (lbOf x0) x2 x3 x6 u d e := by
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4 x5 x6)]
  refine View.canon_apply_of_pieces (fun z : S16x1x128x128.Idx => stateBlock (lbOf x0) x2 x3 x6 (z 0) (z 2) (z 3)) _ ?_ _
    (cover0_A_8 c i arg2 harg2 arg3 harg3 arg4 harg4 arg5 harg5 arg6 harg6 arg7 harg7 arg8 harg8 arg9 harg9 arg10 harg10 x0 x1 x2 x3 x4 x5 x6 _)
  have h := pieces_right (lbOf x0) x2 x3 x6
  rw [run8_eq, read_rows arg4 harg4, read_rows arg5 harg5, read_low arg2 harg2, read_states arg8 harg8]
  exact h

end Cert.HgrnSampleIdeal.Hs

end
-- ==== Proof.HsArr.lean ====
/-
  The sample kernel's two result arrays at an index, in terms of its argument arrays: each grid point is sixteen sequences'
  one head, and its blocks are that head's columns of those sequences' rows.
-/
module

public import proofs.«01_k».proof.Proof.HsTrip
public import proofs.«01_k».proof.Proof.HsSum
public import Idealize.ShloMosaic.Lib.Pipeline.ValueKit
public import Idealize.ShloMosaic.Lib.Pointwise

@[expose] public section

set_option maxRecDepth 16384

noncomputable section

namespace Cert.HgrnSampleIdeal.Hs

open Idealize.ShloMosaic Idealize.ShloMosaic.TcCoe Cert.HgrnSampleIdeal Cert.HgrnSampleIdeal.Gen Idealize.SL.Sem

variable (m : (ℓ : Loc nD τ sig) → Buf (Elt Ideal) ℓ)

theorem idx : ∀ t : Fin cfg0.N,
    win0_0.index t = ![0, (grid0.coords t 1).val] ∧ win0_1.index t = ![(grid0.coords t 0).val, (grid0.coords t 1).val]
    ∧ win0_2.index t = ![(grid0.coords t 0).val, 8 + (grid0.coords t 1).val]
    ∧ win0_3.index t = ![(grid0.coords t 0).val, 16 + (grid0.coords t 1).val]
    ∧ win0_4.index t = ![(grid0.coords t 0).val, 24 + (grid0.coords t 1).val]
    ∧ win0_5.index t = ![0, (grid0.coords t 1).val]
    ∧ win0_6.index t = ![(grid0.coords t 0).val, (grid0.coords t 1).val, 0, 0]
    ∧ win0_7.index t = ![(grid0.coords t 0).val, (grid0.coords t 1).val]
    ∧ win0_8.index t = ![(grid0.coords t 0).val, (grid0.coords t 1).val, 0, 0]
    ∧ (grid0.coords t 0).val < 8 ∧ (grid0.coords t 1).val < 8 := by decide +kernel

/-- Sequence `u` of a grid point. -/
def bOf (t : Fin cfg0.N) (u : Fin 16) : Fin 128 := ⟨16 * (grid0.coords t 0).val + u.val, by have := (idx t).2.2.2.2.2.2.2.2.2.1; omega⟩

/-- The head of a grid point. -/
def hOf (t : Fin cfg0.N) : Fin 8 := ⟨(grid0.coords t 1).val, (idx t).2.2.2.2.2.2.2.2.2.2⟩

/-- The projection as launched. -/
abbrev proj (c : Dev nD) : Vec Ideal S1024x5120 .f32 := m ((c : Thread nD τ).loc main_arg0)
/-- The lower bounds' logits as launched. -/
abbrev low (c : Dev nD) : Vec Ideal S2x1024 .f32 := m ((c : Thread nD τ).loc main_arg1)
/-- The carried states as launched. -/
abbrev st0 (c : Dev nD) : Vec Ideal S1x128x8x128x128 .f32 := m ((c : Thread nD τ).loc main_arg3)
/-- The norm's weight as launched. -/
abbrev wgt (c : Dev nD) : Vec Ideal S1x1024 .f32 := m ((c : Thread nD τ).loc main_arg2)

theorem b0 (c : Dev nD) (t : Fin cfg0.N) (r : Fin 2) (d : Fin 128) :
    (iblk m c 0 t : Vec Ideal S2x128 .f32) (ix2 r d) = low m c (ix2 r ⟨128 * (hOf t).val + d.val, by omega⟩) := by
  obtain ⟨e0, -⟩ := idx t
  blk_ext [iblk, V, e0, hOf]

theorem b1 (c : Dev nD) (t : Fin cfg0.N) (u : Fin 16) (r : Fin 8) (d : Fin 128) :
    (iblk m c 1 t : Vec Ideal S128x128 .f32) (ix2 ⟨8 * u.val + r.val, by omega⟩ d) = Hgrn.Small.seg (proj m c) 0 (bOf t u) (hOf t) r d := by
  have hh := (idx t).2.2.2.2.2.2.2.2.2
  obtain ⟨-, e0, -⟩ := idx t
  refine Eq.trans ?_ (Hgrn.Small.seg_at (proj m c) 0 (bOf t u) (hOf t) r d (x := ⟨128 * (grid0.coords t 0).val + (8 * u.val + r.val), by omega⟩)
    (y := ⟨128 * (0 + (grid0.coords t 1).val) + d.val, by omega⟩) ?_ ?_)
  · blk_ext [iblk, V, e0]
  · show 128 * (grid0.coords t 0).val + (8 * u.val + r.val) = 8 * (16 * (grid0.coords t 0).val + u.val) + r.val
    omega
  · show 128 * (0 + (grid0.coords t 1).val) + d.val = 1024 * 0 + 128 * (grid0.coords t 1).val + d.val
    omega

theorem b2 (c : Dev nD) (t : Fin cfg0.N) (u : Fin 16) (r : Fin 8) (d : Fin 128) :
    (iblk m c 2 t : Vec Ideal S128x128 .f32) (ix2 ⟨8 * u.val + r.val, by omega⟩ d) = Hgrn.Small.seg (proj m c) 1 (bOf t u) (hOf t) r d := by
  have hh := (idx t).2.2.2.2.2.2.2.2.2
  obtain ⟨-, -, e0, -⟩ := idx t
  refine Eq.trans ?_ (Hgrn.Small.seg_at (proj m c) 1 (bOf t u) (hOf t) r d (x := ⟨128 * (grid0.coords t 0).val + (8 * u.val + r.val), by omega⟩)
    (y := ⟨128 * (8 + (grid0.coords t 1).val) + d.val, by omega⟩) ?_ ?_)
  · blk_ext [iblk, V, e0]
  · show 128 * (grid0.coords t 0).val + (8 * u.val + r.val) = 8 * (16 * (grid0.coords t 0).val + u.val) + r.val
    omega
  · show 128 * (8 + (grid0.coords t 1).val) + d.val = 1024 * 1 + 128 * (grid0.coords t 1).val + d.val
    omega

theorem b3 (c : Dev nD) (t : Fin cfg0.N) (u : Fin 16) (r : Fin 8) (d : Fin 128) :
    (iblk m c 3 t : Vec Ideal S128x128 .f32) (ix2 ⟨8 * u.val + r.val, by omega⟩ d) = Hgrn.Small.seg (proj m c) 2 (bOf t u) (hOf t) r d := by
  have hh := (idx t).2.2.2.2.2.2.2.2.2
  obtain ⟨-, -, -, e0, -⟩ := idx t
  refine Eq.trans ?_ (Hgrn.Small.seg_at (proj m c) 2 (bOf t u) (hOf t) r d (x := ⟨128 * (grid0.coords t 0).val + (8 * u.val + r.val), by omega⟩)
    (y := ⟨128 * (16 + (grid0.coords t 1).val) + d.val, by omega⟩) ?_ ?_)
  · blk_ext [iblk, V, e0]
  · show 128 * (grid0.coords t 0).val + (8 * u.val + r.val) = 8 * (16 * (grid0.coords t 0).val + u.val) + r.val
    omega
  · show 128 * (16 + (grid0.coords t 1).val) + d.val = 1024 * 2 + 128 * (grid0.coords t 1).val + d.val
    omega

theorem b4 (c : Dev nD) (t : Fin cfg0.N) (u : Fin 16) (r : Fin 8) (d : Fin 128) :
    (iblk m c 4 t : Vec Ideal S128x128 .f32) (ix2 ⟨8 * u.val + r.val, by omega⟩ d) = Hgrn.Small.seg (proj m c) 3 (bOf t u) (hOf t) r d := by
  have hh := (idx t).2.2.2.2.2.2.2.2.2
  obtain ⟨-, -, -, -, e0, -⟩ := idx t
  refine Eq.trans ?_ (Hgrn.Small.seg_at (proj m c) 3 (bOf t u) (hOf t) r d (x := ⟨128 * (grid0.coords t 0).val + (8 * u.val + r.val), by omega⟩)
    (y := ⟨128 * (24 + (grid0.coords t 1).val) + d.val, by omega⟩) ?_ ?_)
  · blk_ext [iblk, V, e0]
  · show 128 * (grid0.coords t 0).val + (8 * u.val + r.val) = 8 * (16 * (grid0.coords t 0).val + u.val) + r.val
    omega
  · show 128 * (24 + (grid0.coords t 1).val) + d.val = 1024 * 3 + 128 * (grid0.coords t 1).val + d.val
    omega

theorem b5 (c : Dev nD) (t : Fin cfg0.N) (d : Fin 128) :
    (iblk m c 5 t : Vec Ideal S1x128 .f32) (ix2 0 d) = Hgrn.wOf (wgt m c) (hOf t) d := by
  obtain ⟨-, -, -, -, -, e0, -⟩ := idx t
  have hv : ∀ j : Fin 1024, (V m c (Pipeline.arrRef spec0 5) : Vec Ideal S1x1024 .f32) (ix2 0 j) = wgt m c (ix2 0 j) := by
    intro j
    simp only [V]
    entry_read
    pointwise
  have hi : (win0_5.blk t).view.emb (ix2 (0 : Fin 1) d) = (ix2 (0 : Fin 1) (⟨128 * (hOf t).val + d.val, by omega⟩ : Fin 1024)) := by
    blk_ext [e0, hOf]
  exact (congrArg (V m c (Pipeline.arrRef spec0 5)) hi).trans (hv _)

theorem b6 (c : Dev nD) (t : Fin cfg0.N) (u : Fin 16) (d e : Fin 128) :
    (iblk m c 6 t : Vec Ideal S16x1x128x128 .f32) (ix4 u 0 d e) = Hgrn.Small.carried (st0 m c) (bOf t u) (hOf t) d e := by
  obtain ⟨-, -, -, -, -, -, e0, -⟩ := idx t
  have hv : ∀ (b : Fin 128) (h : Fin 8) (d e : Fin 128), (V m c (Pipeline.arrRef spec0 6) : Vec Ideal S128x8x128x128 .f32) (ix4 b h d e) = st0 m c (ix5 0 b h d e) := by
    intro b h d e
    simp only [V]
    entry_read
    pointwise
  have hi : (win0_6.blk t).view.emb (ix4 u (0 : Fin 1) d e) = (ix4 (bOf t u) (hOf t) d e : S128x8x128x128.Idx) := by
    blk_ext [e0, hOf, bOf]
  exact (congrArg (V m c (Pipeline.arrRef spec0 6)) hi).trans (hv _ _ _ _)

/-- Result 0 at an index of the array. -/
def G7 (c : Dev nD) (b : Fin 128) (h : Fin 8) (t : Fin 8) (e : Fin 128) : EReal :=
  Hgrn.Small.headOut (Hgrn.lbOf (low m c) h) (Hgrn.wOf (wgt m c) h) (Hgrn.Small.seg (proj m c) 0 b h) (Hgrn.Small.seg (proj m c) 1 b h)
    (Hgrn.Small.seg (proj m c) 2 b h) (Hgrn.Small.seg (proj m c) 3 b h) (Hgrn.Small.carried (st0 m c) b h) t e

/-- Result 1 at an index of the array. -/
def G8 (c : Dev nD) (b : Fin 128) (h : Fin 8) (d e : Fin 128) : EReal :=
  Hgrn.Small.headNext (Hgrn.lbOf (low m c) h) (Hgrn.Small.seg (proj m c) 1 b h) (Hgrn.Small.seg (proj m c) 2 b h) (Hgrn.Small.carried (st0 m c) b h) d e

theorem lb_blk (c : Dev nD) (t : Fin cfg0.N) (d : Fin 128) :
    lbOf (iblk m c 0 t : Vec Ideal S2x128 .f32) (ix2 0 d) = Hgrn.lbOf (low m c) (hOf t) d := by
  unfold lbOf Hgrn.lbOf
  rw [lb_apply, b0, b0]

theorem qc_blk (c : Dev nD) (t : Fin cfg0.N) (u : Fin 16) :
    qc (iblk m c 1 t : Vec Ideal S128x128 .f32) u = Hgrn.Small.qOf (Hgrn.Small.seg (proj m c) 0 (bOf t u) (hOf t)) := by
  funext r d
  unfold qc Hgrn.Small.qOf
  rw [b1]

theorem kc_blk (c : Dev nD) (t : Fin cfg0.N) (u : Fin 16) :
    kc (lbOf (iblk m c 0 t : Vec Ideal S2x128 .f32)) (iblk m c 2 t : Vec Ideal S128x128 .f32) u
      = Hgrn.Small.kOf (Hgrn.lbOf (low m c) (hOf t)) (Hgrn.Small.seg (proj m c) 1 (bOf t u) (hOf t)) := by
  funext r d
  unfold kc Hgrn.Small.kOf
  rw [b2, lb_blk]

theorem vc_blk (c : Dev nD) (t : Fin cfg0.N) (u : Fin 16) :
    vc (iblk m c 3 t : Vec Ideal S128x128 .f32) u = Hgrn.Small.seg (proj m c) 2 (bOf t u) (hOf t) := by
  funext r d
  unfold vc
  rw [b3]

theorem lc_blk (c : Dev nD) (t : Fin cfg0.N) (u : Fin 16) :
    lc (lbOf (iblk m c 0 t : Vec Ideal S2x128 .f32)) (iblk m c 2 t : Vec Ideal S128x128 .f32) u
      = Hgrn.Small.lOf (Hgrn.lbOf (low m c) (hOf t)) (Hgrn.Small.seg (proj m c) 1 (bOf t u) (hOf t)) := by
  funext r d
  unfold lc Hgrn.Small.lOf
  rw [b2, lb_blk]

theorem sc_blk (c : Dev nD) (t : Fin cfg0.N) (u : Fin 16) :
    sc (stOf (iblk m c 6 t : Vec Ideal S16x1x128x128 .f32)) u = Hgrn.Small.carried (st0 m c) (bOf t u) (hOf t) := by
  funext d e
  unfold sc
  rw [stOf_apply, b6]

theorem point7 (c : Dev nD) (t : Fin cfg0.N) (u : Fin 16) (r : Fin 8) (e : Fin 128) :
    (outsAt0 m c t).1 (ix2 ⟨8 * u.val + r.val, by omega⟩ e) = G7 m c (bOf t u) (hOf t) r e := by
  have h := out7_eq c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (iblk m c 0 t : Vec Ideal S2x128 .f32) (iblk m c 1 t : Vec Ideal S128x128 .f32)
    (iblk m c 2 t : Vec Ideal S128x128 .f32) (iblk m c 3 t : Vec Ideal S128x128 .f32) (iblk m c 4 t : Vec Ideal S128x128 .f32)
    (iblk m c 5 t : Vec Ideal S1x128 .f32) (iblk m c 6 t : Vec Ideal S16x1x128x128 .f32)
  unfold outsAt0
  dsimp only
  refine (congrFun h _).trans ?_
  rw [out_apply _ _ _ _ _ _ _ (lbOf_ne_top _), qc_blk, kc_blk, vc_blk, lc_blk, sc_blk, on_apply, b5, b4]
  rfl

theorem point8 (c : Dev nD) (t : Fin cfg0.N) (u : Fin 16) (d e : Fin 128) :
    (outsAt0 m c t).2 (ix4 u 0 d e) = G8 m c (bOf t u) (hOf t) d e := by
  have h := out8_eq c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (iblk m c 0 t : Vec Ideal S2x128 .f32) (iblk m c 1 t : Vec Ideal S128x128 .f32)
    (iblk m c 2 t : Vec Ideal S128x128 .f32) (iblk m c 3 t : Vec Ideal S128x128 .f32) (iblk m c 4 t : Vec Ideal S128x128 .f32)
    (iblk m c 5 t : Vec Ideal S1x128 .f32) (iblk m c 6 t : Vec Ideal S16x1x128x128 .f32) u d e
  unfold outsAt0
  dsimp only
  refine h.trans ?_
  have hn := next_chunk (lbOf (iblk m c 0 t : Vec Ideal S2x128 .f32)) (iblk m c 2 t : Vec Ideal S128x128 .f32) (iblk m c 3 t : Vec Ideal S128x128 .f32)
    (stOf (iblk m c 6 t : Vec Ideal S16x1x128x128 .f32)) (lbOf_ne_top _) u d e
  rw [kc_blk, vc_blk, lc_blk, sc_blk, stOf_apply] at hn
  exact hn

theorem G7_congr (c : Dev nD) {b b' : Fin 128} {h h' : Fin 8} {d d' : Fin 8} {e e' : Fin 128} (hb : b.val = b'.val) (hh : h.val = h'.val)
    (hd : d.val = d'.val) (he : e.val = e'.val) : G7 m c b h d e = G7 m c b' h' d' e' := by
  obtain rfl := Fin.ext hb
  obtain rfl := Fin.ext hh
  obtain rfl := Fin.ext hd
  obtain rfl := Fin.ext he
  rfl

theorem G8_congr (c : Dev nD) {b b' : Fin 128} {h h' : Fin 8} {d d' e e' : Fin 128} (hb : b.val = b'.val) (hh : h.val = h'.val)
    (hd : d.val = d'.val) (he : e.val = e'.val) : G8 m c b h d e = G8 m c b' h' d' e' := by
  obtain rfl := Fin.ext hb
  obtain rfl := Fin.ext hh
  obtain rfl := Fin.ext hd
  obtain rfl := Fin.ext he
  rfl

theorem arr7 (c : Dev nD) : (dats m 0 c).arrAt 7 cfg0.N = fun i : S1024x1024.Idx =>
    G7 m c ⟨(i 0).val / 8, by have := (i 0).isLt; simp at this; omega⟩ ⟨(i 1).val / 128, by have := (i 1).isLt; simp at this; omega⟩
      ⟨(i 0).val % 8, by omega⟩ ⟨(i 1).val % 128, by omega⟩ := by
  refine (dats m 0 c).arrAt_eq_of_covers 7 _ (by decide +kernel) fun t hf y => ?_
  obtain ⟨-, -, -, -, -, -, -, e0, -⟩ := idx t
  obtain ⟨r, e, rfl⟩ : ∃ (r : Fin 128) (e : Fin 128), y = ix2 r e := ⟨y 0, y 1, eq_ix2 y⟩
  obtain ⟨u, k, rfl⟩ : ∃ (u : Fin 16) (k : Fin 8), r = ⟨8 * u.val + k.val, by omega⟩ :=
    ⟨⟨r.val / 8, by omega⟩, ⟨r.val % 8, by omega⟩, Fin.ext (by show r.val = 8 * (r.val / 8) + r.val % 8; omega)⟩
  have h : (dats m 0 c).after 7 t (ix2 ⟨8 * u.val + k.val, by omega⟩ e) = G7 m c (bOf t u) (hOf t) k e := by
    rw [after0_7]
    exact point7 m c t u k e
  blk_simp
  refine h.trans (G7_congr m c ?_ ?_ ?_ ?_)
  · simp [e0, bOf]; omega
  · simp [e0, hOf]; omega
  · simp [e0]; omega
  · simp [e0]; omega

theorem arr8 (c : Dev nD) : (dats m 0 c).arrAt 8 cfg0.N = fun i : S128x8x128x128.Idx => G8 m c (i 0) (i 1) (i 2) (i 3) := by
  refine (dats m 0 c).arrAt_eq_of_covers 8 _ (by decide +kernel) fun t hf y => ?_
  obtain ⟨-, -, -, -, -, -, -, -, e0, -⟩ := idx t
  obtain ⟨a, b, d, e, rfl⟩ : ∃ (a : Fin 16) (b : Fin 1) (d e : Fin 128), y = ix4 a b d e := ⟨y 0, y 1, y 2, y 3, eq_ix4 y⟩
  obtain rfl : b = 0 := Subsingleton.elim _ _
  have h : (dats m 0 c).after 8 t (ix4 a 0 d e) = G8 m c (bOf t a) (hOf t) d e := by
    rw [after0_8]
    exact point8 m c t a d e
  blk_simp
  refine h.trans (G8_congr m c ?_ ?_ ?_ ?_)
  · blk_simp; simp [e0, bOf]; try omega
  · blk_simp; simp [e0, hOf]
  · blk_simp; simp [e0]
  · blk_simp; simp [e0]

end Cert.HgrnSampleIdeal.Hs

end
-- ==== Proof.HsRef.lean ====
/-
  The sample's recurrence in the reference program, at an index: one sequence's eight rows at one head.
-/
module

public import proofs.«01_k».proof.Proof.Gen.HgrnSampleReferenceIdeal.Read
public import proofs.«01_k».proof.Proof.HsSum

@[expose] public section

set_option maxRecDepth 16384

noncomputable section

namespace Cert.HgrnSampleReferenceIdeal.Read

open Idealize.ShloMosaic Cert.HgrnSampleReferenceIdeal Cert.HgrnSampleReferenceIdeal.Gen

variable (a0 : Vec Ideal S1024x5120 .f32) (a1 : Vec Ideal S2x1024 .f32) (a2 : Vec Ideal S1x1024 .f32) (a3 : Vec Ideal S1x128x8x128x128 .f32)

theorem first_row (x : FVec Ideal S2x1024 .f32) (i : Fin 1024) :
    Host.reduceWindowAdd ![2, 1] ![1, 1] ![1, 0] ![0, 0] x (val_main_call0_call0_v0 (F := Ideal)) reduceWindows_S2x1024_S2x1024_w2s1p1_0_w1s1p0_0 h_S_ (ix2 0 i)
      = x (ix2 0 i) := by
  have h0 : (val_main_call0_call0_v0 (F := Ideal)) (Shape.Idx.first h_S_) = (0 : EReal) := by
    unfold val_main_call0_call0_v0 val_main_call0_call0_cst; pointwise
  rw [Hgrn.window_sum _ _ _ _ _ _ _ _ h0]
  refine (sum_idx2 (n0 := 2) (n1 := 1) _).trans ?_
  rw [Fin.sum_univ_two, Fin.sum_univ_one, Fin.sum_univ_one, dif_neg, dif_pos, zero_add]
  · refine congrArg x (funext fun a => Fin.ext ?_)
    match a with
    | ⟨0, _⟩ => rfl
    | ⟨1, _⟩ => show i.val * 1 + 0 - 0 = i.val; omega
  · intro a
    match a with
    | ⟨0, _⟩ => show 1 ≤ 0 * 1 + 1 ∧ 0 * 1 + 1 - 1 < 2; omega
    | ⟨1, _⟩ => show 0 ≤ i.val * 1 + 0 ∧ i.val * 1 + 0 - 0 < 1024; omega
  · intro hin
    have h1 : 1 ≤ 0 * 1 + 0 ∧ _ := hin 0
    omega

/-- The lower bound, a column's: the first of two softmax weights. -/
theorem low_apply (i : Fin 1024) : val_main_v13 (F := Ideal) a1 (ix1 i) = Hgrn.lower (a1 (ix2 0 i)) (a1 (ix2 1 i)) := by
  unfold val_main_v13 val_main_v12
  have h : ∀ i, val_main_v11 (F := Ideal) a1 (ix2 0 i) = val_main_v10 (F := Ideal) a1 (ix2 0 i) := first_row (val_main_v10 a1)
  revert h
  generalize val_main_v11 (F := Ideal) a1 = y
  intro h
  pointwise
  rw [h]
  unfold val_main_v10 val_main_v9 val_main_v8 val_main_v7 val_main_v6 val_main_v5 val_main_v4 val_main_v3 val_main_v2 val_main_v0 val_main_v1 val_main_cst val_main_cst_0 val_main_cst_1
  pointwise
  have hm : Finset.fold max (⊥ : EReal) (fun x : Fin 2 => a1 (ix2 x i)) Finset.univ = max (a1 (ix2 0 i)) (a1 (ix2 1 i)) := by
    rw [show (Finset.univ : Finset (Fin 2)) = {0, 1} from rfl]
    simp
  rw [Hgrn.neg_inf, hm, max_eq_right bot_le, Fin.sum_univ_two]
  rfl

theorem low_head (h : Fin 8) (d : Fin 128) {i : Fin 1024} (hi : i.val = 128 * h.val + d.val) :
    val_main_v13 (F := Ideal) a1 (ix1 i) = Hgrn.lbOf a1 h d := by
  rw [low_apply]
  rw [show i = ⟨128 * h.val + d.val, by omega⟩ from Fin.ext hi]
  rfl

theorem q_apply (b : Fin 128) (r : Fin 8) (h : Fin 8) (d : Fin 128) :
    val_main_v23 (F := Ideal) a0 (ix4 b r h d) = Hgrn.Small.qOf (Hgrn.Small.seg a0 0 b h) r d := by
  unfold val_main_v23 val_main_v22 val_main_call1_v5 val_main_call1_v3 val_main_call1_v1 val_main_call1_v0 val_main_v15 val_main_v14
    val_main_call1_v4 val_main_call1_v2 val_main_call1_cst val_main_call1_cst_0
  pointwise
  rw [Hgrn.Small.seg_at a0 0 b h r d (by simp; omega) (by simp; omega)]
  rfl

theorem v_apply (b : Fin 128) (r : Fin 8) (h : Fin 8) (d : Fin 128) :
    val_main_v53 (F := Ideal) a0 (ix4 b r h d) = Hgrn.Small.seg a0 2 b h r d := by
  unfold val_main_v53 val_main_v19 val_main_v18
  pointwise
  rw [Hgrn.Small.seg_at a0 2 b h r d (by simp; omega) (by simp; omega)]

theorem k_apply (b : Fin 128) (r : Fin 8) (h : Fin 8) (d : Fin 128) :
    val_main_v50 (F := Ideal) a0 a1 (ix4 b r h d) = Hgrn.Small.kOf (Hgrn.lbOf a1 h) (Hgrn.Small.seg a0 1 b h) r d := by
  unfold val_main_v50 val_main_v49 val_main_v48 val_main_v47 val_main_v46 val_main_v44 val_main_v42 val_main_v41 val_main_v40 val_main_v39 val_main_v17 val_main_v16
    val_main_v38 val_main_v43 val_main_v45 val_main_cst_5 val_main_cst_6 val_main_cst_7
  have hl := low_head a1 h d (i := ⟨h.val * 128 + d.val, by omega⟩) (by simp; omega)
  revert hl
  generalize val_main_v13 (F := Ideal) a1 = l
  intro hl
  pointwise
  rw [Hgrn.Small.seg_at a0 1 b h r d (by simp; omega) (by simp; omega), hl]
  rfl

theorem l_apply (b : Fin 128) (r : Fin 8) (h : Fin 8) (d : Fin 128) :
    val_main_v52 (F := Ideal) a0 a1 (ix4 b r h d) = Hgrn.Small.lOf (Hgrn.lbOf a1 h) (Hgrn.Small.seg a0 1 b h) r d := by
  unfold val_main_v52 val_main_v51 val_main_v37 val_main_v36 val_main_v35 val_main_v34 val_main_v33 val_main_v32 val_main_v31 val_main_v29 val_main_v27 val_main_v26 val_main_v25 val_main_v17 val_main_v16
    val_main_v24 val_main_v28 val_main_v30 val_main_cst_2 val_main_cst_3 val_main_cst_4
  have hl := low_head a1 h d (i := ⟨h.val * 128 + d.val, by omega⟩) (by simp; omega)
  revert hl
  generalize val_main_v13 (F := Ideal) a1 = l
  intro hl
  pointwise
  rw [Hgrn.Small.seg_at a0 1 b h r d (by simp; omega) (by simp; omega), hl]
  rfl

theorem s_apply (b : Fin 128) (h : Fin 8) (d e : Fin 128) :
    val_main_v54 (F := Ideal) a3 (ix4 b h d e) = Hgrn.Small.carried a3 b h d e := by
  unfold val_main_v54 Hgrn.Small.carried
  pointwise

theorem window_apply (x : FVec Ideal S128x8x8x128 .f32) (b : Fin 128) (r : Fin 8) (h : Fin 8) (d : Fin 128) :
    Host.reduceWindowAdd ![1, 8, 1, 1] ![1, 1, 1, 1] ![0, 7, 0, 0] ![0, 0, 0, 0] x (val_main_call2_call0_v0 (F := Ideal)) reduceWindows_S128x8x8x128_S128x8x8x128_w1s1p0_0_w8s1p7_0_w1s1p0_0_w1s1p0_0 h_S_ (ix4 b r h d)
      = Hgrn.Small.cum (fun y d => x (ix4 b y h d)) r d := by
  have h0 : (val_main_call2_call0_v0 (F := Ideal)) (Shape.Idx.first h_S_) = (0 : EReal) := by
    unfold val_main_call2_call0_v0 val_main_call2_call0_cst; pointwise
  rw [Hgrn.window_sum _ _ _ _ _ _ _ _ h0]
  unfold Hgrn.Small.cum
  rw [← Hgrn.Small.back_sum]
  refine (sum_idx4 (n0 := 1) (n1 := 8) (n2 := 1) (n3 := 1) _).trans ?_
  rw [Fin.sum_univ_one]
  refine Finset.sum_congr rfl fun k _ => ?_
  rw [Fin.sum_univ_one, Fin.sum_univ_one]
  by_cases hk : 7 ≤ r.val + k.val ∧ r.val + k.val - 7 < 8
  · rw [dif_pos hk, dif_pos]
    · refine congrArg x (funext fun a => Fin.ext ?_)
      match a with
      | ⟨0, _⟩ => show b.val * 1 + 0 - 0 = b.val; omega
      | ⟨1, _⟩ => show r.val * 1 + k.val - 7 = r.val + k.val - 7; omega
      | ⟨2, _⟩ => show h.val * 1 + 0 - 0 = h.val; omega
      | ⟨3, _⟩ => show d.val * 1 + 0 - 0 = d.val; omega
    · intro a
      match a with
      | ⟨0, _⟩ => show 0 ≤ b.val * 1 + 0 ∧ b.val * 1 + 0 - 0 < 128; omega
      | ⟨1, _⟩ => show 7 ≤ r.val * 1 + k.val ∧ r.val * 1 + k.val - 7 < 8; omega
      | ⟨2, _⟩ => show 0 ≤ h.val * 1 + 0 ∧ h.val * 1 + 0 - 0 < 8; omega
      | ⟨3, _⟩ => show 0 ≤ d.val * 1 + 0 ∧ d.val * 1 + 0 - 0 < 128; omega
  · rw [dif_neg hk, dif_neg]
    intro hin
    have h1 : 7 ≤ r.val * 1 + k.val ∧ r.val * 1 + k.val - 7 < 8 := hin 1
    omega

theorem cum_apply (b : Fin 128) (r : Fin 8) (h : Fin 8) (d : Fin 128) :
    val_main_v55 (F := Ideal) a0 a1 (ix4 b r h d) = Hgrn.Small.cum (Hgrn.Small.lOf (Hgrn.lbOf a1 h) (Hgrn.Small.seg a0 1 b h)) r d := by
  refine (window_apply (val_main_v52 (F := Ideal) a0 a1) b r h d).trans ?_
  congr 1
  funext y d
  exact l_apply a0 a1 b y h d

/-- The reference's second result: the state. -/
theorem state_at (b : Fin 128) (h : Fin 8) (d e : Fin 128) :
    val_main_v82 (F := Ideal) a0 a1 a3 (ix4 b h d e)
      = Hgrn.Small.headNext (Hgrn.lbOf a1 h) (Hgrn.Small.seg a0 1 b h) (Hgrn.Small.seg a0 2 b h) (Hgrn.Small.carried a3 b h) d e := by
  have hc := fun r d => cum_apply a0 a1 b r h d
  have hk := fun r d => k_apply a0 a1 b r h d
  have hv := fun r d => v_apply a0 b r h d
  have hs := fun d e => s_apply a3 b h d e
  unfold val_main_v82 val_main_v81 val_main_v80 val_main_v79 val_main_v78 val_main_v77 val_main_v76 val_main_v75 val_main_v74 val_main_v73 val_main_v72 val_main_v71 val_main_v70
  revert hc hk hv hs
  generalize val_main_v55 (F := Ideal) a0 a1 = C
  generalize val_main_v50 (F := Ideal) a0 a1 = K
  generalize val_main_v53 (F := Ideal) a0 = W
  generalize val_main_v54 (F := Ideal) a3 = S
  intro hc hk hv hs
  pointwise
  unfold Hgrn.Small.headNext Hgrn.Small.nextC
  have h7 : C (ix4 b (7 : Fin 8) h d) = Hgrn.Small.tot (Hgrn.Small.lOf (Hgrn.lbOf a1 h) (Hgrn.Small.seg a0 1 b h)) d := by
    rw [hc]
    unfold Hgrn.Small.cum Hgrn.Small.tot
    exact Finset.sum_congr rfl fun x _ => if_pos (by show x.val ≤ 7; omega)
  rw [h7]
  simp only [hc, hk, hv, hs]
  congr 1
  · exact mul_comm _ _
  · exact Finset.sum_congr rfl fun x _ => mul_comm _ _

/-- The lower triangle of a chunk. -/
theorem tril_apply (r x : Fin 8) : val_main_v63 (F := Ideal) (ix2 r x) = if x.val ≤ r.val then 1#1 else 0#1 := by
  unfold val_main_v63 val_main_call3_v4 val_main_call3_v2 val_main_call3_v0 val_main_call3_v1 val_main_call3_c val_main_call3_v3 val_main_v62 val_main_c val_main_call3_v5 val_main_call3_c_0
  revert r x
  pointwise
  decide +kernel

theorem select_if (P : Prop) [Decidable P] (a b : EReal) :
    Scalar.select (if P then 1#1 else 0#1) a b = if P then a else b := by
  unfold Scalar.select
  by_cases h : P
  · rw [if_pos h, if_pos h]; exact if_pos rfl
  · rw [if_neg h, if_neg h]; exact if_neg (by decide)

/-- The rows before the norm. -/
theorem rows_at (b : Fin 128) (r : Fin 8) (h : Fin 8) (e : Fin 128) :
    val_main_v69 (F := Ideal) a0 a1 a3 (ix4 b r h e)
      = Hgrn.Small.outC (Hgrn.Small.qOf (Hgrn.Small.seg a0 0 b h)) (Hgrn.Small.kOf (Hgrn.lbOf a1 h) (Hgrn.Small.seg a0 1 b h)) (Hgrn.Small.seg a0 2 b h)
          (Hgrn.Small.lOf (Hgrn.lbOf a1 h) (Hgrn.Small.seg a0 1 b h)) (Hgrn.Small.carried a3 b h) r e := by
  have hc := fun r d => cum_apply a0 a1 b r h d
  have hq := fun r d => q_apply a0 b r h d
  have hk := fun r d => k_apply a0 a1 b r h d
  have hv := fun r d => v_apply a0 b r h d
  have hs := fun d e => s_apply a3 b h d e
  unfold val_main_v69 val_main_v68 val_main_v67 val_main_v66 val_main_v65 val_main_v64 val_main_v61 val_main_v60 val_main_v59 val_main_v58 val_main_v57 val_main_v56
    val_main_call4_v1 val_main_call4_v2 val_main_call4_v0 val_main_cst_8
  revert hc hq hk hv hs
  generalize val_main_v55 (F := Ideal) a0 a1 = C
  generalize val_main_v50 (F := Ideal) a0 a1 = K
  generalize val_main_v53 (F := Ideal) a0 = W
  generalize val_main_v54 (F := Ideal) a3 = S
  generalize val_main_v23 (F := Ideal) a0 = Q
  intro hc hq hk hv hs
  pointwise
  unfold Hgrn.Small.outC
  simp only [hc, hq, hk, hv, hs]
  congr 1
  · refine Finset.sum_congr rfl fun x _ => ?_
    rw [tril_apply, mul_comm, select_if]
    by_cases hx : x.val ≤ r.val
    · rw [if_pos hx, if_pos hx]
    · rw [if_neg hx, if_neg hx]
      congr 1
      show constant (F := Ideal) S_ FTy.f32 0#32 ix0 = (0 : EReal)
      pointwise
  · exact Finset.sum_congr rfl fun x _ => mul_comm _ _

/-- The reference's first result. -/
theorem out_at (b : Fin 128) (h : Fin 8) (t : Fin 8) (e : Fin 128)
    {x : Fin 1024} {y : Fin 1024} (hx : x.val = 8 * b.val + t.val) (hy : y.val = 128 * h.val + e.val) :
    val_main_v106 (F := Ideal) a0 a1 a2 a3 (ix2 x y)
      = Hgrn.Small.headOut (Hgrn.lbOf a1 h) (Hgrn.wOf a2 h) (Hgrn.Small.seg a0 0 b h) (Hgrn.Small.seg a0 1 b h) (Hgrn.Small.seg a0 2 b h) (Hgrn.Small.seg a0 3 b h)
          (Hgrn.Small.carried a3 b h) t e := by
  have ho : ∀ d, val_main_v69 (F := Ideal) a0 a1 a3 (ix4 b t h d) = _ := fun d => rows_at a0 a1 a3 b t h d
  have hi : val_main_v106 (F := Ideal) a0 a1 a2 a3 (ix2 x y) = val_main_v105 (F := Ideal) a0 a1 a2 a3 (ix4 b t h e) := by
    refine (val_main_v106_apply a0 a1 a2 a3 _).trans (congrArg _ (funext fun a => Fin.ext ?_))
    match a with
    | ⟨0, _⟩ => show (x.val * 1024 + y.val) / 8192 = b.val; omega
    | ⟨1, _⟩ => show (x.val * 1024 + y.val) / 1024 % 8 = t.val; omega
    | ⟨2, _⟩ => show (x.val * 1024 + y.val) / 128 % 8 = h.val; omega
    | ⟨3, _⟩ => show (x.val * 1024 + y.val) % 128 = e.val; omega
  rw [hi]
  unfold val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v21 val_main_v20
    val_main_cst_9 val_main_cst_10 val_main_cst_11 val_main_cst_12 val_main_cst_13
  revert ho
  generalize val_main_v69 (F := Ideal) a0 a1 a3 = o
  intro ho
  have g9 : ∀ (w : Fin 1024) (z : Fin 5120), w.val = 8 * b.val + t.val → z.val = 3072 + (128 * h.val + e.val) → a0 (ix2 w z) = Hgrn.Small.seg a0 3 b h t e := fun w z hw hz =>
    Hgrn.Small.seg_at a0 3 b h t e hw (by rw [hz]; show _ = 1024 * 3 + _ + _; omega)
  have g7 : ∀ w : Fin 1024, w.val = 128 * h.val + e.val → a2 (ix2 0 w) = Hgrn.wOf a2 h e := fun w hw =>
    congrArg a2 (congrArg (ix2 0) (Fin.ext hw))
  pointwise
  rw [g7 _ (by simp; omega), g9 _ _ (by simp; omega) (by simp; omega)]
  simp only [ho]
  rfl

end Cert.HgrnSampleReferenceIdeal.Read

end
-- ==== Proof.HgrnSample.lean ====
/-
  The sample recurrence's claims: the kernel and its ideal run to the end and leave their arguments, so does the reference,
  and over the extended reals kernel and reference end with the same two arrays.
-/
module

public import proofs.«01_k».proof.Defs
public import proofs.«01_k».proof.Proof.Gen.HgrnSample.Frame
public import proofs.«01_k».proof.Proof.HsArr
public import proofs.«01_k».proof.Proof.HsRef
public import Idealize.ShloMosaic.Lib.Claim
public import Idealize.ShloMosaic.Lib.Quiescent

@[expose] public section

set_option maxRecDepth 16384

noncomputable section

namespace Cert.HgrnSampleIdeal.Hs

open Idealize.ShloMosaic Idealize.ShloMosaic.TcCoe Cert.HgrnSampleIdeal Cert.HgrnSampleIdeal.Gen Idealize.SL.Sem

variable (m : (ℓ : Loc nD τ sig) → Buf (Elt Ideal) ℓ)

theorem frame : Cert.quiescent_HgrnSampleIdeal := fun m g _ => Gen.frame m g

theorem frame_bits : Cert.quiescent_HgrnSample := fun m g _ => Cert.HgrnSample.Gen.frame m g

theorem frame_ref : Cert.quiescent_HgrnSampleReferenceIdeal := fun m g _ =>
  (θ_run _ _ _).mono (fun r h => ⟨fun c => (h c).2.2, sem_eq_zero_of_no_sems rfl _⟩) (Cert.HgrnSampleReferenceIdeal.Value.run m g)

theorem same7 (c : Dev nD) :
    Cert.HgrnSampleReferenceIdeal.Read.val_main_v106 (F := Ideal) (proj m c) (low m c) (wgt m c) (st0 m c) = (dats m 0 c).arrAt 7 cfg0.N := by
  rw [arr7]
  funext i
  obtain ⟨x, y, rfl⟩ : ∃ (x : Fin 1024) (y : Fin 1024), i = ix2 x y := ⟨i 0, i 1, eq_ix2 i⟩
  exact Cert.HgrnSampleReferenceIdeal.Read.out_at _ _ _ _ ⟨x.val / 8, by omega⟩ ⟨y.val / 128, by omega⟩ ⟨x.val % 8, by omega⟩ ⟨y.val % 128, by omega⟩
    (by show x.val = 8 * (x.val / 8) + x.val % 8; omega) (by show y.val = 128 * (y.val / 128) + y.val % 128; omega)

theorem same8 (c : Dev nD) :
    Cert.HgrnSampleReferenceIdeal.Read.val_main_v82 (F := Ideal) (proj m c) (low m c) (st0 m c) = (dats m 0 c).arrAt 8 cfg0.N := by
  rw [arr8]
  funext i
  obtain ⟨b, h, d, e, rfl⟩ : ∃ (b : Fin 128) (h : Fin 8) (d e : Fin 128), i = ix4 b h d e := ⟨i 0, i 1, i 2, i 3, eq_ix4 i⟩
  exact Cert.HgrnSampleReferenceIdeal.Read.state_at _ _ _ b h d e

theorem equal : Cert.algebraic_HgrnSampleIdeal_HgrnSampleReferenceIdeal := by
  pair_intro
  · run_from Cert.HgrnSampleIdeal.Value.run_blocks m g
  · run_from Cert.HgrnSampleReferenceIdeal.Value.run m' g'
    · rw [Cert.HgrnSampleReferenceIdeal.Read.val_main_v106_eq]
      obtain ⟨h0, h1, h2, h3⟩ := hagree c
      rw [h0, h1, h2, h3]
      exact same7 m c
    · rw [Cert.HgrnSampleReferenceIdeal.Read.val_main_v82_eq]
      obtain ⟨h0, h1, h2, h3⟩ := hagree c
      rw [h0, h1, h3]
      exact same8 m c

end Cert.HgrnSampleIdeal.Hs

end
-- ==== Proof.lean ====
/-
  The certificate: the recurrence, the feed-forward, the per-layer embedding, the output, the input and the latent projections of
  the layer, each with its frames, its idealization and the equality of its ideal with the reference's (Proof/Hgrn.lean,
  Proof/Ffn.lean, Proof/Ple.lean, Proof/OutProj.lean, Proof/InProj.lean, Proof/MlaProj.lean), and of the
  embedding and the latent projections once more at the sample's shapes (Proof/PleSample.lean, Proof/MlaSample.lean).
-/
module

public import proofs.«01_k».proof.Defs
public import proofs.«01_k».proof.Proof.Hgrn
public import proofs.«01_k».proof.Proof.Ffn
public import proofs.«01_k».proof.Proof.Ple
public import proofs.«01_k».proof.Proof.OutProj
public import proofs.«01_k».proof.Proof.InProj
public import proofs.«01_k».proof.Proof.MlaProj
public import proofs.«01_k».proof.Proof.PleSample
public import proofs.«01_k».proof.Proof.MlaSample
public import proofs.«01_k».proof.Proof.HgrnSample
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.FfnReferenceIdeal.Read

public import proofs.«01_k».proof.Proof.Gen.InProj
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjReferenceIdeal
public import proofs.«01_k».proof.Proof.Gen.InProjReferenceIdeal.Run
public import proofs.«01_k».proof.Proof.Gen.InProjReferenceIdeal.Read

public import proofs.«01_k».proof.Proof.Gen.MlaProj
public import proofs.«01_k».proof.Proof.Gen.MlaProj.Frame
public import proofs.«01_k».proof.Proof.Gen.MlaProjIdeal
public import proofs.«01_k».proof.Proof.Gen.MlaProjIdeal.Skeleton
public import proofs.«01_k».proof.Proof.Gen.MlaProjIdeal.Launch
public import proofs.«01_k».proof.Proof.Gen.MlaProjIdeal.Points
public import proofs.«01_k».proof.Proof.Gen.MlaProjIdeal.Frame
public import proofs.«01_k».proof.Proof.Gen.MlaProjIdeal.Value
public import proofs.«01_k».proof.Proof.Gen.MlaProjReferenceIdeal
public import proofs.«01_k».proof.Proof.Gen.MlaProjReferenceIdeal.Run
public import proofs.«01_k».proof.Proof.Gen.MlaProjReferenceIdeal.Read

public import proofs.«01_k».proof.Proof.Gen.PleSample
public import proofs.«01_k».proof.Proof.Gen.PleSample.Frame
public import proofs.«01_k».proof.Proof.Gen.PleSampleIdeal
public import proofs.«01_k».proof.Proof.Gen.PleSampleIdeal.Skeleton
public import proofs.«01_k».proof.Proof.Gen.PleSampleIdeal.Launch
public import proofs.«01_k».proof.Proof.Gen.PleSampleIdeal.Points
public import proofs.«01_k».proof.Proof.Gen.PleSampleIdeal.Frame
public import proofs.«01_k».proof.Proof.Gen.PleSampleIdeal.Value
public import proofs.«01_k».proof.Proof.Gen.PleSampleReferenceIdeal
public import proofs.«01_k».proof.Proof.Gen.PleSampleReferenceIdeal.Run
public import proofs.«01_k».proof.Proof.Gen.PleSampleReferenceIdeal.Read
public import proofs.«01_k».proof.Proof.Gen.MlaSample
public import proofs.«01_k».proof.Proof.Gen.MlaSample.Frame
public import proofs.«01_k».proof.Proof.Gen.MlaSampleIdeal
public import proofs.«01_k».proof.Proof.Gen.MlaSampleIdeal.Skeleton
public import proofs.«01_k».proof.Proof.Gen.MlaSampleIdeal.Launch
public import proofs.«01_k».proof.Proof.Gen.MlaSampleIdeal.Points
public import proofs.«01_k».proof.Proof.Gen.MlaSampleIdeal.Frame
public import proofs.«01_k».proof.Proof.Gen.MlaSampleIdeal.Value
public import proofs.«01_k».proof.Proof.Gen.MlaSampleReferenceIdeal
public import proofs.«01_k».proof.Proof.Gen.MlaSampleReferenceIdeal.Run
public import proofs.«01_k».proof.Proof.Gen.MlaSampleReferenceIdeal.Read
public import proofs.«01_k».proof.Proof.Gen.HgrnSample
public import proofs.«01_k».proof.Proof.Gen.HgrnSample.Frame
public import proofs.«01_k».proof.Proof.Gen.HgrnSampleIdeal
public import proofs.«01_k».proof.Proof.Gen.HgrnSampleIdeal.Skeleton
public import proofs.«01_k».proof.Proof.Gen.HgrnSampleIdeal.Launch
public import proofs.«01_k».proof.Proof.Gen.HgrnSampleIdeal.Points
public import proofs.«01_k».proof.Proof.Gen.HgrnSampleIdeal.Frame
public import proofs.«01_k».proof.Proof.Gen.HgrnSampleIdeal.Value
public import proofs.«01_k».proof.Proof.Gen.HgrnSampleReferenceIdeal
public import proofs.«01_k».proof.Proof.Gen.HgrnSampleReferenceIdeal.Run
public import proofs.«01_k».proof.Proof.Gen.HgrnSampleReferenceIdeal.Read

@[expose] public section

noncomputable section

namespace Cert.Proof

open Idealize.ShloMosaic Idealize.SL.Sem

/-- Everything that is claimed. -/
theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.Ple.Gen.facts, Cert.PleIdeal.Gen.facts, Cert.PleReferenceIdeal.Gen.facts,
    Cert.OutProj.Gen.facts, Cert.OutProjIdeal.Gen.facts, Cert.OutProjReferenceIdeal.Gen.facts,
    Cert.InProj.Gen.facts, Cert.InProjIdeal.Gen.facts, Cert.InProjReferenceIdeal.Gen.facts,
    Cert.MlaProj.Gen.facts, Cert.MlaProjIdeal.Gen.facts, Cert.MlaProjReferenceIdeal.Gen.facts,
    Cert.PleSample.Gen.facts, Cert.PleSampleIdeal.Gen.facts, Cert.PleSampleReferenceIdeal.Gen.facts,
    Cert.MlaSample.Gen.facts, Cert.MlaSampleIdeal.Gen.facts, Cert.MlaSampleReferenceIdeal.Gen.facts,
    Cert.HgrnSample.Gen.facts, Cert.HgrnSampleIdeal.Gen.facts, Cert.HgrnSampleReferenceIdeal.Gen.facts,
    Cert.Hg.frame_bits, Cert.Hg.frame, Cert.Hg.frame_ref,
    Cert.FfnIdeal.Ff.frame_bits, Cert.FfnIdeal.Ff.frame, Cert.FfnIdeal.Ff.frame_ref,
    Cert.PleIdeal.Pl.frame_bits, Cert.PleIdeal.Pl.frame, Cert.PleIdeal.Pl.frame_ref,
    Cert.OutProjIdeal.Op.frame_bits, Cert.OutProjIdeal.Op.frame, Cert.OutProjIdeal.Op.frame_ref,
    Cert.InProjIdeal.Ip.frame_bits, Cert.InProjIdeal.Ip.frame, Cert.InProjIdeal.Ip.frame_ref,
    Cert.MlaProjIdeal.Mp.frame_bits, Cert.MlaProjIdeal.Mp.frame, Cert.MlaProjIdeal.Mp.frame_ref,
    Cert.PleSampleIdeal.Ps.frame_bits, Cert.PleSampleIdeal.Ps.frame, Cert.PleSampleIdeal.Ps.frame_ref,
    Cert.MlaSampleIdeal.Ms.frame_bits, Cert.MlaSampleIdeal.Ms.frame, Cert.MlaSampleIdeal.Ms.frame_ref,
    Cert.HgrnSampleIdeal.Hs.frame_bits, Cert.HgrnSampleIdeal.Hs.frame, Cert.HgrnSampleIdeal.Hs.frame_ref,
    trivial, Cert.Hg.equal, trivial, Cert.FfnIdeal.Ff.equal, trivial, Cert.PleIdeal.Pl.equal, trivial, Cert.OutProjIdeal.Op.equal,
    trivial, Cert.InProjIdeal.Ip.equal, trivial, Cert.MlaProjIdeal.Mp.equal,
    trivial, Cert.PleSampleIdeal.Ps.equal, trivial, Cert.MlaSampleIdeal.Ms.equal,
    trivial, Cert.HgrnSampleIdeal.Hs.equal⟩

end Cert.Proof

end
